-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_MlaOut (m : (ℓ : Loc Cert.MlaOut.nD Cert.MlaOut.τ Cert.MlaOut.sig) → Buf (Elt Bits) ℓ) : Prop :=
  True

def Pre_MlaOutIdeal (m : (ℓ : Loc Cert.MlaOutIdeal.nD Cert.MlaOutIdeal.τ Cert.MlaOutIdeal.sig) → Buf (Elt Ideal) ℓ) : Prop :=
  True

def Pre_MlaOutReferenceIdeal (m : (ℓ : Loc Cert.MlaOutReferenceIdeal.nD Cert.MlaOutReferenceIdeal.τ Cert.MlaOutReferenceIdeal.sig) → Buf (Elt Ideal) ℓ) : Prop :=
  True

def Pre_MlaOutTok (m : (ℓ : Loc Cert.MlaOutTok.nD Cert.MlaOutTok.τ Cert.MlaOutTok.sig) → Buf (Elt Bits) ℓ) : Prop :=
  True

def Pre_MlaOutTokIdeal (m : (ℓ : Loc Cert.MlaOutTokIdeal.nD Cert.MlaOutTokIdeal.τ Cert.MlaOutTokIdeal.sig) → Buf (Elt Ideal) ℓ) : Prop :=
  True

def Pre_MlaOutTokReferenceIdeal (m : (ℓ : Loc Cert.MlaOutTokReferenceIdeal.nD Cert.MlaOutTokReferenceIdeal.τ Cert.MlaOutTokReferenceIdeal.sig) → Buf (Elt Ideal) ℓ) : Prop :=
  True

def Pre_MlaKv (m : (ℓ : Loc Cert.MlaKv.nD Cert.MlaKv.τ Cert.MlaKv.sig) → Buf (Elt Bits) ℓ) : Prop :=
  True

def Pre_MlaKvIdeal (m : (ℓ : Loc Cert.MlaKvIdeal.nD Cert.MlaKvIdeal.τ Cert.MlaKvIdeal.sig) → Buf (Elt Ideal) ℓ) : Prop :=
  True

def Pre_MlaKvIdeal_finite_kv [hPre_finite_kv : Cert.Pre_finite_kv.Facts] (m : (ℓ : Loc Cert.MlaKvIdeal.nD Cert.MlaKvIdeal.τ Cert.MlaKvIdeal.sig) → Buf (Elt Ideal) ℓ) : Prop :=
  ∀ c : Dev Cert.MlaKvIdeal.nD,
    (Cert.Pre_finite_kv.fn (F := Ideal) (m ((c.tc : Thread Cert.MlaKvIdeal.nD Cert.MlaKvIdeal.τ).loc Cert.MlaKvIdeal.main_arg0)) (m ((c.tc : Thread Cert.MlaKvIdeal.nD Cert.MlaKvIdeal.τ).loc Cert.MlaKvIdeal.main_arg1)) (m ((c.tc : Thread Cert.MlaKvIdeal.nD Cert.MlaKvIdeal.τ).loc Cert.MlaKvIdeal.main_arg2)) (m ((c.tc : Thread Cert.MlaKvIdeal.nD Cert.MlaKvIdeal.τ).loc Cert.MlaKvIdeal.main_arg3))) = (fun _ => 1#1)

def Pre_MlaKvReferenceIdeal (m : (ℓ : Loc Cert.MlaKvReferenceIdeal.nD Cert.MlaKvReferenceIdeal.τ Cert.MlaKvReferenceIdeal.sig) → Buf (Elt Ideal) ℓ) : Prop :=
  True

def Pre_MlaKvReferenceIdeal_finite_kv [hPre_finite_kv : Cert.Pre_finite_kv.Facts] (m : (ℓ : Loc Cert.MlaKvReferenceIdeal.nD Cert.MlaKvReferenceIdeal.τ Cert.MlaKvReferenceIdeal.sig) → Buf (Elt Ideal) ℓ) : Prop :=
  ∀ c : Dev Cert.MlaKvReferenceIdeal.nD,
    (Cert.Pre_finite_kv.fn (F := Ideal) (m ((c.tc : Thread Cert.MlaKvReferenceIdeal.nD Cert.MlaKvReferenceIdeal.τ).loc Cert.MlaKvReferenceIdeal.main_arg0)) (m ((c.tc : Thread Cert.MlaKvReferenceIdeal.nD Cert.MlaKvReferenceIdeal.τ).loc Cert.MlaKvReferenceIdeal.main_arg1)) (m ((c.tc : Thread Cert.MlaKvReferenceIdeal.nD Cert.MlaKvReferenceIdeal.τ).loc Cert.MlaKvReferenceIdeal.main_arg2)) (m ((c.tc : Thread Cert.MlaKvReferenceIdeal.nD Cert.MlaKvReferenceIdeal.τ).loc Cert.MlaKvReferenceIdeal.main_arg3))) = (fun _ => 1#1)

def Pre_MlaKvTok (m : (ℓ : Loc Cert.MlaKvTok.nD Cert.MlaKvTok.τ Cert.MlaKvTok.sig) → Buf (Elt Bits) ℓ) : Prop :=
  True

def Pre_MlaKvTokIdeal (m : (ℓ : Loc Cert.MlaKvTokIdeal.nD Cert.MlaKvTokIdeal.τ Cert.MlaKvTokIdeal.sig) → Buf (Elt Ideal) ℓ) : Prop :=
  True

def Pre_MlaKvTokIdeal_finite_kv_tok [hPre_finite_kv_tok : Cert.Pre_finite_kv_tok.Facts] (m : (ℓ : Loc Cert.MlaKvTokIdeal.nD Cert.MlaKvTokIdeal.τ Cert.MlaKvTokIdeal.sig) → Buf (Elt Ideal) ℓ) : Prop :=
  ∀ c : Dev Cert.MlaKvTokIdeal.nD,
    (Cert.Pre_finite_kv_tok.fn (F := Ideal) (m ((c.tc : Thread Cert.MlaKvTokIdeal.nD Cert.MlaKvTokIdeal.τ).loc Cert.MlaKvTokIdeal.main_arg0)) (m ((c.tc : Thread Cert.MlaKvTokIdeal.nD Cert.MlaKvTokIdeal.τ).loc Cert.MlaKvTokIdeal.main_arg1)) (m ((c.tc : Thread Cert.MlaKvTokIdeal.nD Cert.MlaKvTokIdeal.τ).loc Cert.MlaKvTokIdeal.main_arg2)) (m ((c.tc : Thread Cert.MlaKvTokIdeal.nD Cert.MlaKvTokIdeal.τ).loc Cert.MlaKvTokIdeal.main_arg3))) = (fun _ => 1#1)

def Pre_MlaKvTokReferenceIdeal (m : (ℓ : Loc Cert.MlaKvTokReferenceIdeal.nD Cert.MlaKvTokReferenceIdeal.τ Cert.MlaKvTokReferenceIdeal.sig) → Buf (Elt Ideal) ℓ) : Prop :=
  True

def Pre_MlaKvTokReferenceIdeal_finite_kv_tok [hPre_finite_kv_tok : Cert.Pre_finite_kv_tok.Facts] (m : (ℓ : Loc Cert.MlaKvTokReferenceIdeal.nD Cert.MlaKvTokReferenceIdeal.τ Cert.MlaKvTokReferenceIdeal.sig) → Buf (Elt Ideal) ℓ) : Prop :=
  ∀ c : Dev Cert.MlaKvTokReferenceIdeal.nD,
    (Cert.Pre_finite_kv_tok.fn (F := Ideal) (m ((c.tc : Thread Cert.MlaKvTokReferenceIdeal.nD Cert.MlaKvTokReferenceIdeal.τ).loc Cert.MlaKvTokReferenceIdeal.main_arg0)) (m ((c.tc : Thread Cert.MlaKvTokReferenceIdeal.nD Cert.MlaKvTokReferenceIdeal.τ).loc Cert.MlaKvTokReferenceIdeal.main_arg1)) (m ((c.tc : Thread Cert.MlaKvTokReferenceIdeal.nD Cert.MlaKvTokReferenceIdeal.τ).loc Cert.MlaKvTokReferenceIdeal.main_arg2)) (m ((c.tc : Thread Cert.MlaKvTokReferenceIdeal.nD Cert.MlaKvTokReferenceIdeal.τ).loc Cert.MlaKvTokReferenceIdeal.main_arg3))) = (fun _ => 1#1)

def Pre_MlaQ (m : (ℓ : Loc Cert.MlaQ.nD Cert.MlaQ.τ Cert.MlaQ.sig) → Buf (Elt Bits) ℓ) : Prop :=
  True

def Pre_MlaQIdeal (m : (ℓ : Loc Cert.MlaQIdeal.nD Cert.MlaQIdeal.τ Cert.MlaQIdeal.sig) → Buf (Elt Ideal) ℓ) : Prop :=
  True

def Pre_MlaQIdeal_finite_q [hPre_finite_q : Cert.Pre_finite_q.Facts] (m : (ℓ : Loc Cert.MlaQIdeal.nD Cert.MlaQIdeal.τ Cert.MlaQIdeal.sig) → Buf (Elt Ideal) ℓ) : Prop :=
  ∀ c : Dev Cert.MlaQIdeal.nD,
    (Cert.Pre_finite_q.fn (F := Ideal) (m ((c.tc : Thread Cert.MlaQIdeal.nD Cert.MlaQIdeal.τ).loc Cert.MlaQIdeal.main_arg0)) (m ((c.tc : Thread Cert.MlaQIdeal.nD Cert.MlaQIdeal.τ).loc Cert.MlaQIdeal.main_arg1)) (m ((c.tc : Thread Cert.MlaQIdeal.nD Cert.MlaQIdeal.τ).loc Cert.MlaQIdeal.main_arg2)) (m ((c.tc : Thread Cert.MlaQIdeal.nD Cert.MlaQIdeal.τ).loc Cert.MlaQIdeal.main_arg3)) (m ((c.tc : Thread Cert.MlaQIdeal.nD Cert.MlaQIdeal.τ).loc Cert.MlaQIdeal.main_arg4))) = (fun _ => 1#1)

def Pre_MlaQReferenceIdeal (m : (ℓ : Loc Cert.MlaQReferenceIdeal.nD Cert.MlaQReferenceIdeal.τ Cert.MlaQReferenceIdeal.sig) → Buf (Elt Ideal) ℓ) : Prop :=
  True

def Pre_MlaQReferenceIdeal_finite_q [hPre_finite_q : Cert.Pre_finite_q.Facts] (m : (ℓ : Loc Cert.MlaQReferenceIdeal.nD Cert.MlaQReferenceIdeal.τ Cert.MlaQReferenceIdeal.sig) → Buf (Elt Ideal) ℓ) : Prop :=
  ∀ c : Dev Cert.MlaQReferenceIdeal.nD,
    (Cert.Pre_finite_q.fn (F := Ideal) (m ((c.tc : Thread Cert.MlaQReferenceIdeal.nD Cert.MlaQReferenceIdeal.τ).loc Cert.MlaQReferenceIdeal.main_arg0)) (m ((c.tc : Thread Cert.MlaQReferenceIdeal.nD Cert.MlaQReferenceIdeal.τ).loc Cert.MlaQReferenceIdeal.main_arg1)) (m ((c.tc : Thread Cert.MlaQReferenceIdeal.nD Cert.MlaQReferenceIdeal.τ).loc Cert.MlaQReferenceIdeal.main_arg2)) (m ((c.tc : Thread Cert.MlaQReferenceIdeal.nD Cert.MlaQReferenceIdeal.τ).loc Cert.MlaQReferenceIdeal.main_arg3)) (m ((c.tc : Thread Cert.MlaQReferenceIdeal.nD Cert.MlaQReferenceIdeal.τ).loc Cert.MlaQReferenceIdeal.main_arg4))) = (fun _ => 1#1)

def Pre_RwkvOut (m : (ℓ : Loc Cert.RwkvOut.nD Cert.RwkvOut.τ Cert.RwkvOut.sig) → Buf (Elt Bits) ℓ) : Prop :=
  True

def Pre_RwkvOutIdeal (m : (ℓ : Loc Cert.RwkvOutIdeal.nD Cert.RwkvOutIdeal.τ Cert.RwkvOutIdeal.sig) → Buf (Elt Ideal) ℓ) : Prop :=
  True

def Pre_RwkvOutReferenceIdeal (m : (ℓ : Loc Cert.RwkvOutReferenceIdeal.nD Cert.RwkvOutReferenceIdeal.τ Cert.RwkvOutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def quiescent_MlaOut [hMlaOut : Cert.MlaOut.Facts] : Prop :=
  ∀ (m : (ℓ : Loc Cert.MlaOut.nD Cert.MlaOut.τ Cert.MlaOut.sig) → Buf (Elt Bits) ℓ) (g : Dev Cert.MlaOut.nD → PrngReg), Pre_MlaOut m →
    θ_run (Cert.MlaOut.defs (F := Bits)) (onTc (τ := Cert.MlaOut.τ) (Cert.MlaOut.main (F := Bits))) ⟨m, fun _ => 0, g⟩ (fun r => (∀ c : Dev Cert.MlaOut.nD,
      r.2.mem ((c.tc : Thread Cert.MlaOut.nD Cert.MlaOut.τ).loc Cert.MlaOut.main_arg0) = m ((c.tc : Thread Cert.MlaOut.nD Cert.MlaOut.τ).loc Cert.MlaOut.main_arg0)
      ∧ r.2.mem ((c.tc : Thread Cert.MlaOut.nD Cert.MlaOut.τ).loc Cert.MlaOut.main_arg1) = m ((c.tc : Thread Cert.MlaOut.nD Cert.MlaOut.τ).loc Cert.MlaOut.main_arg1)
      ∧ r.2.mem ((c.tc : Thread Cert.MlaOut.nD Cert.MlaOut.τ).loc Cert.MlaOut.main_arg2) = m ((c.tc : Thread Cert.MlaOut.nD Cert.MlaOut.τ).loc Cert.MlaOut.main_arg2)
      ∧ r.2.mem ((c.tc : Thread Cert.MlaOut.nD Cert.MlaOut.τ).loc Cert.MlaOut.main_arg3) = m ((c.tc : Thread Cert.MlaOut.nD Cert.MlaOut.τ).loc Cert.MlaOut.main_arg3)
      ∧ r.2.mem ((c.tc : Thread Cert.MlaOut.nD Cert.MlaOut.τ).loc Cert.MlaOut.main_arg4) = m ((c.tc : Thread Cert.MlaOut.nD Cert.MlaOut.τ).loc Cert.MlaOut.main_arg4))
      ∧ r.2.sem = fun _ => 0)

def quiescent_MlaOutIdeal [hMlaOutIdeal : Cert.MlaOutIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg), Pre_MlaOutIdeal m →
    θ_run (Cert.MlaOutIdeal.defs (F := Ideal)) (onTc (τ := Cert.MlaOutIdeal.τ) (Cert.MlaOutIdeal.main (F := Ideal))) ⟨m, fun _ => 0, g⟩ (fun r => (∀ c : Dev Cert.MlaOutIdeal.nD,
      r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
      ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
      ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2)
      ∧ r.2.mem ((c.tc : Thread Cert.MlaOutIdeal.nD Cert.MlaOutIdeal.τ).loc Cert.MlaOutIdeal.main_arg3) = m ((c.tc : Thread Cert.MlaOutIdeal.nD Cert.MlaOutIdeal.τ).loc Cert.MlaOutIdeal.main_arg3)
      ∧ r.2.mem ((c.tc : Thread Cert.MlaOutIdeal.nD Cert.MlaOutIdeal.τ).loc Cert.MlaOutIdeal.main_arg4) = m ((c.tc : Thread Cert.MlaOutIdeal.nD Cert.MlaOutIdeal.τ).loc Cert.MlaOutIdeal.main_arg4))
      ∧ r.2.sem = fun _ => 0)

def quiescent_MlaOutReferenceIdeal [hMlaOutReferenceIdeal : Cert.MlaOutReferenceIdeal.Facts] : Prop :=
  ∀ (m : (ℓ : Loc Cert.MlaOutReferenceIdeal.nD Cert.MlaOutReferenceIdeal.τ Cert.MlaOutReferenceIdeal.sig) → Buf (Elt Ideal) ℓ) (g : Dev Cert.MlaOutReferenceIdeal.nD → PrngReg), Pre_MlaOutReferenceIdeal m →
    θ_run (Cert.MlaOutReferenceIdeal.defs (F := Ideal)) (onTc (τ := Cert.MlaOutReferenceIdeal.τ) (Cert.MlaOutReferenceIdeal.main (F := Ideal))) ⟨m, fun _ => 0, g⟩ (fun r => (∀ c : Dev Cert.MlaOutReferenceIdeal.nD,
      r.2.mem ((c.tc : Thread Cert.MlaOutReferenceIdeal.nD Cert.MlaOutReferenceIdeal.τ).loc Cert.MlaOutReferenceIdeal.main_arg0) = m ((c.tc : Thread Cert.MlaOutReferenceIdeal.nD Cert.MlaOutReferenceIdeal.τ).loc Cert.MlaOutReferenceIdeal.main_arg0)
      ∧ r.2.mem ((c.tc : Thread Cert.MlaOutReferenceIdeal.nD Cert.MlaOutReferenceIdeal.τ).loc Cert.MlaOutReferenceIdeal.main_arg1) = m ((c.tc : Thread Cert.MlaOutReferenceIdeal.nD Cert.MlaOutReferenceIdeal.τ).loc Cert.MlaOutReferenceIdeal.main_arg1)
      ∧ r.2.mem ((c.tc : Thread Cert.MlaOutReferenceIdeal.nD Cert.MlaOutReferenceIdeal.τ).loc Cert.MlaOutReferenceIdeal.main_arg2) = m ((c.tc : Thread Cert.MlaOutReferenceIdeal.nD Cert.MlaOutReferenceIdeal.τ).loc Cert.MlaOutReferenceIdeal.main_arg2)
      ∧ r.2.mem ((c.tc : Thread Cert.MlaOutReferenceIdeal.nD Cert.MlaOutReferenceIdeal.τ).loc Cert.MlaOutReferenceIdeal.main_arg3) = m ((c.tc : Thread Cert.MlaOutReferenceIdeal.nD Cert.MlaOutReferenceIdeal.τ).loc Cert.MlaOutReferenceIdeal.main_arg3)
      ∧ r.2.mem ((c.tc : Thread Cert.MlaOutReferenceIdeal.nD Cert.MlaOutReferenceIdeal.τ).loc Cert.MlaOutReferenceIdeal.main_arg4) = m ((c.tc : Thread Cert.MlaOutReferenceIdeal.nD Cert.MlaOutReferenceIdeal.τ).loc Cert.MlaOutReferenceIdeal.main_arg4))
      ∧ r.2.sem = fun _ => 0)

def quiescent_MlaOutTok [hMlaOutTok : Cert.MlaOutTok.Facts] : Prop :=
  ∀ (m : (ℓ : Loc Cert.MlaOutTok.nD Cert.MlaOutTok.τ Cert.MlaOutTok.sig) → Buf (Elt Bits) ℓ) (g : Dev Cert.MlaOutTok.nD → PrngReg), Pre_MlaOutTok m →
    θ_run (Cert.MlaOutTok.defs (F := Bits)) (onTc (τ := Cert.MlaOutTok.τ) (Cert.MlaOutTok.main (F := Bits))) ⟨m, fun _ => 0, g⟩ (fun r => (∀ c : Dev Cert.MlaOutTok.nD,
      r.2.mem ((c.tc : Thread Cert.MlaOutTok.nD Cert.MlaOutTok.τ).loc Cert.MlaOutTok.main_arg0) = m ((c.tc : Thread Cert.MlaOutTok.nD Cert.MlaOutTok.τ).loc Cert.MlaOutTok.main_arg0)
      ∧ r.2.mem ((c.tc : Thread Cert.MlaOutTok.nD Cert.MlaOutTok.τ).loc Cert.MlaOutTok.main_arg1) = m ((c.tc : Thread Cert.MlaOutTok.nD Cert.MlaOutTok.τ).loc Cert.MlaOutTok.main_arg1)
      ∧ r.2.mem ((c.tc : Thread Cert.MlaOutTok.nD Cert.MlaOutTok.τ).loc Cert.MlaOutTok.main_arg2) = m ((c.tc : Thread Cert.MlaOutTok.nD Cert.MlaOutTok.τ).loc Cert.MlaOutTok.main_arg2)
      ∧ r.2.mem ((c.tc : Thread Cert.MlaOutTok.nD Cert.MlaOutTok.τ).loc Cert.MlaOutTok.main_arg3) = m ((c.tc : Thread Cert.MlaOutTok.nD Cert.MlaOutTok.τ).loc Cert.MlaOutTok.main_arg3)
      ∧ r.2.mem ((c.tc : Thread Cert.MlaOutTok.nD Cert.MlaOutTok.τ).loc Cert.MlaOutTok.main_arg4) = m ((c.tc : Thread Cert.MlaOutTok.nD Cert.MlaOutTok.τ).loc Cert.MlaOutTok.main_arg4))
      ∧ r.2.sem = fun _ => 0)

def quiescent_MlaOutTokIdeal [hMlaOutTokIdeal : Cert.MlaOutTokIdeal.Facts] : Prop :=
  ∀ (m : (ℓ : Loc Cert.MlaOutTokIdeal.nD Cert.MlaOutTokIdeal.τ Cert.MlaOutTokIdeal.sig) → Buf (Elt Ideal) ℓ) (g : Dev Cert.MlaOutTokIdeal.nD → PrngReg), Pre_MlaOutTokIdeal m →
    θ_run (Cert.MlaOutTokIdeal.defs (F := Ideal)) (onTc (τ := Cert.MlaOutTokIdeal.τ) (Cert.MlaOutTokIdeal.main (F := Ideal))) ⟨m, fun _ => 0, g⟩ (fun r => (∀ c : Dev Cert.MlaOutTokIdeal.nD,
      r.2.mem ((c.tc : Thread Cert.MlaOutTokIdeal.nD Cert.MlaOutTokIdeal.τ).loc Cert.MlaOutTokIdeal.main_arg0) = m ((c.tc : Thread Cert.MlaOutTokIdeal.nD Cert.MlaOutTokIdeal.τ).loc Cert.MlaOutTokIdeal.main_arg0)
      ∧ r.2.mem ((c.tc : Thread Cert.MlaOutTokIdeal.nD Cert.MlaOutTokIdeal.τ).loc Cert.MlaOutTokIdeal.main_arg1) = m ((c.tc : Thread Cert.MlaOutTokIdeal.nD Cert.MlaOutTokIdeal.τ).loc Cert.MlaOutTokIdeal.main_arg1)
      ∧ r.2.mem ((c.tc : Thread Cert.MlaOutTokIdeal.nD Cert.MlaOutTokIdeal.τ).loc Cert.MlaOutTokIdeal.main_arg2) = m ((c.tc : Thread Cert.MlaOutTokIdeal.nD Cert.MlaOutTokIdeal.τ).loc Cert.MlaOutTokIdeal.main_arg2)
      ∧ r.2.mem ((c.tc : Thread Cert.MlaOutTokIdeal.nD Cert.MlaOutTokIdeal.τ).loc Cert.MlaOutTokIdeal.main_arg3) = m ((c.tc : Thread Cert.MlaOutTokIdeal.nD Cert.MlaOutTokIdeal.τ).loc Cert.MlaOutTokIdeal.main_arg3)
      ∧ r.2.mem ((c.tc : Thread Cert.MlaOutTokIdeal.nD Cert.MlaOutTokIdeal.τ).loc Cert.MlaOutTokIdeal.main_arg4) = m ((c.tc : Thread Cert.MlaOutTokIdeal.nD Cert.MlaOutTokIdeal.τ).loc Cert.MlaOutTokIdeal.main_arg4))
      ∧ r.2.sem = fun _ => 0)

def quiescent_MlaOutTokReferenceIdeal [hMlaOutTokReferenceIdeal : Cert.MlaOutTokReferenceIdeal.Facts] : Prop :=
  ∀ (m : (ℓ : Loc Cert.MlaOutTokReferenceIdeal.nD Cert.MlaOutTokReferenceIdeal.τ Cert.MlaOutTokReferenceIdeal.sig) → Buf (Elt Ideal) ℓ) (g : Dev Cert.MlaOutTokReferenceIdeal.nD → PrngReg), Pre_MlaOutTokReferenceIdeal m →
    θ_run (Cert.MlaOutTokReferenceIdeal.defs (F := Ideal)) (onTc (τ := Cert.MlaOutTokReferenceIdeal.τ) (Cert.MlaOutTokReferenceIdeal.main (F := Ideal))) ⟨m, fun _ => 0, g⟩ (fun r => (∀ c : Dev Cert.MlaOutTokReferenceIdeal.nD,
      r.2.mem ((c.tc : Thread Cert.MlaOutTokReferenceIdeal.nD Cert.MlaOutTokReferenceIdeal.τ).loc Cert.MlaOutTokReferenceIdeal.main_arg0) = m ((c.tc : Thread Cert.MlaOutTokReferenceIdeal.nD Cert.MlaOutTokReferenceIdeal.τ).loc Cert.MlaOutTokReferenceIdeal.main_arg0)
      ∧ r.2.mem ((c.tc : Thread Cert.MlaOutTokReferenceIdeal.nD Cert.MlaOutTokReferenceIdeal.τ).loc Cert.MlaOutTokReferenceIdeal.main_arg1) = m ((c.tc : Thread Cert.MlaOutTokReferenceIdeal.nD Cert.MlaOutTokReferenceIdeal.τ).loc Cert.MlaOutTokReferenceIdeal.main_arg1)
      ∧ r.2.mem ((c.tc : Thread Cert.MlaOutTokReferenceIdeal.nD Cert.MlaOutTokReferenceIdeal.τ).loc Cert.MlaOutTokReferenceIdeal.main_arg2) = m ((c.tc : Thread Cert.MlaOutTokReferenceIdeal.nD Cert.MlaOutTokReferenceIdeal.τ).loc Cert.MlaOutTokReferenceIdeal.main_arg2)
      ∧ r.2.mem ((c.tc : Thread Cert.MlaOutTokReferenceIdeal.nD Cert.MlaOutTokReferenceIdeal.τ).loc Cert.MlaOutTokReferenceIdeal.main_arg3) = m ((c.tc : Thread Cert.MlaOutTokReferenceIdeal.nD Cert.MlaOutTokReferenceIdeal.τ).loc Cert.MlaOutTokReferenceIdeal.main_arg3)
      ∧ r.2.mem ((c.tc : Thread Cert.MlaOutTokReferenceIdeal.nD Cert.MlaOutTokReferenceIdeal.τ).loc Cert.MlaOutTokReferenceIdeal.main_arg4) = m ((c.tc : Thread Cert.MlaOutTokReferenceIdeal.nD Cert.MlaOutTokReferenceIdeal.τ).loc Cert.MlaOutTokReferenceIdeal.main_arg4))
      ∧ r.2.sem = fun _ => 0)

def quiescent_MlaKv [hMlaKv : Cert.MlaKv.Facts] : Prop :=
  ∀ (m : (ℓ : Loc Cert.MlaKv.nD Cert.MlaKv.τ Cert.MlaKv.sig) → Buf (Elt Bits) ℓ) (g : Dev Cert.MlaKv.nD → PrngReg), Pre_MlaKv m →
    θ_run (Cert.MlaKv.defs (F := Bits)) (onTc (τ := Cert.MlaKv.τ) (Cert.MlaKv.main (F := Bits))) ⟨m, fun _ => 0, g⟩ (fun r => (∀ c : Dev Cert.MlaKv.nD,
      r.2.mem ((c.tc : Thread Cert.MlaKv.nD Cert.MlaKv.τ).loc Cert.MlaKv.main_arg0) = m ((c.tc : Thread Cert.MlaKv.nD Cert.MlaKv.τ).loc Cert.MlaKv.main_arg0)
      ∧ r.2.mem ((c.tc : Thread Cert.MlaKv.nD Cert.MlaKv.τ).loc Cert.MlaKv.main_arg1) = m ((c.tc : Thread Cert.MlaKv.nD Cert.MlaKv.τ).loc Cert.MlaKv.main_arg1)
      ∧ r.2.mem ((c.tc : Thread Cert.MlaKv.nD Cert.MlaKv.τ).loc Cert.MlaKv.main_arg2) = m ((c.tc : Thread Cert.MlaKv.nD Cert.MlaKv.τ).loc Cert.MlaKv.main_arg2)
      ∧ r.2.mem ((c.tc : Thread Cert.MlaKv.nD Cert.MlaKv.τ).loc Cert.MlaKv.main_arg3) = m ((c.tc : Thread Cert.MlaKv.nD Cert.MlaKv.τ).loc Cert.MlaKv.main_arg3))
      ∧ r.2.sem = fun _ => 0)

def quiescent_MlaKvIdeal [hMlaKvIdeal : Cert.MlaKvIdeal.Facts] : Prop :=
  ∀ (m : (ℓ : Loc Cert.MlaKvIdeal.nD Cert.MlaKvIdeal.τ Cert.MlaKvIdeal.sig) → Buf (Elt Ideal) ℓ) (g : Dev Cert.MlaKvIdeal.nD → PrngReg), Pre_MlaKvIdeal m →
    θ_run (Cert.MlaKvIdeal.defs (F := Ideal)) (onTc (τ := Cert.MlaKvIdeal.τ) (Cert.MlaKvIdeal.main (F := Ideal))) ⟨m, fun _ => 0, g⟩ (fun r => (∀ c : Dev Cert.MlaKvIdeal.nD,
      r.2.mem ((c.tc : Thread Cert.MlaKvIdeal.nD Cert.MlaKvIdeal.τ).loc Cert.MlaKvIdeal.main_arg0) = m ((c.tc : Thread Cert.MlaKvIdeal.nD Cert.MlaKvIdeal.τ).loc Cert.MlaKvIdeal.main_arg0)
      ∧ r.2.mem ((c.tc : Thread Cert.MlaKvIdeal.nD Cert.MlaKvIdeal.τ).loc Cert.MlaKvIdeal.main_arg1) = m ((c.tc : Thread Cert.MlaKvIdeal.nD Cert.MlaKvIdeal.τ).loc Cert.MlaKvIdeal.main_arg1)
      ∧ r.2.mem ((c.tc : Thread Cert.MlaKvIdeal.nD Cert.MlaKvIdeal.τ).loc Cert.MlaKvIdeal.main_arg2) = m ((c.tc : Thread Cert.MlaKvIdeal.nD Cert.MlaKvIdeal.τ).loc Cert.MlaKvIdeal.main_arg2)
      ∧ r.2.mem ((c.tc : Thread Cert.MlaKvIdeal.nD Cert.MlaKvIdeal.τ).loc Cert.MlaKvIdeal.main_arg3) = m ((c.tc : Thread Cert.MlaKvIdeal.nD Cert.MlaKvIdeal.τ).loc Cert.MlaKvIdeal.main_arg3))
      ∧ r.2.sem = fun _ => 0)

def quiescent_MlaKvIdeal_pre_finite_kv [hMlaKvIdeal : Cert.MlaKvIdeal.Facts] [hPre_finite_kv : Cert.Pre_finite_kv.Facts] : Prop :=
  ∀ (m : (ℓ : Loc Cert.MlaKvIdeal.nD Cert.MlaKvIdeal.τ Cert.MlaKvIdeal.sig) → Buf (Elt Ideal) ℓ) (g : Dev Cert.MlaKvIdeal.nD → PrngReg), Pre_MlaKvIdeal_finite_kv m →
    θ_run (Cert.MlaKvIdeal.defs (F := Ideal)) (onTc (τ := Cert.MlaKvIdeal.τ) (Cert.MlaKvIdeal.main (F := Ideal))) ⟨m, fun _ => 0, g⟩ (fun r => (∀ c : Dev Cert.MlaKvIdeal.nD,
      r.2.mem ((c.tc : Thread Cert.MlaKvIdeal.nD Cert.MlaKvIdeal.τ).loc Cert.MlaKvIdeal.main_arg0) = m ((c.tc : Thread Cert.MlaKvIdeal.nD Cert.MlaKvIdeal.τ).loc Cert.MlaKvIdeal.main_arg0)
      ∧ r.2.mem ((c.tc : Thread Cert.MlaKvIdeal.nD Cert.MlaKvIdeal.τ).loc Cert.MlaKvIdeal.main_arg1) = m ((c.tc : Thread Cert.MlaKvIdeal.nD Cert.MlaKvIdeal.τ).loc Cert.MlaKvIdeal.main_arg1)
      ∧ r.2.mem ((c.tc : Thread Cert.MlaKvIdeal.nD Cert.MlaKvIdeal.τ).loc Cert.MlaKvIdeal.main_arg2) = m ((c.tc : Thread Cert.MlaKvIdeal.nD Cert.MlaKvIdeal.τ).loc Cert.MlaKvIdeal.main_arg2)
      ∧ r.2.mem ((c.tc : Thread Cert.MlaKvIdeal.nD Cert.MlaKvIdeal.τ).loc Cert.MlaKvIdeal.main_arg3) = m ((c.tc : Thread Cert.MlaKvIdeal.nD Cert.MlaKvIdeal.τ).loc Cert.MlaKvIdeal.main_arg3))
      ∧ r.2.sem = fun _ => 0)

def quiescent_MlaKvReferenceIdeal [hMlaKvReferenceIdeal : Cert.MlaKvReferenceIdeal.Facts] : Prop :=
  ∀ (m : (ℓ : Loc Cert.MlaKvReferenceIdeal.nD Cert.MlaKvReferenceIdeal.τ Cert.MlaKvReferenceIdeal.sig) → Buf (Elt Ideal) ℓ) (g : Dev Cert.MlaKvReferenceIdeal.nD → PrngReg), Pre_MlaKvReferenceIdeal m →
    θ_run (Cert.MlaKvReferenceIdeal.defs (F := Ideal)) (onTc (τ := Cert.MlaKvReferenceIdeal.τ) (Cert.MlaKvReferenceIdeal.main (F := Ideal))) ⟨m, fun _ => 0, g⟩ (fun r => (∀ c : Dev Cert.MlaKvReferenceIdeal.nD,
      r.2.mem ((c.tc : Thread Cert.MlaKvReferenceIdeal.nD Cert.MlaKvReferenceIdeal.τ).loc Cert.MlaKvReferenceIdeal.main_arg0) = m ((c.tc : Thread Cert.MlaKvReferenceIdeal.nD Cert.MlaKvReferenceIdeal.τ).loc Cert.MlaKvReferenceIdeal.main_arg0)
      ∧ r.2.mem ((c.tc : Thread Cert.MlaKvReferenceIdeal.nD Cert.MlaKvReferenceIdeal.τ).loc Cert.MlaKvReferenceIdeal.main_arg1) = m ((c.tc : Thread Cert.MlaKvReferenceIdeal.nD Cert.MlaKvReferenceIdeal.τ).loc Cert.MlaKvReferenceIdeal.main_arg1)
      ∧ r.2.mem ((c.tc : Thread Cert.MlaKvReferenceIdeal.nD Cert.MlaKvReferenceIdeal.τ).loc Cert.MlaKvReferenceIdeal.main_arg2) = m ((c.tc : Thread Cert.MlaKvReferenceIdeal.nD Cert.MlaKvReferenceIdeal.τ).loc Cert.MlaKvReferenceIdeal.main_arg2)
      ∧ r.2.mem ((c.tc : Thread Cert.MlaKvReferenceIdeal.nD Cert.MlaKvReferenceIdeal.τ).loc Cert.MlaKvReferenceIdeal.main_arg3) = m ((c.tc : Thread Cert.MlaKvReferenceIdeal.nD Cert.MlaKvReferenceIdeal.τ).loc Cert.MlaKvReferenceIdeal.main_arg3))
      ∧ r.2.sem = fun _ => 0)

def quiescent_MlaKvReferenceIdeal_pre_finite_kv [hMlaKvReferenceIdeal : Cert.MlaKvReferenceIdeal.Facts] [hPre_finite_kv : Cert.Pre_finite_kv.Facts] : Prop :=
  ∀ (m : (ℓ : Loc Cert.MlaKvReferenceIdeal.nD Cert.MlaKvReferenceIdeal.τ Cert.MlaKvReferenceIdeal.sig) → Buf (Elt Ideal) ℓ) (g : Dev Cert.MlaKvReferenceIdeal.nD → PrngReg), Pre_MlaKvReferenceIdeal_finite_kv m →
    θ_run (Cert.MlaKvReferenceIdeal.defs (F := Ideal)) (onTc (τ := Cert.MlaKvReferenceIdeal.τ) (Cert.MlaKvReferenceIdeal.main (F := Ideal))) ⟨m, fun _ => 0, g⟩ (fun r => (∀ c : Dev Cert.MlaKvReferenceIdeal.nD,
      r.2.mem ((c.tc : Thread Cert.MlaKvReferenceIdeal.nD Cert.MlaKvReferenceIdeal.τ).loc Cert.MlaKvReferenceIdeal.main_arg0) = m ((c.tc : Thread Cert.MlaKvReferenceIdeal.nD Cert.MlaKvReferenceIdeal.τ).loc Cert.MlaKvReferenceIdeal.main_arg0)
      ∧ r.2.mem ((c.tc : Thread Cert.MlaKvReferenceIdeal.nD Cert.MlaKvReferenceIdeal.τ).loc Cert.MlaKvReferenceIdeal.main_arg1) = m ((c.tc : Thread Cert.MlaKvReferenceIdeal.nD Cert.MlaKvReferenceIdeal.τ).loc Cert.MlaKvReferenceIdeal.main_arg1)
      ∧ r.2.mem ((c.tc : Thread Cert.MlaKvReferenceIdeal.nD Cert.MlaKvReferenceIdeal.τ).loc Cert.MlaKvReferenceIdeal.main_arg2) = m ((c.tc : Thread Cert.MlaKvReferenceIdeal.nD Cert.MlaKvReferenceIdeal.τ).loc Cert.MlaKvReferenceIdeal.main_arg2)
      ∧ r.2.mem ((c.tc : Thread Cert.MlaKvReferenceIdeal.nD Cert.MlaKvReferenceIdeal.τ).loc Cert.MlaKvReferenceIdeal.main_arg3) = m ((c.tc : Thread Cert.MlaKvReferenceIdeal.nD Cert.MlaKvReferenceIdeal.τ).loc Cert.MlaKvReferenceIdeal.main_arg3))
      ∧ r.2.sem = fun _ => 0)

def quiescent_MlaKvTok [hMlaKvTok : Cert.MlaKvTok.Facts] : Prop :=
  ∀ (m : (ℓ : Loc Cert.MlaKvTok.nD Cert.MlaKvTok.τ Cert.MlaKvTok.sig) → Buf (Elt Bits) ℓ) (g : Dev Cert.MlaKvTok.nD → PrngReg), Pre_MlaKvTok m →
    θ_run (Cert.MlaKvTok.defs (F := Bits)) (onTc (τ := Cert.MlaKvTok.τ) (Cert.MlaKvTok.main (F := Bits))) ⟨m, fun _ => 0, g⟩ (fun r => (∀ c : Dev Cert.MlaKvTok.nD,
      r.2.mem ((c.tc : Thread Cert.MlaKvTok.nD Cert.MlaKvTok.τ).loc Cert.MlaKvTok.main_arg0) = m ((c.tc : Thread Cert.MlaKvTok.nD Cert.MlaKvTok.τ).loc Cert.MlaKvTok.main_arg0)
      ∧ r.2.mem ((c.tc : Thread Cert.MlaKvTok.nD Cert.MlaKvTok.τ).loc Cert.MlaKvTok.main_arg1) = m ((c.tc : Thread Cert.MlaKvTok.nD Cert.MlaKvTok.τ).loc Cert.MlaKvTok.main_arg1)
      ∧ r.2.mem ((c.tc : Thread Cert.MlaKvTok.nD Cert.MlaKvTok.τ).loc Cert.MlaKvTok.main_arg2) = m ((c.tc : Thread Cert.MlaKvTok.nD Cert.MlaKvTok.τ).loc Cert.MlaKvTok.main_arg2)
      ∧ r.2.mem ((c.tc : Thread Cert.MlaKvTok.nD Cert.MlaKvTok.τ).loc Cert.MlaKvTok.main_arg3) = m ((c.tc : Thread Cert.MlaKvTok.nD Cert.MlaKvTok.τ).loc Cert.MlaKvTok.main_arg3))
      ∧ r.2.sem = fun _ => 0)

def quiescent_MlaKvTokIdeal [hMlaKvTokIdeal : Cert.MlaKvTokIdeal.Facts] : Prop :=
  ∀ (m : (ℓ : Loc Cert.MlaKvTokIdeal.nD Cert.MlaKvTokIdeal.τ Cert.MlaKvTokIdeal.sig) → Buf (Elt Ideal) ℓ) (g : Dev Cert.MlaKvTokIdeal.nD → PrngReg), Pre_MlaKvTokIdeal m →
    θ_run (Cert.MlaKvTokIdeal.defs (F := Ideal)) (onTc (τ := Cert.MlaKvTokIdeal.τ) (Cert.MlaKvTokIdeal.main (F := Ideal))) ⟨m, fun _ => 0, g⟩ (fun r => (∀ c : Dev Cert.MlaKvTokIdeal.nD,
      r.2.mem ((c.tc : Thread Cert.MlaKvTokIdeal.nD Cert.MlaKvTokIdeal.τ).loc Cert.MlaKvTokIdeal.main_arg0) = m ((c.tc : Thread Cert.MlaKvTokIdeal.nD Cert.MlaKvTokIdeal.τ).loc Cert.MlaKvTokIdeal.main_arg0)
      ∧ r.2.mem ((c.tc : Thread Cert.MlaKvTokIdeal.nD Cert.MlaKvTokIdeal.τ).loc Cert.MlaKvTokIdeal.main_arg1) = m ((c.tc : Thread Cert.MlaKvTokIdeal.nD Cert.MlaKvTokIdeal.τ).loc Cert.MlaKvTokIdeal.main_arg1)
      ∧ r.2.mem ((c.tc : Thread Cert.MlaKvTokIdeal.nD Cert.MlaKvTokIdeal.τ).loc Cert.MlaKvTokIdeal.main_arg2) = m ((c.tc : Thread Cert.MlaKvTokIdeal.nD Cert.MlaKvTokIdeal.τ).loc Cert.MlaKvTokIdeal.main_arg2)
      ∧ r.2.mem ((c.tc : Thread Cert.MlaKvTokIdeal.nD Cert.MlaKvTokIdeal.τ).loc Cert.MlaKvTokIdeal.main_arg3) = m ((c.tc : Thread Cert.MlaKvTokIdeal.nD Cert.MlaKvTokIdeal.τ).loc Cert.MlaKvTokIdeal.main_arg3))
      ∧ r.2.sem = fun _ => 0)

def quiescent_MlaKvTokIdeal_pre_finite_kv_tok [hMlaKvTokIdeal : Cert.MlaKvTokIdeal.Facts] [hPre_finite_kv_tok : Cert.Pre_finite_kv_tok.Facts] : Prop :=
  ∀ (m : (ℓ : Loc Cert.MlaKvTokIdeal.nD Cert.MlaKvTokIdeal.τ Cert.MlaKvTokIdeal.sig) → Buf (Elt Ideal) ℓ) (g : Dev Cert.MlaKvTokIdeal.nD → PrngReg), Pre_MlaKvTokIdeal_finite_kv_tok m →
    θ_run (Cert.MlaKvTokIdeal.defs (F := Ideal)) (onTc (τ := Cert.MlaKvTokIdeal.τ) (Cert.MlaKvTokIdeal.main (F := Ideal))) ⟨m, fun _ => 0, g⟩ (fun r => (∀ c : Dev Cert.MlaKvTokIdeal.nD,
      r.2.mem ((c.tc : Thread Cert.MlaKvTokIdeal.nD Cert.MlaKvTokIdeal.τ).loc Cert.MlaKvTokIdeal.main_arg0) = m ((c.tc : Thread Cert.MlaKvTokIdeal.nD Cert.MlaKvTokIdeal.τ).loc Cert.MlaKvTokIdeal.main_arg0)
      ∧ r.2.mem ((c.tc : Thread Cert.MlaKvTokIdeal.nD Cert.MlaKvTokIdeal.τ).loc Cert.MlaKvTokIdeal.main_arg1) = m ((c.tc : Thread Cert.MlaKvTokIdeal.nD Cert.MlaKvTokIdeal.τ).loc Cert.MlaKvTokIdeal.main_arg1)
      ∧ r.2.mem ((c.tc : Thread Cert.MlaKvTokIdeal.nD Cert.MlaKvTokIdeal.τ).loc Cert.MlaKvTokIdeal.main_arg2) = m ((c.tc : Thread Cert.MlaKvTokIdeal.nD Cert.MlaKvTokIdeal.τ).loc Cert.MlaKvTokIdeal.main_arg2)
      ∧ r.2.mem ((c.tc : Thread Cert.MlaKvTokIdeal.nD Cert.MlaKvTokIdeal.τ).loc Cert.MlaKvTokIdeal.main_arg3) = m ((c.tc : Thread Cert.MlaKvTokIdeal.nD Cert.MlaKvTokIdeal.τ).loc Cert.MlaKvTokIdeal.main_arg3))
      ∧ r.2.sem = fun _ => 0)

def quiescent_MlaKvTokReferenceIdeal [hMlaKvTokReferenceIdeal : Cert.MlaKvTokReferenceIdeal.Facts] : Prop :=
  ∀ (m : (ℓ : Loc Cert.MlaKvTokReferenceIdeal.nD Cert.MlaKvTokReferenceIdeal.τ Cert.MlaKvTokReferenceIdeal.sig) → Buf (Elt Ideal) ℓ) (g : Dev Cert.MlaKvTokReferenceIdeal.nD → PrngReg), Pre_MlaKvTokReferenceIdeal m →
    θ_run (Cert.MlaKvTokReferenceIdeal.defs (F := Ideal)) (onTc (τ := Cert.MlaKvTokReferenceIdeal.τ) (Cert.MlaKvTokReferenceIdeal.main (F := Ideal))) ⟨m, fun _ => 0, g⟩ (fun r => (∀ c : Dev Cert.MlaKvTokReferenceIdeal.nD,
      r.2.mem ((c.tc : Thread Cert.MlaKvTokReferenceIdeal.nD Cert.MlaKvTokReferenceIdeal.τ).loc Cert.MlaKvTokReferenceIdeal.main_arg0) = m ((c.tc : Thread Cert.MlaKvTokReferenceIdeal.nD Cert.MlaKvTokReferenceIdeal.τ).loc Cert.MlaKvTokReferenceIdeal.main_arg0)
      ∧ r.2.mem ((c.tc : Thread Cert.MlaKvTokReferenceIdeal.nD Cert.MlaKvTokReferenceIdeal.τ).loc Cert.MlaKvTokReferenceIdeal.main_arg1) = m ((c.tc : Thread Cert.MlaKvTokReferenceIdeal.nD Cert.MlaKvTokReferenceIdeal.τ).loc Cert.MlaKvTokReferenceIdeal.main_arg1)
      ∧ r.2.mem ((c.tc : Thread Cert.MlaKvTokReferenceIdeal.nD Cert.MlaKvTokReferenceIdeal.τ).loc Cert.MlaKvTokReferenceIdeal.main_arg2) = m ((c.tc : Thread Cert.MlaKvTokReferenceIdeal.nD Cert.MlaKvTokReferenceIdeal.τ).loc Cert.MlaKvTokReferenceIdeal.main_arg2)
      ∧ r.2.mem ((c.tc : Thread Cert.MlaKvTokReferenceIdeal.nD Cert.MlaKvTokReferenceIdeal.τ).loc Cert.MlaKvTokReferenceIdeal.main_arg3) = m ((c.tc : Thread Cert.MlaKvTokReferenceIdeal.nD Cert.MlaKvTokReferenceIdeal.τ).loc Cert.MlaKvTokReferenceIdeal.main_arg3))
      ∧ r.2.sem = fun _ => 0)

def quiescent_MlaKvTokReferenceIdeal_pre_finite_kv_tok [hMlaKvTokReferenceIdeal : Cert.MlaKvTokReferenceIdeal.Facts] [hPre_finite_kv_tok : Cert.Pre_finite_kv_tok.Facts] : Prop :=
  ∀ (m : (ℓ : Loc Cert.MlaKvTokReferenceIdeal.nD Cert.MlaKvTokReferenceIdeal.τ Cert.MlaKvTokReferenceIdeal.sig) → Buf (Elt Ideal) ℓ) (g : Dev Cert.MlaKvTokReferenceIdeal.nD → PrngReg), Pre_MlaKvTokReferenceIdeal_finite_kv_tok m →
    θ_run (Cert.MlaKvTokReferenceIdeal.defs (F := Ideal)) (onTc (τ := Cert.MlaKvTokReferenceIdeal.τ) (Cert.MlaKvTokReferenceIdeal.main (F := Ideal))) ⟨m, fun _ => 0, g⟩ (fun r => (∀ c : Dev Cert.MlaKvTokReferenceIdeal.nD,
      r.2.mem ((c.tc : Thread Cert.MlaKvTokReferenceIdeal.nD Cert.MlaKvTokReferenceIdeal.τ).loc Cert.MlaKvTokReferenceIdeal.main_arg0) = m ((c.tc : Thread Cert.MlaKvTokReferenceIdeal.nD Cert.MlaKvTokReferenceIdeal.τ).loc Cert.MlaKvTokReferenceIdeal.main_arg0)
      ∧ r.2.mem ((c.tc : Thread Cert.MlaKvTokReferenceIdeal.nD Cert.MlaKvTokReferenceIdeal.τ).loc Cert.MlaKvTokReferenceIdeal.main_arg1) = m ((c.tc : Thread Cert.MlaKvTokReferenceIdeal.nD Cert.MlaKvTokReferenceIdeal.τ).loc Cert.MlaKvTokReferenceIdeal.main_arg1)
      ∧ r.2.mem ((c.tc : Thread Cert.MlaKvTokReferenceIdeal.nD Cert.MlaKvTokReferenceIdeal.τ).loc Cert.MlaKvTokReferenceIdeal.main_arg2) = m ((c.tc : Thread Cert.MlaKvTokReferenceIdeal.nD Cert.MlaKvTokReferenceIdeal.τ).loc Cert.MlaKvTokReferenceIdeal.main_arg2)
      ∧ r.2.mem ((c.tc : Thread Cert.MlaKvTokReferenceIdeal.nD Cert.MlaKvTokReferenceIdeal.τ).loc Cert.MlaKvTokReferenceIdeal.main_arg3) = m ((c.tc : Thread Cert.MlaKvTokReferenceIdeal.nD Cert.MlaKvTokReferenceIdeal.τ).loc Cert.MlaKvTokReferenceIdeal.main_arg3))
      ∧ r.2.sem = fun _ => 0)

def quiescent_MlaQ [hMlaQ : Cert.MlaQ.Facts] : Prop :=
  ∀ (m : (ℓ : Loc Cert.MlaQ.nD Cert.MlaQ.τ Cert.MlaQ.sig) → Buf (Elt Bits) ℓ) (g : Dev Cert.MlaQ.nD → PrngReg), Pre_MlaQ m →
    θ_run (Cert.MlaQ.defs (F := Bits)) (onTc (τ := Cert.MlaQ.τ) (Cert.MlaQ.main (F := Bits))) ⟨m, fun _ => 0, g⟩ (fun r => (∀ c : Dev Cert.MlaQ.nD,
      r.2.mem ((c.tc : Thread Cert.MlaQ.nD Cert.MlaQ.τ).loc Cert.MlaQ.main_arg0) = m ((c.tc : Thread Cert.MlaQ.nD Cert.MlaQ.τ).loc Cert.MlaQ.main_arg0)
      ∧ r.2.mem ((c.tc : Thread Cert.MlaQ.nD Cert.MlaQ.τ).loc Cert.MlaQ.main_arg1) = m ((c.tc : Thread Cert.MlaQ.nD Cert.MlaQ.τ).loc Cert.MlaQ.main_arg1)
      ∧ r.2.mem ((c.tc : Thread Cert.MlaQ.nD Cert.MlaQ.τ).loc Cert.MlaQ.main_arg2) = m ((c.tc : Thread Cert.MlaQ.nD Cert.MlaQ.τ).loc Cert.MlaQ.main_arg2)
      ∧ r.2.mem ((c.tc : Thread Cert.MlaQ.nD Cert.MlaQ.τ).loc Cert.MlaQ.main_arg3) = m ((c.tc : Thread Cert.MlaQ.nD Cert.MlaQ.τ).loc Cert.MlaQ.main_arg3)
      ∧ r.2.mem ((c.tc : Thread Cert.MlaQ.nD Cert.MlaQ.τ).loc Cert.MlaQ.main_arg4) = m ((c.tc : Thread Cert.MlaQ.nD Cert.MlaQ.τ).loc Cert.MlaQ.main_arg4))
      ∧ r.2.sem = fun _ => 0)

def quiescent_MlaQIdeal [hMlaQIdeal : Cert.MlaQIdeal.Facts] : Prop :=
  ∀ (m : (ℓ : Loc Cert.MlaQIdeal.nD Cert.MlaQIdeal.τ Cert.MlaQIdeal.sig) → Buf (Elt Ideal) ℓ) (g : Dev Cert.MlaQIdeal.nD → PrngReg), Pre_MlaQIdeal m →
    θ_run (Cert.MlaQIdeal.defs (F := Ideal)) (onTc (τ := Cert.MlaQIdeal.τ) (Cert.MlaQIdeal.main (F := Ideal))) ⟨m, fun _ => 0, g⟩ (fun r => (∀ c : Dev Cert.MlaQIdeal.nD,
      r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
      ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
      ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2)
      ∧ r.2.mem ((c.tc : Thread Cert.MlaQIdeal.nD Cert.MlaQIdeal.τ).loc Cert.MlaQIdeal.main_arg3) = m ((c.tc : Thread Cert.MlaQIdeal.nD Cert.MlaQIdeal.τ).loc Cert.MlaQIdeal.main_arg3)
      ∧ r.2.mem ((c.tc : Thread Cert.MlaQIdeal.nD Cert.MlaQIdeal.τ).loc Cert.MlaQIdeal.main_arg4) = m ((c.tc : Thread Cert.MlaQIdeal.nD Cert.MlaQIdeal.τ).loc Cert.MlaQIdeal.main_arg4))
      ∧ r.2.sem = fun _ => 0)

def quiescent_MlaQIdeal_pre_finite_q [hMlaQIdeal : Cert.MlaQIdeal.Facts] [hPre_finite_q : Cert.Pre_finite_q.Facts] : Prop :=
  ∀ (m : (ℓ : Loc Cert.MlaQIdeal.nD Cert.MlaQIdeal.τ Cert.MlaQIdeal.sig) → Buf (Elt Ideal) ℓ) (g : Dev Cert.MlaQIdeal.nD → PrngReg), Pre_MlaQIdeal_finite_q m →
    θ_run (Cert.MlaQIdeal.defs (F := Ideal)) (onTc (τ := Cert.MlaQIdeal.τ) (Cert.MlaQIdeal.main (F := Ideal))) ⟨m, fun _ => 0, g⟩ (fun r => (∀ c : Dev Cert.MlaQIdeal.nD,
      r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
      ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
      ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2)
      ∧ r.2.mem ((c.tc : Thread Cert.MlaQIdeal.nD Cert.MlaQIdeal.τ).loc Cert.MlaQIdeal.main_arg3) = m ((c.tc : Thread Cert.MlaQIdeal.nD Cert.MlaQIdeal.τ).loc Cert.MlaQIdeal.main_arg3)
      ∧ r.2.mem ((c.tc : Thread Cert.MlaQIdeal.nD Cert.MlaQIdeal.τ).loc Cert.MlaQIdeal.main_arg4) = m ((c.tc : Thread Cert.MlaQIdeal.nD Cert.MlaQIdeal.τ).loc Cert.MlaQIdeal.main_arg4))
      ∧ r.2.sem = fun _ => 0)

def quiescent_MlaQReferenceIdeal [hMlaQReferenceIdeal : Cert.MlaQReferenceIdeal.Facts] : Prop :=
  ∀ (m : (ℓ : Loc Cert.MlaQReferenceIdeal.nD Cert.MlaQReferenceIdeal.τ Cert.MlaQReferenceIdeal.sig) → Buf (Elt Ideal) ℓ) (g : Dev Cert.MlaQReferenceIdeal.nD → PrngReg), Pre_MlaQReferenceIdeal m →
    θ_run (Cert.MlaQReferenceIdeal.defs (F := Ideal)) (onTc (τ := Cert.MlaQReferenceIdeal.τ) (Cert.MlaQReferenceIdeal.main (F := Ideal))) ⟨m, fun _ => 0, g⟩ (fun r => (∀ c : Dev Cert.MlaQReferenceIdeal.nD,
      r.2.mem ((c.tc : Thread Cert.MlaQReferenceIdeal.nD Cert.MlaQReferenceIdeal.τ).loc Cert.MlaQReferenceIdeal.main_arg0) = m ((c.tc : Thread Cert.MlaQReferenceIdeal.nD Cert.MlaQReferenceIdeal.τ).loc Cert.MlaQReferenceIdeal.main_arg0)
      ∧ r.2.mem ((c.tc : Thread Cert.MlaQReferenceIdeal.nD Cert.MlaQReferenceIdeal.τ).loc Cert.MlaQReferenceIdeal.main_arg1) = m ((c.tc : Thread Cert.MlaQReferenceIdeal.nD Cert.MlaQReferenceIdeal.τ).loc Cert.MlaQReferenceIdeal.main_arg1)
      ∧ r.2.mem ((c.tc : Thread Cert.MlaQReferenceIdeal.nD Cert.MlaQReferenceIdeal.τ).loc Cert.MlaQReferenceIdeal.main_arg2) = m ((c.tc : Thread Cert.MlaQReferenceIdeal.nD Cert.MlaQReferenceIdeal.τ).loc Cert.MlaQReferenceIdeal.main_arg2)
      ∧ r.2.mem ((c.tc : Thread Cert.MlaQReferenceIdeal.nD Cert.MlaQReferenceIdeal.τ).loc Cert.MlaQReferenceIdeal.main_arg3) = m ((c.tc : Thread Cert.MlaQReferenceIdeal.nD Cert.MlaQReferenceIdeal.τ).loc Cert.MlaQReferenceIdeal.main_arg3)
      ∧ r.2.mem ((c.tc : Thread Cert.MlaQReferenceIdeal.nD Cert.MlaQReferenceIdeal.τ).loc Cert.MlaQReferenceIdeal.main_arg4) = m ((c.tc : Thread Cert.MlaQReferenceIdeal.nD Cert.MlaQReferenceIdeal.τ).loc Cert.MlaQReferenceIdeal.main_arg4))
      ∧ r.2.sem = fun _ => 0)

def quiescent_MlaQReferenceIdeal_pre_finite_q [hMlaQReferenceIdeal : Cert.MlaQReferenceIdeal.Facts] [hPre_finite_q : Cert.Pre_finite_q.Facts] : Prop :=
  ∀ (m : (ℓ : Loc Cert.MlaQReferenceIdeal.nD Cert.MlaQReferenceIdeal.τ Cert.MlaQReferenceIdeal.sig) → Buf (Elt Ideal) ℓ) (g : Dev Cert.MlaQReferenceIdeal.nD → PrngReg), Pre_MlaQReferenceIdeal_finite_q m →
    θ_run (Cert.MlaQReferenceIdeal.defs (F := Ideal)) (onTc (τ := Cert.MlaQReferenceIdeal.τ) (Cert.MlaQReferenceIdeal.main (F := Ideal))) ⟨m, fun _ => 0, g⟩ (fun r => (∀ c : Dev Cert.MlaQReferenceIdeal.nD,
      r.2.mem ((c.tc : Thread Cert.MlaQReferenceIdeal.nD Cert.MlaQReferenceIdeal.τ).loc Cert.MlaQReferenceIdeal.main_arg0) = m ((c.tc : Thread Cert.MlaQReferenceIdeal.nD Cert.MlaQReferenceIdeal.τ).loc Cert.MlaQReferenceIdeal.main_arg0)
      ∧ r.2.mem ((c.tc : Thread Cert.MlaQReferenceIdeal.nD Cert.MlaQReferenceIdeal.τ).loc Cert.MlaQReferenceIdeal.main_arg1) = m ((c.tc : Thread Cert.MlaQReferenceIdeal.nD Cert.MlaQReferenceIdeal.τ).loc Cert.MlaQReferenceIdeal.main_arg1)
      ∧ r.2.mem ((c.tc : Thread Cert.MlaQReferenceIdeal.nD Cert.MlaQReferenceIdeal.τ).loc Cert.MlaQReferenceIdeal.main_arg2) = m ((c.tc : Thread Cert.MlaQReferenceIdeal.nD Cert.MlaQReferenceIdeal.τ).loc Cert.MlaQReferenceIdeal.main_arg2)
      ∧ r.2.mem ((c.tc : Thread Cert.MlaQReferenceIdeal.nD Cert.MlaQReferenceIdeal.τ).loc Cert.MlaQReferenceIdeal.main_arg3) = m ((c.tc : Thread Cert.MlaQReferenceIdeal.nD Cert.MlaQReferenceIdeal.τ).loc Cert.MlaQReferenceIdeal.main_arg3)
      ∧ r.2.mem ((c.tc : Thread Cert.MlaQReferenceIdeal.nD Cert.MlaQReferenceIdeal.τ).loc Cert.MlaQReferenceIdeal.main_arg4) = m ((c.tc : Thread Cert.MlaQReferenceIdeal.nD Cert.MlaQReferenceIdeal.τ).loc Cert.MlaQReferenceIdeal.main_arg4))
      ∧ r.2.sem = fun _ => 0)

def quiescent_RwkvOut [hRwkvOut : Cert.RwkvOut.Facts] : Prop :=
  ∀ (m : (ℓ : Loc Cert.RwkvOut.nD Cert.RwkvOut.τ Cert.RwkvOut.sig) → Buf (Elt Bits) ℓ) (g : Dev Cert.RwkvOut.nD → PrngReg), Pre_RwkvOut m →
    θ_run (Cert.RwkvOut.defs (F := Bits)) (onTc (τ := Cert.RwkvOut.τ) (Cert.RwkvOut.main (F := Bits))) ⟨m, fun _ => 0, g⟩ (fun r => (∀ c : Dev Cert.RwkvOut.nD,
      r.2.mem ((c.tc : Thread Cert.RwkvOut.nD Cert.RwkvOut.τ).loc Cert.RwkvOut.main_arg0) = m ((c.tc : Thread Cert.RwkvOut.nD Cert.RwkvOut.τ).loc Cert.RwkvOut.main_arg0)
      ∧ r.2.mem ((c.tc : Thread Cert.RwkvOut.nD Cert.RwkvOut.τ).loc Cert.RwkvOut.main_arg1) = m ((c.tc : Thread Cert.RwkvOut.nD Cert.RwkvOut.τ).loc Cert.RwkvOut.main_arg1)
      ∧ r.2.mem ((c.tc : Thread Cert.RwkvOut.nD Cert.RwkvOut.τ).loc Cert.RwkvOut.main_arg2) = m ((c.tc : Thread Cert.RwkvOut.nD Cert.RwkvOut.τ).loc Cert.RwkvOut.main_arg2)
      ∧ r.2.mem ((c.tc : Thread Cert.RwkvOut.nD Cert.RwkvOut.τ).loc Cert.RwkvOut.main_arg3) = m ((c.tc : Thread Cert.RwkvOut.nD Cert.RwkvOut.τ).loc Cert.RwkvOut.main_arg3)
      ∧ r.2.mem ((c.tc : Thread Cert.RwkvOut.nD Cert.RwkvOut.τ).loc Cert.RwkvOut.main_arg4) = m ((c.tc : Thread Cert.RwkvOut.nD Cert.RwkvOut.τ).loc Cert.RwkvOut.main_arg4)
      ∧ r.2.mem ((c.tc : Thread Cert.RwkvOut.nD Cert.RwkvOut.τ).loc Cert.RwkvOut.main_arg5) = m ((c.tc : Thread Cert.RwkvOut.nD Cert.RwkvOut.τ).loc Cert.RwkvOut.main_arg5)
      ∧ r.2.mem ((c.tc : Thread Cert.RwkvOut.nD Cert.RwkvOut.τ).loc Cert.RwkvOut.main_arg6) = m ((c.tc : Thread Cert.RwkvOut.nD Cert.RwkvOut.τ).loc Cert.RwkvOut.main_arg6)
      ∧ r.2.mem ((c.tc : Thread Cert.RwkvOut.nD Cert.RwkvOut.τ).loc Cert.RwkvOut.main_arg7) = m ((c.tc : Thread Cert.RwkvOut.nD Cert.RwkvOut.τ).loc Cert.RwkvOut.main_arg7)
      ∧ r.2.mem ((c.tc : Thread Cert.RwkvOut.nD Cert.RwkvOut.τ).loc Cert.RwkvOut.main_arg8) = m ((c.tc : Thread Cert.RwkvOut.nD Cert.RwkvOut.τ).loc Cert.RwkvOut.main_arg8)
      ∧ r.2.mem ((c.tc : Thread Cert.RwkvOut.nD Cert.RwkvOut.τ).loc Cert.RwkvOut.main_arg9) = m ((c.tc : Thread Cert.RwkvOut.nD Cert.RwkvOut.τ).loc Cert.RwkvOut.main_arg9)
      ∧ r.2.mem ((c.tc : Thread Cert.RwkvOut.nD Cert.RwkvOut.τ).loc Cert.RwkvOut.main_arg10) = m ((c.tc : Thread Cert.RwkvOut.nD Cert.RwkvOut.τ).loc Cert.RwkvOut.main_arg10)
      ∧ r.2.mem ((c.tc : Thread Cert.RwkvOut.nD Cert.RwkvOut.τ).loc Cert.RwkvOut.main_arg11) = m ((c.tc : Thread Cert.RwkvOut.nD Cert.RwkvOut.τ).loc Cert.RwkvOut.main_arg11))
      ∧ r.2.sem = fun _ => 0)

def quiescent_RwkvOutIdeal [hRwkvOutIdeal : Cert.RwkvOutIdeal.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg), Pre_RwkvOutIdeal m →
    θ_run (Cert.RwkvOutIdeal.defs (F := Ideal)) (onTc (τ := Cert.RwkvOutIdeal.τ) (Cert.RwkvOutIdeal.main (F := Ideal))) ⟨m, fun _ => 0, g⟩ (fun r => (∀ c : Dev Cert.RwkvOutIdeal.nD,
      r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
      ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
      ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2)
      ∧ r.2.mem ((c.tc : Thread Cert.RwkvOutIdeal.nD Cert.RwkvOutIdeal.τ).loc Cert.RwkvOutIdeal.main_arg3) = m ((c.tc : Thread Cert.RwkvOutIdeal.nD Cert.RwkvOutIdeal.τ).loc Cert.RwkvOutIdeal.main_arg3)
      ∧ r.2.mem ((c.tc : Thread Cert.RwkvOutIdeal.nD Cert.RwkvOutIdeal.τ).loc Cert.RwkvOutIdeal.main_arg4) = m ((c.tc : Thread Cert.RwkvOutIdeal.nD Cert.RwkvOutIdeal.τ).loc Cert.RwkvOutIdeal.main_arg4)
      ∧ r.2.mem ((c.tc : Thread Cert.RwkvOutIdeal.nD Cert.RwkvOutIdeal.τ).loc Cert.RwkvOutIdeal.main_arg5) = m ((c.tc : Thread Cert.RwkvOutIdeal.nD Cert.RwkvOutIdeal.τ).loc Cert.RwkvOutIdeal.main_arg5)
      ∧ r.2.mem ((c.tc : Thread Cert.RwkvOutIdeal.nD Cert.RwkvOutIdeal.τ).loc Cert.RwkvOutIdeal.main_arg6) = m ((c.tc : Thread Cert.RwkvOutIdeal.nD Cert.RwkvOutIdeal.τ).loc Cert.RwkvOutIdeal.main_arg6)
      ∧ r.2.mem ((c.tc : Thread Cert.RwkvOutIdeal.nD Cert.RwkvOutIdeal.τ).loc Cert.RwkvOutIdeal.main_arg7) = m ((c.tc : Thread Cert.RwkvOutIdeal.nD Cert.RwkvOutIdeal.τ).loc Cert.RwkvOutIdeal.main_arg7)
      ∧ r.2.mem ((c.tc : Thread Cert.RwkvOutIdeal.nD Cert.RwkvOutIdeal.τ).loc Cert.RwkvOutIdeal.main_arg8) = m ((c.tc : Thread Cert.RwkvOutIdeal.nD Cert.RwkvOutIdeal.τ).loc Cert.RwkvOutIdeal.main_arg8)
      ∧ r.2.mem ((c.tc : Thread Cert.RwkvOutIdeal.nD Cert.RwkvOutIdeal.τ).loc Cert.RwkvOutIdeal.main_arg9) = m ((c.tc : Thread Cert.RwkvOutIdeal.nD Cert.RwkvOutIdeal.τ).loc Cert.RwkvOutIdeal.main_arg9)
      ∧ r.2.mem ((c.tc : Thread Cert.RwkvOutIdeal.nD Cert.RwkvOutIdeal.τ).loc Cert.RwkvOutIdeal.main_arg10) = m ((c.tc : Thread Cert.RwkvOutIdeal.nD Cert.RwkvOutIdeal.τ).loc Cert.RwkvOutIdeal.main_arg10)
      ∧ r.2.mem ((c.tc : Thread Cert.RwkvOutIdeal.nD Cert.RwkvOutIdeal.τ).loc Cert.RwkvOutIdeal.main_arg11) = m ((c.tc : Thread Cert.RwkvOutIdeal.nD Cert.RwkvOutIdeal.τ).loc Cert.RwkvOutIdeal.main_arg11))
      ∧ r.2.sem = fun _ => 0)

def quiescent_RwkvOutReferenceIdeal [hRwkvOutReferenceIdeal : Cert.RwkvOutReferenceIdeal.Facts] : Prop :=
  ∀ (m : (ℓ : Loc Cert.RwkvOutReferenceIdeal.nD Cert.RwkvOutReferenceIdeal.τ Cert.RwkvOutReferenceIdeal.sig) → Buf (Elt Ideal) ℓ) (g : Dev Cert.RwkvOutReferenceIdeal.nD → PrngReg), Pre_RwkvOutReferenceIdeal m →
    θ_run (Cert.RwkvOutReferenceIdeal.defs (F := Ideal)) (onTc (τ := Cert.RwkvOutReferenceIdeal.τ) (Cert.RwkvOutReferenceIdeal.main (F := Ideal))) ⟨m, fun _ => 0, g⟩ (fun r => (∀ c : Dev Cert.RwkvOutReferenceIdeal.nD,
      r.2.mem ((c.tc : Thread Cert.RwkvOutReferenceIdeal.nD Cert.RwkvOutReferenceIdeal.τ).loc Cert.RwkvOutReferenceIdeal.main_arg0) = m ((c.tc : Thread Cert.RwkvOutReferenceIdeal.nD Cert.RwkvOutReferenceIdeal.τ).loc Cert.RwkvOutReferenceIdeal.main_arg0)
      ∧ r.2.mem ((c.tc : Thread Cert.RwkvOutReferenceIdeal.nD Cert.RwkvOutReferenceIdeal.τ).loc Cert.RwkvOutReferenceIdeal.main_arg1) = m ((c.tc : Thread Cert.RwkvOutReferenceIdeal.nD Cert.RwkvOutReferenceIdeal.τ).loc Cert.RwkvOutReferenceIdeal.main_arg1)
      ∧ r.2.mem ((c.tc : Thread Cert.RwkvOutReferenceIdeal.nD Cert.RwkvOutReferenceIdeal.τ).loc Cert.RwkvOutReferenceIdeal.main_arg2) = m ((c.tc : Thread Cert.RwkvOutReferenceIdeal.nD Cert.RwkvOutReferenceIdeal.τ).loc Cert.RwkvOutReferenceIdeal.main_arg2)
      ∧ r.2.mem ((c.tc : Thread Cert.RwkvOutReferenceIdeal.nD Cert.RwkvOutReferenceIdeal.τ).loc Cert.RwkvOutReferenceIdeal.main_arg3) = m ((c.tc : Thread Cert.RwkvOutReferenceIdeal.nD Cert.RwkvOutReferenceIdeal.τ).loc Cert.RwkvOutReferenceIdeal.main_arg3)
      ∧ r.2.mem ((c.tc : Thread Cert.RwkvOutReferenceIdeal.nD Cert.RwkvOutReferenceIdeal.τ).loc Cert.RwkvOutReferenceIdeal.main_arg4) = m ((c.tc : Thread Cert.RwkvOutReferenceIdeal.nD Cert.RwkvOutReferenceIdeal.τ).loc Cert.RwkvOutReferenceIdeal.main_arg4)
      ∧ r.2.mem ((c.tc : Thread Cert.RwkvOutReferenceIdeal.nD Cert.RwkvOutReferenceIdeal.τ).loc Cert.RwkvOutReferenceIdeal.main_arg5) = m ((c.tc : Thread Cert.RwkvOutReferenceIdeal.nD Cert.RwkvOutReferenceIdeal.τ).loc Cert.RwkvOutReferenceIdeal.main_arg5)
      ∧ r.2.mem ((c.tc : Thread Cert.RwkvOutReferenceIdeal.nD Cert.RwkvOutReferenceIdeal.τ).loc Cert.RwkvOutReferenceIdeal.main_arg6) = m ((c.tc : Thread Cert.RwkvOutReferenceIdeal.nD Cert.RwkvOutReferenceIdeal.τ).loc Cert.RwkvOutReferenceIdeal.main_arg6)
      ∧ r.2.mem ((c.tc : Thread Cert.RwkvOutReferenceIdeal.nD Cert.RwkvOutReferenceIdeal.τ).loc Cert.RwkvOutReferenceIdeal.main_arg7) = m ((c.tc : Thread Cert.RwkvOutReferenceIdeal.nD Cert.RwkvOutReferenceIdeal.τ).loc Cert.RwkvOutReferenceIdeal.main_arg7)
      ∧ r.2.mem ((c.tc : Thread Cert.RwkvOutReferenceIdeal.nD Cert.RwkvOutReferenceIdeal.τ).loc Cert.RwkvOutReferenceIdeal.main_arg8) = m ((c.tc : Thread Cert.RwkvOutReferenceIdeal.nD Cert.RwkvOutReferenceIdeal.τ).loc Cert.RwkvOutReferenceIdeal.main_arg8)
      ∧ r.2.mem ((c.tc : Thread Cert.RwkvOutReferenceIdeal.nD Cert.RwkvOutReferenceIdeal.τ).loc Cert.RwkvOutReferenceIdeal.main_arg9) = m ((c.tc : Thread Cert.RwkvOutReferenceIdeal.nD Cert.RwkvOutReferenceIdeal.τ).loc Cert.RwkvOutReferenceIdeal.main_arg9)
      ∧ r.2.mem ((c.tc : Thread Cert.RwkvOutReferenceIdeal.nD Cert.RwkvOutReferenceIdeal.τ).loc Cert.RwkvOutReferenceIdeal.main_arg10) = m ((c.tc : Thread Cert.RwkvOutReferenceIdeal.nD Cert.RwkvOutReferenceIdeal.τ).loc Cert.RwkvOutReferenceIdeal.main_arg10)
      ∧ r.2.mem ((c.tc : Thread Cert.RwkvOutReferenceIdeal.nD Cert.RwkvOutReferenceIdeal.τ).loc Cert.RwkvOutReferenceIdeal.main_arg11) = m ((c.tc : Thread Cert.RwkvOutReferenceIdeal.nD Cert.RwkvOutReferenceIdeal.τ).loc Cert.RwkvOutReferenceIdeal.main_arg11))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v2) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def preserves_MlaOut_MlaOutIdeal : Prop :=
  True

def algebraic_MlaOutIdeal_MlaOutReferenceIdeal [hMlaOutIdeal : Cert.MlaOutIdeal.Facts] [hMlaOutReferenceIdeal : Cert.MlaOutReferenceIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg)
    (m' : (ℓ : Loc Cert.MlaOutReferenceIdeal.nD Cert.MlaOutReferenceIdeal.τ Cert.MlaOutReferenceIdeal.sig) → Buf (Elt Ideal) ℓ) (g' : Dev Cert.MlaOutReferenceIdeal.nD → PrngReg), Pre_MlaOutIdeal m →
    (∀ c : Dev Cert.MlaOutIdeal.nD,
      m' ((c.tc : Thread Cert.MlaOutReferenceIdeal.nD Cert.MlaOutReferenceIdeal.τ).loc Cert.MlaOutReferenceIdeal.main_arg0) = m ((c.tc : Thread Cert.MlaOutIdeal.nD Cert.MlaOutIdeal.τ).loc Cert.MlaOutIdeal.main_arg0)
      ∧ m' ((c.tc : Thread Cert.MlaOutReferenceIdeal.nD Cert.MlaOutReferenceIdeal.τ).loc Cert.MlaOutReferenceIdeal.main_arg1) = m ((c.tc : Thread Cert.MlaOutIdeal.nD Cert.MlaOutIdeal.τ).loc Cert.MlaOutIdeal.main_arg1)
      ∧ m' ((c.tc : Thread Cert.MlaOutReferenceIdeal.nD Cert.MlaOutReferenceIdeal.τ).loc Cert.MlaOutReferenceIdeal.main_arg2) = m ((c.tc : Thread Cert.MlaOutIdeal.nD Cert.MlaOutIdeal.τ).loc Cert.MlaOutIdeal.main_arg2)
      ∧ m' ((c.tc : Thread Cert.MlaOutReferenceIdeal.nD Cert.MlaOutReferenceIdeal.τ).loc Cert.MlaOutReferenceIdeal.main_arg3) = m ((c.tc : Thread Cert.MlaOutIdeal.nD Cert.MlaOutIdeal.τ).loc Cert.MlaOutIdeal.main_arg3)
      ∧ m' ((c.tc : Thread Cert.MlaOutReferenceIdeal.nD Cert.MlaOutReferenceIdeal.τ).loc Cert.MlaOutReferenceIdeal.main_arg4) = m ((c.tc : Thread Cert.MlaOutIdeal.nD Cert.MlaOutIdeal.τ).loc Cert.MlaOutIdeal.main_arg4)) →
    ∃ (v0 : (c : Dev Cert.MlaOutIdeal.nD) → Buf (Elt Ideal) ((c.tc : Thread Cert.MlaOutIdeal.nD Cert.MlaOutIdeal.τ).loc Cert.MlaOutIdeal.main_v7_0)) (v1 : (c : Dev Cert.MlaOutIdeal.nD) → Buf (Elt Ideal) ((c.tc : Thread Cert.MlaOutIdeal.nD Cert.MlaOutIdeal.τ).loc Cert.MlaOutIdeal.main_v7_1)),
      θ_run (Cert.MlaOutIdeal.defs (F := Ideal)) (onTc (τ := Cert.MlaOutIdeal.τ) (Cert.MlaOutIdeal.main (F := Ideal))) ⟨m, fun _ => 0, g⟩ (fun r => ∀ c : Dev Cert.MlaOutIdeal.nD,
          r.2.mem ((c.tc : Thread Cert.MlaOutIdeal.nD Cert.MlaOutIdeal.τ).loc Cert.MlaOutIdeal.main_v7_0) = v0 c
          ∧ r.2.mem ((c.tc : Thread Cert.MlaOutIdeal.nD Cert.MlaOutIdeal.τ).loc Cert.MlaOutIdeal.main_v7_1) = v1 c
          ∧ r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
          ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
          ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2)
          ∧ r.2.mem ((c.tc : Thread Cert.MlaOutIdeal.nD Cert.MlaOutIdeal.τ).loc Cert.MlaOutIdeal.main_arg3) = m ((c.tc : Thread Cert.MlaOutIdeal.nD Cert.MlaOutIdeal.τ).loc Cert.MlaOutIdeal.main_arg3)
          ∧ r.2.mem ((c.tc : Thread Cert.MlaOutIdeal.nD Cert.MlaOutIdeal.τ).loc Cert.MlaOutIdeal.main_arg4) = m ((c.tc : Thread Cert.MlaOutIdeal.nD Cert.MlaOutIdeal.τ).loc Cert.MlaOutIdeal.main_arg4))
      ∧ θ_run (Cert.MlaOutReferenceIdeal.defs (F := Ideal)) (onTc (τ := Cert.MlaOutReferenceIdeal.τ) (Cert.MlaOutReferenceIdeal.main (F := Ideal))) ⟨m', fun _ => 0, g'⟩ (fun r => ∀ c : Dev Cert.MlaOutReferenceIdeal.nD,
          r.2.mem ((c.tc : Thread Cert.MlaOutReferenceIdeal.nD Cert.MlaOutReferenceIdeal.τ).loc Cert.MlaOutReferenceIdeal.main_v23) = v0 c
          ∧ r.2.mem ((c.tc : Thread Cert.MlaOutReferenceIdeal.nD Cert.MlaOutReferenceIdeal.τ).loc Cert.MlaOutReferenceIdeal.main_v24) = v1 c
          ∧ r.2.mem ((c.tc : Thread Cert.MlaOutReferenceIdeal.nD Cert.MlaOutReferenceIdeal.τ).loc Cert.MlaOutReferenceIdeal.main_arg0) = m' ((c.tc : Thread Cert.MlaOutReferenceIdeal.nD Cert.MlaOutReferenceIdeal.τ).loc Cert.MlaOutReferenceIdeal.main_arg0)
          ∧ r.2.mem ((c.tc : Thread Cert.MlaOutReferenceIdeal.nD Cert.MlaOutReferenceIdeal.τ).loc Cert.MlaOutReferenceIdeal.main_arg1) = m' ((c.tc : Thread Cert.MlaOutReferenceIdeal.nD Cert.MlaOutReferenceIdeal.τ).loc Cert.MlaOutReferenceIdeal.main_arg1)
          ∧ r.2.mem ((c.tc : Thread Cert.MlaOutReferenceIdeal.nD Cert.MlaOutReferenceIdeal.τ).loc Cert.MlaOutReferenceIdeal.main_arg2) = m' ((c.tc : Thread Cert.MlaOutReferenceIdeal.nD Cert.MlaOutReferenceIdeal.τ).loc Cert.MlaOutReferenceIdeal.main_arg2)
          ∧ r.2.mem ((c.tc : Thread Cert.MlaOutReferenceIdeal.nD Cert.MlaOutReferenceIdeal.τ).loc Cert.MlaOutReferenceIdeal.main_arg3) = m' ((c.tc : Thread Cert.MlaOutReferenceIdeal.nD Cert.MlaOutReferenceIdeal.τ).loc Cert.MlaOutReferenceIdeal.main_arg3)
          ∧ r.2.mem ((c.tc : Thread Cert.MlaOutReferenceIdeal.nD Cert.MlaOutReferenceIdeal.τ).loc Cert.MlaOutReferenceIdeal.main_arg4) = m' ((c.tc : Thread Cert.MlaOutReferenceIdeal.nD Cert.MlaOutReferenceIdeal.τ).loc Cert.MlaOutReferenceIdeal.main_arg4))

def preserves_MlaOutTok_MlaOutTokIdeal : Prop :=
  True

def algebraic_MlaOutTokIdeal_MlaOutTokReferenceIdeal [hMlaOutTokIdeal : Cert.MlaOutTokIdeal.Facts] [hMlaOutTokReferenceIdeal : Cert.MlaOutTokReferenceIdeal.Facts] : Prop :=
  ∀ (m : (ℓ : Loc Cert.MlaOutTokIdeal.nD Cert.MlaOutTokIdeal.τ Cert.MlaOutTokIdeal.sig) → Buf (Elt Ideal) ℓ) (g : Dev Cert.MlaOutTokIdeal.nD → PrngReg)
    (m' : (ℓ : Loc Cert.MlaOutTokReferenceIdeal.nD Cert.MlaOutTokReferenceIdeal.τ Cert.MlaOutTokReferenceIdeal.sig) → Buf (Elt Ideal) ℓ) (g' : Dev Cert.MlaOutTokReferenceIdeal.nD → PrngReg), Pre_MlaOutTokIdeal m →
    (∀ c : Dev Cert.MlaOutTokIdeal.nD,
      m' ((c.tc : Thread Cert.MlaOutTokReferenceIdeal.nD Cert.MlaOutTokReferenceIdeal.τ).loc Cert.MlaOutTokReferenceIdeal.main_arg0) = m ((c.tc : Thread Cert.MlaOutTokIdeal.nD Cert.MlaOutTokIdeal.τ).loc Cert.MlaOutTokIdeal.main_arg0)
      ∧ m' ((c.tc : Thread Cert.MlaOutTokReferenceIdeal.nD Cert.MlaOutTokReferenceIdeal.τ).loc Cert.MlaOutTokReferenceIdeal.main_arg1) = m ((c.tc : Thread Cert.MlaOutTokIdeal.nD Cert.MlaOutTokIdeal.τ).loc Cert.MlaOutTokIdeal.main_arg1)
      ∧ m' ((c.tc : Thread Cert.MlaOutTokReferenceIdeal.nD Cert.MlaOutTokReferenceIdeal.τ).loc Cert.MlaOutTokReferenceIdeal.main_arg2) = m ((c.tc : Thread Cert.MlaOutTokIdeal.nD Cert.MlaOutTokIdeal.τ).loc Cert.MlaOutTokIdeal.main_arg2)
      ∧ m' ((c.tc : Thread Cert.MlaOutTokReferenceIdeal.nD Cert.MlaOutTokReferenceIdeal.τ).loc Cert.MlaOutTokReferenceIdeal.main_arg3) = m ((c.tc : Thread Cert.MlaOutTokIdeal.nD Cert.MlaOutTokIdeal.τ).loc Cert.MlaOutTokIdeal.main_arg3)
      ∧ m' ((c.tc : Thread Cert.MlaOutTokReferenceIdeal.nD Cert.MlaOutTokReferenceIdeal.τ).loc Cert.MlaOutTokReferenceIdeal.main_arg4) = m ((c.tc : Thread Cert.MlaOutTokIdeal.nD Cert.MlaOutTokIdeal.τ).loc Cert.MlaOutTokIdeal.main_arg4)) →
    ∃ (v0 : (c : Dev Cert.MlaOutTokIdeal.nD) → Buf (Elt Ideal) ((c.tc : Thread Cert.MlaOutTokIdeal.nD Cert.MlaOutTokIdeal.τ).loc Cert.MlaOutTokIdeal.main_v7_0)) (v1 : (c : Dev Cert.MlaOutTokIdeal.nD) → Buf (Elt Ideal) ((c.tc : Thread Cert.MlaOutTokIdeal.nD Cert.MlaOutTokIdeal.τ).loc Cert.MlaOutTokIdeal.main_v7_1)),
      θ_run (Cert.MlaOutTokIdeal.defs (F := Ideal)) (onTc (τ := Cert.MlaOutTokIdeal.τ) (Cert.MlaOutTokIdeal.main (F := Ideal))) ⟨m, fun _ => 0, g⟩ (fun r => ∀ c : Dev Cert.MlaOutTokIdeal.nD,
          r.2.mem ((c.tc : Thread Cert.MlaOutTokIdeal.nD Cert.MlaOutTokIdeal.τ).loc Cert.MlaOutTokIdeal.main_v7_0) = v0 c
          ∧ r.2.mem ((c.tc : Thread Cert.MlaOutTokIdeal.nD Cert.MlaOutTokIdeal.τ).loc Cert.MlaOutTokIdeal.main_v7_1) = v1 c
          ∧ r.2.mem ((c.tc : Thread Cert.MlaOutTokIdeal.nD Cert.MlaOutTokIdeal.τ).loc Cert.MlaOutTokIdeal.main_arg0) = m ((c.tc : Thread Cert.MlaOutTokIdeal.nD Cert.MlaOutTokIdeal.τ).loc Cert.MlaOutTokIdeal.main_arg0)
          ∧ r.2.mem ((c.tc : Thread Cert.MlaOutTokIdeal.nD Cert.MlaOutTokIdeal.τ).loc Cert.MlaOutTokIdeal.main_arg1) = m ((c.tc : Thread Cert.MlaOutTokIdeal.nD Cert.MlaOutTokIdeal.τ).loc Cert.MlaOutTokIdeal.main_arg1)
          ∧ r.2.mem ((c.tc : Thread Cert.MlaOutTokIdeal.nD Cert.MlaOutTokIdeal.τ).loc Cert.MlaOutTokIdeal.main_arg2) = m ((c.tc : Thread Cert.MlaOutTokIdeal.nD Cert.MlaOutTokIdeal.τ).loc Cert.MlaOutTokIdeal.main_arg2)
          ∧ r.2.mem ((c.tc : Thread Cert.MlaOutTokIdeal.nD Cert.MlaOutTokIdeal.τ).loc Cert.MlaOutTokIdeal.main_arg3) = m ((c.tc : Thread Cert.MlaOutTokIdeal.nD Cert.MlaOutTokIdeal.τ).loc Cert.MlaOutTokIdeal.main_arg3)
          ∧ r.2.mem ((c.tc : Thread Cert.MlaOutTokIdeal.nD Cert.MlaOutTokIdeal.τ).loc Cert.MlaOutTokIdeal.main_arg4) = m ((c.tc : Thread Cert.MlaOutTokIdeal.nD Cert.MlaOutTokIdeal.τ).loc Cert.MlaOutTokIdeal.main_arg4))
      ∧ θ_run (Cert.MlaOutTokReferenceIdeal.defs (F := Ideal)) (onTc (τ := Cert.MlaOutTokReferenceIdeal.τ) (Cert.MlaOutTokReferenceIdeal.main (F := Ideal))) ⟨m', fun _ => 0, g'⟩ (fun r => ∀ c : Dev Cert.MlaOutTokReferenceIdeal.nD,
          r.2.mem ((c.tc : Thread Cert.MlaOutTokReferenceIdeal.nD Cert.MlaOutTokReferenceIdeal.τ).loc Cert.MlaOutTokReferenceIdeal.main_v23) = v0 c
          ∧ r.2.mem ((c.tc : Thread Cert.MlaOutTokReferenceIdeal.nD Cert.MlaOutTokReferenceIdeal.τ).loc Cert.MlaOutTokReferenceIdeal.main_v24) = v1 c
          ∧ r.2.mem ((c.tc : Thread Cert.MlaOutTokReferenceIdeal.nD Cert.MlaOutTokReferenceIdeal.τ).loc Cert.MlaOutTokReferenceIdeal.main_arg0) = m' ((c.tc : Thread Cert.MlaOutTokReferenceIdeal.nD Cert.MlaOutTokReferenceIdeal.τ).loc Cert.MlaOutTokReferenceIdeal.main_arg0)
          ∧ r.2.mem ((c.tc : Thread Cert.MlaOutTokReferenceIdeal.nD Cert.MlaOutTokReferenceIdeal.τ).loc Cert.MlaOutTokReferenceIdeal.main_arg1) = m' ((c.tc : Thread Cert.MlaOutTokReferenceIdeal.nD Cert.MlaOutTokReferenceIdeal.τ).loc Cert.MlaOutTokReferenceIdeal.main_arg1)
          ∧ r.2.mem ((c.tc : Thread Cert.MlaOutTokReferenceIdeal.nD Cert.MlaOutTokReferenceIdeal.τ).loc Cert.MlaOutTokReferenceIdeal.main_arg2) = m' ((c.tc : Thread Cert.MlaOutTokReferenceIdeal.nD Cert.MlaOutTokReferenceIdeal.τ).loc Cert.MlaOutTokReferenceIdeal.main_arg2)
          ∧ r.2.mem ((c.tc : Thread Cert.MlaOutTokReferenceIdeal.nD Cert.MlaOutTokReferenceIdeal.τ).loc Cert.MlaOutTokReferenceIdeal.main_arg3) = m' ((c.tc : Thread Cert.MlaOutTokReferenceIdeal.nD Cert.MlaOutTokReferenceIdeal.τ).loc Cert.MlaOutTokReferenceIdeal.main_arg3)
          ∧ r.2.mem ((c.tc : Thread Cert.MlaOutTokReferenceIdeal.nD Cert.MlaOutTokReferenceIdeal.τ).loc Cert.MlaOutTokReferenceIdeal.main_arg4) = m' ((c.tc : Thread Cert.MlaOutTokReferenceIdeal.nD Cert.MlaOutTokReferenceIdeal.τ).loc Cert.MlaOutTokReferenceIdeal.main_arg4))

def preserves_MlaKv_MlaKvIdeal : Prop :=
  True

def algebraic_MlaKvIdeal_MlaKvReferenceIdeal_pre_finite_kv [hMlaKvIdeal : Cert.MlaKvIdeal.Facts] [hMlaKvReferenceIdeal : Cert.MlaKvReferenceIdeal.Facts] [hPre_finite_kv : Cert.Pre_finite_kv.Facts] : Prop :=
  ∀ (m : (ℓ : Loc Cert.MlaKvIdeal.nD Cert.MlaKvIdeal.τ Cert.MlaKvIdeal.sig) → Buf (Elt Ideal) ℓ) (g : Dev Cert.MlaKvIdeal.nD → PrngReg)
    (m' : (ℓ : Loc Cert.MlaKvReferenceIdeal.nD Cert.MlaKvReferenceIdeal.τ Cert.MlaKvReferenceIdeal.sig) → Buf (Elt Ideal) ℓ) (g' : Dev Cert.MlaKvReferenceIdeal.nD → PrngReg), Pre_MlaKvIdeal_finite_kv m →
    (∀ c : Dev Cert.MlaKvIdeal.nD,
      m' ((c.tc : Thread Cert.MlaKvReferenceIdeal.nD Cert.MlaKvReferenceIdeal.τ).loc Cert.MlaKvReferenceIdeal.main_arg0) = m ((c.tc : Thread Cert.MlaKvIdeal.nD Cert.MlaKvIdeal.τ).loc Cert.MlaKvIdeal.main_arg0)
      ∧ m' ((c.tc : Thread Cert.MlaKvReferenceIdeal.nD Cert.MlaKvReferenceIdeal.τ).loc Cert.MlaKvReferenceIdeal.main_arg1) = m ((c.tc : Thread Cert.MlaKvIdeal.nD Cert.MlaKvIdeal.τ).loc Cert.MlaKvIdeal.main_arg1)
      ∧ m' ((c.tc : Thread Cert.MlaKvReferenceIdeal.nD Cert.MlaKvReferenceIdeal.τ).loc Cert.MlaKvReferenceIdeal.main_arg2) = m ((c.tc : Thread Cert.MlaKvIdeal.nD Cert.MlaKvIdeal.τ).loc Cert.MlaKvIdeal.main_arg2)
      ∧ m' ((c.tc : Thread Cert.MlaKvReferenceIdeal.nD Cert.MlaKvReferenceIdeal.τ).loc Cert.MlaKvReferenceIdeal.main_arg3) = m ((c.tc : Thread Cert.MlaKvIdeal.nD Cert.MlaKvIdeal.τ).loc Cert.MlaKvIdeal.main_arg3)) →
    ∃ (v0 : (c : Dev Cert.MlaKvIdeal.nD) → Buf (Elt Ideal) ((c.tc : Thread Cert.MlaKvIdeal.nD Cert.MlaKvIdeal.τ).loc Cert.MlaKvIdeal.main_v35_0)) (v1 : (c : Dev Cert.MlaKvIdeal.nD) → Buf (Elt Ideal) ((c.tc : Thread Cert.MlaKvIdeal.nD Cert.MlaKvIdeal.τ).loc Cert.MlaKvIdeal.main_v35_1)),
      θ_run (Cert.MlaKvIdeal.defs (F := Ideal)) (onTc (τ := Cert.MlaKvIdeal.τ) (Cert.MlaKvIdeal.main (F := Ideal))) ⟨m, fun _ => 0, g⟩ (fun r => ∀ c : Dev Cert.MlaKvIdeal.nD,
          r.2.mem ((c.tc : Thread Cert.MlaKvIdeal.nD Cert.MlaKvIdeal.τ).loc Cert.MlaKvIdeal.main_v35_0) = v0 c
          ∧ r.2.mem ((c.tc : Thread Cert.MlaKvIdeal.nD Cert.MlaKvIdeal.τ).loc Cert.MlaKvIdeal.main_v35_1) = v1 c
          ∧ r.2.mem ((c.tc : Thread Cert.MlaKvIdeal.nD Cert.MlaKvIdeal.τ).loc Cert.MlaKvIdeal.main_arg0) = m ((c.tc : Thread Cert.MlaKvIdeal.nD Cert.MlaKvIdeal.τ).loc Cert.MlaKvIdeal.main_arg0)
          ∧ r.2.mem ((c.tc : Thread Cert.MlaKvIdeal.nD Cert.MlaKvIdeal.τ).loc Cert.MlaKvIdeal.main_arg1) = m ((c.tc : Thread Cert.MlaKvIdeal.nD Cert.MlaKvIdeal.τ).loc Cert.MlaKvIdeal.main_arg1)
          ∧ r.2.mem ((c.tc : Thread Cert.MlaKvIdeal.nD Cert.MlaKvIdeal.τ).loc Cert.MlaKvIdeal.main_arg2) = m ((c.tc : Thread Cert.MlaKvIdeal.nD Cert.MlaKvIdeal.τ).loc Cert.MlaKvIdeal.main_arg2)
          ∧ r.2.mem ((c.tc : Thread Cert.MlaKvIdeal.nD Cert.MlaKvIdeal.τ).loc Cert.MlaKvIdeal.main_arg3) = m ((c.tc : Thread Cert.MlaKvIdeal.nD Cert.MlaKvIdeal.τ).loc Cert.MlaKvIdeal.main_arg3))
      ∧ θ_run (Cert.MlaKvReferenceIdeal.defs (F := Ideal)) (onTc (τ := Cert.MlaKvReferenceIdeal.τ) (Cert.MlaKvReferenceIdeal.main (F := Ideal))) ⟨m', fun _ => 0, g'⟩ (fun r => ∀ c : Dev Cert.MlaKvReferenceIdeal.nD,
          r.2.mem ((c.tc : Thread Cert.MlaKvReferenceIdeal.nD Cert.MlaKvReferenceIdeal.τ).loc Cert.MlaKvReferenceIdeal.main_v59) = v0 c
          ∧ r.2.mem ((c.tc : Thread Cert.MlaKvReferenceIdeal.nD Cert.MlaKvReferenceIdeal.τ).loc Cert.MlaKvReferenceIdeal.main_v60) = v1 c
          ∧ r.2.mem ((c.tc : Thread Cert.MlaKvReferenceIdeal.nD Cert.MlaKvReferenceIdeal.τ).loc Cert.MlaKvReferenceIdeal.main_arg0) = m' ((c.tc : Thread Cert.MlaKvReferenceIdeal.nD Cert.MlaKvReferenceIdeal.τ).loc Cert.MlaKvReferenceIdeal.main_arg0)
          ∧ r.2.mem ((c.tc : Thread Cert.MlaKvReferenceIdeal.nD Cert.MlaKvReferenceIdeal.τ).loc Cert.MlaKvReferenceIdeal.main_arg1) = m' ((c.tc : Thread Cert.MlaKvReferenceIdeal.nD Cert.MlaKvReferenceIdeal.τ).loc Cert.MlaKvReferenceIdeal.main_arg1)
          ∧ r.2.mem ((c.tc : Thread Cert.MlaKvReferenceIdeal.nD Cert.MlaKvReferenceIdeal.τ).loc Cert.MlaKvReferenceIdeal.main_arg2) = m' ((c.tc : Thread Cert.MlaKvReferenceIdeal.nD Cert.MlaKvReferenceIdeal.τ).loc Cert.MlaKvReferenceIdeal.main_arg2)
          ∧ r.2.mem ((c.tc : Thread Cert.MlaKvReferenceIdeal.nD Cert.MlaKvReferenceIdeal.τ).loc Cert.MlaKvReferenceIdeal.main_arg3) = m' ((c.tc : Thread Cert.MlaKvReferenceIdeal.nD Cert.MlaKvReferenceIdeal.τ).loc Cert.MlaKvReferenceIdeal.main_arg3))

def preserves_MlaKvTok_MlaKvTokIdeal : Prop :=
  True

def algebraic_MlaKvTokIdeal_MlaKvTokReferenceIdeal_pre_finite_kv_tok [hMlaKvTokIdeal : Cert.MlaKvTokIdeal.Facts] [hMlaKvTokReferenceIdeal : Cert.MlaKvTokReferenceIdeal.Facts] [hPre_finite_kv_tok : Cert.Pre_finite_kv_tok.Facts] : Prop :=
  ∀ (m : (ℓ : Loc Cert.MlaKvTokIdeal.nD Cert.MlaKvTokIdeal.τ Cert.MlaKvTokIdeal.sig) → Buf (Elt Ideal) ℓ) (g : Dev Cert.MlaKvTokIdeal.nD → PrngReg)
    (m' : (ℓ : Loc Cert.MlaKvTokReferenceIdeal.nD Cert.MlaKvTokReferenceIdeal.τ Cert.MlaKvTokReferenceIdeal.sig) → Buf (Elt Ideal) ℓ) (g' : Dev Cert.MlaKvTokReferenceIdeal.nD → PrngReg), Pre_MlaKvTokIdeal_finite_kv_tok m →
    (∀ c : Dev Cert.MlaKvTokIdeal.nD,
      m' ((c.tc : Thread Cert.MlaKvTokReferenceIdeal.nD Cert.MlaKvTokReferenceIdeal.τ).loc Cert.MlaKvTokReferenceIdeal.main_arg0) = m ((c.tc : Thread Cert.MlaKvTokIdeal.nD Cert.MlaKvTokIdeal.τ).loc Cert.MlaKvTokIdeal.main_arg0)
      ∧ m' ((c.tc : Thread Cert.MlaKvTokReferenceIdeal.nD Cert.MlaKvTokReferenceIdeal.τ).loc Cert.MlaKvTokReferenceIdeal.main_arg1) = m ((c.tc : Thread Cert.MlaKvTokIdeal.nD Cert.MlaKvTokIdeal.τ).loc Cert.MlaKvTokIdeal.main_arg1)
      ∧ m' ((c.tc : Thread Cert.MlaKvTokReferenceIdeal.nD Cert.MlaKvTokReferenceIdeal.τ).loc Cert.MlaKvTokReferenceIdeal.main_arg2) = m ((c.tc : Thread Cert.MlaKvTokIdeal.nD Cert.MlaKvTokIdeal.τ).loc Cert.MlaKvTokIdeal.main_arg2)
      ∧ m' ((c.tc : Thread Cert.MlaKvTokReferenceIdeal.nD Cert.MlaKvTokReferenceIdeal.τ).loc Cert.MlaKvTokReferenceIdeal.main_arg3) = m ((c.tc : Thread Cert.MlaKvTokIdeal.nD Cert.MlaKvTokIdeal.τ).loc Cert.MlaKvTokIdeal.main_arg3)) →
    ∃ (v0 : (c : Dev Cert.MlaKvTokIdeal.nD) → Buf (Elt Ideal) ((c.tc : Thread Cert.MlaKvTokIdeal.nD Cert.MlaKvTokIdeal.τ).loc Cert.MlaKvTokIdeal.main_v35_0)) (v1 : (c : Dev Cert.MlaKvTokIdeal.nD) → Buf (Elt Ideal) ((c.tc : Thread Cert.MlaKvTokIdeal.nD Cert.MlaKvTokIdeal.τ).loc Cert.MlaKvTokIdeal.main_v35_1)),
      θ_run (Cert.MlaKvTokIdeal.defs (F := Ideal)) (onTc (τ := Cert.MlaKvTokIdeal.τ) (Cert.MlaKvTokIdeal.main (F := Ideal))) ⟨m, fun _ => 0, g⟩ (fun r => ∀ c : Dev Cert.MlaKvTokIdeal.nD,
          r.2.mem ((c.tc : Thread Cert.MlaKvTokIdeal.nD Cert.MlaKvTokIdeal.τ).loc Cert.MlaKvTokIdeal.main_v35_0) = v0 c
          ∧ r.2.mem ((c.tc : Thread Cert.MlaKvTokIdeal.nD Cert.MlaKvTokIdeal.τ).loc Cert.MlaKvTokIdeal.main_v35_1) = v1 c
          ∧ r.2.mem ((c.tc : Thread Cert.MlaKvTokIdeal.nD Cert.MlaKvTokIdeal.τ).loc Cert.MlaKvTokIdeal.main_arg0) = m ((c.tc : Thread Cert.MlaKvTokIdeal.nD Cert.MlaKvTokIdeal.τ).loc Cert.MlaKvTokIdeal.main_arg0)
          ∧ r.2.mem ((c.tc : Thread Cert.MlaKvTokIdeal.nD Cert.MlaKvTokIdeal.τ).loc Cert.MlaKvTokIdeal.main_arg1) = m ((c.tc : Thread Cert.MlaKvTokIdeal.nD Cert.MlaKvTokIdeal.τ).loc Cert.MlaKvTokIdeal.main_arg1)
          ∧ r.2.mem ((c.tc : Thread Cert.MlaKvTokIdeal.nD Cert.MlaKvTokIdeal.τ).loc Cert.MlaKvTokIdeal.main_arg2) = m ((c.tc : Thread Cert.MlaKvTokIdeal.nD Cert.MlaKvTokIdeal.τ).loc Cert.MlaKvTokIdeal.main_arg2)
          ∧ r.2.mem ((c.tc : Thread Cert.MlaKvTokIdeal.nD Cert.MlaKvTokIdeal.τ).loc Cert.MlaKvTokIdeal.main_arg3) = m ((c.tc : Thread Cert.MlaKvTokIdeal.nD Cert.MlaKvTokIdeal.τ).loc Cert.MlaKvTokIdeal.main_arg3))
      ∧ θ_run (Cert.MlaKvTokReferenceIdeal.defs (F := Ideal)) (onTc (τ := Cert.MlaKvTokReferenceIdeal.τ) (Cert.MlaKvTokReferenceIdeal.main (F := Ideal))) ⟨m', fun _ => 0, g'⟩ (fun r => ∀ c : Dev Cert.MlaKvTokReferenceIdeal.nD,
          r.2.mem ((c.tc : Thread Cert.MlaKvTokReferenceIdeal.nD Cert.MlaKvTokReferenceIdeal.τ).loc Cert.MlaKvTokReferenceIdeal.main_v60) = v0 c
          ∧ r.2.mem ((c.tc : Thread Cert.MlaKvTokReferenceIdeal.nD Cert.MlaKvTokReferenceIdeal.τ).loc Cert.MlaKvTokReferenceIdeal.main_v61) = v1 c
          ∧ r.2.mem ((c.tc : Thread Cert.MlaKvTokReferenceIdeal.nD Cert.MlaKvTokReferenceIdeal.τ).loc Cert.MlaKvTokReferenceIdeal.main_arg0) = m' ((c.tc : Thread Cert.MlaKvTokReferenceIdeal.nD Cert.MlaKvTokReferenceIdeal.τ).loc Cert.MlaKvTokReferenceIdeal.main_arg0)
          ∧ r.2.mem ((c.tc : Thread Cert.MlaKvTokReferenceIdeal.nD Cert.MlaKvTokReferenceIdeal.τ).loc Cert.MlaKvTokReferenceIdeal.main_arg1) = m' ((c.tc : Thread Cert.MlaKvTokReferenceIdeal.nD Cert.MlaKvTokReferenceIdeal.τ).loc Cert.MlaKvTokReferenceIdeal.main_arg1)
          ∧ r.2.mem ((c.tc : Thread Cert.MlaKvTokReferenceIdeal.nD Cert.MlaKvTokReferenceIdeal.τ).loc Cert.MlaKvTokReferenceIdeal.main_arg2) = m' ((c.tc : Thread Cert.MlaKvTokReferenceIdeal.nD Cert.MlaKvTokReferenceIdeal.τ).loc Cert.MlaKvTokReferenceIdeal.main_arg2)
          ∧ r.2.mem ((c.tc : Thread Cert.MlaKvTokReferenceIdeal.nD Cert.MlaKvTokReferenceIdeal.τ).loc Cert.MlaKvTokReferenceIdeal.main_arg3) = m' ((c.tc : Thread Cert.MlaKvTokReferenceIdeal.nD Cert.MlaKvTokReferenceIdeal.τ).loc Cert.MlaKvTokReferenceIdeal.main_arg3))

def preserves_MlaQ_MlaQIdeal : Prop :=
  True

def algebraic_MlaQIdeal_MlaQReferenceIdeal_pre_finite_q [hMlaQIdeal : Cert.MlaQIdeal.Facts] [hMlaQReferenceIdeal : Cert.MlaQReferenceIdeal.Facts] [hPre_finite_q : Cert.Pre_finite_q.Facts] : Prop :=
  ∀ (m : (ℓ : Loc Cert.MlaQIdeal.nD Cert.MlaQIdeal.τ Cert.MlaQIdeal.sig) → Buf (Elt Ideal) ℓ) (g : Dev Cert.MlaQIdeal.nD → PrngReg)
    (m' : (ℓ : Loc Cert.MlaQReferenceIdeal.nD Cert.MlaQReferenceIdeal.τ Cert.MlaQReferenceIdeal.sig) → Buf (Elt Ideal) ℓ) (g' : Dev Cert.MlaQReferenceIdeal.nD → PrngReg), Pre_MlaQIdeal_finite_q m →
    (∀ c : Dev Cert.MlaQIdeal.nD,
      m' ((c.tc : Thread Cert.MlaQReferenceIdeal.nD Cert.MlaQReferenceIdeal.τ).loc Cert.MlaQReferenceIdeal.main_arg0) = m ((c.tc : Thread Cert.MlaQIdeal.nD Cert.MlaQIdeal.τ).loc Cert.MlaQIdeal.main_arg0)
      ∧ m' ((c.tc : Thread Cert.MlaQReferenceIdeal.nD Cert.MlaQReferenceIdeal.τ).loc Cert.MlaQReferenceIdeal.main_arg1) = m ((c.tc : Thread Cert.MlaQIdeal.nD Cert.MlaQIdeal.τ).loc Cert.MlaQIdeal.main_arg1)
      ∧ m' ((c.tc : Thread Cert.MlaQReferenceIdeal.nD Cert.MlaQReferenceIdeal.τ).loc Cert.MlaQReferenceIdeal.main_arg2) = m ((c.tc : Thread Cert.MlaQIdeal.nD Cert.MlaQIdeal.τ).loc Cert.MlaQIdeal.main_arg2)
      ∧ m' ((c.tc : Thread Cert.MlaQReferenceIdeal.nD Cert.MlaQReferenceIdeal.τ).loc Cert.MlaQReferenceIdeal.main_arg3) = m ((c.tc : Thread Cert.MlaQIdeal.nD Cert.MlaQIdeal.τ).loc Cert.MlaQIdeal.main_arg3)
      ∧ m' ((c.tc : Thread Cert.MlaQReferenceIdeal.nD Cert.MlaQReferenceIdeal.τ).loc Cert.MlaQReferenceIdeal.main_arg4) = m ((c.tc : Thread Cert.MlaQIdeal.nD Cert.MlaQIdeal.τ).loc Cert.MlaQIdeal.main_arg4)) →
    ∃ (v0 : (c : Dev Cert.MlaQIdeal.nD) → Buf (Elt Ideal) ((c.tc : Thread Cert.MlaQIdeal.nD Cert.MlaQIdeal.τ).loc Cert.MlaQIdeal.main_v44_0)) (v1 : (c : Dev Cert.MlaQIdeal.nD) → Buf (Elt Ideal) ((c.tc : Thread Cert.MlaQIdeal.nD Cert.MlaQIdeal.τ).loc Cert.MlaQIdeal.main_v44_1)),
      θ_run (Cert.MlaQIdeal.defs (F := Ideal)) (onTc (τ := Cert.MlaQIdeal.τ) (Cert.MlaQIdeal.main (F := Ideal))) ⟨m, fun _ => 0, g⟩ (fun r => ∀ c : Dev Cert.MlaQIdeal.nD,
          r.2.mem ((c.tc : Thread Cert.MlaQIdeal.nD Cert.MlaQIdeal.τ).loc Cert.MlaQIdeal.main_v44_0) = v0 c
          ∧ r.2.mem ((c.tc : Thread Cert.MlaQIdeal.nD Cert.MlaQIdeal.τ).loc Cert.MlaQIdeal.main_v44_1) = v1 c
          ∧ r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
          ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
          ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2)
          ∧ r.2.mem ((c.tc : Thread Cert.MlaQIdeal.nD Cert.MlaQIdeal.τ).loc Cert.MlaQIdeal.main_arg3) = m ((c.tc : Thread Cert.MlaQIdeal.nD Cert.MlaQIdeal.τ).loc Cert.MlaQIdeal.main_arg3)
          ∧ r.2.mem ((c.tc : Thread Cert.MlaQIdeal.nD Cert.MlaQIdeal.τ).loc Cert.MlaQIdeal.main_arg4) = m ((c.tc : Thread Cert.MlaQIdeal.nD Cert.MlaQIdeal.τ).loc Cert.MlaQIdeal.main_arg4))
      ∧ θ_run (Cert.MlaQReferenceIdeal.defs (F := Ideal)) (onTc (τ := Cert.MlaQReferenceIdeal.τ) (Cert.MlaQReferenceIdeal.main (F := Ideal))) ⟨m', fun _ => 0, g'⟩ (fun r => ∀ c : Dev Cert.MlaQReferenceIdeal.nD,
          r.2.mem ((c.tc : Thread Cert.MlaQReferenceIdeal.nD Cert.MlaQReferenceIdeal.τ).loc Cert.MlaQReferenceIdeal.main_v68) = v0 c
          ∧ r.2.mem ((c.tc : Thread Cert.MlaQReferenceIdeal.nD Cert.MlaQReferenceIdeal.τ).loc Cert.MlaQReferenceIdeal.main_v70) = v1 c
          ∧ r.2.mem ((c.tc : Thread Cert.MlaQReferenceIdeal.nD Cert.MlaQReferenceIdeal.τ).loc Cert.MlaQReferenceIdeal.main_arg0) = m' ((c.tc : Thread Cert.MlaQReferenceIdeal.nD Cert.MlaQReferenceIdeal.τ).loc Cert.MlaQReferenceIdeal.main_arg0)
          ∧ r.2.mem ((c.tc : Thread Cert.MlaQReferenceIdeal.nD Cert.MlaQReferenceIdeal.τ).loc Cert.MlaQReferenceIdeal.main_arg1) = m' ((c.tc : Thread Cert.MlaQReferenceIdeal.nD Cert.MlaQReferenceIdeal.τ).loc Cert.MlaQReferenceIdeal.main_arg1)
          ∧ r.2.mem ((c.tc : Thread Cert.MlaQReferenceIdeal.nD Cert.MlaQReferenceIdeal.τ).loc Cert.MlaQReferenceIdeal.main_arg2) = m' ((c.tc : Thread Cert.MlaQReferenceIdeal.nD Cert.MlaQReferenceIdeal.τ).loc Cert.MlaQReferenceIdeal.main_arg2)
          ∧ r.2.mem ((c.tc : Thread Cert.MlaQReferenceIdeal.nD Cert.MlaQReferenceIdeal.τ).loc Cert.MlaQReferenceIdeal.main_arg3) = m' ((c.tc : Thread Cert.MlaQReferenceIdeal.nD Cert.MlaQReferenceIdeal.τ).loc Cert.MlaQReferenceIdeal.main_arg3)
          ∧ r.2.mem ((c.tc : Thread Cert.MlaQReferenceIdeal.nD Cert.MlaQReferenceIdeal.τ).loc Cert.MlaQReferenceIdeal.main_arg4) = m' ((c.tc : Thread Cert.MlaQReferenceIdeal.nD Cert.MlaQReferenceIdeal.τ).loc Cert.MlaQReferenceIdeal.main_arg4))

def preserves_RwkvOut_RwkvOutIdeal : Prop :=
  True

def algebraic_RwkvOutIdeal_RwkvOutReferenceIdeal [hRwkvOutIdeal : Cert.RwkvOutIdeal.Facts] [hRwkvOutReferenceIdeal : Cert.RwkvOutReferenceIdeal.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg)
    (m' : (ℓ : Loc Cert.RwkvOutReferenceIdeal.nD Cert.RwkvOutReferenceIdeal.τ Cert.RwkvOutReferenceIdeal.sig) → Buf (Elt Ideal) ℓ) (g' : Dev Cert.RwkvOutReferenceIdeal.nD → PrngReg), Pre_RwkvOutIdeal m →
    (∀ c : Dev Cert.RwkvOutIdeal.nD,
      m' ((c.tc : Thread Cert.RwkvOutReferenceIdeal.nD Cert.RwkvOutReferenceIdeal.τ).loc Cert.RwkvOutReferenceIdeal.main_arg0) = m ((c.tc : Thread Cert.RwkvOutIdeal.nD Cert.RwkvOutIdeal.τ).loc Cert.RwkvOutIdeal.main_arg0)
      ∧ m' ((c.tc : Thread Cert.RwkvOutReferenceIdeal.nD Cert.RwkvOutReferenceIdeal.τ).loc Cert.RwkvOutReferenceIdeal.main_arg1) = m ((c.tc : Thread Cert.RwkvOutIdeal.nD Cert.RwkvOutIdeal.τ).loc Cert.RwkvOutIdeal.main_arg1)
      ∧ m' ((c.tc : Thread Cert.RwkvOutReferenceIdeal.nD Cert.RwkvOutReferenceIdeal.τ).loc Cert.RwkvOutReferenceIdeal.main_arg2) = m ((c.tc : Thread Cert.RwkvOutIdeal.nD Cert.RwkvOutIdeal.τ).loc Cert.RwkvOutIdeal.main_arg2)
      ∧ m' ((c.tc : Thread Cert.RwkvOutReferenceIdeal.nD Cert.RwkvOutReferenceIdeal.τ).loc Cert.RwkvOutReferenceIdeal.main_arg3) = m ((c.tc : Thread Cert.RwkvOutIdeal.nD Cert.RwkvOutIdeal.τ).loc Cert.RwkvOutIdeal.main_arg3)
      ∧ m' ((c.tc : Thread Cert.RwkvOutReferenceIdeal.nD Cert.RwkvOutReferenceIdeal.τ).loc Cert.RwkvOutReferenceIdeal.main_arg4) = m ((c.tc : Thread Cert.RwkvOutIdeal.nD Cert.RwkvOutIdeal.τ).loc Cert.RwkvOutIdeal.main_arg4)
      ∧ m' ((c.tc : Thread Cert.RwkvOutReferenceIdeal.nD Cert.RwkvOutReferenceIdeal.τ).loc Cert.RwkvOutReferenceIdeal.main_arg5) = m ((c.tc : Thread Cert.RwkvOutIdeal.nD Cert.RwkvOutIdeal.τ).loc Cert.RwkvOutIdeal.main_arg5)
      ∧ m' ((c.tc : Thread Cert.RwkvOutReferenceIdeal.nD Cert.RwkvOutReferenceIdeal.τ).loc Cert.RwkvOutReferenceIdeal.main_arg6) = m ((c.tc : Thread Cert.RwkvOutIdeal.nD Cert.RwkvOutIdeal.τ).loc Cert.RwkvOutIdeal.main_arg6)
      ∧ m' ((c.tc : Thread Cert.RwkvOutReferenceIdeal.nD Cert.RwkvOutReferenceIdeal.τ).loc Cert.RwkvOutReferenceIdeal.main_arg7) = m ((c.tc : Thread Cert.RwkvOutIdeal.nD Cert.RwkvOutIdeal.τ).loc Cert.RwkvOutIdeal.main_arg7)
      ∧ m' ((c.tc : Thread Cert.RwkvOutReferenceIdeal.nD Cert.RwkvOutReferenceIdeal.τ).loc Cert.RwkvOutReferenceIdeal.main_arg8) = m ((c.tc : Thread Cert.RwkvOutIdeal.nD Cert.RwkvOutIdeal.τ).loc Cert.RwkvOutIdeal.main_arg8)
      ∧ m' ((c.tc : Thread Cert.RwkvOutReferenceIdeal.nD Cert.RwkvOutReferenceIdeal.τ).loc Cert.RwkvOutReferenceIdeal.main_arg9) = m ((c.tc : Thread Cert.RwkvOutIdeal.nD Cert.RwkvOutIdeal.τ).loc Cert.RwkvOutIdeal.main_arg9)
      ∧ m' ((c.tc : Thread Cert.RwkvOutReferenceIdeal.nD Cert.RwkvOutReferenceIdeal.τ).loc Cert.RwkvOutReferenceIdeal.main_arg10) = m ((c.tc : Thread Cert.RwkvOutIdeal.nD Cert.RwkvOutIdeal.τ).loc Cert.RwkvOutIdeal.main_arg10)
      ∧ m' ((c.tc : Thread Cert.RwkvOutReferenceIdeal.nD Cert.RwkvOutReferenceIdeal.τ).loc Cert.RwkvOutReferenceIdeal.main_arg11) = m ((c.tc : Thread Cert.RwkvOutIdeal.nD Cert.RwkvOutIdeal.τ).loc Cert.RwkvOutIdeal.main_arg11)) →
    ∃ (v0 : (c : Dev Cert.RwkvOutIdeal.nD) → Buf (Elt Ideal) ((c.tc : Thread Cert.RwkvOutIdeal.nD Cert.RwkvOutIdeal.τ).loc Cert.RwkvOutIdeal.main_v33)),
      θ_run (Cert.RwkvOutIdeal.defs (F := Ideal)) (onTc (τ := Cert.RwkvOutIdeal.τ) (Cert.RwkvOutIdeal.main (F := Ideal))) ⟨m, fun _ => 0, g⟩ (fun r => ∀ c : Dev Cert.RwkvOutIdeal.nD,
          r.2.mem ((c.tc : Thread Cert.RwkvOutIdeal.nD Cert.RwkvOutIdeal.τ).loc Cert.RwkvOutIdeal.main_v33) = v0 c
          ∧ r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
          ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
          ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2)
          ∧ r.2.mem ((c.tc : Thread Cert.RwkvOutIdeal.nD Cert.RwkvOutIdeal.τ).loc Cert.RwkvOutIdeal.main_arg3) = m ((c.tc : Thread Cert.RwkvOutIdeal.nD Cert.RwkvOutIdeal.τ).loc Cert.RwkvOutIdeal.main_arg3)
          ∧ r.2.mem ((c.tc : Thread Cert.RwkvOutIdeal.nD Cert.RwkvOutIdeal.τ).loc Cert.RwkvOutIdeal.main_arg4) = m ((c.tc : Thread Cert.RwkvOutIdeal.nD Cert.RwkvOutIdeal.τ).loc Cert.RwkvOutIdeal.main_arg4)
          ∧ r.2.mem ((c.tc : Thread Cert.RwkvOutIdeal.nD Cert.RwkvOutIdeal.τ).loc Cert.RwkvOutIdeal.main_arg5) = m ((c.tc : Thread Cert.RwkvOutIdeal.nD Cert.RwkvOutIdeal.τ).loc Cert.RwkvOutIdeal.main_arg5)
          ∧ r.2.mem ((c.tc : Thread Cert.RwkvOutIdeal.nD Cert.RwkvOutIdeal.τ).loc Cert.RwkvOutIdeal.main_arg6) = m ((c.tc : Thread Cert.RwkvOutIdeal.nD Cert.RwkvOutIdeal.τ).loc Cert.RwkvOutIdeal.main_arg6)
          ∧ r.2.mem ((c.tc : Thread Cert.RwkvOutIdeal.nD Cert.RwkvOutIdeal.τ).loc Cert.RwkvOutIdeal.main_arg7) = m ((c.tc : Thread Cert.RwkvOutIdeal.nD Cert.RwkvOutIdeal.τ).loc Cert.RwkvOutIdeal.main_arg7)
          ∧ r.2.mem ((c.tc : Thread Cert.RwkvOutIdeal.nD Cert.RwkvOutIdeal.τ).loc Cert.RwkvOutIdeal.main_arg8) = m ((c.tc : Thread Cert.RwkvOutIdeal.nD Cert.RwkvOutIdeal.τ).loc Cert.RwkvOutIdeal.main_arg8)
          ∧ r.2.mem ((c.tc : Thread Cert.RwkvOutIdeal.nD Cert.RwkvOutIdeal.τ).loc Cert.RwkvOutIdeal.main_arg9) = m ((c.tc : Thread Cert.RwkvOutIdeal.nD Cert.RwkvOutIdeal.τ).loc Cert.RwkvOutIdeal.main_arg9)
          ∧ r.2.mem ((c.tc : Thread Cert.RwkvOutIdeal.nD Cert.RwkvOutIdeal.τ).loc Cert.RwkvOutIdeal.main_arg10) = m ((c.tc : Thread Cert.RwkvOutIdeal.nD Cert.RwkvOutIdeal.τ).loc Cert.RwkvOutIdeal.main_arg10)
          ∧ r.2.mem ((c.tc : Thread Cert.RwkvOutIdeal.nD Cert.RwkvOutIdeal.τ).loc Cert.RwkvOutIdeal.main_arg11) = m ((c.tc : Thread Cert.RwkvOutIdeal.nD Cert.RwkvOutIdeal.τ).loc Cert.RwkvOutIdeal.main_arg11))
      ∧ θ_run (Cert.RwkvOutReferenceIdeal.defs (F := Ideal)) (onTc (τ := Cert.RwkvOutReferenceIdeal.τ) (Cert.RwkvOutReferenceIdeal.main (F := Ideal))) ⟨m', fun _ => 0, g'⟩ (fun r => ∀ c : Dev Cert.RwkvOutReferenceIdeal.nD,
          r.2.mem ((c.tc : Thread Cert.RwkvOutReferenceIdeal.nD Cert.RwkvOutReferenceIdeal.τ).loc Cert.RwkvOutReferenceIdeal.main_v57) = v0 c
          ∧ r.2.mem ((c.tc : Thread Cert.RwkvOutReferenceIdeal.nD Cert.RwkvOutReferenceIdeal.τ).loc Cert.RwkvOutReferenceIdeal.main_arg0) = m' ((c.tc : Thread Cert.RwkvOutReferenceIdeal.nD Cert.RwkvOutReferenceIdeal.τ).loc Cert.RwkvOutReferenceIdeal.main_arg0)
          ∧ r.2.mem ((c.tc : Thread Cert.RwkvOutReferenceIdeal.nD Cert.RwkvOutReferenceIdeal.τ).loc Cert.RwkvOutReferenceIdeal.main_arg1) = m' ((c.tc : Thread Cert.RwkvOutReferenceIdeal.nD Cert.RwkvOutReferenceIdeal.τ).loc Cert.RwkvOutReferenceIdeal.main_arg1)
          ∧ r.2.mem ((c.tc : Thread Cert.RwkvOutReferenceIdeal.nD Cert.RwkvOutReferenceIdeal.τ).loc Cert.RwkvOutReferenceIdeal.main_arg2) = m' ((c.tc : Thread Cert.RwkvOutReferenceIdeal.nD Cert.RwkvOutReferenceIdeal.τ).loc Cert.RwkvOutReferenceIdeal.main_arg2)
          ∧ r.2.mem ((c.tc : Thread Cert.RwkvOutReferenceIdeal.nD Cert.RwkvOutReferenceIdeal.τ).loc Cert.RwkvOutReferenceIdeal.main_arg3) = m' ((c.tc : Thread Cert.RwkvOutReferenceIdeal.nD Cert.RwkvOutReferenceIdeal.τ).loc Cert.RwkvOutReferenceIdeal.main_arg3)
          ∧ r.2.mem ((c.tc : Thread Cert.RwkvOutReferenceIdeal.nD Cert.RwkvOutReferenceIdeal.τ).loc Cert.RwkvOutReferenceIdeal.main_arg4) = m' ((c.tc : Thread Cert.RwkvOutReferenceIdeal.nD Cert.RwkvOutReferenceIdeal.τ).loc Cert.RwkvOutReferenceIdeal.main_arg4)
          ∧ r.2.mem ((c.tc : Thread Cert.RwkvOutReferenceIdeal.nD Cert.RwkvOutReferenceIdeal.τ).loc Cert.RwkvOutReferenceIdeal.main_arg5) = m' ((c.tc : Thread Cert.RwkvOutReferenceIdeal.nD Cert.RwkvOutReferenceIdeal.τ).loc Cert.RwkvOutReferenceIdeal.main_arg5)
          ∧ r.2.mem ((c.tc : Thread Cert.RwkvOutReferenceIdeal.nD Cert.RwkvOutReferenceIdeal.τ).loc Cert.RwkvOutReferenceIdeal.main_arg6) = m' ((c.tc : Thread Cert.RwkvOutReferenceIdeal.nD Cert.RwkvOutReferenceIdeal.τ).loc Cert.RwkvOutReferenceIdeal.main_arg6)
          ∧ r.2.mem ((c.tc : Thread Cert.RwkvOutReferenceIdeal.nD Cert.RwkvOutReferenceIdeal.τ).loc Cert.RwkvOutReferenceIdeal.main_arg7) = m' ((c.tc : Thread Cert.RwkvOutReferenceIdeal.nD Cert.RwkvOutReferenceIdeal.τ).loc Cert.RwkvOutReferenceIdeal.main_arg7)
          ∧ r.2.mem ((c.tc : Thread Cert.RwkvOutReferenceIdeal.nD Cert.RwkvOutReferenceIdeal.τ).loc Cert.RwkvOutReferenceIdeal.main_arg8) = m' ((c.tc : Thread Cert.RwkvOutReferenceIdeal.nD Cert.RwkvOutReferenceIdeal.τ).loc Cert.RwkvOutReferenceIdeal.main_arg8)
          ∧ r.2.mem ((c.tc : Thread Cert.RwkvOutReferenceIdeal.nD Cert.RwkvOutReferenceIdeal.τ).loc Cert.RwkvOutReferenceIdeal.main_arg9) = m' ((c.tc : Thread Cert.RwkvOutReferenceIdeal.nD Cert.RwkvOutReferenceIdeal.τ).loc Cert.RwkvOutReferenceIdeal.main_arg9)
          ∧ r.2.mem ((c.tc : Thread Cert.RwkvOutReferenceIdeal.nD Cert.RwkvOutReferenceIdeal.τ).loc Cert.RwkvOutReferenceIdeal.main_arg10) = m' ((c.tc : Thread Cert.RwkvOutReferenceIdeal.nD Cert.RwkvOutReferenceIdeal.τ).loc Cert.RwkvOutReferenceIdeal.main_arg10)
          ∧ r.2.mem ((c.tc : Thread Cert.RwkvOutReferenceIdeal.nD Cert.RwkvOutReferenceIdeal.τ).loc Cert.RwkvOutReferenceIdeal.main_arg11) = m' ((c.tc : Thread Cert.RwkvOutReferenceIdeal.nD Cert.RwkvOutReferenceIdeal.τ).loc Cert.RwkvOutReferenceIdeal.main_arg11))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hMlaOut : Cert.MlaOut.Facts) (hMlaOutIdeal : Cert.MlaOutIdeal.Facts) (hMlaOutReferenceIdeal : Cert.MlaOutReferenceIdeal.Facts) (hMlaOutTok : Cert.MlaOutTok.Facts) (hMlaOutTokIdeal : Cert.MlaOutTokIdeal.Facts) (hMlaOutTokReferenceIdeal : Cert.MlaOutTokReferenceIdeal.Facts) (hMlaKv : Cert.MlaKv.Facts) (hMlaKvIdeal : Cert.MlaKvIdeal.Facts) (hMlaKvReferenceIdeal : Cert.MlaKvReferenceIdeal.Facts) (hMlaKvTok : Cert.MlaKvTok.Facts) (hMlaKvTokIdeal : Cert.MlaKvTokIdeal.Facts) (hMlaKvTokReferenceIdeal : Cert.MlaKvTokReferenceIdeal.Facts) (hMlaQ : Cert.MlaQ.Facts) (hMlaQIdeal : Cert.MlaQIdeal.Facts) (hMlaQReferenceIdeal : Cert.MlaQReferenceIdeal.Facts) (hRwkvOut : Cert.RwkvOut.Facts) (hRwkvOutIdeal : Cert.RwkvOutIdeal.Facts) (hRwkvOutReferenceIdeal : Cert.RwkvOutReferenceIdeal.Facts) (hPre_finite_scores : Cert.Pre_finite_scores.Facts) (hPre_finite_kv : Cert.Pre_finite_kv.Facts) (hPre_finite_kv_tok : Cert.Pre_finite_kv_tok.Facts) (hPre_finite_q : Cert.Pre_finite_q.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InProj (hInProj := hInProj)
    ∧ quiescent_InProjIdeal (hInProjIdeal := hInProjIdeal)
    ∧ quiescent_InProjReferenceIdeal (hInProjReferenceIdeal := hInProjReferenceIdeal)
    ∧ quiescent_MlaOut (hMlaOut := hMlaOut)
    ∧ quiescent_MlaOutIdeal (hMlaOutIdeal := hMlaOutIdeal)
    ∧ quiescent_MlaOutReferenceIdeal (hMlaOutReferenceIdeal := hMlaOutReferenceIdeal)
    ∧ quiescent_MlaOutTok (hMlaOutTok := hMlaOutTok)
    ∧ quiescent_MlaOutTokIdeal (hMlaOutTokIdeal := hMlaOutTokIdeal)
    ∧ quiescent_MlaOutTokReferenceIdeal (hMlaOutTokReferenceIdeal := hMlaOutTokReferenceIdeal)
    ∧ quiescent_MlaKv (hMlaKv := hMlaKv)
    ∧ quiescent_MlaKvIdeal (hMlaKvIdeal := hMlaKvIdeal)
    ∧ quiescent_MlaKvIdeal_pre_finite_kv (hMlaKvIdeal := hMlaKvIdeal) (hPre_finite_kv := hPre_finite_kv)
    ∧ quiescent_MlaKvReferenceIdeal (hMlaKvReferenceIdeal := hMlaKvReferenceIdeal)
    ∧ quiescent_MlaKvReferenceIdeal_pre_finite_kv (hMlaKvReferenceIdeal := hMlaKvReferenceIdeal) (hPre_finite_kv := hPre_finite_kv)
    ∧ quiescent_MlaKvTok (hMlaKvTok := hMlaKvTok)
    ∧ quiescent_MlaKvTokIdeal (hMlaKvTokIdeal := hMlaKvTokIdeal)
    ∧ quiescent_MlaKvTokIdeal_pre_finite_kv_tok (hMlaKvTokIdeal := hMlaKvTokIdeal) (hPre_finite_kv_tok := hPre_finite_kv_tok)
    ∧ quiescent_MlaKvTokReferenceIdeal (hMlaKvTokReferenceIdeal := hMlaKvTokReferenceIdeal)
    ∧ quiescent_MlaKvTokReferenceIdeal_pre_finite_kv_tok (hMlaKvTokReferenceIdeal := hMlaKvTokReferenceIdeal) (hPre_finite_kv_tok := hPre_finite_kv_tok)
    ∧ quiescent_MlaQ (hMlaQ := hMlaQ)
    ∧ quiescent_MlaQIdeal (hMlaQIdeal := hMlaQIdeal)
    ∧ quiescent_MlaQIdeal_pre_finite_q (hMlaQIdeal := hMlaQIdeal) (hPre_finite_q := hPre_finite_q)
    ∧ quiescent_MlaQReferenceIdeal (hMlaQReferenceIdeal := hMlaQReferenceIdeal)
    ∧ quiescent_MlaQReferenceIdeal_pre_finite_q (hMlaQReferenceIdeal := hMlaQReferenceIdeal) (hPre_finite_q := hPre_finite_q)
    ∧ quiescent_RwkvOut (hRwkvOut := hRwkvOut)
    ∧ quiescent_RwkvOutIdeal (hRwkvOutIdeal := hRwkvOutIdeal)
    ∧ quiescent_RwkvOutReferenceIdeal (hRwkvOutReferenceIdeal := hRwkvOutReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InProj_InProjIdeal
    ∧ algebraic_InProjIdeal_InProjReferenceIdeal (hInProjIdeal := hInProjIdeal) (hInProjReferenceIdeal := hInProjReferenceIdeal)
    ∧ preserves_MlaOut_MlaOutIdeal
    ∧ algebraic_MlaOutIdeal_MlaOutReferenceIdeal (hMlaOutIdeal := hMlaOutIdeal) (hMlaOutReferenceIdeal := hMlaOutReferenceIdeal)
    ∧ preserves_MlaOutTok_MlaOutTokIdeal
    ∧ algebraic_MlaOutTokIdeal_MlaOutTokReferenceIdeal (hMlaOutTokIdeal := hMlaOutTokIdeal) (hMlaOutTokReferenceIdeal := hMlaOutTokReferenceIdeal)
    ∧ preserves_MlaKv_MlaKvIdeal
    ∧ algebraic_MlaKvIdeal_MlaKvReferenceIdeal_pre_finite_kv (hMlaKvIdeal := hMlaKvIdeal) (hMlaKvReferenceIdeal := hMlaKvReferenceIdeal) (hPre_finite_kv := hPre_finite_kv)
    ∧ preserves_MlaKvTok_MlaKvTokIdeal
    ∧ algebraic_MlaKvTokIdeal_MlaKvTokReferenceIdeal_pre_finite_kv_tok (hMlaKvTokIdeal := hMlaKvTokIdeal) (hMlaKvTokReferenceIdeal := hMlaKvTokReferenceIdeal) (hPre_finite_kv_tok := hPre_finite_kv_tok)
    ∧ preserves_MlaQ_MlaQIdeal
    ∧ algebraic_MlaQIdeal_MlaQReferenceIdeal_pre_finite_q (hMlaQIdeal := hMlaQIdeal) (hMlaQReferenceIdeal := hMlaQReferenceIdeal) (hPre_finite_q := hPre_finite_q)
    ∧ preserves_RwkvOut_RwkvOutIdeal
    ∧ algebraic_RwkvOutIdeal_RwkvOutReferenceIdeal (hRwkvOutIdeal := hRwkvOutIdeal) (hRwkvOutReferenceIdeal := hRwkvOutReferenceIdeal)
-- ==== Pre_finite_kv.lean ====
abbrev S16x2048x1024 : Shape := ⟨3, ![16, 2048, 1024]⟩
abbrev S1024 : Shape := ⟨1, ![1024]⟩
abbrev S1024x320 : Shape := ⟨2, ![1024, 320]⟩
abbrev S256 : Shape := ⟨1, ![256]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x320 : S_.BroadcastsInDim S1024x320 (![] : Fin 0 → Fin S1024x320.rank)
  reducesTo_S1024x320_S_d0_1 : S1024x320.ReducesTo [0, 1] S_

variable [Facts]

def fn {F : FTy → Type} [FloatOps F] (main_arg0 : FVec F S16x2048x1024 .f32) (main_arg1 : FVec F S1024 .f32) (main_arg2 : FVec F S1024x320 .f32) (main_arg3 : FVec F S256 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x320 .f32 := Host.absf main_arg2
  let main_cst_0 : FVec F S_ .f32 := constant S_ .f32 0x7F800000#32
  let main_v5 : FVec F S1024x320 .f32 := broadcastInDim S1024x320 ![] bcast_S_S1024x320 main_cst_0
  let main_v6 : IVec S1024x320 1 := cmpf .olt main_v4 main_v5
  let main_c_1 : IVec S_ 1 := constantI S_ 1 1#1
  let main_v7 : IVec S_ 1 := (fun x v => Host.reduce IntOp.andi x v reducesTo_S1024x320_S_d0_1 h_S_) main_v6 main_c_1
  let main_v8 : IVec S_ 1 := andi main_v3 main_v7
  main_v8
-- ==== Pre_finite_kv_tok.lean ====
abbrev S128x1x1024 : Shape := ⟨3, ![128, 1, 1024]⟩
abbrev S1024 : Shape := ⟨1, ![1024]⟩
abbrev S1024x320 : Shape := ⟨2, ![1024, 320]⟩
abbrev S256 : Shape := ⟨1, ![256]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x320 : S_.BroadcastsInDim S1024x320 (![] : Fin 0 → Fin S1024x320.rank)
  reducesTo_S1024x320_S_d0_1 : S1024x320.ReducesTo [0, 1] S_

variable [Facts]

def fn {F : FTy → Type} [FloatOps F] (main_arg0 : FVec F S128x1x1024 .f32) (main_arg1 : FVec F S1024 .f32) (main_arg2 : FVec F S1024x320 .f32) (main_arg3 : FVec F S256 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x320 .f32 := Host.absf main_arg2
  let main_cst_0 : FVec F S_ .f32 := constant S_ .f32 0x7F800000#32
  let main_v5 : FVec F S1024x320 .f32 := broadcastInDim S1024x320 ![] bcast_S_S1024x320 main_cst_0
  let main_v6 : IVec S1024x320 1 := cmpf .olt main_v4 main_v5
  let main_c_1 : IVec S_ 1 := constantI S_ 1 1#1
  let main_v7 : IVec S_ 1 := (fun x v => Host.reduce IntOp.andi x v reducesTo_S1024x320_S_d0_1 h_S_) main_v6 main_c_1
  let main_v8 : IVec S_ 1 := andi main_v3 main_v7
  main_v8
-- ==== Pre_finite_q.lean ====
abbrev S16x2048x1024 : Shape := ⟨3, ![16, 2048, 1024]⟩
abbrev S1024 : Shape := ⟨1, ![1024]⟩
abbrev S1024x2432 : Shape := ⟨2, ![1024, 2432]⟩
abbrev S384 : Shape := ⟨1, ![384]⟩
abbrev S384x3072 : Shape := ⟨2, ![384, 3072]⟩
abbrev S_ : Shape := ⟨0, ![]⟩

class Facts : Prop where
  bcast_S_S384 : S_.BroadcastsInDim S384 (![] : Fin 0 → Fin S384.rank)
  reducesTo_S384_S_d0 : S384.ReducesTo [0] S_
  h_S_ : 0 < S_.numel
  bcast_S_S384x3072 : S_.BroadcastsInDim S384x3072 (![] : Fin 0 → Fin S384x3072.rank)
  reducesTo_S384x3072_S_d0_1 : S384x3072.ReducesTo [0, 1] S_

variable [Facts]

def fn {F : FTy → Type} [FloatOps F] (main_arg0 : FVec F S16x2048x1024 .f32) (main_arg1 : FVec F S1024 .f32) (main_arg2 : FVec F S1024x2432 .f32) (main_arg3 : FVec F S384 .f32) (main_arg4 : FVec F S384x3072 .f32) : IVec S_ 1 :=
  let main_v0 : FVec F S384 .f32 := Host.absf main_arg3
  let main_cst : FVec F S_ .f32 := constant S_ .f32 0x7F800000#32
  let main_v1 : FVec F S384 .f32 := broadcastInDim S384 ![] bcast_S_S384 main_cst
  let main_v2 : IVec S384 1 := cmpf .olt main_v0 main_v1
  let main_c : IVec S_ 1 := constantI S_ 1 1#1
  let main_v3 : IVec S_ 1 := (fun x v => Host.reduce IntOp.andi x v reducesTo_S384_S_d0 h_S_) main_v2 main_c
  let main_v4 : FVec F S384x3072 .f32 := Host.absf main_arg4
  let main_cst_0 : FVec F S_ .f32 := constant S_ .f32 0x7F800000#32
  let main_v5 : FVec F S384x3072 .f32 := broadcastInDim S384x3072 ![] bcast_S_S384x3072 main_cst_0
  let main_v6 : IVec S384x3072 1 := cmpf .olt main_v4 main_v5
  let main_c_1 : IVec S_ 1 := constantI S_ 1 1#1
  let main_v7 : IVec S_ 1 := (fun x v => Host.reduce IntOp.andi x v reducesTo_S384x3072_S_d0_1 h_S_) main_v6 main_c_1
  let main_v8 : IVec S_ 1 := andi main_v3 main_v7
  main_v8
-- ==== Pre_finite_scores.lean ====
abbrev S16x2048x16x128 : Shape := ⟨4, ![16, 2048, 16, 128]⟩
abbrev S16x2048x16x64 : Shape := ⟨4, ![16, 2048, 16, 64]⟩
abbrev S16x2048x64 : Shape := ⟨3, ![16, 2048, 64]⟩
abbrev S_ : Shape := ⟨0, ![]⟩

class Facts : Prop where
  bcast_S_S16x2048x16x128 : S_.BroadcastsInDim S16x2048x16x128 (![] : Fin 0 → Fin S16x2048x16x128.rank)
  reducesTo_S16x2048x16x128_S_d0_1_2_3 : S16x2048x16x128.ReducesTo [0, 1, 2, 3] S_
  h_S_ : 0 < S_.numel
  bcast_S_S16x2048x16x64 : S_.BroadcastsInDim S16x2048x16x64 (![] : Fin 0 → Fin S16x2048x16x64.rank)
  reducesTo_S16x2048x16x64_S_d0_1_2_3 : S16x2048x16x64.ReducesTo [0, 1, 2, 3] S_
  bcast_S_S16x2048x64 : S_.BroadcastsInDim S16x2048x64 (![] : Fin 0 → Fin S16x2048x64.rank)
  reducesTo_S16x2048x64_S_d0_1_2 : S16x2048x64.ReducesTo [0, 1, 2] S_

variable [Facts]

def fn_part1 {F : FTy → Type} [FloatOps F] (main_v13 : IVec S_ 1) (main_v16 : IVec S16x2048x64 1) : IVec S_ 1 :=
  let main_c_5 : IVec S_ 1 := constantI S_ 1 1#1
  let main_v17 : IVec S_ 1 := (fun x v => Host.reduce IntOp.andi x v reducesTo_S16x2048x64_S_d0_1_2 h_S_) main_v16 main_c_5
  let main_v18 : IVec S_ 1 := andi main_v13 main_v17
  main_v18

def fn {F : FTy → Type} [FloatOps F] (main_arg0 : FVec F S16x2048x16x128 .f32) (main_arg1 : FVec F S16x2048x16x64 .f32) (main_arg2 : FVec F S16x2048x16x128 .f32) (main_arg3 : FVec F S16x2048x64 .f32) (main_arg4 : FVec F S16x2048x16x128 .f32) : IVec S_ 1 :=
  let main_v0 : FVec F S16x2048x16x128 .f32 := Host.absf main_arg0
  let main_cst : FVec F S_ .f32 := constant S_ .f32 0x7F800000#32
  let main_v1 : FVec F S16x2048x16x128 .f32 := broadcastInDim S16x2048x16x128 ![] bcast_S_S16x2048x16x128 main_cst
  let main_v2 : IVec S16x2048x16x128 1 := cmpf .olt main_v0 main_v1
  let main_c : IVec S_ 1 := constantI S_ 1 1#1
  let main_v3 : IVec S_ 1 := (fun x v => Host.reduce IntOp.andi x v reducesTo_S16x2048x16x128_S_d0_1_2_3 h_S_) main_v2 main_c
  let main_v4 : FVec F S16x2048x16x64 .f32 := Host.absf main_arg1
  let main_cst_0 : FVec F S_ .f32 := constant S_ .f32 0x7F800000#32
  let main_v5 : FVec F S16x2048x16x64 .f32 := broadcastInDim S16x2048x16x64 ![] bcast_S_S16x2048x16x64 main_cst_0
  let main_v6 : IVec S16x2048x16x64 1 := cmpf .olt main_v4 main_v5
  let main_c_1 : IVec S_ 1 := constantI S_ 1 1#1
  let main_v7 : IVec S_ 1 := (fun x v => Host.reduce IntOp.andi x v reducesTo_S16x2048x16x64_S_d0_1_2_3 h_S_) main_v6 main_c_1
  let main_v8 : IVec S_ 1 := andi main_v3 main_v7
  let main_v9 : FVec F S16x2048x16x128 .f32 := Host.absf main_arg2
  let main_cst_2 : FVec F S_ .f32 := constant S_ .f32 0x7F800000#32
  let main_v10 : FVec F S16x2048x16x128 .f32 := broadcastInDim S16x2048x16x128 ![] bcast_S_S16x2048x16x128 main_cst_2
  let main_v11 : IVec S16x2048x16x128 1 := cmpf .olt main_v9 main_v10
  let main_c_3 : IVec S_ 1 := constantI S_ 1 1#1
  let main_v12 : IVec S_ 1 := (fun x v => Host.reduce IntOp.andi x v reducesTo_S16x2048x16x128_S_d0_1_2_3 h_S_) main_v11 main_c_3
  let main_v13 : IVec S_ 1 := andi main_v8 main_v12
  let main_v14 : FVec F S16x2048x64 .f32 := Host.absf main_arg3
  let main_cst_4 : FVec F S_ .f32 := constant S_ .f32 0x7F800000#32
  let main_v15 : FVec F S16x2048x64 .f32 := broadcastInDim S16x2048x64 ![] bcast_S_S16x2048x64 main_cst_4
  let main_v16 : IVec S16x2048x64 1 := cmpf .olt main_v14 main_v15
  fn_part1 (F := F) main_v13 main_v16
-- ==== Kernel.lean ====
abbrev S16x2048x16x128 : Shape := ⟨4, ![16, 2048, 16, 128]⟩
abbrev S16x2048x16x64 : Shape := ⟨4, ![16, 2048, 16, 64]⟩
abbrev S16x2048x64 : Shape := ⟨3, ![16, 2048, 64]⟩
abbrev S16x16x2048x128 : Shape := ⟨4, ![16, 16, 2048, 128]⟩
abbrev S16x32768x128 : Shape := ⟨3, ![16, 32768, 128]⟩
abbrev S16x16x2048x64 : Shape := ⟨4, ![16, 16, 2048, 64]⟩
abbrev S16x32768x64 : Shape := ⟨3, ![16, 32768, 64]⟩
abbrev S16x32768x192 : Shape := ⟨3, ![16, 32768, 192]⟩
abbrev S_ : Shape := ⟨0, ![]⟩
abbrev S1x32768x64 : Shape := ⟨3, ![1, 32768, 64]⟩
abbrev S16x128x16x2048 : Shape := ⟨4, ![16, 128, 16, 2048]⟩
abbrev S16x128x32768 : Shape := ⟨3, ![16, 128, 32768]⟩
abbrev S32768x2048 : Shape := ⟨2, ![32768, 2048]⟩
abbrev S1x2048x192 : Shape := ⟨3, ![1, 2048, 192]⟩
abbrev S1x128x2048 : Shape := ⟨3, ![1, 128, 2048]⟩
abbrev S2048x128 : Shape := ⟨2, ![2048, 128]⟩
abbrev S256x256 : Shape := ⟨2, ![256, 256]⟩
abbrev S1x256x192 : Shape := ⟨3, ![1, 256, 192]⟩
abbrev S256x192 : Shape := ⟨2, ![256, 192]⟩
abbrev S1x512x192 : Shape := ⟨3, ![1, 512, 192]⟩
abbrev S512x192 : Shape := ⟨2, ![512, 192]⟩
abbrev S512x256 : Shape := ⟨2, ![512, 256]⟩
abbrev S1x768x192 : Shape := ⟨3, ![1, 768, 192]⟩
abbrev S768x192 : Shape := ⟨2, ![768, 192]⟩
abbrev S768x256 : Shape := ⟨2, ![768, 256]⟩
abbrev S1x1024x192 : Shape := ⟨3, ![1, 1024, 192]⟩
abbrev S1024x192 : Shape := ⟨2, ![1024, 192]⟩
abbrev S1024x256 : Shape := ⟨2, ![1024, 256]⟩
abbrev S1x1280x192 : Shape := ⟨3, ![1, 1280, 192]⟩
abbrev S1280x192 : Shape := ⟨2, ![1280, 192]⟩
abbrev S1280x256 : Shape := ⟨2, ![1280, 256]⟩
abbrev S1x1536x192 : Shape := ⟨3, ![1, 1536, 192]⟩
abbrev S1536x192 : Shape := ⟨2, ![1536, 192]⟩
abbrev S1536x256 : Shape := ⟨2, ![1536, 256]⟩
abbrev S1x1792x192 : Shape := ⟨3, ![1, 1792, 192]⟩
abbrev S1792x192 : Shape := ⟨2, ![1792, 192]⟩
abbrev S1792x256 : Shape := ⟨2, ![1792, 256]⟩
abbrev S256 : Shape := ⟨1, ![256]⟩
abbrev S1x256 : Shape := ⟨2, ![1, 256]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S1x128x768 : Shape := ⟨3, ![1, 128, 768]⟩
abbrev S128x768 : Shape := ⟨2, ![128, 768]⟩
abbrev S1x128x1024 : Shape := ⟨3, ![1, 128, 1024]⟩
abbrev S128x1024 : Shape := ⟨2, ![128, 1024]⟩
abbrev S1x128x1280 : Shape := ⟨3, ![1, 128, 1280]⟩
abbrev S128x1280 : Shape := ⟨2, ![128, 1280]⟩
abbrev S1x128x1536 : Shape := ⟨3, ![1, 128, 1536]⟩
abbrev S128x1536 : Shape := ⟨2, ![128, 1536]⟩
abbrev S1x128x1792 : Shape := ⟨3, ![1, 128, 1792]⟩
abbrev S128x1792 : Shape := ⟨2, ![128, 1792]⟩
abbrev S256x128 : Shape := ⟨2, ![256, 128]⟩

abbrev nBuf : Space → Nat
  | .hbm => 24
  | .vmem => 8
  | .smem => 0
  | _ => 0

abbrev bufTy : (tb : Table) → Fin (tcTables nBuf tb) → BufTy
  | .hbm, ⟨0, _⟩ => ⟨S16x2048x16x128, .f32⟩
  | .hbm, ⟨1, _⟩ => ⟨S16x2048x16x64, .f32⟩
  | .hbm, ⟨2, _⟩ => ⟨S16x2048x16x128, .f32⟩
  | .hbm, ⟨3, _⟩ => ⟨S16x2048x64, .f32⟩
  | .hbm, ⟨4, _⟩ => ⟨S16x2048x16x128, .f32⟩
  | .hbm, ⟨5, _⟩ => ⟨S16x16x2048x128, .f32⟩
  | .hbm, ⟨6, _⟩ => ⟨S16x32768x128, .f32⟩
  | .hbm, ⟨7, _⟩ => ⟨S16x16x2048x64, .f32⟩
  | .hbm, ⟨8, _⟩ => ⟨S16x32768x64, .f32⟩
  | .hbm, ⟨9, _⟩ => ⟨S16x32768x192, .f32⟩
  | .hbm, ⟨10, _⟩ => ⟨S_, .f32⟩
  | .hbm, ⟨11, _⟩ => ⟨S16x32768x192, .f32⟩
  | .hbm, ⟨12, _⟩ => ⟨S16x32768x192, .f32⟩
  | .hbm, ⟨13, _⟩ => ⟨S16x32768x192, .bf16⟩
  | .hbm, ⟨14, _⟩ => ⟨S1x32768x64, .f32⟩
  | .hbm, ⟨15, _⟩ => ⟨S16x32768x64, .f32⟩
  | .hbm, ⟨16, _⟩ => ⟨S16x16x2048x128, .f32⟩
  | .hbm, ⟨17, _⟩ => ⟨S16x32768x128, .f32⟩
  | .hbm, ⟨18, _⟩ => ⟨S16x32768x192, .f32⟩
  | .hbm, ⟨19, _⟩ => ⟨S16x32768x192, .bf16⟩
  | .hbm, ⟨20, _⟩ => ⟨S16x128x16x2048, .f32⟩
  | .hbm, ⟨21, _⟩ => ⟨S16x128x32768, .f32⟩
  | .hbm, ⟨22, _⟩ => ⟨S16x128x32768, .bf16⟩
  | .hbm, ⟨23, _⟩ => ⟨S32768x2048, .bf16⟩
  | .local _ .vmem, ⟨0, _⟩ => ⟨S1x2048x192, .bf16⟩
  | .local _ .vmem, ⟨1, _⟩ => ⟨S1x2048x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x128x2048, .bf16⟩
  | .local _ .vmem, ⟨5, _⟩ => ⟨S1x128x2048, .bf16⟩
  | .local _ .vmem, ⟨6, _⟩ => ⟨S2048x128, .bf16⟩
  | .local _ .vmem, ⟨7, _⟩ => ⟨S2048x128, .bf16⟩
  | _, _ => ⟨S16x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x2048x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x2048x16x128 : Shape := ⟨4, ![16, 2048, 16, 128]⟩
abbrev S16x2048x16x64 : Shape := ⟨4, ![16, 2048, 16, 64]⟩
abbrev S16x2048x64 : Shape := ⟨3, ![16, 2048, 64]⟩
abbrev S2048 : Shape := ⟨1, ![2048]⟩
abbrev S16x16x2048x2048 : Shape := ⟨4, ![16, 16, 2048, 2048]⟩
abbrev S16x2048x2048x16 : Shape := ⟨4, ![16, 2048, 2048, 16]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S16x16x2048 : Shape := ⟨3, ![16, 16, 2048]⟩
abbrev S16x16x2048x1 : Shape := ⟨4, ![16, 16, 2048, 1]⟩
abbrev S16x16x128x2048 : Shape := ⟨4, ![16, 16, 128, 2048]⟩
abbrev S32768x2048 : Shape := ⟨2, ![32768, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16x2048x16x128, .f32⟩
  | .hbm, ⟨1, _⟩ => ⟨S16x2048x16x64, .f32⟩
  | .hbm, ⟨2, _⟩ => ⟨S16x2048x16x128, .f32⟩
  | .hbm, ⟨3, _⟩ => ⟨S16x2048x64, .f32⟩
  | .hbm, ⟨4, _⟩ => ⟨S16x2048x16x128, .f32⟩
  | .hbm, ⟨5, _⟩ => ⟨S2048, .i32⟩
  | .hbm, ⟨6, _⟩ => ⟨S16x16x2048x2048, .f32⟩
  | .hbm, ⟨7, _⟩ => ⟨S16x2048x2048x16, .f32⟩
  | .hbm, ⟨8, _⟩ => ⟨S16x16x2048x2048, .f32⟩
  | .hbm, ⟨9, _⟩ => ⟨S16x16x2048x2048, .f32⟩
  | .hbm, ⟨10, _⟩ => ⟨S_, .f32⟩
  | .hbm, ⟨11, _⟩ => ⟨S16x16x2048x2048, .f32⟩
  | .hbm, ⟨12, _⟩ => ⟨S16x16x2048x2048, .f32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .f32⟩
  | .hbm, ⟨19, _⟩ => ⟨S_, .f32⟩
  | .hbm, ⟨20, _⟩ => ⟨S16x16x2048x2048, .i1⟩
  | .hbm, ⟨21, _⟩ => ⟨S16x16x2048x2048, .f32⟩
  | .hbm, ⟨22, _⟩ => ⟨S16x16x2048x2048, .f32⟩
  | .hbm, ⟨23, _⟩ => ⟨S_, .f32⟩
  | .hbm, ⟨24, _⟩ => ⟨S16x16x2048, .f32⟩
  | .hbm, ⟨25, _⟩ => ⟨S_, .f32⟩
  | .hbm, ⟨26, _⟩ => ⟨S16x16x2048, .f32⟩
  | .hbm, ⟨27, _⟩ => ⟨S16x16x2048, .f32⟩
  | .hbm, ⟨28, _⟩ => ⟨S16x16x2048x1, .f32⟩
  | .hbm, ⟨29, _⟩ => ⟨S16x16x2048x2048, .f32⟩
  | .hbm, ⟨30, _⟩ => ⟨S16x16x2048x2048, .f32⟩
  | .hbm, ⟨31, _⟩ => ⟨S16x16x2048x2048, .f32⟩
  | .hbm, ⟨32, _⟩ => ⟨S_, .f32⟩
  | .hbm, ⟨33, _⟩ => ⟨S16x16x2048, .f32⟩
  | .hbm, ⟨34, _⟩ => ⟨S16x16x2048x1, .f32⟩
  | .hbm, ⟨35, _⟩ => ⟨S16x16x2048x2048, .f32⟩
  | .hbm, ⟨36, _⟩ => ⟨S16x16x2048x2048, .f32⟩
  | .hbm, ⟨37, _⟩ => ⟨S16x16x128x2048, .f32⟩
  | .hbm, ⟨38, _⟩ => ⟨S16x2048x16x128, .f32⟩
  | .hbm, ⟨39, _⟩ => ⟨S32768x2048, .f32⟩
  | .hbm, ⟨40, _⟩ => ⟨S32768x2048, .bf16⟩
  | _, _ => ⟨S16x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== InProj.lean ====
abbrev S4x16x2048x1024 : Shape := ⟨4, ![4, 16, 2048, 1024]⟩
abbrev S4x1024x2048 : Shape := ⟨3, ![4, 1024, 2048]⟩
abbrev S4x32768x1024 : Shape := ⟨3, ![4, 32768, 1024]⟩
abbrev S4x32768x2048 : Shape := ⟨3, ![4, 32768, 2048]⟩
abbrev S1x512x1024 : Shape := ⟨3, ![1, 512, 1024]⟩
abbrev S1x1024x2048 : Shape := ⟨3, ![1, 1024, 2048]⟩
abbrev S1x512x2048 : Shape := ⟨3, ![1, 512, 2048]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4x16x2048x1024, .f32⟩
  | .hbm, ⟨1, _⟩ => ⟨S4x1024x2048, .f32⟩
  | .hbm, ⟨2, _⟩ => ⟨S4x32768x1024, .f32⟩
  | .hbm, ⟨3, _⟩ => ⟨S4x32768x1024, .bf16⟩
  | .hbm, ⟨4, _⟩ => ⟨S4x1024x2048, .bf16⟩
  | .hbm, ⟨5, _⟩ => ⟨S4x32768x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x512x2048, .bf16⟩
  | .local _ .vmem, ⟨5, _⟩ => ⟨S1x512x2048, .bf16⟩
  | _, _ => ⟨S4x16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 64], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== InProjReferenceIdeal.lean ====
abbrev S4x16x2048x1024 : Shape := ⟨4, ![4, 16, 2048, 1024]⟩
abbrev S4x1024x2048 : Shape := ⟨3, ![4, 1024, 2048]⟩
abbrev S4x16x2048x2048 : Shape := ⟨4, ![4, 16, 2048, 2048]⟩
abbrev S4x32768x2048 : Shape := ⟨3, ![4, 32768, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4x16x2048x1024, .f32⟩
  | .hbm, ⟨1, _⟩ => ⟨S4x1024x2048, .f32⟩
  | .hbm, ⟨2, _⟩ => ⟨S4x16x2048x2048, .f32⟩
  | .hbm, ⟨3, _⟩ => ⟨S4x32768x2048, .f32⟩
  | .hbm, ⟨4, _⟩ => ⟨S4x32768x2048, .bf16⟩
  | _, _ => ⟨S4x16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlaOut.lean ====
abbrev S16x2048x2048 : Shape := ⟨3, ![16, 2048, 2048]⟩
abbrev S16x2048x1024 : Shape := ⟨3, ![16, 2048, 1024]⟩
abbrev S2048x1024 : Shape := ⟨2, ![2048, 1024]⟩
abbrev S1024 : Shape := ⟨1, ![1024]⟩
abbrev S32768x2048 : Shape := ⟨2, ![32768, 2048]⟩
abbrev S32768x1024 : Shape := ⟨2, ![32768, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S16x2048x1024, .f32⟩
  | .hbm, ⟨3, _⟩ => ⟨S2048x1024, .f32⟩
  | .hbm, ⟨4, _⟩ => ⟨S1024, .f32⟩
  | .hbm, ⟨5, _⟩ => ⟨S32768x2048, .f32⟩
  | .hbm, ⟨6, _⟩ => ⟨S32768x2048, .bf16⟩
  | .hbm, ⟨7, _⟩ => ⟨S32768x2048, .f32⟩
  | .hbm, ⟨8, _⟩ => ⟨S32768x2048, .bf16⟩
  | .hbm, ⟨9, _⟩ => ⟨S32768x1024, .f32⟩
  | .hbm, ⟨10, _⟩ => ⟨S2048x1024, .bf16⟩
  | .hbm, ⟨11, _⟩ => ⟨S1x1024, .f32⟩
  | .hbm, ⟨12, _⟩ => ⟨S32768x1024, .f32⟩
  | .hbm, ⟨13, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlaOutIdeal.lean ====
abbrev S16x2048x2048 : Shape := ⟨3, ![16, 2048, 2048]⟩
abbrev S16x2048x1024 : Shape := ⟨3, ![16, 2048, 1024]⟩
abbrev S2048x1024 : Shape := ⟨2, ![2048, 1024]⟩
abbrev S1024 : Shape := ⟨1, ![1024]⟩
abbrev S32768x2048 : Shape := ⟨2, ![32768, 2048]⟩
abbrev S32768x1024 : Shape := ⟨2, ![32768, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S16x2048x1024, .f32⟩
  | .hbm, ⟨3, _⟩ => ⟨S2048x1024, .f32⟩
  | .hbm, ⟨4, _⟩ => ⟨S1024, .f32⟩
  | .hbm, ⟨5, _⟩ => ⟨S32768x2048, .f32⟩
  | .hbm, ⟨6, _⟩ => ⟨S32768x2048, .bf16⟩
  | .hbm, ⟨7, _⟩ => ⟨S32768x2048, .f32⟩
  | .hbm, ⟨8, _⟩ => ⟨S32768x2048, .bf16⟩
  | .hbm, ⟨9, _⟩ => ⟨S32768x1024, .f32⟩
  | .hbm, ⟨10, _⟩ => ⟨S2048x1024, .bf16⟩
  | .hbm, ⟨11, _⟩ => ⟨S1x1024, .f32⟩
  | .hbm, ⟨12, _⟩ => ⟨S32768x1024, .f32⟩
  | .hbm, ⟨13, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlaOutReferenceIdeal.lean ====
abbrev S16x2048x2048 : Shape := ⟨3, ![16, 2048, 2048]⟩
abbrev S16x2048x1024 : Shape := ⟨3, ![16, 2048, 1024]⟩
abbrev S2048x1024 : Shape := ⟨2, ![2048, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S16x2048x1024, .f32⟩
  | .hbm, ⟨3, _⟩ => ⟨S2048x1024, .f32⟩
  | .hbm, ⟨4, _⟩ => ⟨S1024, .f32⟩
  | .hbm, ⟨5, _⟩ => ⟨S16x2048x2048, .f32⟩
  | .hbm, ⟨6, _⟩ => ⟨S16x2048x2048, .f32⟩
  | .hbm, ⟨7, _⟩ => ⟨S_, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S16x2048x1024, .f32⟩
  | .hbm, ⟨16, _⟩ => ⟨S16x2048x1024, .f32⟩
  | .hbm, ⟨17, _⟩ => ⟨S16x2048x1024, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x1024, .f32⟩
  | .hbm, ⟨29, _⟩ => ⟨S16x2048x1024, .f32⟩
  | .hbm, ⟨30, _⟩ => ⟨S1x1x1024, .f32⟩
  | .hbm, ⟨31, _⟩ => ⟨S16x2048x1024, .f32⟩
  | .hbm, ⟨32, _⟩ => ⟨S16x2048x1024, .f32⟩
  | .hbm, ⟨33, _⟩ => ⟨S32768x1024, .f32⟩
  | .hbm, ⟨34, _⟩ => ⟨S32768x1024, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== MlaOutTok.lean ====
abbrev S128x1x2048 : Shape := ⟨3, ![128, 1, 2048]⟩
abbrev S128x1x1024 : Shape := ⟨3, ![128, 1, 1024]⟩
abbrev S2048x1024 : Shape := ⟨2, ![2048, 1024]⟩
abbrev S1024 : Shape := ⟨1, ![1024]⟩
abbrev S128x2048 : Shape := ⟨2, ![128, 2048]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩

abbrev nBuf : Space → Nat
  | .hbm => 14
  | .vmem => 7
  | .smem => 0
  | _ => 0

abbrev bufTy : (tb : Table) → Fin (tcTables nBuf tb) → BufTy
  | .hbm, ⟨0, _⟩ => ⟨S128x1x2048, .f32⟩
  | .hbm, ⟨1, _⟩ => ⟨S128x1x2048, .f32⟩
  | .hbm, ⟨2, _⟩ => ⟨S128x1x1024, .f32⟩
  | .hbm, ⟨3, _⟩ => ⟨S2048x1024, .f32⟩
  | .hbm, ⟨4, _⟩ => ⟨S1024, .f32⟩
  | .hbm, ⟨5, _⟩ => ⟨S128x2048, .f32⟩
  | .hbm, ⟨6, _⟩ => ⟨S128x2048, .bf16⟩
  | .hbm, ⟨7, _⟩ => ⟨S128x2048, .f32⟩
  | .hbm, ⟨8, _⟩ => ⟨S128x2048, .bf16⟩
  | .hbm, ⟨9, _⟩ => ⟨S128x1024, .f32⟩
  | .hbm, ⟨10, _⟩ => ⟨S2048x1024, .bf16⟩
  | .hbm, ⟨11, _⟩ => ⟨S1x1024, .f32⟩
  | .hbm, ⟨12, _⟩ => ⟨S128x1024, .f32⟩
  | .hbm, ⟨13, _⟩ => ⟨S128x1024, .f32⟩
  | .local _ .vmem, ⟨0, _⟩ => ⟨S128x2048, .bf16⟩
  | .local _ .vmem, ⟨1, _⟩ => ⟨S128x2048, .bf16⟩
  | .local _ .vmem, ⟨2, _⟩ => ⟨S128x1024, .f32⟩
  | .local _ .vmem, ⟨3, _⟩ => ⟨S2048x1024, .bf16⟩
  | .local _ .vmem, ⟨4, _⟩ => ⟨S1x1024, .f32⟩
  | .local _ .vmem, ⟨5, _⟩ => ⟨S128x1024, .f32⟩
  | .local _ .vmem, ⟨6, _⟩ => ⟨S128x1024, .f32⟩
  | _, _ => ⟨S128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== MlaOutTokReferenceIdeal.lean ====
abbrev S128x1x2048 : Shape := ⟨3, ![128, 1, 2048]⟩
abbrev S128x1x1024 : Shape := ⟨3, ![128, 1, 1024]⟩
abbrev S2048x1024 : Shape := ⟨2, ![2048, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1024 : Shape := ⟨2, ![128, 1024]⟩

abbrev nBuf : Space → Nat
  | .hbm => 35
  | .vmem => 0
  | .smem => 0
  | _ => 0

abbrev bufTy : (tb : Table) → Fin (tcTables nBuf tb) → BufTy
  | .hbm, ⟨0, _⟩ => ⟨S128x1x2048, .f32⟩
  | .hbm, ⟨1, _⟩ => ⟨S128x1x2048, .f32⟩
  | .hbm, ⟨2, _⟩ => ⟨S128x1x1024, .f32⟩
  | .hbm, ⟨3, _⟩ => ⟨S2048x1024, .f32⟩
  | .hbm, ⟨4, _⟩ => ⟨S1024, .f32⟩
  | .hbm, ⟨5, _⟩ => ⟨S128x1x2048, .f32⟩
  | .hbm, ⟨6, _⟩ => ⟨S128x1x2048, .f32⟩
  | .hbm, ⟨7, _⟩ => ⟨S_, .f32⟩
  | .hbm, ⟨8, _⟩ => ⟨S128x1x2048, .f32⟩
  | .hbm, ⟨9, _⟩ => ⟨S128x1x2048, .f32⟩
  | .hbm, ⟨10, _⟩ => ⟨S_, .f32⟩
  | .hbm, ⟨11, _⟩ => ⟨S128x1x2048, .f32⟩
  | .hbm, ⟨12, _⟩ => ⟨S128x1x2048, .f32⟩
  | .hbm, ⟨13, _⟩ => ⟨S128x1x2048, .f32⟩
  | .hbm, ⟨14, _⟩ => ⟨S128x1x2048, .f32⟩
  | .hbm, ⟨15, _⟩ => ⟨S128x1x1024, .f32⟩
  | .hbm, ⟨16, _⟩ => ⟨S128x1x1024, .f32⟩
  | .hbm, ⟨17, _⟩ => ⟨S128x1x1024, .f32⟩
  | .hbm, ⟨18, _⟩ => ⟨S_, .f32⟩
  | .hbm, ⟨19, _⟩ => ⟨S128x1, .f32⟩
  | .hbm, ⟨20, _⟩ => ⟨S128x1x1, .f32⟩
  | .hbm, ⟨21, _⟩ => ⟨S_, .f32⟩
  | .hbm, ⟨22, _⟩ => ⟨S128x1x1, .f32⟩
  | .hbm, ⟨23, _⟩ => ⟨S128x1x1, .f32⟩
  | .hbm, ⟨24, _⟩ => ⟨S_, .f32⟩
  | .hbm, ⟨25, _⟩ => ⟨S128x1x1, .f32⟩
  | .hbm, ⟨26, _⟩ => ⟨S128x1x1, .f32⟩
  | .hbm, ⟨27, _⟩ => ⟨S128x1x1, .f32⟩
  | .hbm, ⟨28, _⟩ => ⟨S128x1x1024, .f32⟩
  | .hbm, ⟨29, _⟩ => ⟨S128x1x1024, .f32⟩
  | .hbm, ⟨30, _⟩ => ⟨S1x1x1024, .f32⟩
  | .hbm, ⟨31, _⟩ => ⟨S128x1x1024, .f32⟩
  | .hbm, ⟨32, _⟩ => ⟨S128x1x1024, .f32⟩
  | .hbm, ⟨33, _⟩ => ⟨S128x1024, .f32⟩
  | .hbm, ⟨34, _⟩ => ⟨S128x1024, .f32⟩
  | _, _ => ⟨S128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== MlaKv.lean ====
abbrev S16x2048x1024 : Shape := ⟨3, ![16, 2048, 1024]⟩
abbrev S1024 : Shape := ⟨1, ![1024]⟩
abbrev S1024x320 : Shape := ⟨2, ![1024, 320]⟩
abbrev S256 : Shape := ⟨1, ![256]⟩
abbrev S_ : Shape := ⟨0, ![]⟩
abbrev S1024x64 : Shape := ⟨2, ![1024, 64]⟩
abbrev S1024x256 : Shape := ⟨2, ![1024, 256]⟩
abbrev S1024x1x2x32 : Shape := ⟨4, ![1024, 1, 2, 32]⟩
abbrev S1024x1x1x32 : Shape := ⟨4, ![1024, 1, 1, 32]⟩
abbrev S1024x1x32 : Shape := ⟨3, ![1024, 1, 32]⟩
abbrev S1024x512 : Shape := ⟨2, ![1024, 512]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S32768x1024 : Shape := ⟨2, ![32768, 1024]⟩
abbrev S1x1024 : Shape := ⟨2, ![1, 1024]⟩
abbrev S1x256 : Shape := ⟨2, ![1, 256]⟩
abbrev S32768x256 : Shape := ⟨2, ![32768, 256]⟩
abbrev S32768x64 : Shape := ⟨2, ![32768, 64]⟩
abbrev S512x1024 : Shape := ⟨2, ![512, 1024]⟩
abbrev S512x64 : Shape := ⟨2, ![512, 64]⟩
abbrev S512x256 : Shape := ⟨2, ![512, 256]⟩
abbrev S512 : Shape := ⟨1, ![512]⟩
abbrev S512x1 : Shape := ⟨2, ![512, 1]⟩
abbrev S512x512 : Shape := ⟨2, ![512, 512]⟩

abbrev nBuf : Space → Nat
  | .hbm => 44
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x320, .f32⟩
  | .hbm, ⟨3, _⟩ => ⟨S256, .f32⟩
  | .hbm, ⟨4, _⟩ => ⟨S_, .f32⟩
  | .hbm, ⟨5, _⟩ => ⟨S1024x64, .f32⟩
  | .hbm, ⟨6, _⟩ => ⟨S1024x64, .f32⟩
  | .hbm, ⟨7, _⟩ => ⟨S1024x256, .f32⟩
  | .hbm, ⟨8, _⟩ => ⟨S1024x1x2x32, .f32⟩
  | .hbm, ⟨9, _⟩ => ⟨S1024x1x1x32, .f32⟩
  | .hbm, ⟨10, _⟩ => ⟨S1024x1x32, .f32⟩
  | .hbm, ⟨11, _⟩ => ⟨S1024x1x32, .f32⟩
  | .hbm, ⟨12, _⟩ => ⟨S1024x1x1x32, .f32⟩
  | .hbm, ⟨13, _⟩ => ⟨S1024x1x32, .f32⟩
  | .hbm, ⟨14, _⟩ => ⟨S1024x1x1x32, .f32⟩
  | .hbm, ⟨15, _⟩ => ⟨S1024x1x1x32, .f32⟩
  | .hbm, ⟨16, _⟩ => ⟨S1024x1x2x32, .f32⟩
  | .hbm, ⟨17, _⟩ => ⟨S1024x64, .f32⟩
  | .hbm, ⟨18, _⟩ => ⟨S1024x512, .f32⟩
  | .hbm, ⟨19, _⟩ => ⟨S1024x512, .bf16⟩
  | .hbm, ⟨20, _⟩ => ⟨S2048, .i32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S2048, .f32⟩
  | .hbm, ⟨30, _⟩ => ⟨S2048x1, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x64, .f32⟩
  | .hbm, ⟨38, _⟩ => ⟨S2048x64, .f32⟩
  | .hbm, ⟨39, _⟩ => ⟨S32768x1024, .f32⟩
  | .hbm, ⟨40, _⟩ => ⟨S1x1024, .f32⟩
  | .hbm, ⟨41, _⟩ => ⟨S1x256, .f32⟩
  | .hbm, ⟨42, _⟩ => ⟨S32768x256, .f32⟩
  | .hbm, ⟨43, _⟩ => ⟨S32768x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1x256, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x256, .f32⟩
  | .local _ .vmem, ⟨10, _⟩ => ⟨S512x256, .f32⟩
  | .local _ .vmem, ⟨11, _⟩ => ⟨S512x64, .f32⟩
  | .local _ .vmem, ⟨12, _⟩ => ⟨S512x64, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlaKvIdeal.lean ====
abbrev S16x2048x1024 : Shape := ⟨3, ![16, 2048, 1024]⟩
abbrev S1024 : Shape := ⟨1, ![1024]⟩
abbrev S1024x320 : Shape := ⟨2, ![1024, 320]⟩
abbrev S256 : Shape := ⟨1, ![256]⟩
abbrev S_ : Shape := ⟨0, ![]⟩
abbrev S1024x64 : Shape := ⟨2, ![1024, 64]⟩
abbrev S1024x256 : Shape := ⟨2, ![1024, 256]⟩
abbrev S1024x1x2x32 : Shape := ⟨4, ![1024, 1, 2, 32]⟩
abbrev S1024x1x1x32 : Shape := ⟨4, ![1024, 1, 1, 32]⟩
abbrev S1024x1x32 : Shape := ⟨3, ![1024, 1, 32]⟩
abbrev S1024x512 : Shape := ⟨2, ![1024, 512]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S32768x1024 : Shape := ⟨2, ![32768, 1024]⟩
abbrev S1x1024 : Shape := ⟨2, ![1, 1024]⟩
abbrev S1x256 : Shape := ⟨2, ![1, 256]⟩
abbrev S32768x256 : Shape := ⟨2, ![32768, 256]⟩
abbrev S32768x64 : Shape := ⟨2, ![32768, 64]⟩
abbrev S512x1024 : Shape := ⟨2, ![512, 1024]⟩
abbrev S512x64 : Shape := ⟨2, ![512, 64]⟩
abbrev S512x256 : Shape := ⟨2, ![512, 256]⟩
abbrev S512 : Shape := ⟨1, ![512]⟩
abbrev S512x1 : Shape := ⟨2, ![512, 1]⟩
abbrev S512x512 : Shape := ⟨2, ![512, 512]⟩

abbrev nBuf : Space → Nat
  | .hbm => 44
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x320, .f32⟩
  | .hbm, ⟨3, _⟩ => ⟨S256, .f32⟩
  | .hbm, ⟨4, _⟩ => ⟨S_, .f32⟩
  | .hbm, ⟨5, _⟩ => ⟨S1024x64, .f32⟩
  | .hbm, ⟨6, _⟩ => ⟨S1024x64, .f32⟩
  | .hbm, ⟨7, _⟩ => ⟨S1024x256, .f32⟩
  | .hbm, ⟨8, _⟩ => ⟨S1024x1x2x32, .f32⟩
  | .hbm, ⟨9, _⟩ => ⟨S1024x1x1x32, .f32⟩
  | .hbm, ⟨10, _⟩ => ⟨S1024x1x32, .f32⟩
  | .hbm, ⟨11, _⟩ => ⟨S1024x1x32, .f32⟩
  | .hbm, ⟨12, _⟩ => ⟨S1024x1x1x32, .f32⟩
  | .hbm, ⟨13, _⟩ => ⟨S1024x1x32, .f32⟩
  | .hbm, ⟨14, _⟩ => ⟨S1024x1x1x32, .f32⟩
  | .hbm, ⟨15, _⟩ => ⟨S1024x1x1x32, .f32⟩
  | .hbm, ⟨16, _⟩ => ⟨S1024x1x2x32, .f32⟩
  | .hbm, ⟨17, _⟩ => ⟨S1024x64, .f32⟩
  | .hbm, ⟨18, _⟩ => ⟨S1024x512, .f32⟩
  | .hbm, ⟨19, _⟩ => ⟨S1024x512, .bf16⟩
  | .hbm, ⟨20, _⟩ => ⟨S2048, .i32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S2048, .f32⟩
  | .hbm, ⟨30, _⟩ => ⟨S2048x1, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x64, .f32⟩
  | .hbm, ⟨38, _⟩ => ⟨S2048x64, .f32⟩
  | .hbm, ⟨39, _⟩ => ⟨S32768x1024, .f32⟩
  | .hbm, ⟨40, _⟩ => ⟨S1x1024, .f32⟩
  | .hbm, ⟨41, _⟩ => ⟨S1x256, .f32⟩
  | .hbm, ⟨42, _⟩ => ⟨S32768x256, .f32⟩
  | .hbm, ⟨43, _⟩ => ⟨S32768x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1x256, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S512x256, .f32⟩
  | .local _ .vmem, ⟨10, _⟩ => ⟨S512x256, .f32⟩
  | .local _ .vmem, ⟨11, _⟩ => ⟨S512x64, .f32⟩
  | .local _ .vmem, ⟨12, _⟩ => ⟨S512x64, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35_0 : Ref sig .tc := ⟨.hbm, 42, rfl⟩
abbrev main_v35_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlaKvReferenceIdeal.lean ====
abbrev S16x2048x1024 : Shape := ⟨3, ![16, 2048, 1024]⟩
abbrev S1024 : Shape := ⟨1, ![1024]⟩
abbrev S1024x320 : Shape := ⟨2, ![1024, 320]⟩
abbrev S256 : Shape := ⟨1, ![256]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x320 : Shape := ⟨3, ![16, 2048, 320]⟩
abbrev S16x2048x256 : Shape := ⟨3, ![16, 2048, 256]⟩
abbrev S1x1x256 : Shape := ⟨3, ![1, 1, 256]⟩
abbrev S16x2048x64 : Shape := ⟨3, ![16, 2048, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x32 : Shape := ⟨3, ![1, 2048, 32]⟩
abbrev S16x2048x32 : Shape := ⟨3, ![16, 2048, 32]⟩
abbrev S32768x256 : Shape := ⟨2, ![32768, 256]⟩
abbrev S32768x64 : Shape := ⟨2, ![32768, 64]⟩

abbrev nBuf : Space → Nat
  | .hbm => 73
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x320, .f32⟩
  | .hbm, ⟨3, _⟩ => ⟨S256, .f32⟩
  | .hbm, ⟨4, _⟩ => ⟨S2048, .i32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x320, .f32⟩
  | .hbm, ⟨22, _⟩ => ⟨S16x2048x256, .f32⟩
  | .hbm, ⟨23, _⟩ => ⟨S16x2048x256, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S16x2048x256, .f32⟩
  | .hbm, ⟨35, _⟩ => ⟨S16x2048x256, .f32⟩
  | .hbm, ⟨36, _⟩ => ⟨S1x1x256, .f32⟩
  | .hbm, ⟨37, _⟩ => ⟨S16x2048x256, .f32⟩
  | .hbm, ⟨38, _⟩ => ⟨S16x2048x256, .f32⟩
  | .hbm, ⟨39, _⟩ => ⟨S16x2048x64, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S2048, .f32⟩
  | .hbm, ⟨49, _⟩ => ⟨S2048x1, .f32⟩
  | .hbm, ⟨50, _⟩ => ⟨S1x32, .f32⟩
  | .hbm, ⟨51, _⟩ => ⟨S2048x32, .f32⟩
  | .hbm, ⟨52, _⟩ => ⟨S2048x32, .f32⟩
  | .hbm, ⟨53, _⟩ => ⟨S2048x32, .f32⟩
  | .hbm, ⟨54, _⟩ => ⟨S2048x32, .f32⟩
  | .hbm, ⟨55, _⟩ => ⟨S1x2048x32, .f32⟩
  | .hbm, ⟨56, _⟩ => ⟨S2048x32, .f32⟩
  | .hbm, ⟨57, _⟩ => ⟨S1x2048x32, .f32⟩
  | .hbm, ⟨58, _⟩ => ⟨S16x2048x32, .f32⟩
  | .hbm, ⟨59, _⟩ => ⟨S16x2048x32, .f32⟩
  | .hbm, ⟨60, _⟩ => ⟨S16x2048x32, .f32⟩
  | .hbm, ⟨61, _⟩ => ⟨S16x2048x32, .f32⟩
  | .hbm, ⟨62, _⟩ => ⟨S16x2048x32, .f32⟩
  | .hbm, ⟨63, _⟩ => ⟨S16x2048x32, .f32⟩
  | .hbm, ⟨64, _⟩ => ⟨S16x2048x32, .f32⟩
  | .hbm, ⟨65, _⟩ => ⟨S16x2048x32, .f32⟩
  | .hbm, ⟨66, _⟩ => ⟨S16x2048x32, .f32⟩
  | .hbm, ⟨67, _⟩ => ⟨S16x2048x32, .f32⟩
  | .hbm, ⟨68, _⟩ => ⟨S16x2048x32, .f32⟩
  | .hbm, ⟨69, _⟩ => ⟨S16x2048x32, .f32⟩
  | .hbm, ⟨70, _⟩ => ⟨S16x2048x64, .f32⟩
  | .hbm, ⟨71, _⟩ => ⟨S32768x256, .f32⟩
  | .hbm, ⟨72, _⟩ => ⟨S32768x64, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩

abbrev nD : Nat := 1
abbrev τ : Topo := Topo.v7x

variable {F : FTy → Type} [FloatOps F]
-- ==== MlaKvTok.lean ====
abbrev S128x1x1024 : Shape := ⟨3, ![128, 1, 1024]⟩
abbrev S1024 : Shape := ⟨1, ![1024]⟩
abbrev S1024x320 : Shape := ⟨2, ![1024, 320]⟩
abbrev S256 : Shape := ⟨1, ![256]⟩
abbrev S_ : Shape := ⟨0, ![]⟩
abbrev S1024x64 : Shape := ⟨2, ![1024, 64]⟩
abbrev S1024x256 : Shape := ⟨2, ![1024, 256]⟩
abbrev S1024x1x2x32 : Shape := ⟨4, ![1024, 1, 2, 32]⟩
abbrev S1024x1x1x32 : Shape := ⟨4, ![1024, 1, 1, 32]⟩
abbrev S1024x1x32 : Shape := ⟨3, ![1024, 1, 32]⟩
abbrev S1024x512 : Shape := ⟨2, ![1024, 512]⟩
abbrev S128 : Shape := ⟨1, ![128]⟩
abbrev S32 : Shape := ⟨1, ![32]⟩
abbrev S128x1 : Shape := ⟨2, ![128, 1]⟩
abbrev S1x32 : Shape := ⟨2, ![1, 32]⟩
abbrev S128x32 : Shape := ⟨2, ![128, 32]⟩
abbrev S128x64 : Shape := ⟨2, ![128, 64]⟩
abbrev S128x1024 : Shape := ⟨2, ![128, 1024]⟩
abbrev S1x1024 : Shape := ⟨2, ![1, 1024]⟩
abbrev S1x256 : Shape := ⟨2, ![1, 256]⟩
abbrev S128x256 : Shape := ⟨2, ![128, 256]⟩
abbrev S128x512 : Shape := ⟨2, ![128, 512]⟩

abbrev nBuf : Space → Nat
  | .hbm => 45
  | .vmem => 8
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x320, .f32⟩
  | .hbm, ⟨3, _⟩ => ⟨S256, .f32⟩
  | .hbm, ⟨4, _⟩ => ⟨S_, .f32⟩
  | .hbm, ⟨5, _⟩ => ⟨S1024x64, .f32⟩
  | .hbm, ⟨6, _⟩ => ⟨S1024x64, .f32⟩
  | .hbm, ⟨7, _⟩ => ⟨S1024x256, .f32⟩
  | .hbm, ⟨8, _⟩ => ⟨S1024x1x2x32, .f32⟩
  | .hbm, ⟨9, _⟩ => ⟨S1024x1x1x32, .f32⟩
  | .hbm, ⟨10, _⟩ => ⟨S1024x1x32, .f32⟩
  | .hbm, ⟨11, _⟩ => ⟨S1024x1x32, .f32⟩
  | .hbm, ⟨12, _⟩ => ⟨S1024x1x1x32, .f32⟩
  | .hbm, ⟨13, _⟩ => ⟨S1024x1x32, .f32⟩
  | .hbm, ⟨14, _⟩ => ⟨S1024x1x1x32, .f32⟩
  | .hbm, ⟨15, _⟩ => ⟨S1024x1x1x32, .f32⟩
  | .hbm, ⟨16, _⟩ => ⟨S1024x1x2x32, .f32⟩
  | .hbm, ⟨17, _⟩ => ⟨S1024x64, .f32⟩
  | .hbm, ⟨18, _⟩ => ⟨S1024x512, .f32⟩
  | .hbm, ⟨19, _⟩ => ⟨S1024x512, .bf16⟩
  | .hbm, ⟨20, _⟩ => ⟨S_, .i32⟩
  | .hbm, ⟨21, _⟩ => ⟨S128, .i32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S128, .f32⟩
  | .hbm, ⟨31, _⟩ => ⟨S128x1, .f32⟩
  | .hbm, ⟨32, _⟩ => ⟨S1x32, .f32⟩
  | .hbm, ⟨33, _⟩ => ⟨S128x32, .f32⟩
  | .hbm, ⟨34, _⟩ => ⟨S128x32, .f32⟩
  | .hbm, ⟨35, _⟩ => ⟨S128x32, .f32⟩
  | .hbm, ⟨36, _⟩ => ⟨S128x32, .f32⟩
  | .hbm, ⟨37, _⟩ => ⟨S128x32, .f32⟩
  | .hbm, ⟨38, _⟩ => ⟨S128x64, .f32⟩
  | .hbm, ⟨39, _⟩ => ⟨S128x64, .f32⟩
  | .hbm, ⟨40, _⟩ => ⟨S128x1024, .f32⟩
  | .hbm, ⟨41, _⟩ => ⟨S1x1024, .f32⟩
  | .hbm, ⟨42, _⟩ => ⟨S1x256, .f32⟩
  | .hbm, ⟨43, _⟩ => ⟨S128x256, .f32⟩
  | .hbm, ⟨44, _⟩ => ⟨S128x64, .f32⟩
  | .local _ .vmem, ⟨0, _⟩ => ⟨S128x1024, .f32⟩
  | .local _ .vmem, ⟨1, _⟩ => ⟨S1x1024, .f32⟩
  | .local _ .vmem, ⟨2, _⟩ => ⟨S1024x512, .bf16⟩
  | .local _ .vmem, ⟨3, _⟩ => ⟨S1x256, .f32⟩
  | .local _ .vmem, ⟨4, _⟩ => ⟨S128x64, .f32⟩
  | .local _ .vmem, ⟨5, _⟩ => ⟨S128x64, .f32⟩
  | .local _ .vmem, ⟨6, _⟩ => ⟨S128x256, .f32⟩
  | .local _ .vmem, ⟨7, _⟩ => ⟨S128x64, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35_0 : Ref sig .tc := ⟨.hbm, 43, rfl⟩
abbrev main_v35_1 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== MlaKvTokReferenceIdeal.lean ====
abbrev S128x1x1024 : Shape := ⟨3, ![128, 1, 1024]⟩
abbrev S1024 : Shape := ⟨1, ![1024]⟩
abbrev S1024x320 : Shape := ⟨2, ![1024, 320]⟩
abbrev S256 : Shape := ⟨1, ![256]⟩
abbrev S1 : Shape := ⟨1, ![1]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x320 : Shape := ⟨3, ![128, 1, 320]⟩
abbrev S128x1x256 : Shape := ⟨3, ![128, 1, 256]⟩
abbrev S1x1x256 : Shape := ⟨3, ![1, 1, 256]⟩
abbrev S128x1x64 : Shape := ⟨3, ![128, 1, 64]⟩
abbrev S32 : Shape := ⟨1, ![32]⟩
abbrev S1x1 : Shape := ⟨2, ![1, 1]⟩
abbrev S1x32 : Shape := ⟨2, ![1, 32]⟩
abbrev S1x1x32 : Shape := ⟨3, ![1, 1, 32]⟩
abbrev S128x1x32 : Shape := ⟨3, ![128, 1, 32]⟩
abbrev S128x256 : Shape := ⟨2, ![128, 256]⟩
abbrev S128x64 : Shape := ⟨2, ![128, 64]⟩

abbrev nBuf : Space → Nat
  | .hbm => 75
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x320, .f32⟩
  | .hbm, ⟨3, _⟩ => ⟨S256, .f32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S128x1x1024, .f32⟩
  | .hbm, ⟨9, _⟩ => ⟨S_, .f32⟩
  | .hbm, ⟨10, _⟩ => ⟨S128x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S_, .f32⟩
  | .hbm, ⟨16, _⟩ => ⟨S128x1x1, .f32⟩
  | .hbm, ⟨17, _⟩ => ⟨S128x1x1, .f32⟩
  | .hbm, ⟨18, _⟩ => ⟨S128x1x1, .f32⟩
  | .hbm, ⟨19, _⟩ => ⟨S128x1x1024, .f32⟩
  | .hbm, ⟨20, _⟩ => ⟨S128x1x1024, .f32⟩
  | .hbm, ⟨21, _⟩ => ⟨S1x1x1024, .f32⟩
  | .hbm, ⟨22, _⟩ => ⟨S128x1x1024, .f32⟩
  | .hbm, ⟨23, _⟩ => ⟨S128x1x1024, .f32⟩
  | .hbm, ⟨24, _⟩ => ⟨S128x1x320, .f32⟩
  | .hbm, ⟨25, _⟩ => ⟨S128x1x256, .f32⟩
  | .hbm, ⟨26, _⟩ => ⟨S128x1x256, .f32⟩
  | .hbm, ⟨27, _⟩ => ⟨S_, .f32⟩
  | .hbm, ⟨28, _⟩ => ⟨S128x1, .f32⟩
  | .hbm, ⟨29, _⟩ => ⟨S128x1x1, .f32⟩
  | .hbm, ⟨30, _⟩ => ⟨S_, .f32⟩
  | .hbm, ⟨31, _⟩ => ⟨S128x1x1, .f32⟩
  | .hbm, ⟨32, _⟩ => ⟨S128x1x1, .f32⟩
  | .hbm, ⟨33, _⟩ => ⟨S_, .f32⟩
  | .hbm, ⟨34, _⟩ => ⟨S128x1x1, .f32⟩
  | .hbm, ⟨35, _⟩ => ⟨S128x1x1, .f32⟩
  | .hbm, ⟨36, _⟩ => ⟨S128x1x1, .f32⟩
  | .hbm, ⟨37, _⟩ => ⟨S128x1x256, .f32⟩
  | .hbm, ⟨38, _⟩ => ⟨S128x1x256, .f32⟩
  | .hbm, ⟨39, _⟩ => ⟨S1x1x256, .f32⟩
  | .hbm, ⟨40, _⟩ => ⟨S128x1x256, .f32⟩
  | .hbm, ⟨41, _⟩ => ⟨S128x1x256, .f32⟩
  | .hbm, ⟨42, _⟩ => ⟨S128x1x64, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S1, .f32⟩
  | .hbm, ⟨52, _⟩ => ⟨S1x1, .f32⟩
  | .hbm, ⟨53, _⟩ => ⟨S1x32, .f32⟩
  | .hbm, ⟨54, _⟩ => ⟨S1x32, .f32⟩
  | .hbm, ⟨55, _⟩ => ⟨S1x32, .f32⟩
  | .hbm, ⟨56, _⟩ => ⟨S1x32, .f32⟩
  | .hbm, ⟨57, _⟩ => ⟨S1x1x32, .f32⟩
  | .hbm, ⟨58, _⟩ => ⟨S1x32, .f32⟩
  | .hbm, ⟨59, _⟩ => ⟨S1x1x32, .f32⟩
  | .hbm, ⟨60, _⟩ => ⟨S128x1x32, .f32⟩
  | .hbm, ⟨61, _⟩ => ⟨S128x1x32, .f32⟩
  | .hbm, ⟨62, _⟩ => ⟨S128x1x32, .f32⟩
  | .hbm, ⟨63, _⟩ => ⟨S128x1x32, .f32⟩
  | .hbm, ⟨64, _⟩ => ⟨S128x1x32, .f32⟩
  | .hbm, ⟨65, _⟩ => ⟨S128x1x32, .f32⟩
  | .hbm, ⟨66, _⟩ => ⟨S128x1x32, .f32⟩
  | .hbm, ⟨67, _⟩ => ⟨S128x1x32, .f32⟩
  | .hbm, ⟨68, _⟩ => ⟨S128x1x32, .f32⟩
  | .hbm, ⟨69, _⟩ => ⟨S128x1x32, .f32⟩
  | .hbm, ⟨70, _⟩ => ⟨S128x1x32, .f32⟩
  | .hbm, ⟨71, _⟩ => ⟨S128x1x32, .f32⟩
  | .hbm, ⟨72, _⟩ => ⟨S128x1x64, .f32⟩
  | .hbm, ⟨73, _⟩ => ⟨S128x256, .f32⟩
  | .hbm, ⟨74, _⟩ => ⟨S128x64, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== MlaQ.lean ====
abbrev S16x2048x1024 : Shape := ⟨3, ![16, 2048, 1024]⟩
abbrev S1024 : Shape := ⟨1, ![1024]⟩
abbrev S1024x2432 : Shape := ⟨2, ![1024, 2432]⟩
abbrev S384 : Shape := ⟨1, ![384]⟩
abbrev S384x3072 : Shape := ⟨2, ![384, 3072]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S384x16x192 : Shape := ⟨3, ![384, 16, 192]⟩
abbrev S384x16x64 : Shape := ⟨3, ![384, 16, 64]⟩
abbrev S384x1024 : Shape := ⟨2, ![384, 1024]⟩
abbrev S384x16x128 : Shape := ⟨3, ![384, 16, 128]⟩
abbrev S384x2048 : Shape := ⟨2, ![384, 2048]⟩
abbrev S384x16x2x32 : Shape := ⟨4, ![384, 16, 2, 32]⟩
abbrev S384x16x1x32 : Shape := ⟨4, ![384, 16, 1, 32]⟩
abbrev S384x16x32 : Shape := ⟨3, ![384, 16, 32]⟩
abbrev S384x4096 : Shape := ⟨2, ![384, 4096]⟩
abbrev S32768x1024 : Shape := ⟨2, ![32768, 1024]⟩
abbrev S1x1024 : Shape := ⟨2, ![1, 1024]⟩
abbrev S1x384 : Shape := ⟨2, ![1, 384]⟩
abbrev S1x2048x1x64 : Shape := ⟨4, ![1, 2048, 1, 64]⟩
abbrev S1x2048x16x64 : Shape := ⟨4, ![1, 2048, 16, 64]⟩
abbrev S2048x1024 : Shape := ⟨2, ![2048, 1024]⟩
abbrev S16x32768x192 : Shape := ⟨3, ![16, 32768, 192]⟩
abbrev S32768x2048 : Shape := ⟨2, ![32768, 2048]⟩
abbrev S512x1024 : Shape := ⟨2, ![512, 1024]⟩
abbrev S16x512x192 : Shape := ⟨3, ![16, 512, 192]⟩
abbrev S512x2048 : Shape := ⟨2, ![512, 2048]⟩
abbrev S512 : Shape := ⟨1, ![512]⟩
abbrev S512x1 : Shape := ⟨2, ![512, 1]⟩
abbrev S512x2432 : Shape := ⟨2, ![512, 2432]⟩
abbrev S512x384 : Shape := ⟨2, ![512, 384]⟩
abbrev S512x4096 : Shape := ⟨2, ![512, 4096]⟩
abbrev S512x128 : Shape := ⟨2, ![512, 128]⟩
abbrev S1x512x128 : Shape := ⟨3, ![1, 512, 128]⟩
abbrev S512x64 : Shape := ⟨2, ![512, 64]⟩
abbrev S1x512x64 : Shape := ⟨3, ![1, 512, 64]⟩

abbrev nBuf : Space → Nat
  | .hbm => 53
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2432, .f32⟩
  | .hbm, ⟨3, _⟩ => ⟨S384, .f32⟩
  | .hbm, ⟨4, _⟩ => ⟨S384x3072, .f32⟩
  | .hbm, ⟨5, _⟩ => ⟨S2048, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S2048, .f32⟩
  | .hbm, ⟨15, _⟩ => ⟨S2048x1, .f32⟩
  | .hbm, ⟨16, _⟩ => ⟨S1x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x64, .f32⟩
  | .hbm, ⟨23, _⟩ => ⟨S2048x64, .f32⟩
  | .hbm, ⟨24, _⟩ => ⟨S384x16x192, .f32⟩
  | .hbm, ⟨25, _⟩ => ⟨S384x16x64, .f32⟩
  | .hbm, ⟨26, _⟩ => ⟨S384x1024, .f32⟩
  | .hbm, ⟨27, _⟩ => ⟨S384x16x128, .f32⟩
  | .hbm, ⟨28, _⟩ => ⟨S384x2048, .f32⟩
  | .hbm, ⟨29, _⟩ => ⟨S384x16x2x32, .f32⟩
  | .hbm, ⟨30, _⟩ => ⟨S384x16x1x32, .f32⟩
  | .hbm, ⟨31, _⟩ => ⟨S384x16x32, .f32⟩
  | .hbm, ⟨32, _⟩ => ⟨S384x16x32, .f32⟩
  | .hbm, ⟨33, _⟩ => ⟨S384x16x1x32, .f32⟩
  | .hbm, ⟨34, _⟩ => ⟨S384x16x32, .f32⟩
  | .hbm, ⟨35, _⟩ => ⟨S384x16x1x32, .f32⟩
  | .hbm, ⟨36, _⟩ => ⟨S384x16x1x32, .f32⟩
  | .hbm, ⟨37, _⟩ => ⟨S384x16x2x32, .f32⟩
  | .hbm, ⟨38, _⟩ => ⟨S384x1024, .f32⟩
  | .hbm, ⟨39, _⟩ => ⟨S384x4096, .f32⟩
  | .hbm, ⟨40, _⟩ => ⟨S384x4096, .bf16⟩
  | .hbm, ⟨41, _⟩ => ⟨S32768x1024, .f32⟩
  | .hbm, ⟨42, _⟩ => ⟨S1x1024, .f32⟩
  | .hbm, ⟨43, _⟩ => ⟨S1024x2432, .bf16⟩
  | .hbm, ⟨44, _⟩ => ⟨S1x384, .f32⟩
  | .hbm, ⟨45, _⟩ => ⟨S1x2048x1x64, .f32⟩
  | .hbm, ⟨46, _⟩ => ⟨S1x2048x16x64, .f32⟩
  | .hbm, ⟨47, _⟩ => ⟨S2048x1024, .f32⟩
  | .hbm, ⟨48, _⟩ => ⟨S1x2048x1x64, .f32⟩
  | .hbm, ⟨49, _⟩ => ⟨S1x2048x16x64, .f32⟩
  | .hbm, ⟨50, _⟩ => ⟨S2048x1024, .f32⟩
  | .hbm, ⟨51, _⟩ => ⟨S16x32768x192, .bf16⟩
  | .hbm, ⟨52, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S1x384, .f32⟩
  | .local _ .vmem, ⟨5, _⟩ => ⟨S384x4096, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S16x512x192, .bf16⟩
  | .local _ .vmem, ⟨11, _⟩ => ⟨S16x512x192, .bf16⟩
  | .local _ .vmem, ⟨12, _⟩ => ⟨S512x2048, .bf16⟩
  | .local _ .vmem, ⟨13, _⟩ => ⟨S512x2048, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44_0 : Ref sig .tc := ⟨.hbm, 51, rfl⟩
abbrev main_v44_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512x192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlaQReferenceIdeal.lean ====
abbrev S16x2048x1024 : Shape := ⟨3, ![16, 2048, 1024]⟩
abbrev S1024 : Shape := ⟨1, ![1024]⟩
abbrev S1024x2432 : Shape := ⟨2, ![1024, 2432]⟩
abbrev S384 : Shape := ⟨1, ![384]⟩
abbrev S384x3072 : Shape := ⟨2, ![384, 3072]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2432 : Shape := ⟨3, ![16, 2048, 2432]⟩
abbrev S16x2048x384 : Shape := ⟨3, ![16, 2048, 384]⟩
abbrev S1x1x384 : Shape := ⟨3, ![1, 1, 384]⟩
abbrev S16x2048x2048 : Shape := ⟨3, ![16, 2048, 2048]⟩
abbrev S16x2048x3072 : Shape := ⟨3, ![16, 2048, 3072]⟩
abbrev S16x2048x16x192 : Shape := ⟨4, ![16, 2048, 16, 192]⟩
abbrev S16x2048x16x128 : Shape := ⟨4, ![16, 2048, 16, 128]⟩
abbrev S16x2048x16x64 : Shape := ⟨4, ![16, 2048, 16, 64]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S16x2048x16x32 : Shape := ⟨4, ![16, 2048, 16, 32]⟩
abbrev S16x16x2048x192 : Shape := ⟨4, ![16, 16, 2048, 192]⟩
abbrev S16x32768x192 : Shape := ⟨3, ![16, 32768, 192]⟩
abbrev S32768x2048 : Shape := ⟨2, ![32768, 2048]⟩

abbrev nBuf : Space → Nat
  | .hbm => 85
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2432, .f32⟩
  | .hbm, ⟨3, _⟩ => ⟨S384, .f32⟩
  | .hbm, ⟨4, _⟩ => ⟨S384x3072, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x2432, .f32⟩
  | .hbm, ⟨22, _⟩ => ⟨S16x2048x384, .f32⟩
  | .hbm, ⟨23, _⟩ => ⟨S16x2048x384, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S_, .f32⟩
  | .hbm, ⟨31, _⟩ => ⟨S16x2048x1, .f32⟩
  | .hbm, ⟨32, _⟩ => ⟨S16x2048x1, .f32⟩
  | .hbm, ⟨33, _⟩ => ⟨S16x2048x1, .f32⟩
  | .hbm, ⟨34, _⟩ => ⟨S16x2048x384, .f32⟩
  | .hbm, ⟨35, _⟩ => ⟨S16x2048x384, .f32⟩
  | .hbm, ⟨36, _⟩ => ⟨S1x1x384, .f32⟩
  | .hbm, ⟨37, _⟩ => ⟨S16x2048x384, .f32⟩
  | .hbm, ⟨38, _⟩ => ⟨S16x2048x384, .f32⟩
  | .hbm, ⟨39, _⟩ => ⟨S16x2048x2048, .f32⟩
  | .hbm, ⟨40, _⟩ => ⟨S16x2048x3072, .f32⟩
  | .hbm, ⟨41, _⟩ => ⟨S16x2048x16x192, .f32⟩
  | .hbm, ⟨42, _⟩ => ⟨S16x2048x16x128, .f32⟩
  | .hbm, ⟨43, _⟩ => ⟨S16x2048x16x64, .f32⟩
  | .hbm, ⟨44, _⟩ => ⟨S2048, .i32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S2048, .f32⟩
  | .hbm, ⟨54, _⟩ => ⟨S2048x1, .f32⟩
  | .hbm, ⟨55, _⟩ => ⟨S1x32, .f32⟩
  | .hbm, ⟨56, _⟩ => ⟨S2048x32, .f32⟩
  | .hbm, ⟨57, _⟩ => ⟨S2048x32, .f32⟩
  | .hbm, ⟨58, _⟩ => ⟨S2048x32, .f32⟩
  | .hbm, ⟨59, _⟩ => ⟨S2048x32, .f32⟩
  | .hbm, ⟨60, _⟩ => ⟨S1x2048x1x32, .f32⟩
  | .hbm, ⟨61, _⟩ => ⟨S2048x32, .f32⟩
  | .hbm, ⟨62, _⟩ => ⟨S1x2048x1x32, .f32⟩
  | .hbm, ⟨63, _⟩ => ⟨S16x2048x16x32, .f32⟩
  | .hbm, ⟨64, _⟩ => ⟨S16x2048x16x32, .f32⟩
  | .hbm, ⟨65, _⟩ => ⟨S16x2048x16x32, .f32⟩
  | .hbm, ⟨66, _⟩ => ⟨S16x2048x16x32, .f32⟩
  | .hbm, ⟨67, _⟩ => ⟨S16x2048x16x32, .f32⟩
  | .hbm, ⟨68, _⟩ => ⟨S16x2048x16x32, .f32⟩
  | .hbm, ⟨69, _⟩ => ⟨S16x2048x16x32, .f32⟩
  | .hbm, ⟨70, _⟩ => ⟨S16x2048x16x32, .f32⟩
  | .hbm, ⟨71, _⟩ => ⟨S16x2048x16x32, .f32⟩
  | .hbm, ⟨72, _⟩ => ⟨S16x2048x16x32, .f32⟩
  | .hbm, ⟨73, _⟩ => ⟨S16x2048x16x32, .f32⟩
  | .hbm, ⟨74, _⟩ => ⟨S16x2048x16x32, .f32⟩
  | .hbm, ⟨75, _⟩ => ⟨S16x2048x16x64, .f32⟩
  | .hbm, ⟨76, _⟩ => ⟨S16x2048x16x192, .f32⟩
  | .hbm, ⟨77, _⟩ => ⟨S_, .f32⟩
  | .hbm, ⟨78, _⟩ => ⟨S16x2048x16x192, .f32⟩
  | .hbm, ⟨79, _⟩ => ⟨S16x2048x16x192, .f32⟩
  | .hbm, ⟨80, _⟩ => ⟨S16x16x2048x192, .f32⟩
  | .hbm, ⟨81, _⟩ => ⟨S16x32768x192, .f32⟩
  | .hbm, ⟨82, _⟩ => ⟨S16x32768x192, .bf16⟩
  | .hbm, ⟨83, _⟩ => ⟨S32768x2048, .f32⟩
  | .hbm, ⟨84, _⟩ => ⟨S32768x2048, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_7 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩

abbrev nD : Nat := 1
abbrev τ : Topo := Topo.v7x

variable {F : FTy → Type} [FloatOps F]
-- ==== RwkvOut.lean ====
abbrev S16x2048x2048 : Shape := ⟨3, ![16, 2048, 2048]⟩
abbrev S16x2048x1024 : Shape := ⟨3, ![16, 2048, 1024]⟩
abbrev S2048 : Shape := ⟨1, ![2048]⟩
abbrev S32x64 : Shape := ⟨2, ![32, 64]⟩
abbrev S2048x1024 : Shape := ⟨2, ![2048, 1024]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32768x2048 : Shape := ⟨2, ![32768, 2048]⟩
abbrev S1x32768x2048 : Shape := ⟨3, ![1, 32768, 2048]⟩
abbrev S4x32768x2048 : Shape := ⟨3, ![4, 32768, 2048]⟩
abbrev S32768x1024 : Shape := ⟨2, ![32768, 1024]⟩
abbrev S1x2048 : Shape := ⟨2, ![1, 2048]⟩
abbrev S512x2048 : Shape := ⟨2, ![512, 2048]⟩
abbrev S1x512x2048 : Shape := ⟨3, ![1, 512, 2048]⟩
abbrev S512x1024 : Shape := ⟨2, ![512, 1024]⟩
abbrev S512x256 : Shape := ⟨2, ![512, 256]⟩

abbrev nBuf : Space → Nat
  | .hbm => 63
  | .vmem => 22
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S16x2048x2048, .f32⟩
  | .hbm, ⟨3, _⟩ => ⟨S16x2048x2048, .f32⟩
  | .hbm, ⟨4, _⟩ => ⟨S16x2048x2048, .f32⟩
  | .hbm, ⟨5, _⟩ => ⟨S16x2048x2048, .f32⟩
  | .hbm, ⟨6, _⟩ => ⟨S16x2048x1024, .f32⟩
  | .hbm, ⟨7, _⟩ => ⟨S2048, .f32⟩
  | .hbm, ⟨8, _⟩ => ⟨S2048, .f32⟩
  | .hbm, ⟨9, _⟩ => ⟨S32x64, .f32⟩
  | .hbm, ⟨10, _⟩ => ⟨S2048, .f32⟩
  | .hbm, ⟨11, _⟩ => ⟨S2048x1024, .f32⟩
  | .hbm, ⟨12, _⟩ => ⟨S2048, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S256, .i32⟩
  | .hbm, ⟨32, _⟩ => ⟨S256x1, .i32⟩
  | .hbm, ⟨33, _⟩ => ⟨S256, .i32⟩
  | .hbm, ⟨34, _⟩ => ⟨S1x256, .i32⟩
  | .hbm, ⟨35, _⟩ => ⟨S256x256, .i32⟩
  | .hbm, ⟨36, _⟩ => ⟨S256x256, .i32⟩
  | .hbm, ⟨37, _⟩ => ⟨S256x256, .i1⟩
  | .hbm, ⟨38, _⟩ => ⟨S256x256, .bf16⟩
  | .hbm, ⟨39, _⟩ => ⟨S32768x2048, .f32⟩
  | .hbm, ⟨40, _⟩ => ⟨S32768x2048, .bf16⟩
  | .hbm, ⟨41, _⟩ => ⟨S32768x2048, .f32⟩
  | .hbm, ⟨42, _⟩ => ⟨S32768x2048, .bf16⟩
  | .hbm, ⟨43, _⟩ => ⟨S32768x2048, .f32⟩
  | .hbm, ⟨44, _⟩ => ⟨S32768x2048, .bf16⟩
  | .hbm, ⟨45, _⟩ => ⟨S32768x2048, .f32⟩
  | .hbm, ⟨46, _⟩ => ⟨S32768x2048, .bf16⟩
  | .hbm, ⟨47, _⟩ => ⟨S1x32768x2048, .bf16⟩
  | .hbm, ⟨48, _⟩ => ⟨S1x32768x2048, .bf16⟩
  | .hbm, ⟨49, _⟩ => ⟨S1x32768x2048, .bf16⟩
  | .hbm, ⟨50, _⟩ => ⟨S1x32768x2048, .bf16⟩
  | .hbm, ⟨51, _⟩ => ⟨S4x32768x2048, .bf16⟩
  | .hbm, ⟨52, _⟩ => ⟨S32768x2048, .f32⟩
  | .hbm, ⟨53, _⟩ => ⟨S32768x2048, .bf16⟩
  | .hbm, ⟨54, _⟩ => ⟨S32768x2048, .f32⟩
  | .hbm, ⟨55, _⟩ => ⟨S32768x2048, .bf16⟩
  | .hbm, ⟨56, _⟩ => ⟨S32768x1024, .f32⟩
  | .hbm, ⟨57, _⟩ => ⟨S1x2048, .f32⟩
  | .hbm, ⟨58, _⟩ => ⟨S1x2048, .f32⟩
  | .hbm, ⟨59, _⟩ => ⟨S1x2048, .f32⟩
  | .hbm, ⟨60, _⟩ => ⟨S1x2048, .f32⟩
  | .hbm, ⟨61, _⟩ => ⟨S2048x1024, .bf16⟩
  | .hbm, ⟨62, _⟩ => ⟨S32768x1024, .f32⟩
  | .local _ .vmem, ⟨0, _⟩ => ⟨S512x2048, .bf16⟩
  | .local _ .vmem, ⟨1, _⟩ => ⟨S512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x512x2048, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .f32⟩
  | .local _ .vmem, ⟨13, _⟩ => ⟨S512x1024, .f32⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x2048, .f32⟩
  | .local _ .vmem, ⟨18, _⟩ => ⟨S256x256, .bf16⟩
  | .local _ .vmem, ⟨19, _⟩ => ⟨S2048x1024, .bf16⟩
  | .local _ .vmem, ⟨20, _⟩ => ⟨S512x1024, .f32⟩
  | .local _ .vmem, ⟨21, _⟩ => ⟨S512x1024, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RwkvOutReferenceIdeal.lean ====
abbrev S16x2048x2048 : Shape := ⟨3, ![16, 2048, 2048]⟩
abbrev S16x2048x1024 : Shape := ⟨3, ![16, 2048, 1024]⟩
abbrev S2048 : Shape := ⟨1, ![2048]⟩
abbrev S32x64 : Shape := ⟨2, ![32, 64]⟩
abbrev S2048x1024 : Shape := ⟨2, ![2048, 1024]⟩
abbrev S_ : Shape := ⟨0, ![]⟩
abbrev S1x1x2048 : Shape := ⟨3, ![1, 1, 2048]⟩
abbrev S16x2048x32x64 : Shape := ⟨4, ![16, 2048, 32, 64]⟩
abbrev S16x2048x32 : Shape := ⟨3, ![16, 2048, 32]⟩
abbrev S16x2048x32x1 : Shape := ⟨4, ![16, 2048, 32, 1]⟩
abbrev S1x1x32x64 : Shape := ⟨4, ![1, 1, 32, 64]⟩
abbrev S32768x1024 : Shape := ⟨2, ![32768, 1024]⟩

abbrev nBuf : Space → Nat
  | .hbm => 80
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S16x2048x2048, .f32⟩
  | .hbm, ⟨3, _⟩ => ⟨S16x2048x2048, .f32⟩
  | .hbm, ⟨4, _⟩ => ⟨S16x2048x2048, .f32⟩
  | .hbm, ⟨5, _⟩ => ⟨S16x2048x2048, .f32⟩
  | .hbm, ⟨6, _⟩ => ⟨S16x2048x1024, .f32⟩
  | .hbm, ⟨7, _⟩ => ⟨S2048, .f32⟩
  | .hbm, ⟨8, _⟩ => ⟨S2048, .f32⟩
  | .hbm, ⟨9, _⟩ => ⟨S32x64, .f32⟩
  | .hbm, ⟨10, _⟩ => ⟨S2048, .f32⟩
  | .hbm, ⟨11, _⟩ => ⟨S2048x1024, .f32⟩
  | .hbm, ⟨12, _⟩ => ⟨S_, .f32⟩
  | .hbm, ⟨13, _⟩ => ⟨S16x2048x2048, .f32⟩
  | .hbm, ⟨14, _⟩ => ⟨S16x2048x2048, .f32⟩
  | .hbm, ⟨15, _⟩ => ⟨S1x1x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S16x2048x32x64, .f32⟩
  | .hbm, ⟨23, _⟩ => ⟨S16x2048x32x64, .f32⟩
  | .hbm, ⟨24, _⟩ => ⟨S16x2048x32x64, .f32⟩
  | .hbm, ⟨25, _⟩ => ⟨S16x2048x32x64, .f32⟩
  | .hbm, ⟨26, _⟩ => ⟨S_, .f32⟩
  | .hbm, ⟨27, _⟩ => ⟨S16x2048x32, .f32⟩
  | .hbm, ⟨28, _⟩ => ⟨S16x2048x32x1, .f32⟩
  | .hbm, ⟨29, _⟩ => ⟨S_, .f32⟩
  | .hbm, ⟨30, _⟩ => ⟨S16x2048x32x1, .f32⟩
  | .hbm, ⟨31, _⟩ => ⟨S16x2048x32x1, .f32⟩
  | .hbm, ⟨32, _⟩ => ⟨S16x2048x32x64, .f32⟩
  | .hbm, ⟨33, _⟩ => ⟨S16x2048x32x64, .f32⟩
  | .hbm, ⟨34, _⟩ => ⟨S16x2048x32x64, .f32⟩
  | .hbm, ⟨35, _⟩ => ⟨S_, .f32⟩
  | .hbm, ⟨36, _⟩ => ⟨S16x2048x32, .f32⟩
  | .hbm, ⟨37, _⟩ => ⟨S16x2048x32x1, .f32⟩
  | .hbm, ⟨38, _⟩ => ⟨S_, .f32⟩
  | .hbm, ⟨39, _⟩ => ⟨S16x2048x32x1, .f32⟩
  | .hbm, ⟨40, _⟩ => ⟨S16x2048x32x1, .f32⟩
  | .hbm, ⟨41, _⟩ => ⟨S16x2048x32x64, .f32⟩
  | .hbm, ⟨42, _⟩ => ⟨S16x2048x32x64, .f32⟩
  | .hbm, ⟨43, _⟩ => ⟨S_, .f32⟩
  | .hbm, ⟨44, _⟩ => ⟨S16x2048x32x1, .f32⟩
  | .hbm, ⟨45, _⟩ => ⟨S16x2048x32x1, .f32⟩
  | .hbm, ⟨46, _⟩ => ⟨S16x2048x32x1, .f32⟩
  | .hbm, ⟨47, _⟩ => ⟨S16x2048x32x64, .f32⟩
  | .hbm, ⟨48, _⟩ => ⟨S16x2048x32x64, .f32⟩
  | .hbm, ⟨49, _⟩ => ⟨S16x2048x2048, .f32⟩
  | .hbm, ⟨50, _⟩ => ⟨S1x1x2048, .f32⟩
  | .hbm, ⟨51, _⟩ => ⟨S16x2048x2048, .f32⟩
  | .hbm, ⟨52, _⟩ => ⟨S16x2048x2048, .f32⟩
  | .hbm, ⟨53, _⟩ => ⟨S1x1x2048, .f32⟩
  | .hbm, ⟨54, _⟩ => ⟨S16x2048x2048, .f32⟩
  | .hbm, ⟨55, _⟩ => ⟨S16x2048x2048, .f32⟩
  | .hbm, ⟨56, _⟩ => ⟨S16x2048x32x64, .f32⟩
  | .hbm, ⟨57, _⟩ => ⟨S1x1x32x64, .f32⟩
  | .hbm, ⟨58, _⟩ => ⟨S16x2048x32x64, .f32⟩
  | .hbm, ⟨59, _⟩ => ⟨S16x2048x32x64, .f32⟩
  | .hbm, ⟨60, _⟩ => ⟨S_, .f32⟩
  | .hbm, ⟨61, _⟩ => ⟨S16x2048x32, .f32⟩
  | .hbm, ⟨62, _⟩ => ⟨S16x2048x32x1, .f32⟩
  | .hbm, ⟨63, _⟩ => ⟨S16x2048x32x64, .f32⟩
  | .hbm, ⟨64, _⟩ => ⟨S16x2048x32x64, .f32⟩
  | .hbm, ⟨65, _⟩ => ⟨S16x2048x2048, .f32⟩
  | .hbm, ⟨66, _⟩ => ⟨S16x2048x2048, .f32⟩
  | .hbm, ⟨67, _⟩ => ⟨S16x2048x2048, .f32⟩
  | .hbm, ⟨68, _⟩ => ⟨S16x2048x2048, .f32⟩
  | .hbm, ⟨69, _⟩ => ⟨S_, .f32⟩
  | .hbm, ⟨70, _⟩ => ⟨S16x2048x2048, .f32⟩
  | .hbm, ⟨71, _⟩ => ⟨S16x2048x2048, .f32⟩
  | .hbm, ⟨72, _⟩ => ⟨S_, .f32⟩
  | .hbm, ⟨73, _⟩ => ⟨S16x2048x2048, .f32⟩
  | .hbm, ⟨74, _⟩ => ⟨S16x2048x2048, .f32⟩
  | .hbm, ⟨75, _⟩ => ⟨S16x2048x2048, .f32⟩
  | .hbm, ⟨76, _⟩ => ⟨S16x2048x2048, .f32⟩
  | .hbm, ⟨77, _⟩ => ⟨S16x2048x1024, .f32⟩
  | .hbm, ⟨78, _⟩ => ⟨S16x2048x1024, .f32⟩
  | .hbm, ⟨79, _⟩ => ⟨S32768x1024, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Proof.FlashBlocks.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelIdeal.Value

open Cert.KernelIdeal Cert.KernelIdeal.Gen

/-- The product of key row `j` and query row `q` of the staged blocks. -/
def score (x0 x1 : Vec Ideal S1x2048x192 .bf16) (j q : Fin 2048) : EReal :=
  ∑ x : Fin 192, (show EReal from x1 (ix3 0 j x)) * (show EReal from x0 (ix3 0 q x))

/-- Row `d` of the staged transposed values. -/
def valRow (x2 : Vec Ideal S1x128x2048 .bf16) (d : Fin 128) (j : Fin 2048) : EReal := x2 (ix3 0 d j)

/-- The masked scores inside the diagonal tile that starts at row `B`: tile query `r` sees the tile's keys `i ≤ r`. -/
def diagScore {N : ℕ} (s : Fin N → EReal) (B : ℕ) (hB : B + 256 ≤ N) (r i : Fin 256) : EReal :=
  if i ≤ r then s ⟨B + i.val, by omega⟩ else ⊥

/-- The literal written for minus infinity is minus infinity. -/
theorem negInf_eq : Ideal.ofBits .f32 0xFF800000#32 = (⊥ : EReal) := by simp [Ideal.ofBits, Ideal.ieee]

/-- A select on `i ≤ r` between small indices written as 32-bit words. -/
theorem select_le {i r : ℕ} (hi : i < 2048) (hr : r < 2048) (x y : EReal) :
    Scalar.select (IntOp.cmpi .sle (BitVec.ofNat 32 i) (BitVec.ofNat 32 r)) x y = if i ≤ r then x else y := by
  have h : IntOp.cmpi .sle (BitVec.ofNat 32 i) (BitVec.ofNat 32 r) = if i ≤ r then 1#1 else 0#1 := by
    have ei : (BitVec.ofNat 32 i).toInt = i := by
      rw [BitVec.toInt_eq_toNat_of_lt (by rw [BitVec.toNat_ofNat]; omega), BitVec.toNat_ofNat]; omega
    have er : (BitVec.ofNat 32 r).toInt = r := by
      rw [BitVec.toInt_eq_toNat_of_lt (by rw [BitVec.toNat_ofNat]; omega), BitVec.toNat_ofNat]; omega
    simp only [IntOp.cmpi, BitVec.sle, ei, er, Int.ofNat_le]
    by_cases hle : i ≤ r <;> simp [hle]
  rw [h]
  by_cases hle : i ≤ r <;> simp [hle, Scalar.select]

/-- One query's attention against a tile of masked scores `a` and a run of earlier scores `b`: the values `u`, `w`
    weighted by the exponentials of the scores less their largest, over the sum of those exponentials. -/
def softBlk {A B : ℕ} (a : Fin A → EReal) (b : Fin B → EReal) (u : Fin A → EReal) (w : Fin B → EReal) : EReal :=
  Ideal.div
    ((∑ i, u i * Ideal.exp (a i - max (Finset.univ.fold max ⊥ a) (Finset.univ.fold max ⊥ b)))
      + ∑ j, w j * Ideal.exp (b j - max (Finset.univ.fold max ⊥ a) (Finset.univ.fold max ⊥ b)))
    ((∑ i, Ideal.exp (a i - max (Finset.univ.fold max ⊥ a) (Finset.univ.fold max ⊥ b)))
      + ∑ j, Ideal.exp (b j - max (Finset.univ.fold max ⊥ a) (Finset.univ.fold max ⊥ b)))

/-- Diagonal tile 0: the masked scores of its queries against its keys. -/
theorem diag0 (x0 x1 : Vec Ideal S1x2048x192 .bf16) (x2 : Vec Ideal S1x128x2048 .bf16) (i r : Fin 256) :
    k0_pay99 x0 x1 x2 (ix2 i r) = diagScore (fun j => score x0 x1 j ⟨r.val, by omega⟩) 0 (by omega) r i := by
  pointwise [k0_pay99, k0_pay13, k0_pay91, k0_pay5]
  rw [select_le (by omega) (by omega), negInf_eq]
  simp only [diagScore, score, Fin.le_def, Nat.zero_add]

/-- Diagonal tile 1: the masked scores of its queries against its keys. -/
theorem diag1 (x0 x1 : Vec Ideal S1x2048x192 .bf16) (x2 : Vec Ideal S1x128x2048 .bf16) (i r : Fin 256) :
    k0_pay100 x0 x1 x2 (ix2 i r) = diagScore (fun j => score x0 x1 j ⟨256 + r.val, by omega⟩) 256 (by omega) r i := by
  pointwise [k0_pay100, k0_pay15, k0_pay14, k0_pay91, k0_pay92, k0_pay5, k0_pay6]
  rw [select_le (by omega) (by omega), negInf_eq]
  rfl

/-- The earlier keys of tile 1: their scores against its queries. -/
theorem past1 (x0 x1 : Vec Ideal S1x2048x192 .bf16) (x2 : Vec Ideal S1x128x2048 .bf16) (j : Fin 256) (r : Fin 256) :
    k0_pay107 x0 x1 x2 (ix2 j r) = score x0 x1 ⟨j.val, by omega⟩ ⟨256 + r.val, by omega⟩ := by
  pointwise [k0_pay107, k0_pay23, k0_pay92, k0_pay6]
  rfl

/-- Diagonal tile 2: the masked scores of its queries against its keys. -/
theorem diag2 (x0 x1 : Vec Ideal S1x2048x192 .bf16) (x2 : Vec Ideal S1x128x2048 .bf16) (i r : Fin 256) :
    k0_pay101 x0 x1 x2 (ix2 i r) = diagScore (fun j => score x0 x1 j ⟨512 + r.val, by omega⟩) 512 (by omega) r i := by
  pointwise [k0_pay101, k0_pay16, k0_pay91, k0_pay93, k0_pay5, k0_pay7]
  rw [select_le (by omega) (by omega), negInf_eq]
  rfl

/-- The earlier keys of tile 2: their scores against its queries. -/
theorem past2 (x0 x1 : Vec Ideal S1x2048x192 .bf16) (x2 : Vec Ideal S1x128x2048 .bf16) (j : Fin 512) (r : Fin 256) :
    k0_pay108 x0 x1 x2 (ix2 j r) = score x0 x1 ⟨j.val, by omega⟩ ⟨512 + r.val, by omega⟩ := by
  pointwise [k0_pay108, k0_pay24, k0_pay93, k0_pay7]
  rfl

/-- Diagonal tile 3: the masked scores of its queries against its keys. -/
theorem diag3 (x0 x1 : Vec Ideal S1x2048x192 .bf16) (x2 : Vec Ideal S1x128x2048 .bf16) (i r : Fin 256) :
    k0_pay102 x0 x1 x2 (ix2 i r) = diagScore (fun j => score x0 x1 j ⟨768 + r.val, by omega⟩) 768 (by omega) r i := by
  pointwise [k0_pay102, k0_pay17, k0_pay91, k0_pay94, k0_pay5, k0_pay8]
  rw [select_le (by omega) (by omega), negInf_eq]
  rfl

/-- The earlier keys of tile 3: their scores against its queries. -/
theorem past3 (x0 x1 : Vec Ideal S1x2048x192 .bf16) (x2 : Vec Ideal S1x128x2048 .bf16) (j : Fin 768) (r : Fin 256) :
    k0_pay109 x0 x1 x2 (ix2 j r) = score x0 x1 ⟨j.val, by omega⟩ ⟨768 + r.val, by omega⟩ := by
  pointwise [k0_pay109, k0_pay25, k0_pay94, k0_pay8]
  rfl

/-- Diagonal tile 4: the masked scores of its queries against its keys. -/
theorem diag4 (x0 x1 : Vec Ideal S1x2048x192 .bf16) (x2 : Vec Ideal S1x128x2048 .bf16) (i r : Fin 256) :
    k0_pay103 x0 x1 x2 (ix2 i r) = diagScore (fun j => score x0 x1 j ⟨1024 + r.val, by omega⟩) 1024 (by omega) r i := by
  pointwise [k0_pay103, k0_pay18, k0_pay91, k0_pay95, k0_pay5, k0_pay9]
  rw [select_le (by omega) (by omega), negInf_eq]
  rfl

/-- The earlier keys of tile 4: their scores against its queries. -/
theorem past4 (x0 x1 : Vec Ideal S1x2048x192 .bf16) (x2 : Vec Ideal S1x128x2048 .bf16) (j : Fin 1024) (r : Fin 256) :
    k0_pay110 x0 x1 x2 (ix2 j r) = score x0 x1 ⟨j.val, by omega⟩ ⟨1024 + r.val, by omega⟩ := by
  pointwise [k0_pay110, k0_pay26, k0_pay95, k0_pay9]
  rfl

/-- Diagonal tile 5: the masked scores of its queries against its keys. -/
theorem diag5 (x0 x1 : Vec Ideal S1x2048x192 .bf16) (x2 : Vec Ideal S1x128x2048 .bf16) (i r : Fin 256) :
    k0_pay104 x0 x1 x2 (ix2 i r) = diagScore (fun j => score x0 x1 j ⟨1280 + r.val, by omega⟩) 1280 (by omega) r i := by
  pointwise [k0_pay104, k0_pay19, k0_pay91, k0_pay96, k0_pay5, k0_pay10]
  rw [select_le (by omega) (by omega), negInf_eq]
  rfl

/-- The earlier keys of tile 5: their scores against its queries. -/
theorem past5 (x0 x1 : Vec Ideal S1x2048x192 .bf16) (x2 : Vec Ideal S1x128x2048 .bf16) (j : Fin 1280) (r : Fin 256) :
    k0_pay111 x0 x1 x2 (ix2 j r) = score x0 x1 ⟨j.val, by omega⟩ ⟨1280 + r.val, by omega⟩ := by
  pointwise [k0_pay111, k0_pay27, k0_pay96, k0_pay10]
  rfl

/-- Diagonal tile 6: the masked scores of its queries against its keys. -/
theorem diag6 (x0 x1 : Vec Ideal S1x2048x192 .bf16) (x2 : Vec Ideal S1x128x2048 .bf16) (i r : Fin 256) :
    k0_pay105 x0 x1 x2 (ix2 i r) = diagScore (fun j => score x0 x1 j ⟨1536 + r.val, by omega⟩) 1536 (by omega) r i := by
  pointwise [k0_pay105, k0_pay20, k0_pay91, k0_pay97, k0_pay5, k0_pay11]
  rw [select_le (by omega) (by omega), negInf_eq]
  rfl

/-- The earlier keys of tile 6: their scores against its queries. -/
theorem past6 (x0 x1 : Vec Ideal S1x2048x192 .bf16) (x2 : Vec Ideal S1x128x2048 .bf16) (j : Fin 1536) (r : Fin 256) :
    k0_pay112 x0 x1 x2 (ix2 j r) = score x0 x1 ⟨j.val, by omega⟩ ⟨1536 + r.val, by omega⟩ := by
  pointwise [k0_pay112, k0_pay28, k0_pay97, k0_pay11]
  rfl

/-- Diagonal tile 7: the masked scores of its queries against its keys. -/
theorem diag7 (x0 x1 : Vec Ideal S1x2048x192 .bf16) (x2 : Vec Ideal S1x128x2048 .bf16) (i r : Fin 256) :
    k0_pay106 x0 x1 x2 (ix2 i r) = diagScore (fun j => score x0 x1 j ⟨1792 + r.val, by omega⟩) 1792 (by omega) r i := by
  pointwise [k0_pay106, k0_pay22, k0_pay21, k0_pay91, k0_pay98, k0_pay5, k0_pay12]
  rw [select_le (by omega) (by omega), negInf_eq]
  rfl

/-- The earlier keys of tile 7: their scores against its queries. -/
theorem past7 (x0 x1 : Vec Ideal S1x2048x192 .bf16) (x2 : Vec Ideal S1x128x2048 .bf16) (j : Fin 1792) (r : Fin 256) :
    k0_pay113 x0 x1 x2 (ix2 j r) = score x0 x1 ⟨j.val, by omega⟩ ⟨1792 + r.val, by omega⟩ := by
  pointwise [k0_pay113, k0_pay29, k0_pay98, k0_pay12]
  rfl

/-- What tile 0 stores at query `r` and value column `d`. -/
theorem soft0 (x0 x1 : Vec Ideal S1x2048x192 .bf16) (x2 : Vec Ideal S1x128x2048 .bf16) (u : Vec Ideal S1x128x256 .bf16) (r : Fin 256) (d : Fin 128) :
    k0_pay87 (k0_pay55 (k0_pay119 x0 x1 x2)) (k0_pay69 (k0_pay119 x0 x1 x2) u) (ix2 r d)
    = softBlk (B := 0) (diagScore (fun j => score x0 x1 j ⟨r.val, by omega⟩) 0 (by omega) r) (fun j => j.elim0) (fun i => u (ix3 0 d i)) (fun j => j.elim0) := by
  pointwise [k0_pay87, k0_pay55, k0_pay69, k0_pay119, k0_pay39, k0_pay30]
  simp only [diag0 x0 x1 x2, negInf_eq]
  simp only [softBlk, Finset.univ_eq_empty, Finset.fold_empty, Finset.sum_empty, add_zero, max_bot_right]

/-- What tile 1 stores at query `r` and value column `d`. -/
theorem soft1 (x0 x1 : Vec Ideal S1x2048x192 .bf16) (x2 : Vec Ideal S1x128x2048 .bf16) (u : Vec Ideal S1x128x256 .bf16) (w : Vec Ideal S1x128x256 .bf16) (r : Fin 256) (d : Fin 128) :
    k0_pay88 (k0_pay62 (k0_pay107 x0 x1 x2) (k0_pay115 x0 x1 x2) (k0_pay120 x0 x1 x2)) (k0_pay78 (k0_pay48 (k0_pay107 x0 x1 x2) (k0_pay115 x0 x1 x2)) (k0_pay70 (k0_pay120 x0 x1 x2) u) w) (ix2 r d)
    = softBlk (diagScore (fun j => score x0 x1 j ⟨256 + r.val, by omega⟩) 256 (by omega) r) (fun j : Fin 256 => score x0 x1 ⟨j.val, by omega⟩ ⟨256 + r.val, by omega⟩) (fun i => u (ix3 0 d i)) (fun j => w (ix3 0 d j)) := by
  pointwise [k0_pay88, k0_pay62, k0_pay78, k0_pay48, k0_pay70, k0_pay115, k0_pay120, k0_pay114, k0_pay32, k0_pay31, k0_pay40]
  simp only [diag1 x0 x1 x2, past1 x0 x1 x2, negInf_eq]
  rfl

/-- What tile 2 stores at query `r` and value column `d`. -/
theorem soft2 (x0 x1 : Vec Ideal S1x2048x192 .bf16) (x2 : Vec Ideal S1x128x2048 .bf16) (u : Vec Ideal S1x128x256 .bf16) (w : Vec Ideal S1x128x512 .bf16) (r : Fin 256) (d : Fin 128) :
    k0_pay89 (k0_pay63 (k0_pay124 x0 x1 x2) (k0_pay56 (k0_pay121 x0 x1 x2))) (k0_pay79 (k0_pay124 x0 x1 x2) (k0_pay71 (k0_pay121 x0 x1 x2) u) w) (ix2 r d)
    = softBlk (diagScore (fun j => score x0 x1 j ⟨512 + r.val, by omega⟩) 512 (by omega) r) (fun j : Fin 512 => score x0 x1 ⟨j.val, by omega⟩ ⟨512 + r.val, by omega⟩) (fun i => u (ix3 0 d i)) (fun j => w (ix3 0 d j)) := by
  pointwise [k0_pay89, k0_pay63, k0_pay56, k0_pay79, k0_pay71, k0_pay124, k0_pay121, k0_pay49, k0_pay33, k0_pay41]
  simp only [diag2 x0 x1 x2, past2 x0 x1 x2, negInf_eq]
  rfl

/-- What tile 3 stores at query `r` and value column `d`. -/
theorem soft3 (x0 x1 : Vec Ideal S1x2048x192 .bf16) (x2 : Vec Ideal S1x128x2048 .bf16) (u : Vec Ideal S1x128x256 .bf16) (w : Vec Ideal S1x128x768 .bf16) (r : Fin 256) (d : Fin 128) :
    k0_pay90 (k0_pay64 (k0_pay125 x0 x1 x2) (k0_pay57 (k0_pay122 x0 x1 x2))) (k0_pay80 (k0_pay125 x0 x1 x2) (k0_pay72 (k0_pay122 x0 x1 x2) u) w) (ix2 r d)
    = softBlk (diagScore (fun j => score x0 x1 j ⟨768 + r.val, by omega⟩) 768 (by omega) r) (fun j : Fin 768 => score x0 x1 ⟨j.val, by omega⟩ ⟨768 + r.val, by omega⟩) (fun i => u (ix3 0 d i)) (fun j => w (ix3 0 d j)) := by
  pointwise [k0_pay90, k0_pay64, k0_pay57, k0_pay80, k0_pay72, k0_pay125, k0_pay122, k0_pay50, k0_pay34, k0_pay42]
  simp only [diag3 x0 x1 x2, past3 x0 x1 x2, negInf_eq]
  rfl

/-- What tile 4 stores at query `r` and value column `d`. -/
theorem soft4 (x0 x1 : Vec Ideal S1x2048x192 .bf16) (x2 : Vec Ideal S1x128x2048 .bf16) (u : Vec Ideal S1x128x256 .bf16) (w : Vec Ideal S1x128x1024 .bf16) (r : Fin 256) (d : Fin 128) :
    k0_pay1 (k0_pay65 (k0_pay126 x0 x1 x2) (k0_pay58 (k0_pay123 x0 x1 x2))) (k0_pay83 (k0_pay74 (k0_pay44 (k0_pay123 x0 x1 x2)) (k0_pay73 u)) (k0_pay81 w) (k0_pay82 (k0_pay126 x0 x1 x2))) (ix2 r d)
    = softBlk (diagScore (fun j => score x0 x1 j ⟨1024 + r.val, by omega⟩) 1024 (by omega) r) (fun j : Fin 1024 => score x0 x1 ⟨j.val, by omega⟩ ⟨1024 + r.val, by omega⟩) (fun i => u (ix3 0 d i)) (fun j => w (ix3 0 d j)) := by
  pointwise [k0_pay1, k0_pay65, k0_pay58, k0_pay83, k0_pay74, k0_pay44, k0_pay73, k0_pay81, k0_pay82, k0_pay126, k0_pay123, k0_pay51, k0_pay35, k0_pay43]
  simp only [diag4 x0 x1 x2, past4 x0 x1 x2, negInf_eq]
  rfl

/-- What tile 5 stores at query `r` and value column `d`. -/
theorem soft5 (x0 x1 : Vec Ideal S1x2048x192 .bf16) (x2 : Vec Ideal S1x128x2048 .bf16) (u : Vec Ideal S1x128x256 .bf16) (w : Vec Ideal S1x128x1280 .bf16) (r : Fin 256) (d : Fin 128) :
    k0_pay2 (k0_pay66 (k0_pay127 x0 x1 x2) (k0_pay59 (k0_pay104 x0 x1 x2) (k0_pay116 x0 x1 x2))) (k0_pay84 (k0_pay127 x0 x1 x2) (k0_pay75 (k0_pay45 (k0_pay104 x0 x1 x2) (k0_pay116 x0 x1 x2)) u) w) (ix2 r d)
    = softBlk (diagScore (fun j => score x0 x1 j ⟨1280 + r.val, by omega⟩) 1280 (by omega) r) (fun j : Fin 1280 => score x0 x1 ⟨j.val, by omega⟩ ⟨1280 + r.val, by omega⟩) (fun i => u (ix3 0 d i)) (fun j => w (ix3 0 d j)) := by
  pointwise [k0_pay2, k0_pay66, k0_pay59, k0_pay84, k0_pay75, k0_pay45, k0_pay127, k0_pay116, k0_pay52, k0_pay36]
  simp only [diag5 x0 x1 x2, past5 x0 x1 x2, negInf_eq]
  rfl

/-- What tile 6 stores at query `r` and value column `d`. -/
theorem soft6 (x0 x1 : Vec Ideal S1x2048x192 .bf16) (x2 : Vec Ideal S1x128x2048 .bf16) (u : Vec Ideal S1x128x256 .bf16) (w : Vec Ideal S1x128x1536 .bf16) (r : Fin 256) (d : Fin 128) :
    k0_pay3 (k0_pay67 (k0_pay128 x0 x1 x2) (k0_pay60 (k0_pay105 x0 x1 x2) (k0_pay117 x0 x1 x2))) (k0_pay85 (k0_pay128 x0 x1 x2) (k0_pay76 (k0_pay46 (k0_pay105 x0 x1 x2) (k0_pay117 x0 x1 x2)) u) w) (ix2 r d)
    = softBlk (diagScore (fun j => score x0 x1 j ⟨1536 + r.val, by omega⟩) 1536 (by omega) r) (fun j : Fin 1536 => score x0 x1 ⟨j.val, by omega⟩ ⟨1536 + r.val, by omega⟩) (fun i => u (ix3 0 d i)) (fun j => w (ix3 0 d j)) := by
  pointwise [k0_pay3, k0_pay67, k0_pay60, k0_pay85, k0_pay76, k0_pay46, k0_pay128, k0_pay117, k0_pay53, k0_pay37]
  simp only [diag6 x0 x1 x2, past6 x0 x1 x2, negInf_eq]
  rfl

/-- What tile 7 stores at query `r` and value column `d`. -/
theorem soft7 (x0 x1 : Vec Ideal S1x2048x192 .bf16) (x2 : Vec Ideal S1x128x2048 .bf16) (u : Vec Ideal S1x128x256 .bf16) (w : Vec Ideal S1x128x1792 .bf16) (r : Fin 256) (d : Fin 128) :
    k0_pay4 (k0_pay68 (k0_pay129 x0 x1 x2) (k0_pay61 (k0_pay106 x0 x1 x2) (k0_pay118 x0 x1 x2))) (k0_pay86 (k0_pay129 x0 x1 x2) (k0_pay77 (k0_pay47 (k0_pay106 x0 x1 x2) (k0_pay118 x0 x1 x2)) u) w) (ix2 r d)
    = softBlk (diagScore (fun j => score x0 x1 j ⟨1792 + r.val, by omega⟩) 1792 (by omega) r) (fun j : Fin 1792 => score x0 x1 ⟨j.val, by omega⟩ ⟨1792 + r.val, by omega⟩) (fun i => u (ix3 0 d i)) (fun j => w (ix3 0 d j)) := by
  pointwise [k0_pay4, k0_pay68, k0_pay61, k0_pay86, k0_pay77, k0_pay47, k0_pay129, k0_pay118, k0_pay54, k0_pay38]
  simp only [diag7 x0 x1 x2, past7 x0 x1 x2, negInf_eq]
  rfl

end Cert.KernelIdeal.Value
-- ==== Proof.Attn.lean ====
module

public import proofs.«01_k».proof.Proof.FlashBlocks

@[expose] public section

set_option maxRecDepth 16384

noncomputable section

open Idealize.ShloMosaic Idealize.ShloMosaic.TcCoe Idealize.SL.Sem

namespace Cert.KernelIdeal.Value

/-- The causal scores of query `q`: minus infinity at every later key. -/
def causal {N : ℕ} (s : Fin N → EReal) (q : Fin N) (j : Fin N) : EReal := if j ≤ q then s j else ⊥

/-- One query's causal attention over all keys, the weights left undivided: the values weighted by the exponentials of
    the masked scores less their largest, over the sum of those exponentials. -/
def attnK {N : ℕ} (s v : Fin N → EReal) (q : Fin N) : EReal :=
  Ideal.div (∑ j, v j * Ideal.exp (causal s q j - Finset.univ.fold max ⊥ (causal s q)))
    (∑ j, Ideal.exp (causal s q j - Finset.univ.fold max ⊥ (causal s q)))

/-- A fold by `max` from minus infinity is a supremum. -/
theorem fold_max {N : ℕ} (f : Fin N → EReal) : Finset.univ.fold max ⊥ f = Finset.univ.sup f := rfl

/-- A sum over an axis whose last part vanishes: the middle part, then the first. -/
theorem sum_parts {B A R : ℕ} (f : Fin (B + A + R) → EReal) (h : ∀ j : Fin R, f (Fin.natAdd (B + A) j) = 0) :
    ∑ j, f j = (∑ i : Fin A, f (Fin.castAdd R (Fin.natAdd B i))) + ∑ j : Fin B, f (Fin.castAdd R (Fin.castAdd A j)) := by
  rw [Fin.sum_univ_add, Fin.sum_univ_add, Finset.sum_eq_zero (fun j _ => h j), add_zero, add_comm]

/-- The largest entry of an axis whose last part is minus infinity: of the middle part and of the first. -/
theorem sup_parts {B A R : ℕ} (f : Fin (B + A + R) → EReal) (h : ∀ j : Fin R, f (Fin.natAdd (B + A) j) = ⊥) :
    Finset.univ.sup f = max (Finset.univ.sup fun i : Fin A => f (Fin.castAdd R (Fin.natAdd B i)))
      (Finset.univ.sup fun j : Fin B => f (Fin.castAdd R (Fin.castAdd A j))) := by
  apply le_antisymm
  · refine Finset.sup_le fun j _ => ?_
    induction j using Fin.addCases with
    | right j => rw [h]; exact bot_le
    | left j =>
      induction j using Fin.addCases with
      | right i => exact le_max_of_le_left (Finset.le_sup (f := fun i : Fin A => f (Fin.castAdd R (Fin.natAdd B i))) (Finset.mem_univ i))
      | left j => exact le_max_of_le_right (Finset.le_sup (f := fun j : Fin B => f (Fin.castAdd R (Fin.castAdd A j))) (Finset.mem_univ j))
  · exact max_le (Finset.sup_le fun i _ => Finset.le_sup (Finset.mem_univ _)) (Finset.sup_le fun i _ => Finset.le_sup (Finset.mem_univ _))

/-- The exponential of minus infinity less anything is zero. -/
theorem exp_bot_sub (x : EReal) : Ideal.exp (⊥ - x) = 0 := by rw [EReal.bot_sub]; rfl

/-- A diagonal tile with the keys before it is the whole causal row: the keys after it weigh nothing. -/
theorem softBlk_eq (B R : ℕ) (s v : Fin (B + 256 + R) → EReal) (r : Fin 256) :
    softBlk (diagScore s B (by omega) r) (fun j : Fin B => s (Fin.castAdd R (Fin.castAdd 256 j)))
      (fun i => v (Fin.castAdd R (Fin.natAdd B i))) (fun j => v (Fin.castAdd R (Fin.castAdd 256 j)))
    = attnK s v (Fin.castAdd R (Fin.natAdd B r)) := by
  have hlast : ∀ j : Fin R, causal s (Fin.castAdd R (Fin.natAdd B r)) (Fin.natAdd (B + 256) j) = ⊥ := fun j => by
    rw [causal, if_neg]
    simp only [Fin.le_def, Fin.val_natAdd, Fin.val_castAdd]; omega
  have hmid : ∀ i : Fin 256, causal s (Fin.castAdd R (Fin.natAdd B r)) (Fin.castAdd R (Fin.natAdd B i)) = diagScore s B (by omega) r i := fun i => by
    simp only [causal, diagScore, Fin.le_def, Fin.val_natAdd, Fin.val_castAdd, Nat.add_le_add_iff_left]
    rfl
  have hfst : ∀ j : Fin B, causal s (Fin.castAdd R (Fin.natAdd B r)) (Fin.castAdd R (Fin.castAdd 256 j)) = s (Fin.castAdd R (Fin.castAdd 256 j)) := fun j => by
    rw [causal, if_pos]
    simp only [Fin.le_def, Fin.val_natAdd, Fin.val_castAdd]; omega
  have hm := sup_parts (causal s (Fin.castAdd R (Fin.natAdd B r))) hlast
  simp only [hmid, hfst] at hm
  unfold attnK softBlk
  rw [fold_max, fold_max, fold_max, hm]
  rw [sum_parts (fun j => v j * _) (fun j => by rw [hlast, exp_bot_sub, mul_zero]), sum_parts (fun j => Ideal.exp _) (fun j => by rw [hlast, exp_bot_sub])]
  simp only [hmid, hfst]

/-- The first tile has no keys before it. -/
theorem softBlk_first (s v : Fin 2048 → EReal) (r : Fin 256) :
    softBlk (B := 0) (diagScore s 0 (by omega) r) (fun j => j.elim0) (fun i => v ⟨i.val, by omega⟩) (fun j => j.elim0)
    = attnK s v ⟨r.val, by omega⟩ := by
  have h := softBlk_eq 0 1792 s v r
  have e : ∀ i : Fin 256, Fin.castAdd 1792 (Fin.natAdd 0 i) = (⟨i.val, by omega⟩ : Fin 2048) := fun i => Fin.ext (Nat.zero_add _)
  rw [e r] at h
  refine Eq.trans ?_ h
  rw [show (fun i : Fin 256 => v (Fin.castAdd 1792 (Fin.natAdd 0 i))) = fun i => v ⟨i.val, by omega⟩ from funext fun i => congrArg v (e i)]
  rw [show (fun j : Fin 0 => s (Fin.castAdd 1792 (Fin.castAdd 256 j))) = fun j => j.elim0 from funext fun j => j.elim0,
    show (fun j : Fin 0 => v (Fin.castAdd 1792 (Fin.castAdd 256 j))) = fun j => j.elim0 from funext fun j => j.elim0]

/-- Attention on equal scores, values and query is equal. -/
theorem attnK_congr {N : ℕ} {s s' v v' : Fin N → EReal} {q q' : Fin N} (hs : ∀ j, s j = s' j) (hv : ∀ j, v j = v' j) (hq : q = q') :
    attnK s v q = attnK s' v' q' := by
  rw [funext hs, funext hv, hq]

end Cert.KernelIdeal.Value
-- ==== Proof.FlashArray.lean ====
module

public import proofs.«01_k».proof.Proof.Attn
public import proofs.«01_k».proof.Proof.Gen.ReferenceIdeal.Run
public import proofs.«01_k».proof.Proof.Gen.ReferenceIdeal.Read

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

/-- A tile's row is a row of the sequence. -/
theorem tile_lt (r : Fin 256) (B : ℕ) (hB : B + 256 ≤ 2048) : B + r.val < 2048 := by omega

/-- The block one grid point leaves: at query `q` and value column `d`, that query's causal attention. -/
theorem out_at (x0 x1 : Vec Ideal S1x2048x192 .bf16) (x2 : Vec Ideal S1x128x2048 .bf16) (q : Fin 2048) (d : Fin 128) :
    out0_3 x0 x1 x2 (ix2 q d) = attnK (fun j => score x0 x1 j q) (valRow x2 d) q := by
  unfold out0_3
  canon_tiles x h
  case piece0 =>
    obtain ⟨r, e, rfl⟩ : ∃ (r : Fin 256) (e : Fin 128), x = ix2 r e := ⟨x 0, x 1, eq_ix2 x⟩
    obtain rfl : d = e := Fin.ext h1
    obtain rfl : q = ⟨1792 + r.val, by exact tile_lt r 1792 (by decide)⟩ := Fin.ext h0
    refine (soft7 x0 x1 x2 _ _ r d).trans (Eq.trans ?_ (softBlk_eq 1792 0 (fun j => score x0 x1 j ⟨1792 + r.val, by omega⟩) (valRow x2 d) r))
    refine congrArg₂ (softBlk _ _) ?_ ?_ <;> funext i
    · pointwise; rfl
    · pointwise; rfl
  case piece1 =>
    obtain ⟨r, e, rfl⟩ : ∃ (r : Fin 256) (e : Fin 128), x = ix2 r e := ⟨x 0, x 1, eq_ix2 x⟩
    obtain rfl : d = e := Fin.ext h1
    obtain rfl : q = ⟨1536 + r.val, by exact tile_lt r 1536 (by decide)⟩ := Fin.ext h0
    refine (soft6 x0 x1 x2 _ _ r d).trans (Eq.trans ?_ (softBlk_eq 1536 256 (fun j => score x0 x1 j ⟨1536 + r.val, by omega⟩) (valRow x2 d) r))
    refine congrArg₂ (softBlk _ _) ?_ ?_ <;> funext i
    · pointwise; rfl
    · pointwise; rfl
  case piece2 =>
    obtain ⟨r, e, rfl⟩ : ∃ (r : Fin 256) (e : Fin 128), x = ix2 r e := ⟨x 0, x 1, eq_ix2 x⟩
    obtain rfl : d = e := Fin.ext h1
    obtain rfl : q = ⟨1280 + r.val, by exact tile_lt r 1280 (by decide)⟩ := Fin.ext h0
    refine (soft5 x0 x1 x2 _ _ r d).trans (Eq.trans ?_ (softBlk_eq 1280 512 (fun j => score x0 x1 j ⟨1280 + r.val, by omega⟩) (valRow x2 d) r))
    refine congrArg₂ (softBlk _ _) ?_ ?_ <;> funext i
    · pointwise; rfl
    · pointwise; rfl
  case piece3 =>
    obtain ⟨r, e, rfl⟩ : ∃ (r : Fin 256) (e : Fin 128), x = ix2 r e := ⟨x 0, x 1, eq_ix2 x⟩
    obtain rfl : d = e := Fin.ext h1
    obtain rfl : q = ⟨1024 + r.val, by exact tile_lt r 1024 (by decide)⟩ := Fin.ext h0
    refine (soft4 x0 x1 x2 _ _ r d).trans (Eq.trans ?_ (softBlk_eq 1024 768 (fun j => score x0 x1 j ⟨1024 + r.val, by omega⟩) (valRow x2 d) r))
    refine congrArg₂ (softBlk _ _) ?_ ?_ <;> funext i
    · pointwise; rfl
    · pointwise; rfl
  case piece4 =>
    obtain ⟨r, e, rfl⟩ : ∃ (r : Fin 256) (e : Fin 128), x = ix2 r e := ⟨x 0, x 1, eq_ix2 x⟩
    obtain rfl : d = e := Fin.ext h1
    obtain rfl : q = ⟨768 + r.val, by exact tile_lt r 768 (by decide)⟩ := Fin.ext h0
    refine (soft3 x0 x1 x2 _ _ r d).trans (Eq.trans ?_ (softBlk_eq 768 1024 (fun j => score x0 x1 j ⟨768 + r.val, by omega⟩) (valRow x2 d) r))
    refine congrArg₂ (softBlk _ _) ?_ ?_ <;> funext i
    · pointwise; rfl
    · pointwise; rfl
  case piece5 =>
    obtain ⟨r, e, rfl⟩ : ∃ (r : Fin 256) (e : Fin 128), x = ix2 r e := ⟨x 0, x 1, eq_ix2 x⟩
    obtain rfl : d = e := Fin.ext h1
    obtain rfl : q = ⟨512 + r.val, by exact tile_lt r 512 (by decide)⟩ := Fin.ext h0
    refine (soft2 x0 x1 x2 _ _ r d).trans (Eq.trans ?_ (softBlk_eq 512 1280 (fun j => score x0 x1 j ⟨512 + r.val, by omega⟩) (valRow x2 d) r))
    refine congrArg₂ (softBlk _ _) ?_ ?_ <;> funext i
    · pointwise; rfl
    · pointwise; rfl
  case piece6 =>
    obtain ⟨r, e, rfl⟩ : ∃ (r : Fin 256) (e : Fin 128), x = ix2 r e := ⟨x 0, x 1, eq_ix2 x⟩
    obtain rfl : d = e := Fin.ext h1
    obtain rfl : q = ⟨256 + r.val, by exact tile_lt r 256 (by decide)⟩ := Fin.ext h0
    refine (soft1 x0 x1 x2 _ _ r d).trans (Eq.trans ?_ (softBlk_eq 256 1536 (fun j => score x0 x1 j ⟨256 + r.val, by omega⟩) (valRow x2 d) r))
    refine congrArg₂ (softBlk _ _) ?_ ?_ <;> funext i
    · pointwise; rfl
    · pointwise; rfl
  case piece7 =>
    obtain ⟨r, e, rfl⟩ : ∃ (r : Fin 256) (e : Fin 128), x = ix2 r e := ⟨x 0, x 1, eq_ix2 x⟩
    obtain rfl : d = e := Fin.ext h1
    obtain rfl : q = ⟨r.val, by exact Nat.lt_trans r.isLt (by decide)⟩ := Fin.ext h0
    refine (soft0 x0 x1 x2 _ r d).trans (Eq.trans ?_ (softBlk_first (fun j => score x0 x1 j ⟨r.val, by omega⟩) (valRow x2 d) r))
    refine congrArg (fun u => softBlk _ _ u _) ?_
    funext i
    pointwise
    rfl

/-- The result of the call from its prepared operands: token `i 0` of head `i 1 / 128`, value column `i 1 % 128`. -/
def flashG (Q K : FVec Ideal S16x32768x192 .bf16) (VT : FVec Ideal S16x128x32768 .bf16) : FVec Ideal S32768x2048 .bf16 := fun i =>
  attnK (N := 2048)
    (fun j => ∑ x : Fin 192, K (ix3 ⟨(i 1).val / 128, by have := (i 1).isLt; simp at this; omega⟩ ⟨(i 0).val / 2048 * 2048 + j.val, by have := (i 0).isLt; simp at this; omega⟩ x)
      * Q (ix3 ⟨(i 1).val / 128, by have := (i 1).isLt; simp at this; omega⟩ ⟨(i 0).val, by have := (i 0).isLt; simp at this; omega⟩ x))
    (fun j => VT (ix3 ⟨(i 1).val / 128, by have := (i 1).isLt; simp at this; omega⟩ ⟨(i 1).val % 128, by omega⟩ ⟨(i 0).val / 2048 * 2048 + j.val, by have := (i 0).isLt; simp at this; omega⟩))
    ⟨(i 0).val % 2048, by omega⟩

variable (m : (ℓ : Loc nD τ sig) → Buf (Elt Ideal) ℓ)

/-- The blocks of grid point `t`: sequence `t / 16`, head `t % 16`. -/
theorem idx : ∀ t : Fin cfg0.N, win0_0.index t = ![t.val % 16, t.val / 16, 0] ∧ win0_1.index t = ![t.val % 16, t.val / 16, 0]
    ∧ win0_2.index t = ![t.val % 16, 0, t.val / 16] ∧ win0_3.index t = ![t.val / 16, t.val % 16] ∧ t.val / 16 < 16 :=
  (by decide +kernel : ∀ t : Fin grid0.N, _)

/-- The array the launch leaves. -/
theorem final (c : Dev nD) : (dats m 0 c).arrAt 3 (cfgs 0).N = flashG (V m c main_v7) (V m c main_v13) (V m c main_v16) := by
  refine (dats m 0 c).arrAt_eq_of_covers 3 _ (by decide +kernel) fun t _ y => ?_
  blk_simp
  rw [after0_3]
  obtain ⟨q, d, rfl⟩ : ∃ (q : Fin 2048) (d : Fin 128), y = ix2 q d := ⟨y 0, y 1, eq_ix2 y⟩
  refine (out_at _ _ _ q d).trans ?_
  refine attnK_congr (fun j => ?_) (fun j => ?_) ?_
  · unfold score
    refine Finset.sum_congr rfl fun x _ => ?_
    refine Ideal.mul_congr ?_ ?_ <;> blk_ext [iblk, idx t]
  · unfold valRow
    blk_ext [iblk, idx t]
  · apply Fin.ext
    blk_simp [idx t]
    show q.val = (t.val / 16 * 2048 + q.val) % 2048
    omega

end Cert.KernelIdeal.Value
-- ==== Proof.FlashHost.lean ====
module

public import proofs.«01_k».proof.Proof.FlashArray
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The scale of the scores, as written in both programs. -/
abbrev scale : EReal := Ideal.ofBits .f32 0x3D93CD3A#32

/-- The prepared queries, first part: the scaled no-position queries. -/
theorem q_lo (c : Dev nD) (b h : Fin 16) (q : Fin 2048) (x : Fin 128) :
    (show FVec Ideal S16x32768x192 .bf16 from V m c main_v7) (ix3 h ⟨b.val * 2048 + q.val, by omega⟩ ⟨x.val, by omega⟩)
      = (show FVec Ideal S16x2048x16x128 .f32 from m ((c : Thread nD τ).loc main_arg0)) (ix4 b q h x) * scale := by
  entry_read
  pointwise
  refine Ideal.mul_congr ?_ rfl
  blk_ext

/-- The prepared queries, second part: the scaled position queries. -/
theorem q_hi (c : Dev nD) (b h : Fin 16) (q : Fin 2048) (x : Fin 64) :
    (show FVec Ideal S16x32768x192 .bf16 from V m c main_v7) (ix3 h ⟨b.val * 2048 + q.val, by omega⟩ ⟨128 + x.val, by omega⟩)
      = (show FVec Ideal S16x2048x16x64 .f32 from m ((c : Thread nD τ).loc main_arg1)) (ix4 b q h x) * scale := by
  entry_read
  pointwise
  refine Ideal.mul_congr ?_ rfl
  blk_ext

/-- The prepared keys, first part: the head's no-position keys. -/
theorem k_lo (c : Dev nD) (b h : Fin 16) (j : Fin 2048) (x : Fin 128) :
    (show FVec Ideal S16x32768x192 .bf16 from V m c main_v13) (ix3 h ⟨b.val * 2048 + j.val, by omega⟩ ⟨x.val, by omega⟩)
      = (show FVec Ideal S16x2048x16x128 .f32 from m ((c : Thread nD τ).loc main_arg2)) (ix4 b j h x) := by
  entry_read
  pointwise
  blk_ext

/-- The prepared keys, second part: the position keys every head shares. -/
theorem k_hi (c : Dev nD) (b h : Fin 16) (j : Fin 2048) (x : Fin 64) :
    (show FVec Ideal S16x32768x192 .bf16 from V m c main_v13) (ix3 h ⟨b.val * 2048 + j.val, by omega⟩ ⟨128 + x.val, by omega⟩)
      = (show FVec Ideal S16x2048x64 .f32 from m ((c : Thread nD τ).loc main_arg3)) (ix3 b j x) := by
  entry_read
  pointwise
  blk_ext

/-- The prepared values. -/
theorem val_at (c : Dev nD) (b h : Fin 16) (d : Fin 128) (j : Fin 2048) :
    (show FVec Ideal S16x128x32768 .bf16 from V m c main_v16) (ix3 h d ⟨b.val * 2048 + j.val, by omega⟩)
      = (show FVec Ideal S16x2048x16x128 .f32 from m ((c : Thread nD τ).loc main_arg4)) (ix4 b j h d) := by
  entry_read
  pointwise
  blk_ext

/-- The kernel's scaled score of key `j` and query `q` in sequence `b`, head `h`. -/
def kScore (qn : FVec Ideal S16x2048x16x128 .f32) (qp : FVec Ideal S16x2048x16x64 .f32) (kn : FVec Ideal S16x2048x16x128 .f32)
    (kp : FVec Ideal S16x2048x64 .f32) (b h : Fin 16) (q j : Fin 2048) : EReal :=
  (∑ x : Fin 128, kn (ix4 b j h x) * (qn (ix4 b q h x) * scale)) + ∑ x : Fin 64, kp (ix3 b j x) * (qp (ix4 b q h x) * scale)

/-- The result of the call read at sequence `b`, query `q`, head `h`, value column `d`, in terms of the arguments. -/
theorem flashG_at (c : Dev nD) (b h : Fin 16) (q : Fin 2048) (d : Fin 128) :
    flashG (V m c main_v7) (V m c main_v13) (V m c main_v16) (ix2 ⟨b.val * 2048 + q.val, by omega⟩ ⟨h.val * 128 + d.val, by omega⟩)
      = attnK (kScore (m ((c : Thread nD τ).loc main_arg0)) (m ((c : Thread nD τ).loc main_arg1)) (m ((c : Thread nD τ).loc main_arg2))
          (m ((c : Thread nD τ).loc main_arg3)) b h q)
        (fun j => (show FVec Ideal S16x2048x16x128 .f32 from m ((c : Thread nD τ).loc main_arg4)) (ix4 b j h d)) q := by
  have eh : (h.val * 128 + d.val) / 128 = h.val := by omega
  have ed : (h.val * 128 + d.val) % 128 = d.val := by omega
  have eb : (b.val * 2048 + q.val) / 2048 = b.val := by omega
  have eq : (b.val * 2048 + q.val) % 2048 = q.val := by omega
  unfold flashG
  refine attnK_congr (fun j => ?_) (fun j => ?_) (Fin.ext eq)
  · refine (Fin.sum_univ_add (a := 128) (b := 64) _).trans ?_
    unfold kScore
    refine congrArg₂ (· + ·) (Finset.sum_congr rfl fun x _ => Ideal.mul_congr ?_ ?_) (Finset.sum_congr rfl fun x _ => Ideal.mul_congr ?_ ?_)
    · refine Eq.trans ?_ (k_lo m c b h j x)
      blk_ext <;> rfl
    · refine Eq.trans ?_ (q_lo m c b h q x)
      blk_ext <;> rfl
    · refine Eq.trans ?_ (k_hi m c b h j x)
      blk_ext <;> rfl
    · refine Eq.trans ?_ (q_hi m c b h q x)
      blk_ext <;> rfl
  · refine Eq.trans ?_ (val_at m c b h d j)
    blk_ext

end Cert.KernelIdeal.Value
-- ==== Proof.AttnEq.lean ====
module

public import proofs.«01_k».proof.Proof.Attn

@[expose] public section

set_option maxRecDepth 16384

noncomputable section

open Idealize.ShloMosaic Idealize.ShloMosaic.TcCoe Idealize.SL.Sem

namespace Cert.KernelIdeal.Value

/-- An extended real that is a real number. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, (EReal.coe_mul a b).symm⟩

theorem IsReal.add {x y : EReal} : IsReal x → IsReal y → IsReal (x + y) := by
  rintro ⟨a, rfl⟩ ⟨b, rfl⟩; exact ⟨a + b, (EReal.coe_add a b).symm⟩

/-- A finite sum of real numbers is a real number. -/
theorem IsReal.sum {ι : Type} (s : Finset ι) {f : ι → EReal} (h : ∀ i, IsReal (f i)) : IsReal (∑ i ∈ s, f i) := by
  classical
  induction s using Finset.induction_on with
  | empty => exact ⟨0, rfl⟩
  | insert a s ha ih => rw [Finset.sum_insert ha]; exact (h a).add ih

/-- A nonnegative real factor goes into a finite sum of extended reals. -/
theorem sum_mul_const {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- One query's causal attention with the weights normalised before the values are summed. -/
def attnR {N : ℕ} (s v : Fin N → EReal) (q : Fin N) : EReal :=
  ∑ j, v j * Ideal.div (Ideal.exp (causal s q j - max ⊥ (Finset.univ.fold max ⊥ (causal s q))))
    (∑ k, Ideal.exp (causal s q k - max ⊥ (Finset.univ.fold max ⊥ (causal s q))))

/-- The largest of a causal row of real scores is a real number. -/
theorem top_real {N : ℕ} (s : Fin N → EReal) (hs : ∀ j, IsReal (s j)) (q : Fin N) : IsReal (Finset.univ.fold max ⊥ (causal s q)) := by
  rw [fold_max]
  have hlow : s q ≤ Finset.univ.sup (causal s q) := by
    have := Finset.le_sup (f := causal s q) (Finset.mem_univ q)
    rwa [causal, if_pos le_rfl] at this
  have hb : Finset.univ.sup (causal s q) ≠ ⊥ := fun h => by
    obtain ⟨r, hr⟩ := hs q
    rw [h, hr] at hlow
    exact absurd hlow (not_le_of_gt (EReal.bot_lt_coe r))
  have ht : Finset.univ.sup (causal s q) ≠ ⊤ := by
    refine ne_of_lt ((Finset.sup_lt_iff bot_lt_top).2 fun j _ => ?_)
    unfold causal
    split
    · obtain ⟨r, hr⟩ := hs j; rw [hr]; exact EReal.coe_lt_top r
    · exact bot_lt_top
  exact ⟨_, (EReal.coe_toReal ht hb).symm⟩

/-- Each weight of a causal row of real scores is a nonnegative real number. -/
theorem weight_real {N : ℕ} (s : Fin N → EReal) (hs : ∀ j, IsReal (s j)) (q j : Fin N) (t : ℝ) :
    ∃ r : ℝ, 0 ≤ r ∧ Ideal.exp (causal s q j - (t : EReal)) = (r : EReal) := by
  unfold causal
  split
  · obtain ⟨r, hr⟩ := hs j
    rw [hr, ← EReal.coe_sub]
    exact ⟨Real.exp (r - t), (Real.exp_pos _).le, rfl⟩
  · exact ⟨0, le_rfl, exp_bot_sub _⟩

/-- The sum of the weights is a positive real number: the query sees its own key. -/
theorem weights_pos {N : ℕ} (s : Fin N → EReal) (hs : ∀ j, IsReal (s j)) (q : Fin N) (t : ℝ) :
    ∃ r : ℝ, 0 < r ∧ ∑ j, Ideal.exp (causal s q j - (t : EReal)) = (r : EReal) := by
  choose w hw0 hw using fun j => weight_real s hs q j t
  refine ⟨∑ j, w j, ?_, ?_⟩
  · refine Finset.sum_pos' (fun j _ => hw0 j) ⟨q, Finset.mem_univ q, ?_⟩
    have h := hw q
    rw [causal, if_pos le_rfl] at h
    obtain ⟨r, hr⟩ := hs q
    rw [hr, ← EReal.coe_sub] at h
    have h' : ((Real.exp (r - t) : ℝ) : EReal) = (w q : EReal) := h
    rw [← EReal.coe_eq_coe_iff.1 h']
    exact Real.exp_pos _
  · rw [Finset.sum_congr rfl fun j _ => hw j]
    exact (map_sum (⟨⟨fun r : ℝ => (r : EReal), EReal.coe_zero⟩, EReal.coe_add⟩ : ℝ →+ EReal) w Finset.univ).symm

/-- Dividing the weighted sum of the values by the sum of the weights is weighting by the divided weights. -/
theorem attnK_eq_attnR {N : ℕ} (s v : Fin N → EReal) (hs : ∀ j, IsReal (s j)) (q : Fin N) : attnK s v q = attnR s v q := by
  obtain ⟨t, ht⟩ := top_real s hs q
  unfold attnK attnR
  rw [ht]
  simp only [max_eq_right (bot_le : (⊥ : EReal) ≤ (t : EReal))]
  obtain ⟨l, hl, he⟩ := weights_pos s hs q t
  rw [he]
  simp only [Ideal.div_coe hl.ne']
  rw [sum_mul_const _ _ (by exact_mod_cast (one_div_pos.2 hl).le) (EReal.coe_ne_top _)]
  exact Finset.sum_congr rfl fun j _ => mul_assoc _ _ _

end Cert.KernelIdeal.Value
-- ==== Proof.FlashRef.lean ====
module

public import proofs.«01_k».proof.Proof.AttnEq
public import proofs.«01_k».proof.Proof.Gen.ReferenceIdeal.Run
public import proofs.«01_k».proof.Proof.Gen.ReferenceIdeal.Read

@[expose] public section

set_option maxRecDepth 16384

noncomputable section

open Idealize.ShloMosaic Idealize.ShloMosaic.TcCoe Idealize.SL.Sem

namespace Cert.ReferenceIdeal.Value

open Cert.ReferenceIdeal Cert.ReferenceIdeal.Read

open Cert.KernelIdeal.Value (attnR causal negInf_eq select_le)

/-- The reference's scaled score of key `k` and query `q` in sequence `b`, head `h`. -/
def rScore (qn : FVec Ideal S16x2048x16x128 .f32) (qp : FVec Ideal S16x2048x16x64 .f32) (kn : FVec Ideal S16x2048x16x128 .f32)
    (kp : FVec Ideal S16x2048x64 .f32) (b h : Fin 16) (q k : Fin 2048) : EReal :=
  ((∑ x : Fin 128, qn (ix4 b q h x) * kn (ix4 b k h x)) + ∑ x : Fin 64, kp (ix3 b k x) * qp (ix4 b q h x)) * Ideal.ofBits .f32 0x3D93CD3A#32

/-- The reference's masked scores: minus infinity at every later key. -/
theorem masked_at (qn : FVec Ideal S16x2048x16x128 .f32) (qp : FVec Ideal S16x2048x16x64 .f32) (kn : FVec Ideal S16x2048x16x128 .f32)
    (kp : FVec Ideal S16x2048x64 .f32) (b h : Fin 16) (q k : Fin 2048) :
    val_main_v12 (F := Ideal) qn qp kn kp (ix4 b h q k) = causal (rScore qn qp kn kp b h q) q k := by
  pointwise [val_main_v12, val_main_call0_v1, val_main_call0_v2, val_main_call0_v0, val_main_cst_0, val_main_v11, val_main_v10, val_main_v9, val_main_v8, val_main_v7, val_main_v0, val_main_v6, val_main_v5, val_main_cst, val_main_v4, val_main_v3, val_main_v2, val_main_v1]
  refine (select_le k.isLt q.isLt _ _).trans ?_
  unfold causal rScore
  rw [show (id (constant (F := Ideal) S_ .f32 0xFF800000#32) ix0 : EReal) = ⊥ from negInf_eq]
  rfl

open Facts₀ Facts in
/-- The largest entry along the last axis of a table of scores. -/
theorem hostMax [Cert.ReferenceIdeal.Facts] (x : FVec Ideal S16x16x2048x2048 .f32) (init : FVec Ideal S_ .f32) (b h : Fin 16) (q : Fin 2048) :
    Host.reduce FloatOps.maximumf x init reducesTo_S16x16x2048x2048_S16x16x2048_d3 h_S_ (ix3 b h q)
      = Finset.univ.fold max (init ix0) fun k => x (ix4 b h q k) := by
  pointwise
  exact congrArg (fun z => Finset.univ.fold max (init z) fun k => x (ix4 b h q k)) (funext fun a => a.elim0)

open Facts₀ Facts in
/-- The largest of a masked row, from a table whose row it is. -/
theorem hostMax_row [Cert.ReferenceIdeal.Facts] (y : FVec Ideal S16x16x2048x2048 .f32) (z : FVec Ideal S_ .f32) (b h : Fin 16) (q : Fin 2048)
    (f : Fin 2048 → EReal) (hy : ∀ k, y (ix4 b h q k) = f k) (hz : z ix0 = (⊥ : EReal)) :
    Host.reduce FloatOps.maximumf y z reducesTo_S16x16x2048x2048_S16x16x2048_d3 h_S_ (ix3 b h q) = Finset.univ.fold max ⊥ f := by
  rw [hostMax, hz, funext hy]

/-- The reference's largest score of a query. -/
theorem top_at (qn : FVec Ideal S16x2048x16x128 .f32) (qp : FVec Ideal S16x2048x16x64 .f32) (kn : FVec Ideal S16x2048x16x128 .f32)
    (kp : FVec Ideal S16x2048x64 .f32) (b h : Fin 16) (q : Fin 2048) :
    val_main_v13 (F := Ideal) qn qp kn kp (ix3 b h q) = Finset.univ.fold max ⊥ (causal (rScore qn qp kn kp b h q) q) := by
  unfold val_main_v13
  exact hostMax_row _ _ b h q _ (masked_at qn qp kn kp b h q) ((val_main_cst_1_apply ix0).trans negInf_eq)

/-- The reference's undivided weights. -/
theorem weight_at (qn : FVec Ideal S16x2048x16x128 .f32) (qp : FVec Ideal S16x2048x16x64 .f32) (kn : FVec Ideal S16x2048x16x128 .f32)
    (kp : FVec Ideal S16x2048x64 .f32) (b h : Fin 16) (q k : Fin 2048) :
    val_main_v19 (F := Ideal) qn qp kn kp (ix4 b h q k)
      = Ideal.exp (causal (rScore qn qp kn kp b h q) q k - max ⊥ (Finset.univ.fold max ⊥ (causal (rScore qn qp kn kp b h q) q))) := by
  have e14 : val_main_v14 (F := Ideal) (ix3 b h q) = (⊥ : EReal) := (val_main_v14_apply _).trans ((val_main_cst_2_apply _).trans negInf_eq)
  have ei : idx_main_v16 (idx_main_v17 (ix4 b h q k)) = ix3 b h q := by
    funext a
    match a with
    | ⟨0, _⟩ => rfl
    | ⟨1, _⟩ => rfl
    | ⟨2, _⟩ => rfl
  have e17 : val_main_v17 (F := Ideal) qn qp kn kp (ix4 b h q k) = max ⊥ (Finset.univ.fold max ⊥ (causal (rScore qn qp kn kp b h q) q)) := by
    refine (val_main_v17_apply ..).trans ((val_main_v16_apply ..).trans ?_)
    rw [ei]
    exact (val_main_v15_apply ..).trans (congrArg₂ max e14 (top_at qn qp kn kp b h q))
  rw [val_main_v19_apply, val_main_v18_apply, masked_at, e17]
  rfl

/-- The reference's weights. -/
theorem prob_at (qn : FVec Ideal S16x2048x16x128 .f32) (qp : FVec Ideal S16x2048x16x64 .f32) (kn : FVec Ideal S16x2048x16x128 .f32)
    (kp : FVec Ideal S16x2048x64 .f32) (b h : Fin 16) (q k : Fin 2048) :
    val_main_v23 (F := Ideal) qn qp kn kp (ix4 b h q k)
      = Ideal.div (Ideal.exp (causal (rScore qn qp kn kp b h q) q k - max ⊥ (Finset.univ.fold max ⊥ (causal (rScore qn qp kn kp b h q) q))))
          (∑ j, Ideal.exp (causal (rScore qn qp kn kp b h q) q j - max ⊥ (Finset.univ.fold max ⊥ (causal (rScore qn qp kn kp b h q) q)))) := by
  pointwise [val_main_v23, val_main_v22, val_main_v21, val_main_v20, val_main_cst_3]
  simp only [weight_at]

/-- The reference's result at sequence `b`, query `q`, head `h`, value column `d`. -/
theorem ref_at (qn : FVec Ideal S16x2048x16x128 .f32) (qp : FVec Ideal S16x2048x16x64 .f32) (kn : FVec Ideal S16x2048x16x128 .f32)
    (kp : FVec Ideal S16x2048x64 .f32) (v : FVec Ideal S16x2048x16x128 .f32) (b h : Fin 16) (q : Fin 2048) (d : Fin 128) :
    val_main_v27 (F := Ideal) qn qp kn kp v (ix2 ⟨b.val * 2048 + q.val, by omega⟩ ⟨h.val * 128 + d.val, by omega⟩)
      = attnR (rScore qn qp kn kp b h q) (fun k => v (ix4 b k h d)) q := by
  rw [val_main_v27_apply]
  refine (val_main_v26_apply ..).trans ((val_main_v25_apply ..).trans ((val_main_v24_apply ..).trans ?_))
  unfold attnR
  refine Finset.sum_congr rfl fun k _ => ?_
  refine Ideal.mul_congr (congrArg v ?_) (Eq.trans (congrArg (val_main_v23 (F := Ideal) qn qp kn kp) ?_) (prob_at qn qp kn kp b h q k))
  · funext a
    match a with
    | ⟨0, _⟩ => exact Fin.ext (show ((b.val * 2048 + q.val) * 2048 + (h.val * 128 + d.val)) / 4194304 = b.val by omega)
    | ⟨1, _⟩ => rfl
    | ⟨2, _⟩ => exact Fin.ext (show ((b.val * 2048 + q.val) * 2048 + (h.val * 128 + d.val)) / 128 % 16 = h.val by omega)
    | ⟨3, _⟩ => exact Fin.ext (show ((b.val * 2048 + q.val) * 2048 + (h.val * 128 + d.val)) % 128 = d.val by omega)
  · funext a
    match a with
    | ⟨0, _⟩ => exact Fin.ext (show ((b.val * 2048 + q.val) * 2048 + (h.val * 128 + d.val)) / 4194304 = b.val by omega)
    | ⟨1, _⟩ => exact Fin.ext (show ((b.val * 2048 + q.val) * 2048 + (h.val * 128 + d.val)) / 128 % 16 = h.val by omega)
    | ⟨2, _⟩ => exact Fin.ext (show ((b.val * 2048 + q.val) * 2048 + (h.val * 128 + d.val)) / 2048 % 2048 = q.val by omega)
    | ⟨3, _⟩ => rfl

end Cert.ReferenceIdeal.Value
-- ==== Proof.Finite.lean ====
module

public import proofs.«01_k».proof.Proof.AttnEq
public import proofs.«01_k».proof.Defs
public import Idealize.ShloMosaic.Lib.ReduceAll

@[expose] public section

set_option maxRecDepth 16384

noncomputable section

open Idealize.ShloMosaic Idealize.ShloMosaic.TcCoe Idealize.SL.Sem

namespace Cert.Pre_finite_scores

open Cert.KernelIdeal.Value (IsReal)

/-- A one-bit conjunction that is one: both bits are. -/
theorem andi_one {x y : BitVec 1} (h : IntOp.andi x y = 1#1) : x = 1#1 ∧ y = 1#1 := by
  revert h; revert x y; decide

/-- A number whose absolute value is below infinity is real. -/
theorem real_of_lt (x : EReal) (h : FloatOps.cmpf (F := Ideal) (φ := .f32) .olt (FloatOps.hostAbsf (F := Ideal) (φ := .f32) x) (FloatOps.ofBits (F := Ideal) .f32 0x7F800000#32) = 1#1) : IsReal x := by
  have ht : Ideal.ofBits .f32 0x7F800000#32 = (⊤ : EReal) := by simp [Ideal.ofBits, Ideal.ieee]
  have h' : BitVec.ofBool (decide (max x (-x) < Ideal.ofBits .f32 0x7F800000#32)) = 1#1 := h
  rw [ht] at h'
  have hlt : max x (-x) < ⊤ := by
    by_contra hn
    rw [decide_eq_false hn] at h'
    exact absurd h' (by decide)
  have h1 : x ≠ ⊤ := fun e => by rw [e] at hlt; exact absurd hlt (by simp)
  have h2 : x ≠ ⊥ := fun e => by rw [e] at hlt; exact absurd hlt (by simp)
  exact ⟨x.toReal, (EReal.coe_toReal h1 h2).symm⟩

open Facts

/-- What the precondition says of its first four arguments: every entry is a real number. -/
theorem reals [Cert.Pre_finite_scores.Facts] (qn : FVec Ideal S16x2048x16x128 .f32) (qp : FVec Ideal S16x2048x16x64 .f32)
    (kn : FVec Ideal S16x2048x16x128 .f32) (kp : FVec Ideal S16x2048x64 .f32) (v : FVec Ideal S16x2048x16x128 .f32)
    (h : fn (F := Ideal) qn qp kn kp v = fun _ => 1#1) :
    (∀ i, IsReal (qn i)) ∧ (∀ i, IsReal (qp i)) ∧ (∀ i, IsReal (kn i)) ∧ ∀ i, IsReal (kp i) := by
  haveI : Subsingleton S_.Idx := ⟨fun a b => funext fun i => i.elim0⟩
  have h0 := congrFun h (fun a => a.elim0)
  obtain ⟨h1, hkp⟩ := andi_one h0
  obtain ⟨h2, hkn⟩ := andi_one h1
  obtain ⟨hqn, hqp⟩ := andi_one h2
  refine ⟨fun i => ?_, fun i => ?_, fun i => ?_, fun i => ?_⟩
  · exact real_of_lt _ (Host.reduce_andi_all _ _ _ _ _ hqn i)
  · exact real_of_lt _ (Host.reduce_andi_all _ _ _ _ _ hqp i)
  · exact real_of_lt _ (Host.reduce_andi_all _ _ _ _ _ hkn i)
  · exact real_of_lt _ (Host.reduce_andi_all _ _ _ _ _ hkp i)

end Cert.Pre_finite_scores
-- ==== Proof.FlashEq.lean ====
module

public import proofs.«01_k».proof.Proof.FlashHost
public import proofs.«01_k».proof.Proof.FlashRef
public import proofs.«01_k».proof.Proof.Finite

@[expose] public section

set_option maxRecDepth 16384

noncomputable section

open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ)

/-- The scale is a nonnegative real number. -/
theorem scale_real : ∃ r : ℝ, 0 ≤ r ∧ scale = (r : EReal) := by
  refine ⟨_, ?_, by simp [scale, Ideal.ofBits, Ideal.ieee, -EReal.coe_mul]; rfl⟩
  positivity

/-- Scaling the query before the product and scaling the score after it agree. -/
theorem kScore_eq (qn : FVec Ideal S16x2048x16x128 .f32) (qp : FVec Ideal S16x2048x16x64 .f32) (kn : FVec Ideal S16x2048x16x128 .f32)
    (kp : FVec Ideal S16x2048x64 .f32) (b h : Fin 16) (q j : Fin 2048) :
    kScore qn qp kn kp b h q j = Cert.ReferenceIdeal.Value.rScore qn qp kn kp b h q j := by
  obtain ⟨r, hr, he⟩ := scale_real
  have h0 : (0 : EReal) ≤ scale := by rw [he]; exact_mod_cast hr
  have ht : scale ≠ ⊤ := by rw [he]; exact EReal.coe_ne_top r
  unfold kScore Cert.ReferenceIdeal.Value.rScore
  refine Eq.trans ?_ (EReal.right_distrib_of_nonneg_of_ne_top h0 ht _ _).symm
  rw [sum_mul_const _ _ h0 ht, sum_mul_const _ _ h0 ht]
  refine congrArg₂ (· + ·) (Finset.sum_congr rfl fun x _ => ?_) (Finset.sum_congr rfl fun x _ => ?_)
  · rw [← mul_assoc, mul_comm (kn _)]
  · rw [← mul_assoc]

/-- Finite queries and keys have real scores. -/
theorem rScore_real (qn : FVec Ideal S16x2048x16x128 .f32) (qp : FVec Ideal S16x2048x16x64 .f32) (kn : FVec Ideal S16x2048x16x128 .f32)
    (kp : FVec Ideal S16x2048x64 .f32) (hqn : ∀ i, IsReal (qn i)) (hqp : ∀ i, IsReal (qp i)) (hkn : ∀ i, IsReal (kn i)) (hkp : ∀ i, IsReal (kp i))
    (b h : Fin 16) (q j : Fin 2048) : IsReal (Cert.ReferenceIdeal.Value.rScore qn qp kn kp b h q j) := by
  obtain ⟨r, hr, he⟩ := scale_real
  exact ((IsReal.sum _ fun x => (hqn _).mul (hkn _)).add (IsReal.sum _ fun x => (hkp _).mul (hqp _))).mul ⟨r, he⟩

/-- The launch's array is the reference's result when queries and keys are finite. -/
theorem flash_eq (c : Dev nD)
    (hqn : ∀ i, IsReal ((show FVec Ideal S16x2048x16x128 .f32 from m ((c : Thread nD τ).loc main_arg0)) i))
    (hqp : ∀ i, IsReal ((show FVec Ideal S16x2048x16x64 .f32 from m ((c : Thread nD τ).loc main_arg1)) i))
    (hkn : ∀ i, IsReal ((show FVec Ideal S16x2048x16x128 .f32 from m ((c : Thread nD τ).loc main_arg2)) i))
    (hkp : ∀ i, IsReal ((show FVec Ideal S16x2048x64 .f32 from m ((c : Thread nD τ).loc main_arg3)) i)) :
    (dats m 0 c).arrAt 3 (cfgs 0).N
      = Cert.ReferenceIdeal.Read.val_main_v27 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [final m c]
  funext i
  obtain ⟨b, q, h, d, rfl⟩ : ∃ (b : Fin 16) (q : Fin 2048) (h : Fin 16) (d : Fin 128),
      i = ix2 (⟨b.val * 2048 + q.val, by omega⟩ : Fin 32768) (⟨h.val * 128 + d.val, by omega⟩ : Fin 2048) := by
    obtain ⟨x, y, rfl⟩ : ∃ (x : Fin 32768) (y : Fin 2048), i = ix2 x y := ⟨i 0, i 1, eq_ix2 i⟩
    refine ⟨⟨x.val / 2048, by omega⟩, ⟨x.val % 2048, by omega⟩, ⟨y.val / 128, by omega⟩, ⟨y.val % 128, by omega⟩, (ix2_inj ..).2 ⟨Fin.ext ?_, Fin.ext ?_⟩⟩
    · show x.val = x.val / 2048 * 2048 + x.val % 2048; omega
    · show y.val = y.val / 128 * 128 + y.val % 128; omega
  refine (flashG_at m c b h q d).trans (Eq.trans ?_ (Cert.ReferenceIdeal.Value.ref_at _ _ _ _ _ b h q d).symm)
  rw [funext (kScore_eq _ _ _ _ b h q)]
  exact attnK_eq_attnR _ _ (rScore_real _ _ _ _ hqn hqp hkn hkp b h q) q

end Cert.KernelIdeal.Value
-- ==== Proof.InProj.lean ====
module

public import Idealize.ShloMosaic.Lib.Pipeline.ValueKit
public import proofs.«01_k».proof.Proof.Gen.InProjIdeal.Frame
public import proofs.«01_k».proof.Proof.Gen.InProjReferenceIdeal.Read
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Value

open Cert.InProjIdeal Cert.InProjIdeal.Gen

/-- The block one grid point leaves: the product of a tile of rows with a slab's weights. -/
theorem out_at (x0 : Vec Ideal S1x512x1024 .bf16) (x1 : Vec Ideal S1x1024x2048 .bf16) (u : Fin 1) (r : Fin 512) (n : Fin 2048) :
    out0_2 x0 x1 (ix3 u r n) = ∑ k : Fin 1024, (show FVec Ideal S1x512x1024 .bf16 from x0) (ix3 0 r k) * (show FVec Ideal S1x1024x2048 .bf16 from x1) (ix3 0 k n) := by
  unfold out0_2
  canon_tiles x h
  case piece0 =>
    obtain ⟨w, p, e, rfl⟩ : ∃ (w : Fin 1) (p : Fin 512) (e : Fin 2048), x = ix3 w p e := ⟨x 0, x 1, x 2, eq_ix3 x⟩
    obtain rfl : r = p := Fin.ext h1
    obtain rfl : n = e := Fin.ext h2
    pointwise [k0_pay1]

/-- The result of the call from its prepared operands. -/
def projG (X : FVec Ideal S4x32768x1024 .bf16) (W : FVec Ideal S4x1024x2048 .bf16) : FVec Ideal S4x32768x2048 .bf16 := fun i =>
  ∑ k : Fin 1024, X (ix3 (i 0) (i 1) k) * W (ix3 (i 0) k (i 2))

variable (m : (ℓ : Loc nD τ sig) → Buf (Elt Ideal) ℓ)

/-- The blocks of grid point `t`: slab `t / 64`, row tile `t % 64`. -/
theorem idx : ∀ t : Fin cfg0.N, win0_0.index t = ![t.val / 64, t.val % 64, 0] ∧ win0_1.index t = ![t.val / 64, 0, 0]
    ∧ win0_2.index t = ![t.val / 64, t.val % 64, 0] ∧ t.val / 64 < 4 :=
  (by decide +kernel : ∀ t : Fin grid0.N, _)

/-- The array the launch leaves. -/
theorem final (c : Dev nD) : (dats m 0 c).arrAt 2 (cfgs 0).N = projG (V m c main_v1) (V m c main_v2) := by
  refine (dats m 0 c).arrAt_eq_of_covers 2 _ (by decide +kernel) fun t _ y => ?_
  blk_simp
  rw [after0_2]
  obtain ⟨u, r, n, rfl⟩ : ∃ (u : Fin 1) (r : Fin 512) (n : Fin 2048), y = ix3 u r n := ⟨y 0, y 1, y 2, eq_ix3 y⟩
  refine (out_at _ _ u r n).trans ?_
  unfold projG
  refine Finset.sum_congr rfl fun k _ => ?_
  refine Ideal.mul_congr ?_ ?_ <;> blk_ext [iblk, idx t]

/-- The prepared rows. -/
theorem x_at (c : Dev nD) (p : Fin 4) (b : Fin 16) (t : Fin 2048) (k : Fin 1024) :
    (show FVec Ideal S4x32768x1024 .bf16 from V m c main_v1) (ix3 p ⟨b.val * 2048 + t.val, by omega⟩ k)
      = (show FVec Ideal S4x16x2048x1024 .f32 from m ((c : Thread nD τ).loc main_arg0)) (ix4 p b t k) := by
  entry_read
  pointwise
  blk_ext

/-- The prepared weights. -/
theorem w_at (c : Dev nD) (p : Fin 4) (k : Fin 1024) (n : Fin 2048) :
    (show FVec Ideal S4x1024x2048 .bf16 from V m c main_v2) (ix3 p k n)
      = (show FVec Ideal S4x1024x2048 .f32 from m ((c : Thread nD τ).loc main_arg1)) (ix3 p k n) := by
  entry_read
  pointwise

/-- The reference's result at slab `p`, sequence `b`, position `t`, column `n`. -/
theorem ref_at (x : FVec Ideal S4x16x2048x1024 .f32) (w : FVec Ideal S4x1024x2048 .f32) (p : Fin 4) (b : Fin 16) (t : Fin 2048) (n : Fin 2048) :
    Cert.InProjReferenceIdeal.Read.val_main_v2 (F := Ideal) x w (ix3 p ⟨b.val * 2048 + t.val, by omega⟩ n)
      = ∑ k : Fin 1024, x (ix4 p b t k) * w (ix3 p k n) := by
  pointwise [Cert.InProjReferenceIdeal.Read.val_main_v2, Cert.InProjReferenceIdeal.Read.val_main_v1]
  refine (Cert.InProjReferenceIdeal.Read.val_main_v0_apply x w _).trans ?_
  refine Finset.sum_congr rfl fun k _ => ?_
  refine Ideal.mul_congr ?_ ?_ <;> blk_ext

/-- The launch's array is the reference's result. -/
theorem value_eq (c : Dev nD) :
    (dats m 0 c).arrAt 2 (cfgs 0).N
      = Cert.InProjReferenceIdeal.Read.val_main_v2 (F := Ideal) (m ((c : Thread nD τ).loc main_arg0)) (m ((c : Thread nD τ).loc main_arg1)) := by
  rw [final m c]
  funext i
  obtain ⟨p, b, t, n, rfl⟩ : ∃ (p : Fin 4) (b : Fin 16) (t : Fin 2048) (n : Fin 2048),
      i = ix3 p (⟨b.val * 2048 + t.val, by omega⟩ : Fin 32768) n := by
    obtain ⟨p, x, n, rfl⟩ : ∃ (p : Fin 4) (x : Fin 32768) (n : Fin 2048), i = ix3 p x n := ⟨i 0, i 1, i 2, eq_ix3 i⟩
    refine ⟨p, ⟨x.val / 2048, by omega⟩, ⟨x.val % 2048, by omega⟩, n, congrArg (fun z => ix3 p z n) (Fin.ext ?_)⟩
    show x.val = x.val / 2048 * 2048 + x.val % 2048
    omega
  refine Eq.trans ?_ (ref_at _ _ p b t n).symm
  unfold projG
  exact Finset.sum_congr rfl fun k _ => Ideal.mul_congr (x_at m c p b t k) (w_at m c p k n)

end Cert.InProjIdeal.Value
-- ==== Proof.Layer.lean ====
module

public import Idealize.ShloMosaic.Lib.Pipeline.ValueKit
public import Idealize.ShloMosaic.Lib.Pointwise
public import Idealize.ShloMosaic.PureOps.Ideal.Laws
public import proofs.«01_k».proof.Proof.AttnEq

@[expose] public section

noncomputable section

open Idealize.ShloMosaic

namespace Cert.Layer

/-- The SiLU gate, as both programs write it. -/
def gate (z : EReal) : EReal := z * Ideal.div (Ideal.ofBits .f32 0x3F800000#32) (Ideal.ofBits .f32 0x3F800000#32 + Ideal.exp (-z))

/-- One row of the root-mean-square norm with its weights; `d` is the row's length as a literal. -/
def rmsRow {n : ℕ} (d : EReal) (x w : Fin n → EReal) (j : Fin n) : EReal :=
  x j * Ideal.rsqrt (Ideal.div (∑ k, x k * x k) d + Ideal.ofBits .f32 0x358637BD#32) * w j

/-- One row of an output projection: the residual plus the gated row times the weights. -/
def outRow {n k : ℕ} (o z : Fin k → EReal) (w : Fin k → Fin n → EReal) (x : Fin n → EReal) (j : Fin n) : EReal :=
  x j + ∑ i, o i * gate (z i) * w i j

/-- One entry of a projection of the normed row. -/
def projRow {n k : ℕ} (d : EReal) (x nw : Fin k → EReal) (w : Fin k → Fin n → EReal) (j : Fin n) : EReal :=
  ∑ i, rmsRow d x nw i * w i j

/-- The literal zero. -/
theorem zero_eq : Ideal.ofBits .f32 0x00000000#32 = (0 : EReal) := by simp [Ideal.ofBits, Ideal.ieee]

end Cert.Layer
-- ==== Proof.MlaOut.lean ====
module

public import Idealize.ShloMosaic.Lib.Pipeline.ValueKit
public import Idealize.ShloMosaic.Lib.Pointwise
public import Idealize.ShloMosaic.Lib.Claim
public import proofs.«01_k».proof.Proof.Layer
public import proofs.«01_k».proof.Proof.Gen.MlaOutIdeal.Frame
public import proofs.«01_k».proof.Proof.Gen.MlaOutReferenceIdeal.Read

@[expose] public section

set_option maxRecDepth 16384

noncomputable section

open Idealize.ShloMosaic Idealize.ShloMosaic.TcCoe Idealize.SL.Sem
open Idealize.ShloMosaic.Pipeline (Dat)

namespace Cert.MlaOutIdeal.Value

open Cert.MlaOutIdeal Cert.MlaOutIdeal.Gen Cert.Layer

/-- One entry of the updated stream a block computes. -/
theorem pay_at (x0 x1 : Vec Ideal S512x2048 .bf16) (x2 : Vec Ideal S512x1024 .f32) (x3 : Vec Ideal S2048x1024 .bf16) (r : Fin 512) (n : Fin 1024) :
    k0_pay1 (F := Ideal) x1 x0 x2 x3 (ix2 r n)
      = outRow (fun k => (show FVec Ideal S512x2048 .bf16 from x0) (ix2 r k)) (fun k => (show FVec Ideal S512x2048 .bf16 from x1) (ix2 r k))
          (fun k j => (show FVec Ideal S2048x1024 .bf16 from x3) (ix2 k j)) (fun j => (show FVec Ideal S512x1024 .f32 from x2) (ix2 r j)) n := by
  unfold outRow gate
  pointwise [k0_pay1]
  refine congrArg₂ (· + ·) rfl (Finset.sum_congr rfl fun k _ => ?_)
  pointwise
  rw [show ∀ a : EReal, 0 - a = -a from zero_sub]

/-- The same of the blocks as loaded. -/
theorem ld_at (x0 x1 : Vec Ideal S512x2048 .bf16) (x2 : Vec Ideal S512x1024 .f32) (x3 : Vec Ideal S2048x1024 .bf16) (r : Fin 512) (n : Fin 1024) :
    k0_pay1 (F := Ideal) (View.ld x1 r0_0) (View.ld x0 r0_0) (View.ld x2 r0_1) (View.ld x3 r0_2) (ix2 r n)
      = outRow (fun k => (show FVec Ideal S512x2048 .bf16 from x0) (ix2 r k)) (fun k => (show FVec Ideal S512x2048 .bf16 from x1) (ix2 r k))
          (fun k j => (show FVec Ideal S2048x1024 .bf16 from x3) (ix2 k j)) (fun j => (show FVec Ideal S512x1024 .f32 from x2) (ix2 r j)) n := by
  refine (pay_at _ _ _ _ r n).trans ?_
  refine congr (congr (congr (congrArg outRow (funext fun k => ?_)) (funext fun k => ?_)) (funext fun k => funext fun j => ?_)) (funext fun j => ?_) |> fun h => congrFun h n
  all_goals pointwise

/-- The first block one grid point leaves: the updated stream. -/
theorem out5_at (x0 x1 : Vec Ideal S512x2048 .bf16) (x2 : Vec Ideal S512x1024 .f32) (x3 : Vec Ideal S2048x1024 .bf16) (x4 : Vec Ideal S1x1024 .f32) (r : Fin 512) (n : Fin 1024) :
    out0_5 x0 x1 x2 x3 x4 (ix2 r n)
      = outRow (fun k => (show FVec Ideal S512x2048 .bf16 from x0) (ix2 r k)) (fun k => (show FVec Ideal S512x2048 .bf16 from x1) (ix2 r k))
          (fun k j => (show FVec Ideal S2048x1024 .bf16 from x3) (ix2 k j)) (fun j => (show FVec Ideal S512x1024 .f32 from x2) (ix2 r j)) n := by
  unfold out0_5
  canon_tiles x h
  case piece0 =>
    obtain ⟨p, e, rfl⟩ : ∃ (p : Fin 512) (e : Fin 1024), x = ix2 p e := ⟨x 0, x 1, eq_ix2 x⟩
    obtain rfl : r = p := Fin.ext h0
    obtain rfl : n = e := Fin.ext h1
    exact ld_at x0 x1 x2 x3 r n

/-- The second block: the norm of the updated stream. -/
theorem out6_at (x0 x1 : Vec Ideal S512x2048 .bf16) (x2 : Vec Ideal S512x1024 .f32) (x3 : Vec Ideal S2048x1024 .bf16) (x4 : Vec Ideal S1x1024 .f32) (r : Fin 512) (n : Fin 1024) :
    out0_6 x0 x1 x2 x3 x4 (ix2 r n)
      = rmsRow (Ideal.ofBits .f32 0x44800000#32) (outRow (fun k => (show FVec Ideal S512x2048 .bf16 from x0) (ix2 r k)) (fun k => (show FVec Ideal S512x2048 .bf16 from x1) (ix2 r k))
          (fun k j => (show FVec Ideal S2048x1024 .bf16 from x3) (ix2 k j)) (fun j => (show FVec Ideal S512x1024 .f32 from x2) (ix2 r j)))
          (fun j => (show FVec Ideal S1x1024 .f32 from x4) (ix2 0 j)) n := by
  unfold out0_6
  canon_tiles x h
  case piece0 =>
    obtain ⟨p, e, rfl⟩ : ∃ (p : Fin 512) (e : Fin 1024), x = ix2 p e := ⟨x 0, x 1, eq_ix2 x⟩
    obtain rfl : r = p := Fin.ext h0
    obtain rfl : n = e := Fin.ext h1
    unfold rmsRow
    pointwise [k0_pay2]
    exact Ideal.mul_congr (Ideal.mul_congr (ld_at x0 x1 x2 x3 r n) (congrArg Ideal.rsqrt (congrArg₂ (· + ·)
      (congrArg₂ Ideal.div (Finset.sum_congr rfl fun j _ => Ideal.mul_congr (ld_at x0 x1 x2 x3 r j) (ld_at x0 x1 x2 x3 r j)) rfl) rfl))) rfl

/-- The updated stream from the prepared operands. -/
def xG (O Z : FVec Ideal S32768x2048 .bf16) (X : FVec Ideal S32768x1024 .f32) (W : FVec Ideal S2048x1024 .bf16) : FVec Ideal S32768x1024 .f32 := fun i =>
  outRow (fun k => O (ix2 (i 0) k)) (fun k => Z (ix2 (i 0) k)) (fun k j => W (ix2 k j)) (fun j => X (ix2 (i 0) j)) (i 1)

/-- The normed stream from the prepared operands. -/
def yG (O Z : FVec Ideal S32768x2048 .bf16) (X : FVec Ideal S32768x1024 .f32) (W : FVec Ideal S2048x1024 .bf16) (FW : FVec Ideal S1x1024 .f32) : FVec Ideal S32768x1024 .f32 := fun i =>
  rmsRow (Ideal.ofBits .f32 0x44800000#32) (outRow (fun k => O (ix2 (i 0) k)) (fun k => Z (ix2 (i 0) k)) (fun k j => W (ix2 k j)) (fun j => X (ix2 (i 0) j)))
    (fun j => FW (ix2 0 j)) (i 1)

variable (m : (ℓ : Loc nD τ sig) → Buf (Elt Ideal) ℓ)

/-- Grid point `t` takes row tile `t`. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] ∧ t.val < 64 :=
  (by decide +kernel : ∀ t : Fin grid0.N, _)

/-- The first array the launch leaves. -/
theorem final5 (c : Dev nD) : (dats m 0 c).arrAt 5 (cfgs 0).N = xG (V m c main_v1) (V m c main_v3) (V m c main_v4) (V m c main_v5) := by
  refine (dats m 0 c).arrAt_eq_of_covers 5 _ (by decide +kernel) fun t _ y => ?_
  blk_simp
  rw [after0_5]
  obtain ⟨r, n, rfl⟩ : ∃ (r : Fin 512) (n : Fin 1024), y = ix2 r n := ⟨y 0, y 1, eq_ix2 y⟩
  refine (out5_at _ _ _ _ _ r n).trans ?_
  unfold xG
  refine congr (congr (congr (congr (congrArg outRow (funext fun k => ?_)) (funext fun k => ?_)) (funext fun k => funext fun j => ?_)) (funext fun j => ?_)) (Fin.ext (by blk_simp [idx t]; try omega)) <;> blk_ext [iblk, idx t]

/-- The second array the launch leaves. -/
theorem final6 (c : Dev nD) : (dats m 0 c).arrAt 6 (cfgs 0).N = yG (V m c main_v1) (V m c main_v3) (V m c main_v4) (V m c main_v5) (V m c main_v6) := by
  refine (dats m 0 c).arrAt_eq_of_covers 6 _ (by decide +kernel) fun t _ y => ?_
  blk_simp
  rw [after0_6]
  obtain ⟨r, n, rfl⟩ : ∃ (r : Fin 512) (n : Fin 1024), y = ix2 r n := ⟨y 0, y 1, eq_ix2 y⟩
  refine (out6_at _ _ _ _ _ r n).trans ?_
  unfold yG
  refine congr (congr (congrArg (rmsRow _) (congr (congr (congr (congrArg outRow (funext fun k => ?_)) (funext fun k => ?_)) (funext fun k => funext fun j => ?_)) (funext fun j => ?_))) (funext fun j => ?_)) (Fin.ext (by blk_simp [idx t]; try omega)) <;> blk_ext [iblk, idx t]

/-- The prepared attention rows. -/
theorem o_at (c : Dev nD) (b : Fin 16) (t : Fin 2048) (k : Fin 2048) :
    (show FVec Ideal S32768x2048 .bf16 from V m c main_v1) (ix2 ⟨b.val * 2048 + t.val, by omega⟩ k)
      = (show FVec Ideal S16x2048x2048 .f32 from m ((c : Thread nD τ).loc main_arg0)) (ix3 b t k) := by
  entry_read
  pointwise
  blk_ext

/-- The prepared gate rows. -/
theorem z_at (c : Dev nD) (b : Fin 16) (t : Fin 2048) (k : Fin 2048) :
    (show FVec Ideal S32768x2048 .bf16 from V m c main_v3) (ix2 ⟨b.val * 2048 + t.val, by omega⟩ k)
      = (show FVec Ideal S16x2048x2048 .f32 from m ((c : Thread nD τ).loc main_arg1)) (ix3 b t k) := by
  entry_read
  pointwise
  blk_ext

/-- The stream's rows. -/
theorem x_at (c : Dev nD) (b : Fin 16) (t : Fin 2048) (k : Fin 1024) :
    (show FVec Ideal S32768x1024 .f32 from V m c main_v4) (ix2 ⟨b.val * 2048 + t.val, by omega⟩ k)
      = (show FVec Ideal S16x2048x1024 .f32 from m ((c : Thread nD τ).loc main_arg2)) (ix3 b t k) := by
  entry_read
  pointwise
  blk_ext

/-- The prepared weights. -/
theorem w_at (c : Dev nD) (k : Fin 2048) (n : Fin 1024) :
    (show FVec Ideal S2048x1024 .bf16 from V m c main_v5) (ix2 k n)
      = (show FVec Ideal S2048x1024 .f32 from m ((c : Thread nD τ).loc main_arg3)) (ix2 k n) := by
  entry_read
  pointwise

/-- The norm's weights. -/
theorem f_at (c : Dev nD) (n : Fin 1024) :
    (show FVec Ideal S1x1024 .f32 from V m c main_v6) (ix2 0 n)
      = (show FVec Ideal S1024 .f32 from m ((c : Thread nD τ).loc main_arg4)) (ix1 n) := by
  entry_read
  pointwise
  blk_ext

open Cert.MlaOutReferenceIdeal.Read in
/-- The reference's updated stream. -/
theorem refx_at (o z : FVec Ideal S16x2048x2048 .f32) (x : FVec Ideal S16x2048x1024 .f32) (w : FVec Ideal S2048x1024 .f32) (b : Fin 16) (t : Fin 2048) (n : Fin 1024) :
    val_main_v9 (F := Ideal) o z x w (ix3 b t n)
      = outRow (fun k => o (ix3 b t k)) (fun k => z (ix3 b t k)) (fun k j => w (ix2 k j)) (fun j => x (ix3 b t j)) n := by
  refine (val_main_v9_apply ..).trans ?_
  unfold outRow gate
  refine congrArg₂ (· + ·) rfl ((val_main_v8_apply ..).trans (Finset.sum_congr rfl fun k _ => ?_))
  refine Ideal.mul_congr ?_ (by blk_ext)
  refine Eq.trans (congrArg (val_main_v7 (F := Ideal) o z) (show lidx_main_v8 (ix3 b t n) k = ix3 b t k from ?_)) ?_
  · funext a; match a with | ⟨0, _⟩ => rfl | ⟨1, _⟩ => rfl | ⟨2, _⟩ => rfl
  · rw [val_main_v7_apply, val_main_v6_apply, val_main_v5_apply, val_main_v4_apply, val_main_v3_apply, val_main_v2_apply, val_main_v1_apply, val_main_v0_apply]
    rfl

open Cert.MlaOutReferenceIdeal.Read in
/-- The reference's normed stream. -/
theorem refy_at (o z : FVec Ideal S16x2048x2048 .f32) (x : FVec Ideal S16x2048x1024 .f32) (w : FVec Ideal S2048x1024 .f32) (f : FVec Ideal S1024 .f32) (b : Fin 16) (t : Fin 2048) (n : Fin 1024) :
    val_main_v22 (F := Ideal) o z x w f (ix3 b t n)
      = rmsRow (Ideal.ofBits .f32 0x44800000#32) (outRow (fun k => o (ix3 b t k)) (fun k => z (ix3 b t k)) (fun k j => w (ix2 k j)) (fun j => x (ix3 b t j)))
          (fun j => f (ix1 j)) n := by
  unfold rmsRow
  rw [val_main_v22_apply, val_main_v19_apply, val_main_v18_apply, val_main_v17_apply, val_main_v16_apply, val_main_v14_apply, val_main_v12_apply, val_main_v11_apply]
  refine Ideal.mul_congr (Ideal.mul_congr (refx_at o z x w b t n) (congrArg Ideal.rsqrt (congrArg₂ (· + ·)
      (congrArg₂ Ideal.div ?_ ?_) ?_))) ?_
  · refine (congrArg₂ (· + ·) zero_eq (Finset.sum_congr rfl fun j _ => ?_)).trans (zero_add _)
    rw [val_main_v10_apply, show idx_main_v11 (idx_main_v12 (idx_main_v18 (ix3 b t n))) j = ix3 b t j from by blk_ext]
    exact Ideal.mul_congr (refx_at o z x w b t j) (refx_at o z x w b t j)
  · exact (val_main_v13_apply _).trans rfl
  · exact (val_main_v15_apply _).trans rfl
  · rw [val_main_v21_apply, val_main_v20_apply]
    blk_ext

/-- The launch's first array is the reference's first result. -/
theorem value5_eq (c : Dev nD) :
    (dats m 0 c).arrAt 5 (cfgs 0).N
      = Cert.MlaOutReferenceIdeal.Read.val_main_v23 (F := Ideal) (m ((c : Thread nD τ).loc main_arg0)) (m ((c : Thread nD τ).loc main_arg1))
          (m ((c : Thread nD τ).loc main_arg2)) (m ((c : Thread nD τ).loc main_arg3)) := by
  rw [final5 m c]
  funext i
  obtain ⟨b, t, n, rfl⟩ : ∃ (b : Fin 16) (t : Fin 2048) (n : Fin 1024), i = ix2 (⟨b.val * 2048 + t.val, by omega⟩ : Fin 32768) n := by
    obtain ⟨x, n, rfl⟩ : ∃ (x : Fin 32768) (n : Fin 1024), i = ix2 x n := ⟨i 0, i 1, eq_ix2 i⟩
    refine ⟨⟨x.val / 2048, by omega⟩, ⟨x.val % 2048, by omega⟩, n, congrArg (fun z => ix2 z n) (Fin.ext ?_)⟩
    show x.val = x.val / 2048 * 2048 + x.val % 2048
    omega
  refine Eq.trans ?_ (Eq.trans (refx_at (m ((c : Thread nD τ).loc main_arg0)) (m ((c : Thread nD τ).loc main_arg1)) (m ((c : Thread nD τ).loc main_arg2)) (m ((c : Thread nD τ).loc main_arg3)) b t n).symm ?_)
  · unfold xG
    exact congr (congr (congr (congr (congrArg outRow (funext fun k => o_at m c b t k)) (funext fun k => z_at m c b t k)) (funext fun k => funext fun j => w_at m c k j)) (funext fun j => x_at m c b t j)) rfl
  · refine Eq.trans (congrArg _ ?_) (Cert.MlaOutReferenceIdeal.Read.val_main_v23_apply ..).symm
    blk_ext

/-- The launch's second array is the reference's second result. -/
theorem value6_eq (c : Dev nD) :
    (dats m 0 c).arrAt 6 (cfgs 0).N
      = Cert.MlaOutReferenceIdeal.Read.val_main_v24 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [final6 m c]
  funext i
  obtain ⟨b, t, n, rfl⟩ : ∃ (b : Fin 16) (t : Fin 2048) (n : Fin 1024), i = ix2 (⟨b.val * 2048 + t.val, by omega⟩ : Fin 32768) n := by
    obtain ⟨x, n, rfl⟩ : ∃ (x : Fin 32768) (n : Fin 1024), i = ix2 x n := ⟨i 0, i 1, eq_ix2 i⟩
    refine ⟨⟨x.val / 2048, by omega⟩, ⟨x.val % 2048, by omega⟩, n, congrArg (fun z => ix2 z n) (Fin.ext ?_)⟩
    show x.val = x.val / 2048 * 2048 + x.val % 2048
    omega
  refine Eq.trans ?_ (Eq.trans (refy_at (m ((c : Thread nD τ).loc main_arg0)) (m ((c : Thread nD τ).loc main_arg1)) (m ((c : Thread nD τ).loc main_arg2)) (m ((c : Thread nD τ).loc main_arg3)) (m ((c : Thread nD τ).loc main_arg4)) b t n).symm ?_)
  · unfold yG
    exact congr (congr (congrArg (rmsRow _) (congr (congr (congr (congrArg outRow (funext fun k => o_at m c b t k)) (funext fun k => z_at m c b t k)) (funext fun k => funext fun j => w_at m c k j)) (funext fun j => x_at m c b t j))) (funext fun j => f_at m c j)) rfl
  · refine Eq.trans (congrArg _ ?_) (Cert.MlaOutReferenceIdeal.Read.val_main_v24_apply ..).symm
    blk_ext

end Cert.MlaOutIdeal.Value
-- ==== Proof.MlaOutTok.lean ====
module

public import Idealize.ShloMosaic.Lib.Pipeline.ValueKit
public import Idealize.ShloMosaic.Lib.Pointwise
public import Idealize.ShloMosaic.Lib.Claim
public import proofs.«01_k».proof.Proof.Layer
public import proofs.«01_k».proof.Proof.Gen.MlaOutTokIdeal.Frame
public import proofs.«01_k».proof.Proof.Gen.MlaOutTokReferenceIdeal.Read

@[expose] public section

set_option maxRecDepth 16384

noncomputable section

open Idealize.ShloMosaic Idealize.ShloMosaic.TcCoe Idealize.SL.Sem
open Idealize.ShloMosaic.Pipeline (Dat)

namespace Cert.MlaOutTokIdeal.Value

open Cert.MlaOutTokIdeal Cert.MlaOutTokIdeal.Gen Cert.Layer

/-- One entry of the updated stream a block computes. -/
theorem pay_at (x0 x1 : Vec Ideal S128x2048 .bf16) (x2 : Vec Ideal S128x1024 .f32) (x3 : Vec Ideal S2048x1024 .bf16) (r : Fin 128) (n : Fin 1024) :
    k0_pay1 (F := Ideal) x1 x0 x2 x3 (ix2 r n)
      = outRow (fun k => (show FVec Ideal S128x2048 .bf16 from x0) (ix2 r k)) (fun k => (show FVec Ideal S128x2048 .bf16 from x1) (ix2 r k))
          (fun k j => (show FVec Ideal S2048x1024 .bf16 from x3) (ix2 k j)) (fun j => (show FVec Ideal S128x1024 .f32 from x2) (ix2 r j)) n := by
  unfold outRow gate
  pointwise [k0_pay1]
  refine congrArg₂ (· + ·) rfl (Finset.sum_congr rfl fun k _ => ?_)
  pointwise
  rw [show ∀ a : EReal, 0 - a = -a from zero_sub]

/-- The same of the blocks as loaded. -/
theorem ld_at (x0 x1 : Vec Ideal S128x2048 .bf16) (x2 : Vec Ideal S128x1024 .f32) (x3 : Vec Ideal S2048x1024 .bf16) (r : Fin 128) (n : Fin 1024) :
    k0_pay1 (F := Ideal) (View.ld x1 r0_0) (View.ld x0 r0_0) (View.ld x2 r0_1) (View.ld x3 r0_2) (ix2 r n)
      = outRow (fun k => (show FVec Ideal S128x2048 .bf16 from x0) (ix2 r k)) (fun k => (show FVec Ideal S128x2048 .bf16 from x1) (ix2 r k))
          (fun k j => (show FVec Ideal S2048x1024 .bf16 from x3) (ix2 k j)) (fun j => (show FVec Ideal S128x1024 .f32 from x2) (ix2 r j)) n := by
  refine (pay_at _ _ _ _ r n).trans ?_
  refine congr (congr (congr (congrArg outRow (funext fun k => ?_)) (funext fun k => ?_)) (funext fun k => funext fun j => ?_)) (funext fun j => ?_) |> fun h => congrFun h n
  all_goals pointwise

/-- The first block one grid point leaves: the updated stream. -/
theorem out5_at (x0 x1 : Vec Ideal S128x2048 .bf16) (x2 : Vec Ideal S128x1024 .f32) (x3 : Vec Ideal S2048x1024 .bf16) (x4 : Vec Ideal S1x1024 .f32) (r : Fin 128) (n : Fin 1024) :
    out0_5 x0 x1 x2 x3 x4 (ix2 r n)
      = outRow (fun k => (show FVec Ideal S128x2048 .bf16 from x0) (ix2 r k)) (fun k => (show FVec Ideal S128x2048 .bf16 from x1) (ix2 r k))
          (fun k j => (show FVec Ideal S2048x1024 .bf16 from x3) (ix2 k j)) (fun j => (show FVec Ideal S128x1024 .f32 from x2) (ix2 r j)) n := by
  unfold out0_5
  canon_tiles x h
  case piece0 =>
    obtain ⟨p, e, rfl⟩ : ∃ (p : Fin 128) (e : Fin 1024), x = ix2 p e := ⟨x 0, x 1, eq_ix2 x⟩
    obtain rfl : r = p := Fin.ext h0
    obtain rfl : n = e := Fin.ext h1
    exact ld_at x0 x1 x2 x3 r n

/-- The second block: the norm of the updated stream. -/
theorem out6_at (x0 x1 : Vec Ideal S128x2048 .bf16) (x2 : Vec Ideal S128x1024 .f32) (x3 : Vec Ideal S2048x1024 .bf16) (x4 : Vec Ideal S1x1024 .f32) (r : Fin 128) (n : Fin 1024) :
    out0_6 x0 x1 x2 x3 x4 (ix2 r n)
      = rmsRow (Ideal.ofBits .f32 0x44800000#32) (outRow (fun k => (show FVec Ideal S128x2048 .bf16 from x0) (ix2 r k)) (fun k => (show FVec Ideal S128x2048 .bf16 from x1) (ix2 r k))
          (fun k j => (show FVec Ideal S2048x1024 .bf16 from x3) (ix2 k j)) (fun j => (show FVec Ideal S128x1024 .f32 from x2) (ix2 r j)))
          (fun j => (show FVec Ideal S1x1024 .f32 from x4) (ix2 0 j)) n := by
  unfold out0_6
  canon_tiles x h
  case piece0 =>
    obtain ⟨p, e, rfl⟩ : ∃ (p : Fin 128) (e : Fin 1024), x = ix2 p e := ⟨x 0, x 1, eq_ix2 x⟩
    obtain rfl : r = p := Fin.ext h0
    obtain rfl : n = e := Fin.ext h1
    unfold rmsRow
    pointwise [k0_pay2]
    exact Ideal.mul_congr (Ideal.mul_congr (ld_at x0 x1 x2 x3 r n) (congrArg Ideal.rsqrt (congrArg₂ (· + ·)
      (congrArg₂ Ideal.div (Finset.sum_congr rfl fun j _ => Ideal.mul_congr (ld_at x0 x1 x2 x3 r j) (ld_at x0 x1 x2 x3 r j)) rfl) rfl))) rfl

/-- The updated stream from the prepared operands. -/
def xG (O Z : FVec Ideal S128x2048 .bf16) (X : FVec Ideal S128x1024 .f32) (W : FVec Ideal S2048x1024 .bf16) : FVec Ideal S128x1024 .f32 := fun i =>
  outRow (fun k => O (ix2 (i 0) k)) (fun k => Z (ix2 (i 0) k)) (fun k j => W (ix2 k j)) (fun j => X (ix2 (i 0) j)) (i 1)

/-- The normed stream from the prepared operands. -/
def yG (O Z : FVec Ideal S128x2048 .bf16) (X : FVec Ideal S128x1024 .f32) (W : FVec Ideal S2048x1024 .bf16) (FW : FVec Ideal S1x1024 .f32) : FVec Ideal S128x1024 .f32 := fun i =>
  rmsRow (Ideal.ofBits .f32 0x44800000#32) (outRow (fun k => O (ix2 (i 0) k)) (fun k => Z (ix2 (i 0) k)) (fun k j => W (ix2 k j)) (fun j => X (ix2 (i 0) j)))
    (fun j => FW (ix2 0 j)) (i 1)

variable (m : (ℓ : Loc nD τ sig) → Buf (Elt Ideal) ℓ)

/-- The one grid point takes every row. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ t.val < 1 :=
  (by decide +kernel : ∀ t : Fin grid0.N, _)

/-- The first array the launch leaves. -/
theorem final5 (c : Dev nD) : (dats m 0 c).arrAt 5 (cfgs 0).N = xG (V m c main_v1) (V m c main_v3) (V m c main_v4) (V m c main_v5) := by
  refine (dats m 0 c).arrAt_eq_of_covers 5 _ (by decide +kernel) fun t _ y => ?_
  blk_simp
  rw [after0_5]
  obtain ⟨r, n, rfl⟩ : ∃ (r : Fin 128) (n : Fin 1024), y = ix2 r n := ⟨y 0, y 1, eq_ix2 y⟩
  refine (out5_at _ _ _ _ _ r n).trans ?_
  unfold xG
  refine congr (congr (congr (congr (congrArg outRow (funext fun k => ?_)) (funext fun k => ?_)) (funext fun k => funext fun j => ?_)) (funext fun j => ?_)) (Fin.ext (by blk_simp [idx t]; try omega)) <;> blk_ext [iblk, idx t]

/-- The second array the launch leaves. -/
theorem final6 (c : Dev nD) : (dats m 0 c).arrAt 6 (cfgs 0).N = yG (V m c main_v1) (V m c main_v3) (V m c main_v4) (V m c main_v5) (V m c main_v6) := by
  refine (dats m 0 c).arrAt_eq_of_covers 6 _ (by decide +kernel) fun t _ y => ?_
  blk_simp
  rw [after0_6]
  obtain ⟨r, n, rfl⟩ : ∃ (r : Fin 128) (n : Fin 1024), y = ix2 r n := ⟨y 0, y 1, eq_ix2 y⟩
  refine (out6_at _ _ _ _ _ r n).trans ?_
  unfold yG
  refine congr (congr (congrArg (rmsRow _) (congr (congr (congr (congrArg outRow (funext fun k => ?_)) (funext fun k => ?_)) (funext fun k => funext fun j => ?_)) (funext fun j => ?_))) (funext fun j => ?_)) (Fin.ext (by blk_simp [idx t]; try omega)) <;> blk_ext [iblk, idx t]

/-- The prepared attention rows. -/
theorem o_at (c : Dev nD) (b : Fin 128) (t : Fin 1) (k : Fin 2048) :
    (show FVec Ideal S128x2048 .bf16 from V m c main_v1) (ix2 ⟨b.val, by omega⟩ k)
      = (show FVec Ideal S128x1x2048 .f32 from m ((c : Thread nD τ).loc main_arg0)) (ix3 b t k) := by
  entry_read
  pointwise
  blk_ext

/-- The prepared gate rows. -/
theorem z_at (c : Dev nD) (b : Fin 128) (t : Fin 1) (k : Fin 2048) :
    (show FVec Ideal S128x2048 .bf16 from V m c main_v3) (ix2 ⟨b.val, by omega⟩ k)
      = (show FVec Ideal S128x1x2048 .f32 from m ((c : Thread nD τ).loc main_arg1)) (ix3 b t k) := by
  entry_read
  pointwise
  blk_ext

/-- The stream's rows. -/
theorem x_at (c : Dev nD) (b : Fin 128) (t : Fin 1) (k : Fin 1024) :
    (show FVec Ideal S128x1024 .f32 from V m c main_v4) (ix2 ⟨b.val, by omega⟩ k)
      = (show FVec Ideal S128x1x1024 .f32 from m ((c : Thread nD τ).loc main_arg2)) (ix3 b t k) := by
  entry_read
  pointwise
  blk_ext

/-- The prepared weights. -/
theorem w_at (c : Dev nD) (k : Fin 2048) (n : Fin 1024) :
    (show FVec Ideal S2048x1024 .bf16 from V m c main_v5) (ix2 k n)
      = (show FVec Ideal S2048x1024 .f32 from m ((c : Thread nD τ).loc main_arg3)) (ix2 k n) := by
  entry_read
  pointwise

/-- The norm's weights. -/
theorem f_at (c : Dev nD) (n : Fin 1024) :
    (show FVec Ideal S1x1024 .f32 from V m c main_v6) (ix2 0 n)
      = (show FVec Ideal S1024 .f32 from m ((c : Thread nD τ).loc main_arg4)) (ix1 n) := by
  entry_read
  pointwise
  blk_ext

open Cert.MlaOutTokReferenceIdeal.Read in
/-- The reference's updated stream. -/
theorem refx_at (o z : FVec Ideal S128x1x2048 .f32) (x : FVec Ideal S128x1x1024 .f32) (w : FVec Ideal S2048x1024 .f32) (b : Fin 128) (t : Fin 1) (n : Fin 1024) :
    val_main_v9 (F := Ideal) o z x w (ix3 b t n)
      = outRow (fun k => o (ix3 b t k)) (fun k => z (ix3 b t k)) (fun k j => w (ix2 k j)) (fun j => x (ix3 b t j)) n := by
  refine (val_main_v9_apply ..).trans ?_
  unfold outRow gate
  refine congrArg₂ (· + ·) rfl ((val_main_v8_apply ..).trans (Finset.sum_congr rfl fun k _ => ?_))
  refine Ideal.mul_congr ?_ (by blk_ext)
  refine Eq.trans (congrArg (val_main_v7 (F := Ideal) o z) (show lidx_main_v8 (ix3 b t n) k = ix3 b t k from ?_)) ?_
  · funext a; match a with | ⟨0, _⟩ => rfl | ⟨1, _⟩ => rfl | ⟨2, _⟩ => rfl
  · rw [val_main_v7_apply, val_main_v6_apply, val_main_v5_apply, val_main_v4_apply, val_main_v3_apply, val_main_v2_apply, val_main_v1_apply, val_main_v0_apply]
    rfl

open Cert.MlaOutTokReferenceIdeal.Read in
/-- The reference's normed stream. -/
theorem refy_at (o z : FVec Ideal S128x1x2048 .f32) (x : FVec Ideal S128x1x1024 .f32) (w : FVec Ideal S2048x1024 .f32) (f : FVec Ideal S1024 .f32) (b : Fin 128) (t : Fin 1) (n : Fin 1024) :
    val_main_v22 (F := Ideal) o z x w f (ix3 b t n)
      = rmsRow (Ideal.ofBits .f32 0x44800000#32) (outRow (fun k => o (ix3 b t k)) (fun k => z (ix3 b t k)) (fun k j => w (ix2 k j)) (fun j => x (ix3 b t j)))
          (fun j => f (ix1 j)) n := by
  unfold rmsRow
  rw [val_main_v22_apply, val_main_v19_apply, val_main_v18_apply, val_main_v17_apply, val_main_v16_apply, val_main_v14_apply, val_main_v12_apply, val_main_v11_apply]
  refine Ideal.mul_congr (Ideal.mul_congr (refx_at o z x w b t n) (congrArg Ideal.rsqrt (congrArg₂ (· + ·)
      (congrArg₂ Ideal.div ?_ ?_) ?_))) ?_
  · refine (congrArg₂ (· + ·) zero_eq (Finset.sum_congr rfl fun j _ => ?_)).trans (zero_add _)
    rw [val_main_v10_apply, show idx_main_v11 (idx_main_v12 (idx_main_v18 (ix3 b t n))) j = ix3 b t j from by blk_ext]
    exact Ideal.mul_congr (refx_at o z x w b t j) (refx_at o z x w b t j)
  · exact (val_main_v13_apply _).trans rfl
  · exact (val_main_v15_apply _).trans rfl
  · rw [val_main_v21_apply, val_main_v20_apply]
    blk_ext

/-- The launch's first array is the reference's first result. -/
theorem value5_eq (c : Dev nD) :
    (dats m 0 c).arrAt 5 (cfgs 0).N
      = Cert.MlaOutTokReferenceIdeal.Read.val_main_v23 (F := Ideal) (m ((c : Thread nD τ).loc main_arg0)) (m ((c : Thread nD τ).loc main_arg1))
          (m ((c : Thread nD τ).loc main_arg2)) (m ((c : Thread nD τ).loc main_arg3)) := by
  rw [final5 m c]
  funext i
  obtain ⟨b, t, n, rfl⟩ : ∃ (b : Fin 128) (t : Fin 1) (n : Fin 1024), i = ix2 (⟨b.val, by omega⟩ : Fin 128) n :=
    ⟨i 0, 0, i 1, eq_ix2 i⟩
  refine Eq.trans ?_ (Eq.trans (refx_at (m ((c : Thread nD τ).loc main_arg0)) (m ((c : Thread nD τ).loc main_arg1)) (m ((c : Thread nD τ).loc main_arg2)) (m ((c : Thread nD τ).loc main_arg3)) b t n).symm ?_)
  · unfold xG
    exact congr (congr (congr (congr (congrArg outRow (funext fun k => o_at m c b t k)) (funext fun k => z_at m c b t k)) (funext fun k => funext fun j => w_at m c k j)) (funext fun j => x_at m c b t j)) rfl
  · refine Eq.trans (congrArg _ ?_) (Cert.MlaOutTokReferenceIdeal.Read.val_main_v23_apply ..).symm
    blk_ext

/-- The launch's second array is the reference's second result. -/
theorem value6_eq (c : Dev nD) :
    (dats m 0 c).arrAt 6 (cfgs 0).N
      = Cert.MlaOutTokReferenceIdeal.Read.val_main_v24 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [final6 m c]
  funext i
  obtain ⟨b, t, n, rfl⟩ : ∃ (b : Fin 128) (t : Fin 1) (n : Fin 1024), i = ix2 (⟨b.val, by omega⟩ : Fin 128) n :=
    ⟨i 0, 0, i 1, eq_ix2 i⟩
  refine Eq.trans ?_ (Eq.trans (refy_at (m ((c : Thread nD τ).loc main_arg0)) (m ((c : Thread nD τ).loc main_arg1)) (m ((c : Thread nD τ).loc main_arg2)) (m ((c : Thread nD τ).loc main_arg3)) (m ((c : Thread nD τ).loc main_arg4)) b t n).symm ?_)
  · unfold yG
    exact congr (congr (congrArg (rmsRow _) (congr (congr (congr (congrArg outRow (funext fun k => o_at m c b t k)) (funext fun k => z_at m c b t k)) (funext fun k => funext fun j => w_at m c k j)) (funext fun j => x_at m c b t j))) (funext fun j => f_at m c j)) rfl
  · refine Eq.trans (congrArg _ ?_) (Cert.MlaOutTokReferenceIdeal.Read.val_main_v24_apply ..).symm
    blk_ext

end Cert.MlaOutTokIdeal.Value
-- ==== Proof.Real.lean ====
module

public import proofs.«01_k».proof.Proof.Layer
public import proofs.«01_k».proof.Proof.AttnEq

@[expose] public section

set_option maxRecDepth 16384

noncomputable section

open Idealize.ShloMosaic Idealize.ShloMosaic.TcCoe Idealize.SL.Sem
open Idealize.ShloMosaic.Pipeline (Dat)

namespace Cert.Layer

open Cert.KernelIdeal.Value (IsReal IsReal.mul IsReal.add IsReal.sum)

/-- The negative of a real number is real. -/
theorem real_neg {x : EReal} : IsReal x → IsReal (-x) := by
  rintro ⟨a, rfl⟩; exact ⟨-a, (EReal.coe_neg a).symm⟩

/-- A real number over a positive literal. -/
theorem real_div {x : EReal} {d : ℝ} (hd : 0 < d) : IsReal x → IsReal (Ideal.div x (d : EReal)) := by
  rintro ⟨a, rfl⟩
  exact ⟨a * (1 / d), (Ideal.div_coe hd.ne' _).trans (EReal.coe_mul _ _).symm⟩

/-- The norm's small constant is a positive real number. -/
theorem eps_pos : ∃ e : ℝ, 0 < e ∧ Ideal.ofBits .f32 0x358637BD#32 = (e : EReal) := by
  refine ⟨_, ?_, by simp [Ideal.ofBits, Ideal.ieee]; rfl⟩
  positivity

/-- The reciprocal root of a positive real number is real. -/
theorem real_rsqrt {r : ℝ} (h : 0 < r) : IsReal (Ideal.rsqrt (r : EReal)) :=
  ⟨(Real.sqrt r)⁻¹, by show (if r < 0 then (⊥ : EReal) else if r = 0 then ⊤ else (((Real.sqrt r)⁻¹ : ℝ) : EReal)) = _; rw [if_neg h.not_gt, if_neg h.ne']⟩

/-- A sum of real numbers, as a real sum. -/
theorem coe_sum {n : ℕ} (f : Fin n → ℝ) : (∑ k, (f k : EReal)) = ((∑ k, f k : ℝ) : EReal) := by
  induction n with
  | zero => simp
  | succ n ih => rw [Fin.sum_univ_succ, Fin.sum_univ_succ, ih, ← EReal.coe_add]

/-- The normed row of a real row is real. -/
theorem rmsRow_real {n : ℕ} {d : ℝ} (hd : 0 < d) (x w : Fin n → EReal) (hx : ∀ j, IsReal (x j)) (hw : ∀ j, IsReal (w j)) (j : Fin n) :
    IsReal (rmsRow (d : EReal) x w j) := by
  unfold rmsRow
  refine ((hx j).mul ?_).mul (hw j)
  choose a ha using hx
  obtain ⟨e, he, heq⟩ := eps_pos
  have hs : (∑ k, x k * x k) = ((∑ k, a k * a k : ℝ) : EReal) := by
    rw [← coe_sum]
    exact Finset.sum_congr rfl fun k _ => by rw [ha k, ← EReal.coe_mul]
  have hn : 0 ≤ ∑ k, a k * a k := Finset.sum_nonneg fun k _ => mul_self_nonneg _
  rw [hs, heq, Ideal.div_coe hd.ne', ← EReal.coe_mul, ← EReal.coe_add]
  exact real_rsqrt (by positivity)

/-- A number's square is not negative, and it is infinite when the number is. -/
theorem sq_nonneg (x : EReal) : 0 ≤ x * x := by
  rcases le_total 0 x with h | h
  · exact EReal.mul_nonneg h h
  · rw [← neg_mul_neg]
    exact EReal.mul_nonneg (EReal.neg_nonneg.2 h) (EReal.neg_nonneg.2 h)

/-- The normed row is real whatever the row is: a row with an infinite entry is normed to zero. -/
theorem rmsRow_real' {n : ℕ} {d : ℝ} (hd : 0 < d) (x w : Fin n → EReal) (hw : ∀ j, IsReal (w j)) (j : Fin n) :
    IsReal (rmsRow (d : EReal) x w j) := by
  by_cases hx : ∀ j, IsReal (x j)
  · exact rmsRow_real hd x w hx hw j
  obtain ⟨i, hi⟩ := not_forall.1 hx
  have h2 : x i * x i = ⊤ := by
    induction h : x i with
    | bot => rfl
    | top => rfl
    | coe a => exact absurd ⟨a, h⟩ hi
  have hs : (∑ k, x k * x k) = ⊤ :=
    top_le_iff.1 (h2 ▸ Finset.single_le_sum (f := fun k => x k * x k) (fun k _ => sq_nonneg (x k)) (Finset.mem_univ i))
  obtain ⟨e, he, heq⟩ := eps_pos
  unfold rmsRow
  rw [hs, heq, Ideal.div_coe hd.ne', EReal.top_mul_coe_of_pos (by positivity), EReal.top_add_coe, Ideal.rsqrt_top, mul_zero, zero_mul]
  exact ⟨0, rfl⟩

/-- A projection of a real normed row by real weights is real. -/
theorem projRow_real {n k : ℕ} {d : ℝ} (hd : 0 < d) (x nw : Fin k → EReal) (w : Fin k → Fin n → EReal)
    (hn : ∀ j, IsReal (nw j)) (hw : ∀ i j, IsReal (w i j)) (j : Fin n) : IsReal (projRow (d : EReal) x nw w j) :=
  IsReal.sum _ fun i => (rmsRow_real' hd x nw hn i).mul (hw i j)

/-- A sum of real products with one factor negated is the negative of the sum. -/
theorem sum_neg {n : ℕ} (h w : Fin n → EReal) (hh : ∀ k, IsReal (h k)) (hw : ∀ k, IsReal (w k)) :
    (∑ k, h k * -w k) = -∑ k, h k * w k := by
  choose a ha using hh
  choose b hb using hw
  have e1 : ∀ k, h k * -w k = ((-(a k * b k) : ℝ) : EReal) := fun k => by rw [ha k, hb k, ← EReal.coe_neg, ← EReal.coe_mul, mul_neg]
  have e2 : ∀ k, h k * w k = ((a k * b k : ℝ) : EReal) := fun k => by rw [ha k, hb k, ← EReal.coe_mul]
  rw [Finset.sum_congr rfl fun k _ => e1 k, Finset.sum_congr rfl fun k _ => e2 k, coe_sum, coe_sum, ← EReal.coe_neg, Finset.sum_neg_distrib]

/-- 1024 as a literal. -/
theorem lit1024 : Ideal.ofBits .f32 0x44800000#32 = ((1024 : ℝ) : EReal) := by simp [Ideal.ofBits, Ideal.ieee]; rw [← EReal.coe_mul]; norm_num

/-- 384 as a literal. -/
theorem lit384 : Ideal.ofBits .f32 0x43C00000#32 = ((384 : ℝ) : EReal) := by simp [Ideal.ofBits, Ideal.ieee]; rw [← EReal.coe_mul]; norm_num

end Cert.Layer
-- ==== Proof.MlaKv.lean ====
module

public import Idealize.ShloMosaic.Lib.Pipeline.ValueKit
public import Idealize.ShloMosaic.Lib.Pointwise
public import Idealize.ShloMosaic.Lib.Claim
public import proofs.«01_k».proof.Proof.Real
public import proofs.«01_k».proof.Proof.Gen.MlaKvIdeal.Frame
public import proofs.«01_k».proof.Proof.Gen.MlaKvReferenceIdeal.Read

@[expose] public section

set_option maxRecDepth 16384

noncomputable section

open Idealize.ShloMosaic Idealize.ShloMosaic.TcCoe Idealize.SL.Sem
open Idealize.ShloMosaic.Pipeline (Dat)

namespace Cert.MlaKvIdeal.Value

open Cert.MlaKvIdeal Cert.MlaKvIdeal.Gen Cert.Layer
open Cert.KernelIdeal.Value (IsReal)

/-- The literal 1024 of the first norm. -/
abbrev d1 : EReal := Ideal.ofBits .f32 0x44800000#32

/-- The literal 256 of the second norm. -/
abbrev d2 : EReal := Ideal.ofBits .f32 0x43800000#32

/-- One entry of the projection a block computes. -/
theorem pay_at (x0 : Vec Ideal S512x1024 .f32) (x1 : Vec Ideal S1x1024 .f32) (x2 : Vec Ideal S1024x512 .bf16) (r : Fin 512) (n : Fin 512) :
    k0_pay2 (F := Ideal) (View.ld x0 r0_0) (View.ld x1 r0_1) (View.ld x2 r0_2) (ix2 r n) = projRow d1 (fun j => (show FVec Ideal S512x1024 .f32 from x0) (ix2 r j)) (fun j => (show FVec Ideal S1x1024 .f32 from x1) (ix2 0 j)) (fun k (j : Fin 512) => (show FVec Ideal S1024x512 .bf16 from x2) (ix2 k j)) n := by
  unfold projRow rmsRow
  pointwise [k0_pay2]

/-- The first block one grid point leaves: the normed latent. -/
theorem out6_at (x0 : Vec Ideal S512x1024 .f32) (x1 : Vec Ideal S1x1024 .f32) (x2 : Vec Ideal S1024x512 .bf16) (x3 : Vec Ideal S1x256 .f32) (x4 x5 : Vec Ideal S512x64 .f32) (r : Fin 512) (n : Fin 256) :
    out0_6 x0 x1 x2 x3 x4 x5 (ix2 r n)
      = rmsRow d2 (fun j : Fin 256 => projRow d1 (fun j => (show FVec Ideal S512x1024 .f32 from x0) (ix2 r j)) (fun j => (show FVec Ideal S1x1024 .f32 from x1) (ix2 0 j)) (fun k (j : Fin 512) => (show FVec Ideal S1024x512 .bf16 from x2) (ix2 k j)) ⟨j.val, by omega⟩) (fun j => (show FVec Ideal S1x256 .f32 from x3) (ix2 0 j)) n := by
  unfold out0_6
  canon_tiles x h
  case piece0 =>
    obtain ⟨p, e, rfl⟩ : ∃ (p : Fin 512) (e : Fin 256), x = ix2 p e := ⟨x 0, x 1, eq_ix2 x⟩
    obtain rfl : r = p := Fin.ext h0
    obtain rfl : n = e := Fin.ext h1
    unfold rmsRow
    simp only [← pay_at]
    pointwise [k0_pay3]

/-- The second block: the rotated key. -/
theorem out7_at (x0 : Vec Ideal S512x1024 .f32) (x1 : Vec Ideal S1x1024 .f32) (x2 : Vec Ideal S1024x512 .bf16) (x3 : Vec Ideal S1x256 .f32) (x4 x5 : Vec Ideal S512x64 .f32) (r : Fin 512) (n : Fin 64) :
    out0_7 x0 x1 x2 x3 x4 x5 (ix2 r n)
      = projRow d1 (fun j => (show FVec Ideal S512x1024 .f32 from x0) (ix2 r j)) (fun j => (show FVec Ideal S1x1024 .f32 from x1) (ix2 0 j)) (fun k (j : Fin 512) => (show FVec Ideal S1024x512 .bf16 from x2) (ix2 k j)) ⟨256 + n.val, by omega⟩ * (show FVec Ideal S512x64 .f32 from x4) (ix2 r n)
        + projRow d1 (fun j => (show FVec Ideal S512x1024 .f32 from x0) (ix2 r j)) (fun j => (show FVec Ideal S1x1024 .f32 from x1) (ix2 0 j)) (fun k (j : Fin 512) => (show FVec Ideal S1024x512 .bf16 from x2) (ix2 k j)) ⟨384 + n.val, by omega⟩ * (show FVec Ideal S512x64 .f32 from x5) (ix2 r n) := by
  unfold out0_7
  canon_tiles x h
  case piece0 =>
    obtain ⟨p, e, rfl⟩ : ∃ (p : Fin 512) (e : Fin 64), x = ix2 p e := ⟨x 0, x 1, eq_ix2 x⟩
    obtain rfl : r = p := Fin.ext h0
    obtain rfl : n = e := Fin.ext h1
    simp only [← pay_at]
    pointwise [k0_pay1, k0_pay4, k0_pay5]

/-- The normed latent from the prepared operands. -/
def latG (X : FVec Ideal S32768x1024 .f32) (NW : FVec Ideal S1x1024 .f32) (W : FVec Ideal S1024x512 .bf16) (KN : FVec Ideal S1x256 .f32) : FVec Ideal S32768x256 .f32 := fun i =>
  rmsRow d2 (fun j : Fin 256 => projRow d1 (fun j => X (ix2 (i 0) j)) (fun j => NW (ix2 0 j)) (fun k (j : Fin 512) => W (ix2 k j)) ⟨j.val, by omega⟩) (fun j => KN (ix2 0 j)) (i 1)

/-- The rotated key from the prepared operands. -/
def peG (X : FVec Ideal S32768x1024 .f32) (NW : FVec Ideal S1x1024 .f32) (W : FVec Ideal S1024x512 .bf16) (C D : FVec Ideal S2048x64 .f32) : FVec Ideal S32768x64 .f32 := fun i =>
  projRow d1 (fun j => X (ix2 (i 0) j)) (fun j => NW (ix2 0 j)) (fun k (j : Fin 512) => W (ix2 k j)) ⟨256 + (i 1).val, by have h : (i 1).val < 64 := (i 1).isLt; omega⟩ * C (ix2 ⟨(i 0).val % 2048, Nat.mod_lt _ (by norm_num)⟩ (i 1))
    + projRow d1 (fun j => X (ix2 (i 0) j)) (fun j => NW (ix2 0 j)) (fun k (j : Fin 512) => W (ix2 k j)) ⟨384 + (i 1).val, by have h : (i 1).val < 64 := (i 1).isLt; omega⟩ * D (ix2 ⟨(i 0).val % 2048, Nat.mod_lt _ (by norm_num)⟩ (i 1))

variable (m : (ℓ : Loc nD τ sig) → Buf (Elt Ideal) ℓ)

/-- The blocks of a grid point. -/
theorem idx : ∀ t : Fin cfg0.N, win0_0.index t = ![t.val, 0] ∧ win0_1.index t = ![0, 0] ∧ win0_2.index t = ![0, 0]
    ∧ win0_3.index t = ![0, 0] ∧ win0_4.index t = ![t.val % 4, 0] ∧ win0_5.index t = ![t.val % 4, 0] ∧ win0_6.index t = ![t.val, 0] ∧ win0_7.index t = ![t.val, 0]
    ∧ t.val < 64 := (by decide +kernel : ∀ t : Fin grid0.N, _)

/-- The first array the launch leaves. -/
theorem final6 (c : Dev nD) : (dats m 0 c).arrAt 6 (cfgs 0).N = latG (V m c main_v32) (V m c main_v33) (V m c main_v14) (V m c main_v34) := by
  refine (dats m 0 c).arrAt_eq_of_covers 6 _ (by decide +kernel) fun t _ y => ?_
  blk_simp
  rw [after0_6]
  obtain ⟨r, n, rfl⟩ : ∃ (r : Fin 512) (n : Fin 256), y = ix2 r n := ⟨y 0, y 1, eq_ix2 y⟩
  refine (out6_at _ _ _ _ _ _ r n).trans ?_
  unfold latG
  refine congr (congr (congrArg (rmsRow _) (funext fun j => congrFun (congr (congr (congrArg (projRow _) (funext fun k => ?_)) (funext fun k => ?_)) (funext fun k => funext fun j => ?_)) _))
    (funext fun j => ?_)) (Fin.ext (by blk_simp [idx t]; try omega)) <;> blk_ext [iblk, idx t]

set_option maxHeartbeats 2000000 in
/-- The second array the launch leaves. -/
theorem final7 (c : Dev nD) : (dats m 0 c).arrAt 7 (cfgs 0).N = peG (V m c main_v32) (V m c main_v33) (V m c main_v14) (V m c main_v30) (V m c main_v31) := by
  refine (dats m 0 c).arrAt_eq_of_covers 7 _ (by decide +kernel) fun t _ y => ?_
  blk_simp
  rw [after0_7]
  obtain ⟨r, n, rfl⟩ : ∃ (r : Fin 512) (n : Fin 64), y = ix2 r n := ⟨y 0, y 1, eq_ix2 y⟩
  refine (out7_at _ _ _ _ _ _ r n).trans ?_
  unfold peG
  refine congrArg₂ (· + ·) (Ideal.mul_congr (congr (congr (congr (congrArg (projRow _) (funext fun k => ?_)) (funext fun k => ?_)) (funext fun k => funext fun j => ?_)) (Fin.ext (by blk_simp [idx t]; try omega))) ?_)
    (Ideal.mul_congr (congr (congr (congr (congrArg (projRow _) (funext fun k => ?_)) (funext fun k => ?_)) (funext fun k => funext fun j => ?_)) (Fin.ext (by blk_simp [idx t]; try omega))) ?_) <;> blk_ext [iblk, idx t]

/-- The stream's rows. -/
theorem x_at (c : Dev nD) (b : Fin 16) (t : Fin 2048) (k : Fin 1024) :
    (show FVec Ideal S32768x1024 .f32 from V m c main_v32) (ix2 ⟨b.val * 2048 + t.val, by omega⟩ k)
      = (show FVec Ideal S16x2048x1024 .f32 from m ((c : Thread nD τ).loc main_arg0)) (ix3 b t k) := by
  entry_read
  pointwise
  blk_ext

/-- The first norm's weights. -/
theorem nw_at (c : Dev nD) (k : Fin 1024) :
    (show FVec Ideal S1x1024 .f32 from V m c main_v33) (ix2 0 k) = (show FVec Ideal S1024 .f32 from m ((c : Thread nD τ).loc main_arg1)) (ix1 k) := by
  entry_read
  pointwise
  blk_ext

/-- The second norm's weights. -/
theorem kn_at (c : Dev nD) (k : Fin 256) :
    (show FVec Ideal S1x256 .f32 from V m c main_v34) (ix2 0 k) = (show FVec Ideal S256 .f32 from m ((c : Thread nD τ).loc main_arg3)) (ix1 k) := by
  entry_read
  pointwise
  blk_ext

open Cert.MlaKvReferenceIdeal.Read in
/-- The reference's projection. -/
theorem refp_at (x : FVec Ideal S16x2048x1024 .f32) (nw : FVec Ideal S1024 .f32) (w : FVec Ideal S1024x320 .f32) (b : Fin 16) (t : Fin 2048) (n : Fin 320) :
    val_main_v14 (F := Ideal) x nw w (ix3 b t n) = projRow d1 (fun j => x (ix3 b t j)) (fun j => nw (ix1 j)) (fun k (j : Fin 320) => w (ix2 k j)) n := by
  refine (val_main_v14_apply ..).trans ?_
  unfold projRow
  refine Finset.sum_congr rfl fun k _ => Ideal.mul_congr ?_ (by blk_ext)
  rw [show lidx_main_v14 (ix3 b t n) k = ix3 b t k from by blk_ext]
  unfold rmsRow
  rw [val_main_v13_apply, val_main_v10_apply, val_main_v9_apply, val_main_v8_apply, val_main_v7_apply, val_main_v5_apply, val_main_v3_apply, val_main_v2_apply]
  refine Ideal.mul_congr (Ideal.mul_congr rfl (congrArg Ideal.rsqrt (congrArg₂ (· + ·)
      (congrArg₂ Ideal.div ?_ ?_) ?_))) ?_
  · refine (congrArg₂ (· + ·) zero_eq (Finset.sum_congr rfl fun j _ => ?_)).trans (zero_add _)
    exact Ideal.mul_congr (by blk_ext) (by blk_ext)
  · exact (val_main_v4_apply _).trans rfl
  · exact (val_main_v6_apply _).trans rfl
  · rw [val_main_v12_apply, val_main_v11_apply]
    blk_ext

open Cert.MlaKvReferenceIdeal.Read in
/-- The reference's latent. -/
theorem refl_at (x : FVec Ideal S16x2048x1024 .f32) (nw : FVec Ideal S1024 .f32) (w : FVec Ideal S1024x320 .f32) (kn : FVec Ideal S256 .f32) (b : Fin 16) (t : Fin 2048) (n : Fin 256) :
    val_main_v28 (F := Ideal) x nw w kn (ix3 b t n)
      = rmsRow d2 (fun j : Fin 256 => projRow d1 (fun j => x (ix3 b t j)) (fun j => nw (ix1 j)) (fun k (j : Fin 320) => w (ix2 k j)) ⟨j.val, by omega⟩) (fun j => kn (ix1 j)) n := by
  have hp : ∀ j : Fin 256, val_main_v15 (F := Ideal) x nw w (ix3 b t j) = projRow d1 (fun j => x (ix3 b t j)) (fun j => nw (ix1 j)) (fun k (j : Fin 320) => w (ix2 k j)) ⟨j.val, by omega⟩ := fun j => by
    rw [val_main_v15_apply, show idx_main_v15 (ix3 b t j) = ix3 b t (⟨j.val, by omega⟩ : Fin 320) from by blk_ext]
    exact refp_at x nw w b t _
  unfold rmsRow
  rw [val_main_v28_apply, val_main_v25_apply, val_main_v24_apply, val_main_v23_apply, val_main_v22_apply, val_main_v20_apply, val_main_v18_apply, val_main_v17_apply]
  refine Ideal.mul_congr (Ideal.mul_congr (hp n) (congrArg Ideal.rsqrt (congrArg₂ (· + ·)
      (congrArg₂ Ideal.div ?_ ?_) ?_))) ?_
  · refine (congrArg₂ (· + ·) zero_eq (Finset.sum_congr rfl fun j _ => ?_)).trans (zero_add _)
    rw [val_main_v16_apply, show idx_main_v17 (idx_main_v18 (idx_main_v24 (ix3 b t n))) j = ix3 b t j from by blk_ext]
    exact Ideal.mul_congr (hp j) (hp j)
  · exact (val_main_v19_apply _).trans rfl
  · exact (val_main_v21_apply _).trans rfl
  · rw [val_main_v27_apply, val_main_v26_apply]
    blk_ext

end Cert.MlaKvIdeal.Value
-- ==== Proof.MlaKvValue.lean ====
module

public import Idealize.ShloMosaic.Lib.StableHlo.RunRead
public import proofs.«01_k».proof.Proof.MlaKv

@[expose] public section

set_option maxRecDepth 16384

noncomputable section

open Idealize.ShloMosaic Idealize.ShloMosaic.TcCoe Idealize.SL.Sem
open Idealize.ShloMosaic.Pipeline (Dat)

namespace Cert.MlaKvIdeal.Value

open Cert.MlaKvIdeal Cert.MlaKvIdeal.Gen Cert.Layer
open Cert.KernelIdeal.Value (IsReal)

variable (m : (ℓ : Loc nD τ sig) → Buf (Elt Ideal) ℓ)

/-- The host's values when the weights' blocks are put together. -/
abbrev U (c : Dev nD) := StableHlo.upto (hostOps0 (F := Ideal)) (fun b => m (c, b)) 14

/-- The given projection weights. -/
abbrev mw (c : Dev nD) : FVec Ideal S1024x320 .f32 := m ((c : Thread nD τ).loc main_arg2)

/-- The given stream. -/
abbrev mx (c : Dev nD) : FVec Ideal S16x2048x1024 .f32 := m ((c : Thread nD τ).loc main_arg0)

/-- The given weights of the first norm. -/
abbrev mn (c : Dev nD) : FVec Ideal S1024 .f32 := m ((c : Thread nD τ).loc main_arg1)

/-- The prepared weights are five blocks of columns. -/
theorem w14 (c : Dev nD) : (show FVec Ideal S1024x512 .bf16 from V m c main_v14) =
    truncf (F := Ideal) .bf16 (concatenate S1024x512 1
        [⟨S1024x256, show FVec Ideal S1024x256 .f32 from U m c main_v2⟩, ⟨S1024x64, show FVec Ideal S1024x64 .f32 from U m c main_v1⟩, ⟨S1024x64, show FVec Ideal S1024x64 .f32 from U m c main_v0⟩, ⟨S1024x64, show FVec Ideal S1024x64 .f32 from U m c main_v12⟩, ⟨S1024x64, show FVec Ideal S1024x64 .f32 from U m c main_v0⟩]
        concatenates_S1024x256_S1024x64_S1024x64_S1024x64_S1024x64_S1024x512_d1) bitsLt_bf16_f32 := by
  show (show FVec Ideal S1024x512 .bf16 from StableHlo.after hostOps0 (fun b => m (c, b)) main_v14) = _
  after_reads_simp
  rfl

/-- The latent block. -/
theorem u2 (c : Dev nD) (k : Fin 1024) (n : Fin 256) : (show FVec Ideal S1024x256 .f32 from U m c main_v2) (ix2 k n) = mw m c (ix2 k ⟨n.val, by omega⟩) := by
  after_reads_simp
  pointwise
  blk_ext

/-- The rotary block. -/
theorem u1 (c : Dev nD) (k : Fin 1024) (n : Fin 64) : (show FVec Ideal S1024x64 .f32 from U m c main_v1) (ix2 k n) = mw m c (ix2 k ⟨256 + n.val, by omega⟩) := by
  after_reads_simp
  pointwise
  blk_ext

/-- The rotated block, first half: the negatives of the second half. -/
theorem u12lo (c : Dev nD) (k : Fin 1024) (n : Fin 32) : (show FVec Ideal S1024x64 .f32 from U m c main_v12) (ix2 k ⟨n.val, by omega⟩)
    = (-mw m c (ix2 k ⟨288 + n.val, by omega⟩) : EReal) := by
  after_reads_simp
  pointwise
  rw [dif_pos (by omega)]
  after_reads_simp
  pointwise
  refine congrArg (fun j => (-mw m c (ix2 k j) : EReal)) (Fin.ext ?_)
  show 256 + (32 + n.val % 32) = 288 + n.val
  omega

/-- The rotated block, second half: the first half. -/
theorem u12hi (c : Dev nD) (k : Fin 1024) (n : Fin 32) : (show FVec Ideal S1024x64 .f32 from U m c main_v12) (ix2 k ⟨32 + n.val, by omega⟩)
    = mw m c (ix2 k ⟨256 + n.val, by omega⟩) := by
  after_reads_simp
  pointwise
  rw [dif_neg (by omega)]
  after_reads_simp
  pointwise
  blk_ext

/-- The prepared projection weights: the first 320 columns are the given ones. -/
theorem w_at (c : Dev nD) (k : Fin 1024) (n : Fin 320) :
    (show FVec Ideal S1024x512 .bf16 from V m c main_v14) (ix2 k ⟨n.val, by omega⟩) = mw m c (ix2 k n) := by
  rw [w14]
  pointwise
  by_cases h : n.val < 256
  · rw [dif_pos h]; exact u2 m c k ⟨n.val, h⟩
  · rw [dif_neg h, dif_pos (by omega)]
    exact (u1 m c k ⟨n.val - 256, by omega⟩).trans (congrArg (fun j : Fin 320 => mw m c (ix2 k j)) (Fin.ext (show 256 + (n.val - 256) = n.val by omega)))

/-- The rotated columns, first half. -/
theorem wlo_at (c : Dev nD) (k : Fin 1024) (n : Fin 32) :
    (show FVec Ideal S1024x512 .bf16 from V m c main_v14) (ix2 k ⟨384 + n.val, by omega⟩) = (-mw m c (ix2 k ⟨288 + n.val, by omega⟩) : EReal) := by
  rw [w14]
  pointwise
  rw [dif_neg (by omega), dif_neg (by omega), dif_neg (by omega), dif_pos (by omega)]
  refine Eq.trans (congrArg (fun j => (show FVec Ideal S1024x64 .f32 from U m c main_v12) (ix2 k j)) (Fin.ext ?_)) (u12lo m c k n)
  simp only []; omega

/-- The rotated columns, second half. -/
theorem whi_at (c : Dev nD) (k : Fin 1024) (n : Fin 32) :
    (show FVec Ideal S1024x512 .bf16 from V m c main_v14) (ix2 k ⟨384 + (32 + n.val), by omega⟩) = mw m c (ix2 k ⟨256 + n.val, by omega⟩) := by
  rw [w14]
  pointwise
  rw [dif_neg (by omega), dif_neg (by omega), dif_neg (by omega), dif_pos (by omega)]
  refine Eq.trans (congrArg (fun j => (show FVec Ideal S1024x64 .f32 from U m c main_v12) (ix2 k j)) (Fin.ext ?_)) (u12hi m c k n)
  simp only []; omega

open Cert.MlaKvReferenceIdeal.Read in
/-- The reference's angle. -/
theorem ang_at (t : Fin 2048) (n : Fin 32) : val_main_v41 (F := Ideal) (ix2 t n) =
    FloatOps.sitofp (F := Ideal) .f32 (BitVec.ofNat 32 t.val) * Ideal.pow (Ideal.ofBits .f32 0x461C4000#32) (Ideal.div (-(FloatOps.sitofp (F := Ideal) .f32 (BitVec.ofNat 32 n.val) : EReal)) (Ideal.ofBits .f32 0x42000000#32)) := by
  rw [val_main_v41_apply, val_main_v39_apply, val_main_v37_apply, val_main_v36_apply, val_main_v40_apply, val_main_v38_apply, val_main_v35_apply, val_main_v34_apply, val_main_v33_apply, val_main_v32_apply, val_main_v31_apply]
  rfl

open Cert.MlaKvReferenceIdeal.Read in
/-- The cosine table, first half. -/
theorem clo_at (c : Dev nD) (b : Fin 16) (t : Fin 2048) (n : Fin 32) :
    (show FVec Ideal S2048x64 .f32 from V m c main_v30) (ix2 t ⟨n.val, by omega⟩) = val_main_v42 (F := Ideal) (ix2 t n) := by
  rw [val_main_v42_apply, ang_at]
  entry_read
  pointwise

open Cert.MlaKvReferenceIdeal.Read in
/-- The cosine table, second half. -/
theorem chi_at (c : Dev nD) (b : Fin 16) (t : Fin 2048) (n : Fin 32) :
    (show FVec Ideal S2048x64 .f32 from V m c main_v30) (ix2 t ⟨32 + n.val, by omega⟩) = val_main_v42 (F := Ideal) (ix2 t n) := by
  rw [val_main_v42_apply, ang_at]
  entry_read
  pointwise

open Cert.MlaKvReferenceIdeal.Read in
/-- The sine table, first half. -/
theorem slo_at (c : Dev nD) (b : Fin 16) (t : Fin 2048) (n : Fin 32) :
    (show FVec Ideal S2048x64 .f32 from V m c main_v31) (ix2 t ⟨n.val, by omega⟩) = val_main_v44 (F := Ideal) (ix2 t n) := by
  rw [val_main_v44_apply, ang_at]
  entry_read
  pointwise

open Cert.MlaKvReferenceIdeal.Read in
/-- The sine table, second half. -/
theorem shi_at (c : Dev nD) (b : Fin 16) (t : Fin 2048) (n : Fin 32) :
    (show FVec Ideal S2048x64 .f32 from V m c main_v31) (ix2 t ⟨32 + n.val, by omega⟩) = val_main_v44 (F := Ideal) (ix2 t n) := by
  rw [val_main_v44_apply, ang_at]
  entry_read
  pointwise

open Cert.MlaKvReferenceIdeal.Read in
/-- The reference's key, first half. -/
theorem refklo_at (x : FVec Ideal S16x2048x1024 .f32) (nw : FVec Ideal S1024 .f32) (w : FVec Ideal S1024x320 .f32) (b : Fin 16) (t : Fin 2048) (n : Fin 32) :
    val_main_v58 (F := Ideal) x nw w (ix3 b t (⟨n.val, by omega⟩ : Fin 64))
      = (projRow d1 (fun j => x (ix3 b t j)) (fun j => nw (ix1 j)) (fun k (j : Fin 320) => w (ix2 k j)) ⟨256 + n.val, by omega⟩ * val_main_v42 (F := Ideal) (ix2 t n) - projRow d1 (fun j => x (ix3 b t j)) (fun j => nw (ix1 j)) (fun k (j : Fin 320) => w (ix2 k j)) ⟨288 + n.val, by omega⟩ * val_main_v44 (F := Ideal) (ix2 t n) : EReal) := by
  unfold val_main_v58
  refine (concatenate_pair_apply_left (t := Cert.MlaKvReferenceIdeal.S16x2048x64) 2 (val_main_v52 (F := Ideal) x nw w) (val_main_v57 (F := Ideal) x nw w) _ (ix3 b t (⟨n.val, by omega⟩ : Fin 64)) rfl (ix3 b t n) (fun a => match a with | ⟨0, _⟩ => rfl | ⟨1, _⟩ => rfl | ⟨2, _⟩ => rfl)).trans ?_
  rw [val_main_v52_apply, val_main_v49_apply, val_main_v51_apply, val_main_v46_apply, val_main_v47_apply, val_main_v29_apply, val_main_v29_apply, val_main_v48_apply, val_main_v50_apply, val_main_v43_apply, val_main_v45_apply]
  refine congrArg₂ (fun a b : EReal => a - b) (Ideal.mul_congr ?_ ?_) (Ideal.mul_congr ?_ ?_)
  · exact (congrArg _ (show _ = ix3 b t (⟨256 + n.val, by omega⟩ : Fin 320) from by blk_ext)).trans (refp_at x nw w b t _)
  · blk_ext
  · exact (congrArg _ (show _ = ix3 b t (⟨288 + n.val, by omega⟩ : Fin 320) from by blk_ext)).trans (refp_at x nw w b t _)
  · blk_ext

open Cert.MlaKvReferenceIdeal.Read in
/-- The reference's key, second half. -/
theorem refkhi_at (x : FVec Ideal S16x2048x1024 .f32) (nw : FVec Ideal S1024 .f32) (w : FVec Ideal S1024x320 .f32) (b : Fin 16) (t : Fin 2048) (n : Fin 32) :
    val_main_v58 (F := Ideal) x nw w (ix3 b t (⟨32 + n.val, by omega⟩ : Fin 64))
      = (projRow d1 (fun j => x (ix3 b t j)) (fun j => nw (ix1 j)) (fun k (j : Fin 320) => w (ix2 k j)) ⟨288 + n.val, by omega⟩ * val_main_v42 (F := Ideal) (ix2 t n) + projRow d1 (fun j => x (ix3 b t j)) (fun j => nw (ix1 j)) (fun k (j : Fin 320) => w (ix2 k j)) ⟨256 + n.val, by omega⟩ * val_main_v44 (F := Ideal) (ix2 t n) : EReal) := by
  unfold val_main_v58
  refine (concatenate_pair_apply_right (t := Cert.MlaKvReferenceIdeal.S16x2048x64) 2 (val_main_v52 (F := Ideal) x nw w) (val_main_v57 (F := Ideal) x nw w) _ (ix3 b t (⟨32 + n.val, by omega⟩ : Fin 64)) rfl rfl (ix3 b t n) (fun a h => match a, h with | ⟨0, _⟩, _ => rfl | ⟨1, _⟩, _ => rfl | ⟨2, _⟩, h => absurd rfl h) (show n.val + 32 = 32 + n.val from Nat.add_comm _ _)).trans ?_
  rw [val_main_v57_apply, val_main_v54_apply, val_main_v56_apply, val_main_v46_apply, val_main_v47_apply, val_main_v29_apply, val_main_v29_apply, val_main_v53_apply, val_main_v55_apply, val_main_v43_apply, val_main_v45_apply]
  refine congrArg₂ (fun a b : EReal => a + b) (Ideal.mul_congr ?_ ?_) (Ideal.mul_congr ?_ ?_)
  · exact (congrArg _ (show _ = ix3 b t (⟨288 + n.val, by omega⟩ : Fin 320) from by blk_ext)).trans (refp_at x nw w b t _)
  · blk_ext
  · exact (congrArg _ (show _ = ix3 b t (⟨256 + n.val, by omega⟩ : Fin 320) from by blk_ext)).trans (refp_at x nw w b t _)
  · blk_ext

open Cert.MlaKvReferenceIdeal.Read in
/-- The key's rows as the reference leaves them. -/
theorem ref60_at (x : FVec Ideal S16x2048x1024 .f32) (nw : FVec Ideal S1024 .f32) (w : FVec Ideal S1024x320 .f32) (b : Fin 16) (t : Fin 2048) (n : Fin 64) :
    val_main_v60 (F := Ideal) x nw w (ix2 ⟨b.val * 2048 + t.val, by omega⟩ n) = val_main_v58 (F := Ideal) x nw w (ix3 b t n) := by
  rw [val_main_v60_apply, show idx_main_v60 (ix2 (⟨b.val * 2048 + t.val, by omega⟩ : Fin 32768) n) = ix3 b t n from by blk_ext]

open Cert.MlaKvReferenceIdeal.Read in
/-- The latent's rows as the reference leaves them. -/
theorem ref59_at (x : FVec Ideal S16x2048x1024 .f32) (nw : FVec Ideal S1024 .f32) (w : FVec Ideal S1024x320 .f32) (kn : FVec Ideal S256 .f32) (b : Fin 16) (t : Fin 2048) (n : Fin 256) :
    val_main_v59 (F := Ideal) x nw w kn (ix2 ⟨b.val * 2048 + t.val, by omega⟩ n) = val_main_v28 (F := Ideal) x nw w kn (ix3 b t n) := by
  rw [val_main_v59_apply, show idx_main_v59 (ix2 (⟨b.val * 2048 + t.val, by omega⟩ : Fin 32768) n) = ix3 b t n from by blk_ext]

/-- The row of the projection on the given operands. -/
abbrev P (c : Dev nD) (b : Fin 16) (t : Fin 2048) : Fin 320 → EReal := projRow d1 (fun j => mx m c (ix3 b t j)) (fun j => mn m c (ix1 j)) (fun k j => mw m c (ix2 k j))

/-- The row of the projection on the prepared operands. -/
abbrev Q (c : Dev nD) (b : Fin 16) (t : Fin 2048) : Fin 512 → EReal :=
  projRow d1 (fun j => (show FVec Ideal S32768x1024 .f32 from V m c main_v32) (ix2 ⟨b.val * 2048 + t.val, by omega⟩ j)) (fun j => (show FVec Ideal S1x1024 .f32 from V m c main_v33) (ix2 0 j))
    (fun k (j : Fin 512) => (show FVec Ideal S1024x512 .bf16 from V m c main_v14) (ix2 k j))

/-- The normed rows agree. -/
theorem h_at (c : Dev nD) (b : Fin 16) (t : Fin 2048) (k : Fin 1024) :
    rmsRow d1 (fun j => (show FVec Ideal S32768x1024 .f32 from V m c main_v32) (ix2 ⟨b.val * 2048 + t.val, by omega⟩ j)) (fun j => (show FVec Ideal S1x1024 .f32 from V m c main_v33) (ix2 0 j)) k
      = rmsRow d1 (fun j => mx m c (ix3 b t j)) (fun j => mn m c (ix1 j)) k :=
  congrFun (congr (congrArg (rmsRow d1) (funext fun j => x_at m c b t j)) (funext fun j => nw_at m c j)) k

/-- The first 320 columns are the projection. -/
theorem q_at (c : Dev nD) (b : Fin 16) (t : Fin 2048) (n : Fin 320) : Q m c b t ⟨n.val, by omega⟩ = P m c b t n :=
  Finset.sum_congr rfl fun k _ => Ideal.mul_congr (h_at m c b t k) (w_at m c k n)

/-- The rotated columns, first half, are the negated second half of the rotary block. -/
theorem qlo_at (c : Dev nD) (hn : ∀ i, IsReal (mn m c i)) (hw : ∀ i, IsReal (mw m c i)) (b : Fin 16) (t : Fin 2048) (n : Fin 32) :
    Q m c b t ⟨384 + n.val, by omega⟩ = -P m c b t ⟨288 + n.val, by omega⟩ := by
  refine Eq.trans (Finset.sum_congr rfl fun k _ => Ideal.mul_congr (h_at m c b t k) (wlo_at m c k n)) (sum_neg _ _ (fun k => ?_) (fun k => hw _))
  exact (show d1 = ((1024 : ℝ) : EReal) from lit1024) ▸ rmsRow_real' (by norm_num) _ _ (fun j => hn _) k

/-- The rotated columns, second half, are the first half of the rotary block. -/
theorem qhi_at (c : Dev nD) (b : Fin 16) (t : Fin 2048) (n : Fin 32) :
    Q m c b t ⟨384 + (32 + n.val), by omega⟩ = P m c b t ⟨256 + n.val, by omega⟩ :=
  Finset.sum_congr rfl fun k _ => Ideal.mul_congr (h_at m c b t k) (whi_at m c k n)

open Cert.MlaKvReferenceIdeal.Read in
/-- The launch's first result is the reference's latent. -/
theorem value6_eq (c : Dev nD) : (dats m 0 c).arrAt 6 (cfgs 0).N
    = val_main_v59 (F := Ideal) (mx m c) (mn m c) (mw m c) (m ((c : Thread nD τ).loc main_arg3)) := by
  rw [final6]
  funext i
  obtain ⟨b, t, n, rfl⟩ : ∃ (b : Fin 16) (t : Fin 2048) (n : Fin 256), i = ix2 (⟨b.val * 2048 + t.val, by omega⟩ : Fin 32768) n := by
    obtain ⟨x, n, rfl⟩ : ∃ (x : Fin 32768) (n : Fin 256), i = ix2 x n := ⟨i 0, i 1, eq_ix2 i⟩
    refine ⟨⟨x.val / 2048, by omega⟩, ⟨x.val % 2048, by omega⟩, n, congrArg (fun z => ix2 z n) (Fin.ext ?_)⟩
    show x.val = x.val / 2048 * 2048 + x.val % 2048
    omega
  refine Eq.trans ?_ ((ref59_at _ _ _ _ b t n).trans (refl_at (mx m c) (mn m c) (mw m c) (m ((c : Thread nD τ).loc main_arg3)) b t n)).symm
  unfold latG
  exact congrFun (congr (congrArg (rmsRow d2) (funext fun j => q_at m c b t ⟨j.val, by omega⟩)) (funext fun j => kn_at m c j)) n

open Cert.MlaKvReferenceIdeal.Read in
/-- The launch's second result is the reference's key. -/
theorem value7_eq (c : Dev nD) (hn : ∀ i, IsReal (mn m c i)) (hw : ∀ i, IsReal (mw m c i)) :
    (dats m 0 c).arrAt 7 (cfgs 0).N = val_main_v60 (F := Ideal) (mx m c) (mn m c) (mw m c) := by
  rw [final7]
  funext i
  obtain ⟨b, t, n, rfl⟩ : ∃ (b : Fin 16) (t : Fin 2048) (n : Fin 64), i = ix2 (⟨b.val * 2048 + t.val, by omega⟩ : Fin 32768) n := by
    obtain ⟨x, n, rfl⟩ : ∃ (x : Fin 32768) (n : Fin 64), i = ix2 x n := ⟨i 0, i 1, eq_ix2 i⟩
    refine ⟨⟨x.val / 2048, by omega⟩, ⟨x.val % 2048, by omega⟩, n, congrArg (fun z => ix2 z n) (Fin.ext ?_)⟩
    show x.val = x.val / 2048 * 2048 + x.val % 2048
    omega
  refine Eq.trans ?_ (ref60_at (mx m c) (mn m c) (mw m c) b t n).symm
  have hpos : ∀ y : Fin 64, peG (V m c main_v32) (V m c main_v33) (V m c main_v14) (V m c main_v30) (V m c main_v31) (ix2 (⟨b.val * 2048 + t.val, by omega⟩ : Fin 32768) y)
      = Q m c b t ⟨256 + y.val, by omega⟩ * (show FVec Ideal S2048x64 .f32 from V m c main_v30) (ix2 t y)
        + Q m c b t ⟨384 + y.val, by omega⟩ * (show FVec Ideal S2048x64 .f32 from V m c main_v31) (ix2 t y) := fun y => by
    unfold peG
    refine congrArg₂ (· + ·) (Ideal.mul_congr rfl (congrArg _ (congrArg (fun z => ix2 z y) (Fin.ext ?_)))) (Ideal.mul_congr rfl (congrArg _ (congrArg (fun z => ix2 z y) (Fin.ext ?_))))
    · show (b.val * 2048 + t.val) % 2048 = t.val; omega
    · show (b.val * 2048 + t.val) % 2048 = t.val; omega
  rw [hpos]
  by_cases h : n.val < 32
  · obtain ⟨n', rfl⟩ : ∃ n' : Fin 32, n = ⟨n'.val, Nat.lt_of_lt_of_le n'.isLt (by decide)⟩ := ⟨⟨n.val, h⟩, rfl⟩
    refine Eq.trans ?_ (refklo_at (mx m c) (mn m c) (mw m c) b t n').symm
    rw [show Q m c b t ⟨256 + n'.val, by omega⟩ = P m c b t ⟨256 + n'.val, by omega⟩ from q_at m c b t ⟨256 + n'.val, by omega⟩, qlo_at m c hn hw b t n', clo_at m c b t n', slo_at m c b t n', EReal.neg_mul, ← sub_eq_add_neg]
  · obtain ⟨n', rfl⟩ : ∃ n' : Fin 32, n = ⟨32 + n'.val, Nat.add_lt_add_left n'.isLt 32⟩ := ⟨⟨n.val - 32, by omega⟩, Fin.ext (by show n.val = 32 + (n.val - 32); omega)⟩
    refine Eq.trans ?_ (refkhi_at (mx m c) (mn m c) (mw m c) b t n').symm
    refine congrArg₂ (fun a b : EReal => a + b) (Ideal.mul_congr ?_ (chi_at m c b t n')) (Ideal.mul_congr (qhi_at m c b t n') (shi_at m c b t n'))
    exact (congrArg (Q m c b t) (Fin.ext (by show 256 + (32 + n'.val) = 288 + n'.val; omega))).trans (q_at m c b t ⟨288 + n'.val, by omega⟩)

end Cert.MlaKvIdeal.Value
-- ==== Proof.FiniteKv.lean ====
module

public import proofs.«01_k».proof.Proof.Finite
public import proofs.«01_k».proof.Pre_finite_kv

@[expose] public section

set_option maxRecDepth 16384

noncomputable section

open Idealize.ShloMosaic Idealize.ShloMosaic.TcCoe Idealize.SL.Sem

namespace Cert.Pre_finite_kv

open Cert.KernelIdeal.Value (IsReal)
open Cert.Pre_finite_scores (andi_one real_of_lt)
open Facts

/-- What the precondition says: every entry of the checked arguments is a real number. -/
theorem reals [Cert.Pre_finite_kv.Facts] (x : FVec Ideal S16x2048x1024 .f32) (nw : FVec Ideal S1024 .f32) (w : FVec Ideal S1024x320 .f32) (kn : FVec Ideal S256 .f32)
    (h : fn (F := Ideal) x nw w kn = fun _ => 1#1) :
    (∀ i, IsReal (nw i)) ∧ (∀ i, IsReal (w i)) := by
  haveI : Subsingleton S_.Idx := ⟨fun a b => funext fun i => i.elim0⟩
  have r0 := congrFun h (fun a => a.elim0)
  obtain ⟨r0, q1⟩ := andi_one r0
  refine ⟨fun i => ?_, fun i => ?_⟩
  · exact real_of_lt _ (Host.reduce_andi_all _ _ _ _ _ r0 i)
  · exact real_of_lt _ (Host.reduce_andi_all _ _ _ _ _ q1 i)

end Cert.Pre_finite_kv
-- ==== Proof.MlaKvTok.lean ====
module

public import Idealize.ShloMosaic.Lib.Pipeline.ValueKit
public import Idealize.ShloMosaic.Lib.Pointwise
public import Idealize.ShloMosaic.Lib.Claim
public import proofs.«01_k».proof.Proof.Real
public import proofs.«01_k».proof.Proof.Gen.MlaKvTokIdeal.Frame
public import proofs.«01_k».proof.Proof.Gen.MlaKvTokReferenceIdeal.Read

@[expose] public section

set_option maxRecDepth 16384

noncomputable section

open Idealize.ShloMosaic Idealize.ShloMosaic.TcCoe Idealize.SL.Sem
open Idealize.ShloMosaic.Pipeline (Dat)

namespace Cert.MlaKvTokIdeal.Value

open Cert.MlaKvTokIdeal Cert.MlaKvTokIdeal.Gen Cert.Layer
open Cert.KernelIdeal.Value (IsReal)

/-- The literal 1024 of the first norm. -/
abbrev d1 : EReal := Ideal.ofBits .f32 0x44800000#32

/-- The literal 256 of the second norm. -/
abbrev d2 : EReal := Ideal.ofBits .f32 0x43800000#32

/-- One entry of the projection a block computes. -/
theorem pay_at (x0 : Vec Ideal S128x1024 .f32) (x1 : Vec Ideal S1x1024 .f32) (x2 : Vec Ideal S1024x512 .bf16) (r : Fin 128) (n : Fin 512) :
    k0_pay2 (F := Ideal) (View.ld x0 r0_0) (View.ld x1 r0_1) (View.ld x2 r0_2) (ix2 r n) = projRow d1 (fun j => (show FVec Ideal S128x1024 .f32 from x0) (ix2 r j)) (fun j => (show FVec Ideal S1x1024 .f32 from x1) (ix2 0 j)) (fun k (j : Fin 512) => (show FVec Ideal S1024x512 .bf16 from x2) (ix2 k j)) n := by
  unfold projRow rmsRow
  pointwise [k0_pay2]

/-- The first block one grid point leaves: the normed latent. -/
theorem out6_at (x0 : Vec Ideal S128x1024 .f32) (x1 : Vec Ideal S1x1024 .f32) (x2 : Vec Ideal S1024x512 .bf16) (x3 : Vec Ideal S1x256 .f32) (x4 x5 : Vec Ideal S128x64 .f32) (r : Fin 128) (n : Fin 256) :
    out0_6 x0 x1 x2 x3 x4 x5 (ix2 r n)
      = rmsRow d2 (fun j : Fin 256 => projRow d1 (fun j => (show FVec Ideal S128x1024 .f32 from x0) (ix2 r j)) (fun j => (show FVec Ideal S1x1024 .f32 from x1) (ix2 0 j)) (fun k (j : Fin 512) => (show FVec Ideal S1024x512 .bf16 from x2) (ix2 k j)) ⟨j.val, by omega⟩) (fun j => (show FVec Ideal S1x256 .f32 from x3) (ix2 0 j)) n := by
  unfold out0_6
  canon_tiles x h
  case piece0 =>
    obtain ⟨p, e, rfl⟩ : ∃ (p : Fin 128) (e : Fin 256), x = ix2 p e := ⟨x 0, x 1, eq_ix2 x⟩
    obtain rfl : r = p := Fin.ext h0
    obtain rfl : n = e := Fin.ext h1
    unfold rmsRow
    simp only [← pay_at]
    pointwise [k0_pay3]

/-- The second block: the rotated key. -/
theorem out7_at (x0 : Vec Ideal S128x1024 .f32) (x1 : Vec Ideal S1x1024 .f32) (x2 : Vec Ideal S1024x512 .bf16) (x3 : Vec Ideal S1x256 .f32) (x4 x5 : Vec Ideal S128x64 .f32) (r : Fin 128) (n : Fin 64) :
    out0_7 x0 x1 x2 x3 x4 x5 (ix2 r n)
      = projRow d1 (fun j => (show FVec Ideal S128x1024 .f32 from x0) (ix2 r j)) (fun j => (show FVec Ideal S1x1024 .f32 from x1) (ix2 0 j)) (fun k (j : Fin 512) => (show FVec Ideal S1024x512 .bf16 from x2) (ix2 k j)) ⟨256 + n.val, by omega⟩ * (show FVec Ideal S128x64 .f32 from x4) (ix2 r n)
        + projRow d1 (fun j => (show FVec Ideal S128x1024 .f32 from x0) (ix2 r j)) (fun j => (show FVec Ideal S1x1024 .f32 from x1) (ix2 0 j)) (fun k (j : Fin 512) => (show FVec Ideal S1024x512 .bf16 from x2) (ix2 k j)) ⟨384 + n.val, by omega⟩ * (show FVec Ideal S128x64 .f32 from x5) (ix2 r n) := by
  unfold out0_7
  canon_tiles x h
  case piece0 =>
    obtain ⟨p, e, rfl⟩ : ∃ (p : Fin 128) (e : Fin 64), x = ix2 p e := ⟨x 0, x 1, eq_ix2 x⟩
    obtain rfl : r = p := Fin.ext h0
    obtain rfl : n = e := Fin.ext h1
    simp only [← pay_at]
    pointwise [k0_pay1, k0_pay4, k0_pay5]

/-- The normed latent from the prepared operands. -/
def latG (X : FVec Ideal S128x1024 .f32) (NW : FVec Ideal S1x1024 .f32) (W : FVec Ideal S1024x512 .bf16) (KN : FVec Ideal S1x256 .f32) : FVec Ideal S128x256 .f32 := fun i =>
  rmsRow d2 (fun j : Fin 256 => projRow d1 (fun j => X (ix2 (i 0) j)) (fun j => NW (ix2 0 j)) (fun k (j : Fin 512) => W (ix2 k j)) ⟨j.val, by omega⟩) (fun j => KN (ix2 0 j)) (i 1)

/-- The rotated key from the prepared operands. -/
def peG (X : FVec Ideal S128x1024 .f32) (NW : FVec Ideal S1x1024 .f32) (W : FVec Ideal S1024x512 .bf16) (C D : FVec Ideal S128x64 .f32) : FVec Ideal S128x64 .f32 := fun i =>
  projRow d1 (fun j => X (ix2 (i 0) j)) (fun j => NW (ix2 0 j)) (fun k (j : Fin 512) => W (ix2 k j)) ⟨256 + (i 1).val, by have h : (i 1).val < 64 := (i 1).isLt; omega⟩ * C (ix2 (i 0) (i 1))
    + projRow d1 (fun j => X (ix2 (i 0) j)) (fun j => NW (ix2 0 j)) (fun k (j : Fin 512) => W (ix2 k j)) ⟨384 + (i 1).val, by have h : (i 1).val < 64 := (i 1).isLt; omega⟩ * D (ix2 (i 0) (i 1))

variable (m : (ℓ : Loc nD τ sig) → Buf (Elt Ideal) ℓ)

/-- The blocks of a grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ t.val < 1 := (by decide +kernel : ∀ t : Fin grid0.N, _)

/-- The first array the launch leaves. -/
theorem final6 (c : Dev nD) : (dats m 0 c).arrAt 6 (cfgs 0).N = latG (V m c main_v32) (V m c main_v33) (V m c main_v14) (V m c main_v34) := by
  refine (dats m 0 c).arrAt_eq_of_covers 6 _ (by decide +kernel) fun t _ y => ?_
  blk_simp
  rw [after0_6]
  obtain ⟨r, n, rfl⟩ : ∃ (r : Fin 128) (n : Fin 256), y = ix2 r n := ⟨y 0, y 1, eq_ix2 y⟩
  refine (out6_at _ _ _ _ _ _ r n).trans ?_
  unfold latG
  refine congr (congr (congrArg (rmsRow _) (funext fun j => congrFun (congr (congr (congrArg (projRow _) (funext fun k => ?_)) (funext fun k => ?_)) (funext fun k => funext fun j => ?_)) _))
    (funext fun j => ?_)) (Fin.ext (by blk_simp [idx t]; try omega)) <;> blk_ext [iblk, idx t]

set_option maxHeartbeats 2000000 in
/-- The second array the launch leaves. -/
theorem final7 (c : Dev nD) : (dats m 0 c).arrAt 7 (cfgs 0).N = peG (V m c main_v32) (V m c main_v33) (V m c main_v14) (V m c main_v30) (V m c main_v31) := by
  refine (dats m 0 c).arrAt_eq_of_covers 7 _ (by decide +kernel) fun t _ y => ?_
  blk_simp
  rw [after0_7]
  obtain ⟨r, n, rfl⟩ : ∃ (r : Fin 128) (n : Fin 64), y = ix2 r n := ⟨y 0, y 1, eq_ix2 y⟩
  refine (out7_at _ _ _ _ _ _ r n).trans ?_
  unfold peG
  refine congrArg₂ (· + ·) (Ideal.mul_congr (congr (congr (congr (congrArg (projRow _) (funext fun k => ?_)) (funext fun k => ?_)) (funext fun k => funext fun j => ?_)) (Fin.ext (by blk_simp [idx t]; try omega))) ?_)
    (Ideal.mul_congr (congr (congr (congr (congrArg (projRow _) (funext fun k => ?_)) (funext fun k => ?_)) (funext fun k => funext fun j => ?_)) (Fin.ext (by blk_simp [idx t]; try omega))) ?_) <;> blk_ext [iblk, idx t]

/-- The stream's rows. -/
theorem x_at (c : Dev nD) (b : Fin 128) (t : Fin 1) (k : Fin 1024) :
    (show FVec Ideal S128x1024 .f32 from V m c main_v32) (ix2 ⟨b.val, by omega⟩ k)
      = (show FVec Ideal S128x1x1024 .f32 from m ((c : Thread nD τ).loc main_arg0)) (ix3 b t k) := by
  entry_read
  pointwise
  blk_ext

/-- The first norm's weights. -/
theorem nw_at (c : Dev nD) (k : Fin 1024) :
    (show FVec Ideal S1x1024 .f32 from V m c main_v33) (ix2 0 k) = (show FVec Ideal S1024 .f32 from m ((c : Thread nD τ).loc main_arg1)) (ix1 k) := by
  entry_read
  pointwise
  blk_ext

/-- The second norm's weights. -/
theorem kn_at (c : Dev nD) (k : Fin 256) :
    (show FVec Ideal S1x256 .f32 from V m c main_v34) (ix2 0 k) = (show FVec Ideal S256 .f32 from m ((c : Thread nD τ).loc main_arg3)) (ix1 k) := by
  entry_read
  pointwise
  blk_ext

open Cert.MlaKvTokReferenceIdeal.Read in
/-- The reference's projection. -/
theorem refp_at (x : FVec Ideal S128x1x1024 .f32) (nw : FVec Ideal S1024 .f32) (w : FVec Ideal S1024x320 .f32) (b : Fin 128) (t : Fin 1) (n : Fin 320) :
    val_main_v16 (F := Ideal) x nw w (ix3 b t n) = projRow d1 (fun j => x (ix3 b t j)) (fun j => nw (ix1 j)) (fun k (j : Fin 320) => w (ix2 k j)) n := by
  refine (val_main_v16_apply ..).trans ?_
  unfold projRow
  refine Finset.sum_congr rfl fun k _ => Ideal.mul_congr ?_ (by blk_ext)
  rw [show lidx_main_v16 (ix3 b t n) k = ix3 b t k from by blk_ext]
  unfold rmsRow
  rw [val_main_v15_apply, val_main_v12_apply, val_main_v11_apply, val_main_v10_apply, val_main_v9_apply, val_main_v7_apply, val_main_v5_apply, val_main_v4_apply]
  refine Ideal.mul_congr (Ideal.mul_congr rfl (congrArg Ideal.rsqrt (congrArg₂ (· + ·)
      (congrArg₂ Ideal.div ?_ ?_) ?_))) ?_
  · refine (congrArg₂ (· + ·) zero_eq (Finset.sum_congr rfl fun j _ => ?_)).trans (zero_add _)
    exact Ideal.mul_congr (by blk_ext) (by blk_ext)
  · exact (val_main_v6_apply _).trans rfl
  · exact (val_main_v8_apply _).trans rfl
  · rw [val_main_v14_apply, val_main_v13_apply]
    blk_ext

open Cert.MlaKvTokReferenceIdeal.Read in
/-- The reference's latent. -/
theorem refl_at (x : FVec Ideal S128x1x1024 .f32) (nw : FVec Ideal S1024 .f32) (w : FVec Ideal S1024x320 .f32) (kn : FVec Ideal S256 .f32) (b : Fin 128) (t : Fin 1) (n : Fin 256) :
    val_main_v30 (F := Ideal) x nw w kn (ix3 b t n)
      = rmsRow d2 (fun j : Fin 256 => projRow d1 (fun j => x (ix3 b t j)) (fun j => nw (ix1 j)) (fun k (j : Fin 320) => w (ix2 k j)) ⟨j.val, by omega⟩) (fun j => kn (ix1 j)) n := by
  have hp : ∀ j : Fin 256, val_main_v17 (F := Ideal) x nw w (ix3 b t j) = projRow d1 (fun j => x (ix3 b t j)) (fun j => nw (ix1 j)) (fun k (j : Fin 320) => w (ix2 k j)) ⟨j.val, by omega⟩ := fun j => by
    rw [val_main_v17_apply, show idx_main_v17 (ix3 b t j) = ix3 b t (⟨j.val, by omega⟩ : Fin 320) from by blk_ext]
    exact refp_at x nw w b t _
  unfold rmsRow
  rw [val_main_v30_apply, val_main_v27_apply, val_main_v26_apply, val_main_v25_apply, val_main_v24_apply, val_main_v22_apply, val_main_v20_apply, val_main_v19_apply]
  refine Ideal.mul_congr (Ideal.mul_congr (hp n) (congrArg Ideal.rsqrt (congrArg₂ (· + ·)
      (congrArg₂ Ideal.div ?_ ?_) ?_))) ?_
  · refine (congrArg₂ (· + ·) zero_eq (Finset.sum_congr rfl fun j _ => ?_)).trans (zero_add _)
    rw [val_main_v18_apply, show idx_main_v19 (idx_main_v20 (idx_main_v26 (ix3 b t n))) j = ix3 b t j from by blk_ext]
    exact Ideal.mul_congr (hp j) (hp j)
  · exact (val_main_v21_apply _).trans rfl
  · exact (val_main_v23_apply _).trans rfl
  · rw [val_main_v29_apply, val_main_v28_apply]
    blk_ext

end Cert.MlaKvTokIdeal.Value
-- ==== Proof.MlaKvTokValue.lean ====
module

public import Idealize.ShloMosaic.Lib.StableHlo.RunRead
public import proofs.«01_k».proof.Proof.MlaKvTok

@[expose] public section

set_option maxRecDepth 16384

noncomputable section

open Idealize.ShloMosaic Idealize.ShloMosaic.TcCoe Idealize.SL.Sem
open Idealize.ShloMosaic.Pipeline (Dat)

namespace Cert.MlaKvTokIdeal.Value

open Cert.MlaKvTokIdeal Cert.MlaKvTokIdeal.Gen Cert.Layer
open Cert.KernelIdeal.Value (IsReal)

variable (m : (ℓ : Loc nD τ sig) → Buf (Elt Ideal) ℓ)

/-- The host's values when the weights' blocks are put together. -/
abbrev U (c : Dev nD) := StableHlo.upto (hostOps0 (F := Ideal)) (fun b => m (c, b)) 14

/-- The given projection weights. -/
abbrev mw (c : Dev nD) : FVec Ideal S1024x320 .f32 := m ((c : Thread nD τ).loc main_arg2)

/-- The given stream. -/
abbrev mx (c : Dev nD) : FVec Ideal S128x1x1024 .f32 := m ((c : Thread nD τ).loc main_arg0)

/-- The given weights of the first norm. -/
abbrev mn (c : Dev nD) : FVec Ideal S1024 .f32 := m ((c : Thread nD τ).loc main_arg1)

/-- The prepared weights are five blocks of columns. -/
theorem w14 (c : Dev nD) : (show FVec Ideal S1024x512 .bf16 from V m c main_v14) =
    truncf (F := Ideal) .bf16 (concatenate S1024x512 1
        [⟨S1024x256, show FVec Ideal S1024x256 .f32 from U m c main_v2⟩, ⟨S1024x64, show FVec Ideal S1024x64 .f32 from U m c main_v1⟩, ⟨S1024x64, show FVec Ideal S1024x64 .f32 from U m c main_v0⟩, ⟨S1024x64, show FVec Ideal S1024x64 .f32 from U m c main_v12⟩, ⟨S1024x64, show FVec Ideal S1024x64 .f32 from U m c main_v0⟩]
        concatenates_S1024x256_S1024x64_S1024x64_S1024x64_S1024x64_S1024x512_d1) bitsLt_bf16_f32 := by
  show (show FVec Ideal S1024x512 .bf16 from StableHlo.after hostOps0 (fun b => m (c, b)) main_v14) = _
  after_reads_simp
  rfl

/-- The latent block. -/
theorem u2 (c : Dev nD) (k : Fin 1024) (n : Fin 256) : (show FVec Ideal S1024x256 .f32 from U m c main_v2) (ix2 k n) = mw m c (ix2 k ⟨n.val, by omega⟩) := by
  after_reads_simp
  pointwise
  blk_ext

/-- The rotary block. -/
theorem u1 (c : Dev nD) (k : Fin 1024) (n : Fin 64) : (show FVec Ideal S1024x64 .f32 from U m c main_v1) (ix2 k n) = mw m c (ix2 k ⟨256 + n.val, by omega⟩) := by
  after_reads_simp
  pointwise
  blk_ext

/-- The rotated block, first half: the negatives of the second half. -/
theorem u12lo (c : Dev nD) (k : Fin 1024) (n : Fin 32) : (show FVec Ideal S1024x64 .f32 from U m c main_v12) (ix2 k ⟨n.val, by omega⟩)
    = (-mw m c (ix2 k ⟨288 + n.val, by omega⟩) : EReal) := by
  after_reads_simp
  pointwise
  rw [dif_pos (by omega)]
  after_reads_simp
  pointwise
  refine congrArg (fun j => (-mw m c (ix2 k j) : EReal)) (Fin.ext ?_)
  show 256 + (32 + n.val % 32) = 288 + n.val
  omega

/-- The rotated block, second half: the first half. -/
theorem u12hi (c : Dev nD) (k : Fin 1024) (n : Fin 32) : (show FVec Ideal S1024x64 .f32 from U m c main_v12) (ix2 k ⟨32 + n.val, by omega⟩)
    = mw m c (ix2 k ⟨256 + n.val, by omega⟩) := by
  after_reads_simp
  pointwise
  rw [dif_neg (by omega)]
  after_reads_simp
  pointwise
  blk_ext

/-- The prepared projection weights: the first 320 columns are the given ones. -/
theorem w_at (c : Dev nD) (k : Fin 1024) (n : Fin 320) :
    (show FVec Ideal S1024x512 .bf16 from V m c main_v14) (ix2 k ⟨n.val, by omega⟩) = mw m c (ix2 k n) := by
  rw [w14]
  pointwise
  by_cases h : n.val < 256
  · rw [dif_pos h]; exact u2 m c k ⟨n.val, h⟩
  · rw [dif_neg h, dif_pos (by omega)]
    exact (u1 m c k ⟨n.val - 256, by omega⟩).trans (congrArg (fun j : Fin 320 => mw m c (ix2 k j)) (Fin.ext (show 256 + (n.val - 256) = n.val by omega)))

/-- The rotated columns, first half. -/
theorem wlo_at (c : Dev nD) (k : Fin 1024) (n : Fin 32) :
    (show FVec Ideal S1024x512 .bf16 from V m c main_v14) (ix2 k ⟨384 + n.val, by omega⟩) = (-mw m c (ix2 k ⟨288 + n.val, by omega⟩) : EReal) := by
  rw [w14]
  pointwise
  rw [dif_neg (by omega), dif_neg (by omega), dif_neg (by omega), dif_pos (by omega)]
  refine Eq.trans (congrArg (fun j => (show FVec Ideal S1024x64 .f32 from U m c main_v12) (ix2 k j)) (Fin.ext ?_)) (u12lo m c k n)
  simp only []; omega

/-- The rotated columns, second half. -/
theorem whi_at (c : Dev nD) (k : Fin 1024) (n : Fin 32) :
    (show FVec Ideal S1024x512 .bf16 from V m c main_v14) (ix2 k ⟨384 + (32 + n.val), by omega⟩) = mw m c (ix2 k ⟨256 + n.val, by omega⟩) := by
  rw [w14]
  pointwise
  rw [dif_neg (by omega), dif_neg (by omega), dif_neg (by omega), dif_pos (by omega)]
  refine Eq.trans (congrArg (fun j => (show FVec Ideal S1024x64 .f32 from U m c main_v12) (ix2 k j)) (Fin.ext ?_)) (u12hi m c k n)
  simp only []; omega

open Cert.MlaKvTokReferenceIdeal.Read in
/-- The reference's angle. -/
theorem ang_at (t : Fin 1) (n : Fin 32) : val_main_v42 (F := Ideal) (ix2 t n) =
    FloatOps.sitofp (F := Ideal) .f32 (8192#32) * Ideal.pow (Ideal.ofBits .f32 0x461C4000#32) (Ideal.div (-(FloatOps.sitofp (F := Ideal) .f32 (BitVec.ofNat 32 n.val) : EReal)) (Ideal.ofBits .f32 0x42000000#32)) := by
  rw [val_main_v42_apply, val_main_v41_apply, val_main_v39_apply, val_main_v38_apply, val_main_v40_apply, val_main_v37_apply, val_main_v36_apply, val_main_v35_apply, val_main_v34_apply, val_main_v33_apply]
  obtain rfl : t = 0 := Subsingleton.elim _ _
  rfl

open Cert.MlaKvTokReferenceIdeal.Read in
/-- The cosine table, first half. -/
theorem clo_at (c : Dev nD) (b : Fin 128) (t : Fin 1) (n : Fin 32) :
    (show FVec Ideal S128x64 .f32 from V m c main_v30) (ix2 b ⟨n.val, by omega⟩) = val_main_v43 (F := Ideal) (ix2 t n) := by
  rw [val_main_v43_apply, ang_at]
  entry_read
  pointwise

open Cert.MlaKvTokReferenceIdeal.Read in
/-- The cosine table, second half. -/
theorem chi_at (c : Dev nD) (b : Fin 128) (t : Fin 1) (n : Fin 32) :
    (show FVec Ideal S128x64 .f32 from V m c main_v30) (ix2 b ⟨32 + n.val, by omega⟩) = val_main_v43 (F := Ideal) (ix2 t n) := by
  rw [val_main_v43_apply, ang_at]
  entry_read
  pointwise

open Cert.MlaKvTokReferenceIdeal.Read in
/-- The sine table, first half. -/
theorem slo_at (c : Dev nD) (b : Fin 128) (t : Fin 1) (n : Fin 32) :
    (show FVec Ideal S128x64 .f32 from V m c main_v31) (ix2 b ⟨n.val, by omega⟩) = val_main_v45 (F := Ideal) (ix2 t n) := by
  rw [val_main_v45_apply, ang_at]
  entry_read
  pointwise

open Cert.MlaKvTokReferenceIdeal.Read in
/-- The sine table, second half. -/
theorem shi_at (c : Dev nD) (b : Fin 128) (t : Fin 1) (n : Fin 32) :
    (show FVec Ideal S128x64 .f32 from V m c main_v31) (ix2 b ⟨32 + n.val, by omega⟩) = val_main_v45 (F := Ideal) (ix2 t n) := by
  rw [val_main_v45_apply, ang_at]
  entry_read
  pointwise

open Cert.MlaKvTokReferenceIdeal.Read in
/-- The reference's key, first half. -/
theorem refklo_at (x : FVec Ideal S128x1x1024 .f32) (nw : FVec Ideal S1024 .f32) (w : FVec Ideal S1024x320 .f32) (b : Fin 128) (t : Fin 1) (n : Fin 32) :
    val_main_v59 (F := Ideal) x nw w (ix3 b t (⟨n.val, by omega⟩ : Fin 64))
      = (projRow d1 (fun j => x (ix3 b t j)) (fun j => nw (ix1 j)) (fun k (j : Fin 320) => w (ix2 k j)) ⟨256 + n.val, by omega⟩ * val_main_v43 (F := Ideal) (ix2 t n) - projRow d1 (fun j => x (ix3 b t j)) (fun j => nw (ix1 j)) (fun k (j : Fin 320) => w (ix2 k j)) ⟨288 + n.val, by omega⟩ * val_main_v45 (F := Ideal) (ix2 t n) : EReal) := by
  unfold val_main_v59
  refine (concatenate_pair_apply_left (t := Cert.MlaKvTokReferenceIdeal.S128x1x64) 2 (val_main_v53 (F := Ideal) x nw w) (val_main_v58 (F := Ideal) x nw w) _ (ix3 b t (⟨n.val, by omega⟩ : Fin 64)) rfl (ix3 b t n) (fun a => match a with | ⟨0, _⟩ => rfl | ⟨1, _⟩ => rfl | ⟨2, _⟩ => rfl)).trans ?_
  rw [val_main_v53_apply, val_main_v50_apply, val_main_v52_apply, val_main_v47_apply, val_main_v48_apply, val_main_v31_apply, val_main_v31_apply, val_main_v49_apply, val_main_v51_apply, val_main_v44_apply, val_main_v46_apply]
  refine congrArg₂ (fun a b : EReal => a - b) (Ideal.mul_congr ?_ ?_) (Ideal.mul_congr ?_ ?_)
  · exact (congrArg _ (show _ = ix3 b t (⟨256 + n.val, by omega⟩ : Fin 320) from by blk_ext)).trans (refp_at x nw w b t _)
  · blk_ext
  · exact (congrArg _ (show _ = ix3 b t (⟨288 + n.val, by omega⟩ : Fin 320) from by blk_ext)).trans (refp_at x nw w b t _)
  · blk_ext

open Cert.MlaKvTokReferenceIdeal.Read in
/-- The reference's key, second half. -/
theorem refkhi_at (x : FVec Ideal S128x1x1024 .f32) (nw : FVec Ideal S1024 .f32) (w : FVec Ideal S1024x320 .f32) (b : Fin 128) (t : Fin 1) (n : Fin 32) :
    val_main_v59 (F := Ideal) x nw w (ix3 b t (⟨32 + n.val, by omega⟩ : Fin 64))
      = (projRow d1 (fun j => x (ix3 b t j)) (fun j => nw (ix1 j)) (fun k (j : Fin 320) => w (ix2 k j)) ⟨288 + n.val, by omega⟩ * val_main_v43 (F := Ideal) (ix2 t n) + projRow d1 (fun j => x (ix3 b t j)) (fun j => nw (ix1 j)) (fun k (j : Fin 320) => w (ix2 k j)) ⟨256 + n.val, by omega⟩ * val_main_v45 (F := Ideal) (ix2 t n) : EReal) := by
  unfold val_main_v59
  refine (concatenate_pair_apply_right (t := Cert.MlaKvTokReferenceIdeal.S128x1x64) 2 (val_main_v53 (F := Ideal) x nw w) (val_main_v58 (F := Ideal) x nw w) _ (ix3 b t (⟨32 + n.val, by omega⟩ : Fin 64)) rfl rfl (ix3 b t n) (fun a h => match a, h with | ⟨0, _⟩, _ => rfl | ⟨1, _⟩, _ => rfl | ⟨2, _⟩, h => absurd rfl h) (show n.val + 32 = 32 + n.val from Nat.add_comm _ _)).trans ?_
  rw [val_main_v58_apply, val_main_v55_apply, val_main_v57_apply, val_main_v47_apply, val_main_v48_apply, val_main_v31_apply, val_main_v31_apply, val_main_v54_apply, val_main_v56_apply, val_main_v44_apply, val_main_v46_apply]
  refine congrArg₂ (fun a b : EReal => a + b) (Ideal.mul_congr ?_ ?_) (Ideal.mul_congr ?_ ?_)
  · exact (congrArg _ (show _ = ix3 b t (⟨288 + n.val, by omega⟩ : Fin 320) from by blk_ext)).trans (refp_at x nw w b t _)
  · blk_ext
  · exact (congrArg _ (show _ = ix3 b t (⟨256 + n.val, by omega⟩ : Fin 320) from by blk_ext)).trans (refp_at x nw w b t _)
  · blk_ext

open Cert.MlaKvTokReferenceIdeal.Read in
/-- The key's rows as the reference leaves them. -/
theorem ref60_at (x : FVec Ideal S128x1x1024 .f32) (nw : FVec Ideal S1024 .f32) (w : FVec Ideal S1024x320 .f32) (b : Fin 128) (t : Fin 1) (n : Fin 64) :
    val_main_v61 (F := Ideal) x nw w (ix2 ⟨b.val, by omega⟩ n) = val_main_v59 (F := Ideal) x nw w (ix3 b t n) := by
  rw [val_main_v61_apply, show idx_main_v61 (ix2 (⟨b.val, by omega⟩ : Fin 128) n) = ix3 b t n from by blk_ext]

open Cert.MlaKvTokReferenceIdeal.Read in
/-- The latent's rows as the reference leaves them. -/
theorem ref59_at (x : FVec Ideal S128x1x1024 .f32) (nw : FVec Ideal S1024 .f32) (w : FVec Ideal S1024x320 .f32) (kn : FVec Ideal S256 .f32) (b : Fin 128) (t : Fin 1) (n : Fin 256) :
    val_main_v60 (F := Ideal) x nw w kn (ix2 ⟨b.val, by omega⟩ n) = val_main_v30 (F := Ideal) x nw w kn (ix3 b t n) := by
  rw [val_main_v60_apply, show idx_main_v60 (ix2 (⟨b.val, by omega⟩ : Fin 128) n) = ix3 b t n from by blk_ext]

/-- The row of the projection on the given operands. -/
abbrev P (c : Dev nD) (b : Fin 128) (t : Fin 1) : Fin 320 → EReal := projRow d1 (fun j => mx m c (ix3 b t j)) (fun j => mn m c (ix1 j)) (fun k j => mw m c (ix2 k j))

/-- The row of the projection on the prepared operands. -/
abbrev Q (c : Dev nD) (b : Fin 128) (t : Fin 1) : Fin 512 → EReal :=
  projRow d1 (fun j => (show FVec Ideal S128x1024 .f32 from V m c main_v32) (ix2 ⟨b.val, by omega⟩ j)) (fun j => (show FVec Ideal S1x1024 .f32 from V m c main_v33) (ix2 0 j))
    (fun k (j : Fin 512) => (show FVec Ideal S1024x512 .bf16 from V m c main_v14) (ix2 k j))

/-- The normed rows agree. -/
theorem h_at (c : Dev nD) (b : Fin 128) (t : Fin 1) (k : Fin 1024) :
    rmsRow d1 (fun j => (show FVec Ideal S128x1024 .f32 from V m c main_v32) (ix2 ⟨b.val, by omega⟩ j)) (fun j => (show FVec Ideal S1x1024 .f32 from V m c main_v33) (ix2 0 j)) k
      = rmsRow d1 (fun j => mx m c (ix3 b t j)) (fun j => mn m c (ix1 j)) k :=
  congrFun (congr (congrArg (rmsRow d1) (funext fun j => x_at m c b t j)) (funext fun j => nw_at m c j)) k

/-- The first 320 columns are the projection. -/
theorem q_at (c : Dev nD) (b : Fin 128) (t : Fin 1) (n : Fin 320) : Q m c b t ⟨n.val, by omega⟩ = P m c b t n :=
  Finset.sum_congr rfl fun k _ => Ideal.mul_congr (h_at m c b t k) (w_at m c k n)

/-- The rotated columns, first half, are the negated second half of the rotary block. -/
theorem qlo_at (c : Dev nD) (hn : ∀ i, IsReal (mn m c i)) (hw : ∀ i, IsReal (mw m c i)) (b : Fin 128) (t : Fin 1) (n : Fin 32) :
    Q m c b t ⟨384 + n.val, by omega⟩ = -P m c b t ⟨288 + n.val, by omega⟩ := by
  refine Eq.trans (Finset.sum_congr rfl fun k _ => Ideal.mul_congr (h_at m c b t k) (wlo_at m c k n)) (sum_neg _ _ (fun k => ?_) (fun k => hw _))
  exact (show d1 = ((1024 : ℝ) : EReal) from lit1024) ▸ rmsRow_real' (by norm_num) _ _ (fun j => hn _) k

/-- The rotated columns, second half, are the first half of the rotary block. -/
theorem qhi_at (c : Dev nD) (b : Fin 128) (t : Fin 1) (n : Fin 32) :
    Q m c b t ⟨384 + (32 + n.val), by omega⟩ = P m c b t ⟨256 + n.val, by omega⟩ :=
  Finset.sum_congr rfl fun k _ => Ideal.mul_congr (h_at m c b t k) (whi_at m c k n)

open Cert.MlaKvTokReferenceIdeal.Read in
/-- The launch's first result is the reference's latent. -/
theorem value6_eq (c : Dev nD) : (dats m 0 c).arrAt 6 (cfgs 0).N
    = val_main_v60 (F := Ideal) (mx m c) (mn m c) (mw m c) (m ((c : Thread nD τ).loc main_arg3)) := by
  rw [final6]
  funext i
  obtain ⟨b, t, n, rfl⟩ : ∃ (b : Fin 128) (t : Fin 1) (n : Fin 256), i = ix2 (⟨b.val, by omega⟩ : Fin 128) n :=
    ⟨i 0, 0, i 1, eq_ix2 i⟩
  refine Eq.trans ?_ ((ref59_at _ _ _ _ b t n).trans (refl_at (mx m c) (mn m c) (mw m c) (m ((c : Thread nD τ).loc main_arg3)) b t n)).symm
  unfold latG
  exact congrFun (congr (congrArg (rmsRow d2) (funext fun j => q_at m c b t ⟨j.val, by omega⟩)) (funext fun j => kn_at m c j)) n

open Cert.MlaKvTokReferenceIdeal.Read in
/-- The launch's second result is the reference's key. -/
theorem value7_eq (c : Dev nD) (hn : ∀ i, IsReal (mn m c i)) (hw : ∀ i, IsReal (mw m c i)) :
    (dats m 0 c).arrAt 7 (cfgs 0).N = val_main_v61 (F := Ideal) (mx m c) (mn m c) (mw m c) := by
  rw [final7]
  funext i
  obtain ⟨b, t, n, rfl⟩ : ∃ (b : Fin 128) (t : Fin 1) (n : Fin 64), i = ix2 (⟨b.val, by omega⟩ : Fin 128) n :=
    ⟨i 0, 0, i 1, eq_ix2 i⟩
  refine Eq.trans ?_ (ref60_at (mx m c) (mn m c) (mw m c) b t n).symm
  have hpos : ∀ y : Fin 64, peG (V m c main_v32) (V m c main_v33) (V m c main_v14) (V m c main_v30) (V m c main_v31) (ix2 (⟨b.val, by omega⟩ : Fin 128) y)
      = Q m c b t ⟨256 + y.val, by omega⟩ * (show FVec Ideal S128x64 .f32 from V m c main_v30) (ix2 b y)
        + Q m c b t ⟨384 + y.val, by omega⟩ * (show FVec Ideal S128x64 .f32 from V m c main_v31) (ix2 b y) := fun y => by
    unfold peG
    rfl
  rw [hpos]
  by_cases h : n.val < 32
  · obtain ⟨n', rfl⟩ : ∃ n' : Fin 32, n = ⟨n'.val, Nat.lt_of_lt_of_le n'.isLt (by decide)⟩ := ⟨⟨n.val, h⟩, rfl⟩
    refine Eq.trans ?_ (refklo_at (mx m c) (mn m c) (mw m c) b t n').symm
    rw [show Q m c b t ⟨256 + n'.val, by omega⟩ = P m c b t ⟨256 + n'.val, by omega⟩ from q_at m c b t ⟨256 + n'.val, by omega⟩, qlo_at m c hn hw b t n', clo_at m c b t n', slo_at m c b t n', EReal.neg_mul, ← sub_eq_add_neg]
  · obtain ⟨n', rfl⟩ : ∃ n' : Fin 32, n = ⟨32 + n'.val, Nat.add_lt_add_left n'.isLt 32⟩ := ⟨⟨n.val - 32, by omega⟩, Fin.ext (by show n.val = 32 + (n.val - 32); omega)⟩
    refine Eq.trans ?_ (refkhi_at (mx m c) (mn m c) (mw m c) b t n').symm
    refine congrArg₂ (fun a b : EReal => a + b) (Ideal.mul_congr ?_ (chi_at m c b t n')) (Ideal.mul_congr (qhi_at m c b t n') (shi_at m c b t n'))
    exact (congrArg (Q m c b t) (Fin.ext (by show 256 + (32 + n'.val) = 288 + n'.val; omega))).trans (q_at m c b t ⟨288 + n'.val, by omega⟩)

end Cert.MlaKvTokIdeal.Value
-- ==== Proof.FiniteKvTok.lean ====
module

public import proofs.«01_k».proof.Proof.Finite
public import proofs.«01_k».proof.Pre_finite_kv_tok

@[expose] public section

set_option maxRecDepth 16384

noncomputable section

open Idealize.ShloMosaic Idealize.ShloMosaic.TcCoe Idealize.SL.Sem

namespace Cert.Pre_finite_kv_tok

open Cert.KernelIdeal.Value (IsReal)
open Cert.Pre_finite_scores (andi_one real_of_lt)
open Facts

/-- What the precondition says: every entry of the checked arguments is a real number. -/
theorem reals [Cert.Pre_finite_kv_tok.Facts] (x : FVec Ideal S128x1x1024 .f32) (nw : FVec Ideal S1024 .f32) (w : FVec Ideal S1024x320 .f32) (kn : FVec Ideal S256 .f32)
    (h : fn (F := Ideal) x nw w kn = fun _ => 1#1) :
    (∀ i, IsReal (nw i)) ∧ (∀ i, IsReal (w i)) := by
  haveI : Subsingleton S_.Idx := ⟨fun a b => funext fun i => i.elim0⟩
  have r0 := congrFun h (fun a => a.elim0)
  obtain ⟨r0, q1⟩ := andi_one r0
  refine ⟨fun i => ?_, fun i => ?_⟩
  · exact real_of_lt _ (Host.reduce_andi_all _ _ _ _ _ r0 i)
  · exact real_of_lt _ (Host.reduce_andi_all _ _ _ _ _ q1 i)

end Cert.Pre_finite_kv_tok
-- ==== Proof.MlaQ.lean ====
module

public import Idealize.ShloMosaic.Lib.Pipeline.ValueKit
public import Idealize.ShloMosaic.Lib.Pointwise
public import Idealize.ShloMosaic.Lib.Claim
public import proofs.«01_k».proof.Proof.Real
public import proofs.«01_k».proof.Proof.Gen.MlaQIdeal.Frame

@[expose] public section

set_option maxRecDepth 16384

noncomputable section

open Idealize.ShloMosaic Idealize.ShloMosaic.TcCoe Idealize.SL.Sem
open Idealize.ShloMosaic.Pipeline (Dat)

namespace Cert.MlaQIdeal.Value

open Cert.MlaQIdeal Cert.MlaQIdeal.Gen Cert.Layer
open Cert.KernelIdeal.Value (IsReal)

/-- The literal 1024 of the first norm. -/
abbrev d1 : EReal := Ideal.ofBits .f32 0x44800000#32

/-- The literal 384 of the second norm. -/
abbrev d2 : EReal := Ideal.ofBits .f32 0x43C00000#32

/-- The literal the queries are scaled by. -/
abbrev sc : EReal := Ideal.ofBits .f32 0x3D93CD3A#32

/-- The normed latent from a row of the projection. -/
def latRow (p : Fin 2432 → EReal) (w : Fin 384 → EReal) (j : Fin 384) : EReal := rmsRow d2 (fun j : Fin 384 => p ⟨j.val, by omega⟩) w j

/-- The scaled up-projection of a latent. -/
def qRow (l : Fin 384 → EReal) (w : Fin 384 → Fin 4096 → EReal) (n : Fin 4096) : EReal := (∑ k, l k * w k n) * sc

/-- The rotary columns of all heads: the plain columns by the cosines plus the rotated columns by the sines. -/
def peRow (q : Fin 4096 → EReal) (c s : Fin 1024 → EReal) (n : Fin 1024) : EReal := q ⟨2048 + n.val, by omega⟩ * c n + q ⟨3072 + n.val, by omega⟩ * s n

/-- One entry of one head: its own 128 columns, then its 64 rotary columns. -/
def headQ (q : Fin 4096 → EReal) (c s : Fin 1024 → EReal) (h : Fin 16) (n : Fin 192) : EReal :=
  if n.val < 128 then q ⟨128 * h.val + n.val % 128, by omega⟩ else peRow q c s ⟨64 * h.val + (n.val - 128), by omega⟩

/-- One entry of the projection a block computes. -/
theorem pay2_at (x0 : Vec Ideal S512x1024 .f32) (x1 : Vec Ideal S1x1024 .f32) (x2 : Vec Ideal S1024x2432 .bf16) (r : Fin 512) (n : Fin 2432) :
    k0_pay2 (F := Ideal) x0 x1 x2 (ix2 r n) = projRow d1 (fun j => (show FVec Ideal S512x1024 .f32 from x0) (ix2 r j)) (fun j => (show FVec Ideal S1x1024 .f32 from x1) (ix2 0 j)) (fun k (j : Fin 2432) => (show FVec Ideal S1024x2432 .bf16 from x2) (ix2 k j)) n := by
  unfold projRow rmsRow
  pointwise [k0_pay2]

/-- One entry of the latent a block computes. -/
theorem pay4_at (x0 : Vec Ideal S512x1024 .f32) (x1 : Vec Ideal S1x1024 .f32) (x2 : Vec Ideal S1024x2432 .bf16) (x3 : Vec Ideal S1x384 .f32) (r : Fin 512) (n : Fin 384) :
    k0_pay4 (F := Ideal) x0 x1 x2 x3 (ix2 r n) = latRow (projRow d1 (fun j => (show FVec Ideal S512x1024 .f32 from x0) (ix2 r j)) (fun j => (show FVec Ideal S1x1024 .f32 from x1) (ix2 0 j)) (fun k (j : Fin 2432) => (show FVec Ideal S1024x2432 .bf16 from x2) (ix2 k j))) (fun j => (show FVec Ideal S1x384 .f32 from x3) (ix2 0 j)) n := by
  unfold latRow rmsRow
  simp only [← pay2_at]
  pointwise [k0_pay4]

/-- One entry of the up-projection a block computes. -/
theorem pay5_at (l : FVec Ideal S512x384 .f32) (x4 : Vec Ideal S384x4096 .bf16) (r : Fin 512) (n : Fin 4096) :
    k0_pay5 (F := Ideal) l x4 (ix2 r n) = qRow (fun k => l (ix2 r k)) (fun k (j : Fin 4096) => (show FVec Ideal S384x4096 .bf16 from x4) (ix2 k j)) n := by
  unfold qRow
  pointwise [k0_pay5]

/-- One rotary entry a block computes. -/
theorem pay6_at (l : FVec Ideal S512x384 .f32) (x4 : Vec Ideal S384x4096 .bf16) (x5 x6 : Vec Ideal S512x1024 .f32) (r : Fin 512) (n : Fin 1024) :
    k0_pay6 (F := Ideal) l x4 x5 x6 (ix2 r n) = peRow (qRow (fun k => l (ix2 r k)) (fun k (j : Fin 4096) => (show FVec Ideal S384x4096 .bf16 from x4) (ix2 k j)))
      (fun j => (show FVec Ideal S512x1024 .f32 from x5) (ix2 r j)) (fun j => (show FVec Ideal S512x1024 .f32 from x6) (ix2 r j)) n := by
  unfold peRow
  simp only [← pay5_at]
  pointwise [k0_pay6]

/-- One head's own columns, cut out of the up-projection and stored. -/
theorem cut_a (a : FVec Ideal S512x4096 .f32) (o : ℕ) (h : S512x4096.Slices ![0, o] S512x128) (z : Fin 1) (p : Fin 512) (e : Fin 128) (g : o + e.val < 4096) :
    shapeCast S1x512x128 (truncf (F := Ideal) .bf16 (extractStridedSlice S512x128 ![0, o] a h) bitsLt_bf16_f32) shapeCasts_S512x128_S1x512x128 (ix3 z p e) = a (ix2 p ⟨o + e.val, g⟩) := by
  pointwise

/-- One head's rotary columns, cut out of the rotary columns of all heads and stored. -/
theorem cut_b (a : FVec Ideal S512x1024 .f32) (o : ℕ) (h : S512x1024.Slices ![0, o] S512x64) (z : Fin 1) (p : Fin 512) (e : Fin 64) (g : o + e.val < 1024) :
    shapeCast S1x512x64 (truncf (F := Ideal) .bf16 (extractStridedSlice S512x64 ![0, o] a h) bitsLt_bf16_f32) shapeCasts_S512x64_S1x512x64 (ix3 z p e) = a (ix2 p ⟨o + e.val, g⟩) := by
  pointwise

set_option maxHeartbeats 4000000 in
/-- Where the thirty-two stores of a block put the up-projection. -/
theorem store_at (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2432 .bf16) (harg3 : arg3.IsWhole) (arg4 : Memref sig .tc .vmem S1x384 .f32) (harg4 : arg4.IsWhole) (arg5 : Memref sig .tc .vmem S384x4096 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S16x512x192 .bf16) (harg8 : arg8.IsWhole) (arg9 : Memref sig .tc .vmem S512x2048 .bf16) (harg9 : arg9.IsWhole)
    (x0 : Vec Ideal S512x1024 .f32) (x1 : Vec Ideal S1x1024 .f32) (x2 : Vec Ideal S1024x2432 .bf16) (x3 : Vec Ideal S1x384 .f32) (x4 : Vec Ideal S384x4096 .bf16) (x5 x6 : Vec Ideal S512x1024 .f32) (h : Fin 16) (r : Fin 512) (n : Fin 192) :
    out0_A_7 c i arg1 harg1 arg2 harg2 arg3 harg3 arg4 harg4 arg5 harg5 arg6 harg6 arg7 harg7 arg8 harg8 arg9 harg9 x0 x1 x2 x3 x4 x5 x6 (ix3 h r n)
      = if n.val < 128 then k0_pay5 (F := Ideal) (k0_pay4 x0 x1 x2 x3) x4 (ix2 r ⟨128 * h.val + n.val % 128, by omega⟩)
        else k0_pay6 (F := Ideal) (k0_pay4 x0 x1 x2 x3) x4 x5 x6 (ix2 r ⟨64 * h.val + (n.val - 128), by omega⟩) := by
  frame_out
  simp only [k0_pay7, k0_pay8, k0_pay9, k0_pay10, k0_pay11]
  generalize k0_pay5 (F := Ideal) (k0_pay4 x0 x1 x2 x3) x4 = a
  generalize k0_pay6 (F := Ideal) (k0_pay4 x0 x1 x2 x3) x4 x5 x6 = b
  canon_tiles x hh using View.cover_of_tiledBy _ ![1, 512, 64] (by sl_kernel_rfl) _
  case piece0 =>
    have g0 : h.val = 15 + (x 0).val := hh0
    have g1 : r.val = (x 1).val := hh1
    have g2 : n.val = 128 + (x 2).val := hh2
    rw [if_neg (by omega), eq_ix3 x]
    exact (cut_b b 960 slices_S512x1024_o0_960_S512x64 (x 0) (x 1) (x 2) (by omega)).trans (congrArg b (congrArg₂ ix2 (Fin.ext g1.symm) (Fin.ext (by show 960 + (x 2).val = 64 * h.val + (n.val - 128); omega))))
  case piece1 =>
    have g0 : h.val = 15 + (x 0).val := hh0
    have g1 : r.val = (x 1).val := hh1
    have g2 : n.val = (x 2).val := hh2
    rw [if_pos (by omega), eq_ix3 x]
    exact (cut_a a 1920 slices_S512x4096_o0_1920_S512x128 (x 0) (x 1) (x 2) (by omega)).trans (congrArg a (congrArg₂ ix2 (Fin.ext g1.symm) (Fin.ext (by show 1920 + (x 2).val = 128 * h.val + n.val % 128; omega))))
  case piece2 =>
    have g0 : h.val = 14 + (x 0).val := hh0
    have g1 : r.val = (x 1).val := hh1
    have g2 : n.val = 128 + (x 2).val := hh2
    rw [if_neg (by omega), eq_ix3 x]
    exact (cut_b b 896 slices_S512x1024_o0_896_S512x64 (x 0) (x 1) (x 2) (by omega)).trans (congrArg b (congrArg₂ ix2 (Fin.ext g1.symm) (Fin.ext (by show 896 + (x 2).val = 64 * h.val + (n.val - 128); omega))))
  case piece3 =>
    have g0 : h.val = 14 + (x 0).val := hh0
    have g1 : r.val = (x 1).val := hh1
    have g2 : n.val = (x 2).val := hh2
    rw [if_pos (by omega), eq_ix3 x]
    exact (cut_a a 1792 slices_S512x4096_o0_1792_S512x128 (x 0) (x 1) (x 2) (by omega)).trans (congrArg a (congrArg₂ ix2 (Fin.ext g1.symm) (Fin.ext (by show 1792 + (x 2).val = 128 * h.val + n.val % 128; omega))))
  case piece4 =>
    have g0 : h.val = 13 + (x 0).val := hh0
    have g1 : r.val = (x 1).val := hh1
    have g2 : n.val = 128 + (x 2).val := hh2
    rw [if_neg (by omega), eq_ix3 x]
    exact (cut_b b 832 slices_S512x1024_o0_832_S512x64 (x 0) (x 1) (x 2) (by omega)).trans (congrArg b (congrArg₂ ix2 (Fin.ext g1.symm) (Fin.ext (by show 832 + (x 2).val = 64 * h.val + (n.val - 128); omega))))
  case piece5 =>
    have g0 : h.val = 13 + (x 0).val := hh0
    have g1 : r.val = (x 1).val := hh1
    have g2 : n.val = (x 2).val := hh2
    rw [if_pos (by omega), eq_ix3 x]
    exact (cut_a a 1664 slices_S512x4096_o0_1664_S512x128 (x 0) (x 1) (x 2) (by omega)).trans (congrArg a (congrArg₂ ix2 (Fin.ext g1.symm) (Fin.ext (by show 1664 + (x 2).val = 128 * h.val + n.val % 128; omega))))
  case piece6 =>
    have g0 : h.val = 12 + (x 0).val := hh0
    have g1 : r.val = (x 1).val := hh1
    have g2 : n.val = 128 + (x 2).val := hh2
    rw [if_neg (by omega), eq_ix3 x]
    exact (cut_b b 768 slices_S512x1024_o0_768_S512x64 (x 0) (x 1) (x 2) (by omega)).trans (congrArg b (congrArg₂ ix2 (Fin.ext g1.symm) (Fin.ext (by show 768 + (x 2).val = 64 * h.val + (n.val - 128); omega))))
  case piece7 =>
    have g0 : h.val = 12 + (x 0).val := hh0
    have g1 : r.val = (x 1).val := hh1
    have g2 : n.val = (x 2).val := hh2
    rw [if_pos (by omega), eq_ix3 x]
    exact (cut_a a 1536 slices_S512x4096_o0_1536_S512x128 (x 0) (x 1) (x 2) (by omega)).trans (congrArg a (congrArg₂ ix2 (Fin.ext g1.symm) (Fin.ext (by show 1536 + (x 2).val = 128 * h.val + n.val % 128; omega))))
  case piece8 =>
    have g0 : h.val = 11 + (x 0).val := hh0
    have g1 : r.val = (x 1).val := hh1
    have g2 : n.val = 128 + (x 2).val := hh2
    rw [if_neg (by omega), eq_ix3 x]
    exact (cut_b b 704 slices_S512x1024_o0_704_S512x64 (x 0) (x 1) (x 2) (by omega)).trans (congrArg b (congrArg₂ ix2 (Fin.ext g1.symm) (Fin.ext (by show 704 + (x 2).val = 64 * h.val + (n.val - 128); omega))))
  case piece9 =>
    have g0 : h.val = 11 + (x 0).val := hh0
    have g1 : r.val = (x 1).val := hh1
    have g2 : n.val = (x 2).val := hh2
    rw [if_pos (by omega), eq_ix3 x]
    exact (cut_a a 1408 slices_S512x4096_o0_1408_S512x128 (x 0) (x 1) (x 2) (by omega)).trans (congrArg a (congrArg₂ ix2 (Fin.ext g1.symm) (Fin.ext (by show 1408 + (x 2).val = 128 * h.val + n.val % 128; omega))))
  case piece10 =>
    have g0 : h.val = 10 + (x 0).val := hh0
    have g1 : r.val = (x 1).val := hh1
    have g2 : n.val = 128 + (x 2).val := hh2
    rw [if_neg (by omega), eq_ix3 x]
    exact (cut_b b 640 slices_S512x1024_o0_640_S512x64 (x 0) (x 1) (x 2) (by omega)).trans (congrArg b (congrArg₂ ix2 (Fin.ext g1.symm) (Fin.ext (by show 640 + (x 2).val = 64 * h.val + (n.val - 128); omega))))
  case piece11 =>
    have g0 : h.val = 10 + (x 0).val := hh0
    have g1 : r.val = (x 1).val := hh1
    have g2 : n.val = (x 2).val := hh2
    rw [if_pos (by omega), eq_ix3 x]
    exact (cut_a a 1280 slices_S512x4096_o0_1280_S512x128 (x 0) (x 1) (x 2) (by omega)).trans (congrArg a (congrArg₂ ix2 (Fin.ext g1.symm) (Fin.ext (by show 1280 + (x 2).val = 128 * h.val + n.val % 128; omega))))
  case piece12 =>
    have g0 : h.val = 9 + (x 0).val := hh0
    have g1 : r.val = (x 1).val := hh1
    have g2 : n.val = 128 + (x 2).val := hh2
    rw [if_neg (by omega), eq_ix3 x]
    exact (cut_b b 576 slices_S512x1024_o0_576_S512x64 (x 0) (x 1) (x 2) (by omega)).trans (congrArg b (congrArg₂ ix2 (Fin.ext g1.symm) (Fin.ext (by show 576 + (x 2).val = 64 * h.val + (n.val - 128); omega))))
  case piece13 =>
    have g0 : h.val = 9 + (x 0).val := hh0
    have g1 : r.val = (x 1).val := hh1
    have g2 : n.val = (x 2).val := hh2
    rw [if_pos (by omega), eq_ix3 x]
    exact (cut_a a 1152 slices_S512x4096_o0_1152_S512x128 (x 0) (x 1) (x 2) (by omega)).trans (congrArg a (congrArg₂ ix2 (Fin.ext g1.symm) (Fin.ext (by show 1152 + (x 2).val = 128 * h.val + n.val % 128; omega))))
  case piece14 =>
    have g0 : h.val = 8 + (x 0).val := hh0
    have g1 : r.val = (x 1).val := hh1
    have g2 : n.val = 128 + (x 2).val := hh2
    rw [if_neg (by omega), eq_ix3 x]
    exact (cut_b b 512 slices_S512x1024_o0_512_S512x64 (x 0) (x 1) (x 2) (by omega)).trans (congrArg b (congrArg₂ ix2 (Fin.ext g1.symm) (Fin.ext (by show 512 + (x 2).val = 64 * h.val + (n.val - 128); omega))))
  case piece15 =>
    have g0 : h.val = 8 + (x 0).val := hh0
    have g1 : r.val = (x 1).val := hh1
    have g2 : n.val = (x 2).val := hh2
    rw [if_pos (by omega), eq_ix3 x]
    exact (cut_a a 1024 slices_S512x4096_o0_1024_S512x128 (x 0) (x 1) (x 2) (by omega)).trans (congrArg a (congrArg₂ ix2 (Fin.ext g1.symm) (Fin.ext (by show 1024 + (x 2).val = 128 * h.val + n.val % 128; omega))))
  case piece16 =>
    have g0 : h.val = 7 + (x 0).val := hh0
    have g1 : r.val = (x 1).val := hh1
    have g2 : n.val = 128 + (x 2).val := hh2
    rw [if_neg (by omega), eq_ix3 x]
    exact (cut_b b 448 slices_S512x1024_o0_448_S512x64 (x 0) (x 1) (x 2) (by omega)).trans (congrArg b (congrArg₂ ix2 (Fin.ext g1.symm) (Fin.ext (by show 448 + (x 2).val = 64 * h.val + (n.val - 128); omega))))
  case piece17 =>
    have g0 : h.val = 7 + (x 0).val := hh0
    have g1 : r.val = (x 1).val := hh1
    have g2 : n.val = (x 2).val := hh2
    rw [if_pos (by omega), eq_ix3 x]
    exact (cut_a a 896 slices_S512x4096_o0_896_S512x128 (x 0) (x 1) (x 2) (by omega)).trans (congrArg a (congrArg₂ ix2 (Fin.ext g1.symm) (Fin.ext (by show 896 + (x 2).val = 128 * h.val + n.val % 128; omega))))
  case piece18 =>
    have g0 : h.val = 6 + (x 0).val := hh0
    have g1 : r.val = (x 1).val := hh1
    have g2 : n.val = 128 + (x 2).val := hh2
    rw [if_neg (by omega), eq_ix3 x]
    exact (cut_b b 384 slices_S512x1024_o0_384_S512x64 (x 0) (x 1) (x 2) (by omega)).trans (congrArg b (congrArg₂ ix2 (Fin.ext g1.symm) (Fin.ext (by show 384 + (x 2).val = 64 * h.val + (n.val - 128); omega))))
  case piece19 =>
    have g0 : h.val = 6 + (x 0).val := hh0
    have g1 : r.val = (x 1).val := hh1
    have g2 : n.val = (x 2).val := hh2
    rw [if_pos (by omega), eq_ix3 x]
    exact (cut_a a 768 slices_S512x4096_o0_768_S512x128 (x 0) (x 1) (x 2) (by omega)).trans (congrArg a (congrArg₂ ix2 (Fin.ext g1.symm) (Fin.ext (by show 768 + (x 2).val = 128 * h.val + n.val % 128; omega))))
  case piece20 =>
    have g0 : h.val = 5 + (x 0).val := hh0
    have g1 : r.val = (x 1).val := hh1
    have g2 : n.val = 128 + (x 2).val := hh2
    rw [if_neg (by omega), eq_ix3 x]
    exact (cut_b b 320 slices_S512x1024_o0_320_S512x64 (x 0) (x 1) (x 2) (by omega)).trans (congrArg b (congrArg₂ ix2 (Fin.ext g1.symm) (Fin.ext (by show 320 + (x 2).val = 64 * h.val + (n.val - 128); omega))))
  case piece21 =>
    have g0 : h.val = 5 + (x 0).val := hh0
    have g1 : r.val = (x 1).val := hh1
    have g2 : n.val = (x 2).val := hh2
    rw [if_pos (by omega), eq_ix3 x]
    exact (cut_a a 640 slices_S512x4096_o0_640_S512x128 (x 0) (x 1) (x 2) (by omega)).trans (congrArg a (congrArg₂ ix2 (Fin.ext g1.symm) (Fin.ext (by show 640 + (x 2).val = 128 * h.val + n.val % 128; omega))))
  case piece22 =>
    have g0 : h.val = 4 + (x 0).val := hh0
    have g1 : r.val = (x 1).val := hh1
    have g2 : n.val = 128 + (x 2).val := hh2
    rw [if_neg (by omega), eq_ix3 x]
    exact (cut_b b 256 slices_S512x1024_o0_256_S512x64 (x 0) (x 1) (x 2) (by omega)).trans (congrArg b (congrArg₂ ix2 (Fin.ext g1.symm) (Fin.ext (by show 256 + (x 2).val = 64 * h.val + (n.val - 128); omega))))
  case piece23 =>
    have g0 : h.val = 4 + (x 0).val := hh0
    have g1 : r.val = (x 1).val := hh1
    have g2 : n.val = (x 2).val := hh2
    rw [if_pos (by omega), eq_ix3 x]
    exact (cut_a a 512 slices_S512x4096_o0_512_S512x128 (x 0) (x 1) (x 2) (by omega)).trans (congrArg a (congrArg₂ ix2 (Fin.ext g1.symm) (Fin.ext (by show 512 + (x 2).val = 128 * h.val + n.val % 128; omega))))
  case piece24 =>
    have g0 : h.val = 3 + (x 0).val := hh0
    have g1 : r.val = (x 1).val := hh1
    have g2 : n.val = 128 + (x 2).val := hh2
    rw [if_neg (by omega), eq_ix3 x]
    exact (cut_b b 192 slices_S512x1024_o0_192_S512x64 (x 0) (x 1) (x 2) (by omega)).trans (congrArg b (congrArg₂ ix2 (Fin.ext g1.symm) (Fin.ext (by show 192 + (x 2).val = 64 * h.val + (n.val - 128); omega))))
  case piece25 =>
    have g0 : h.val = 3 + (x 0).val := hh0
    have g1 : r.val = (x 1).val := hh1
    have g2 : n.val = (x 2).val := hh2
    rw [if_pos (by omega), eq_ix3 x]
    exact (cut_a a 384 slices_S512x4096_o0_384_S512x128 (x 0) (x 1) (x 2) (by omega)).trans (congrArg a (congrArg₂ ix2 (Fin.ext g1.symm) (Fin.ext (by show 384 + (x 2).val = 128 * h.val + n.val % 128; omega))))
  case piece26 =>
    have g0 : h.val = 2 + (x 0).val := hh0
    have g1 : r.val = (x 1).val := hh1
    have g2 : n.val = 128 + (x 2).val := hh2
    rw [if_neg (by omega), eq_ix3 x]
    exact (cut_b b 128 slices_S512x1024_o0_128_S512x64 (x 0) (x 1) (x 2) (by omega)).trans (congrArg b (congrArg₂ ix2 (Fin.ext g1.symm) (Fin.ext (by show 128 + (x 2).val = 64 * h.val + (n.val - 128); omega))))
  case piece27 =>
    have g0 : h.val = 2 + (x 0).val := hh0
    have g1 : r.val = (x 1).val := hh1
    have g2 : n.val = (x 2).val := hh2
    rw [if_pos (by omega), eq_ix3 x]
    exact (cut_a a 256 slices_S512x4096_o0_256_S512x128 (x 0) (x 1) (x 2) (by omega)).trans (congrArg a (congrArg₂ ix2 (Fin.ext g1.symm) (Fin.ext (by show 256 + (x 2).val = 128 * h.val + n.val % 128; omega))))
  case piece28 =>
    have g0 : h.val = 1 + (x 0).val := hh0
    have g1 : r.val = (x 1).val := hh1
    have g2 : n.val = 128 + (x 2).val := hh2
    rw [if_neg (by omega), eq_ix3 x]
    exact (cut_b b 64 slices_S512x1024_o0_64_S512x64 (x 0) (x 1) (x 2) (by omega)).trans (congrArg b (congrArg₂ ix2 (Fin.ext g1.symm) (Fin.ext (by show 64 + (x 2).val = 64 * h.val + (n.val - 128); omega))))
  case piece29 =>
    have g0 : h.val = 1 + (x 0).val := hh0
    have g1 : r.val = (x 1).val := hh1
    have g2 : n.val = (x 2).val := hh2
    rw [if_pos (by omega), eq_ix3 x]
    exact (cut_a a 128 slices_S512x4096_o0_128_S512x128 (x 0) (x 1) (x 2) (by omega)).trans (congrArg a (congrArg₂ ix2 (Fin.ext g1.symm) (Fin.ext (by show 128 + (x 2).val = 128 * h.val + n.val % 128; omega))))
  case piece30 =>
    have g0 : h.val = (x 0).val := hh0
    have g1 : r.val = (x 1).val := hh1
    have g2 : n.val = 128 + (x 2).val := hh2
    rw [if_neg (by omega), eq_ix3 x]
    exact (cut_b b 0 slices_S512x1024_o0_0_S512x64 (x 0) (x 1) (x 2) (by omega)).trans (congrArg b (congrArg₂ ix2 (Fin.ext g1.symm) (Fin.ext (by show 0 + (x 2).val = 64 * h.val + (n.val - 128); omega))))
  case piece31 =>
    have g0 : h.val = (x 0).val := hh0
    have g1 : r.val = (x 1).val := hh1
    have g2 : n.val = (x 2).val := hh2
    rw [if_pos (by omega), eq_ix3 x]
    exact (cut_a a 0 slices_S512x4096_o0_0_S512x128 (x 0) (x 1) (x 2) (by omega)).trans (congrArg a (congrArg₂ ix2 (Fin.ext g1.symm) (Fin.ext (by show 0 + (x 2).val = 128 * h.val + n.val % 128; omega))))

/-- The first block one grid point leaves: the queries of all heads. -/
theorem out7_at (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2432 .bf16) (harg3 : arg3.IsWhole) (arg4 : Memref sig .tc .vmem S1x384 .f32) (harg4 : arg4.IsWhole) (arg5 : Memref sig .tc .vmem S384x4096 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S16x512x192 .bf16) (harg8 : arg8.IsWhole) (arg9 : Memref sig .tc .vmem S512x2048 .bf16) (harg9 : arg9.IsWhole)
    (x0 : Vec Ideal S512x1024 .f32) (x1 : Vec Ideal S1x1024 .f32) (x2 : Vec Ideal S1024x2432 .bf16) (x3 : Vec Ideal S1x384 .f32) (x4 : Vec Ideal S384x4096 .bf16) (x5 x6 : Vec Ideal S512x1024 .f32) (h : Fin 16) (r : Fin 512) (n : Fin 192) :
    out0_A_7 c i arg1 harg1 arg2 harg2 arg3 harg3 arg4 harg4 arg5 harg5 arg6 harg6 arg7 harg7 arg8 harg8 arg9 harg9 x0 x1 x2 x3 x4 x5 x6 (ix3 h r n)
      = headQ (qRow (latRow (projRow d1 (fun j => (show FVec Ideal S512x1024 .f32 from x0) (ix2 r j)) (fun j => (show FVec Ideal S1x1024 .f32 from x1) (ix2 0 j)) (fun k (j : Fin 2432) => (show FVec Ideal S1024x2432 .bf16 from x2) (ix2 k j))) (fun j => (show FVec Ideal S1x384 .f32 from x3) (ix2 0 j))) (fun k (j : Fin 4096) => (show FVec Ideal S384x4096 .bf16 from x4) (ix2 k j))) (fun j => (show FVec Ideal S512x1024 .f32 from x5) (ix2 r j)) (fun j => (show FVec Ideal S512x1024 .f32 from x6) (ix2 r j)) h n := by
  rw [store_at, pay5_at, pay6_at]
  simp only [pay4_at]
  rfl

/-- The second block: the gate's columns. -/
theorem out8_at (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2432 .bf16) (harg3 : arg3.IsWhole) (arg4 : Memref sig .tc .vmem S1x384 .f32) (harg4 : arg4.IsWhole) (arg5 : Memref sig .tc .vmem S384x4096 .bf16) (harg5 : arg5.IsWhole) (arg6 : Memref sig .tc .vmem S512x1024 .f32) (harg6 : arg6.IsWhole) (arg7 : Memref sig .tc .vmem S512x1024 .f32) (harg7 : arg7.IsWhole) (arg8 : Memref sig .tc .vmem S16x512x192 .bf16) (harg8 : arg8.IsWhole) (arg9 : Memref sig .tc .vmem S512x2048 .bf16) (harg9 : arg9.IsWhole)
    (x0 : Vec Ideal S512x1024 .f32) (x1 : Vec Ideal S1x1024 .f32) (x2 : Vec Ideal S1024x2432 .bf16) (x3 : Vec Ideal S1x384 .f32) (x4 : Vec Ideal S384x4096 .bf16) (x5 x6 : Vec Ideal S512x1024 .f32) (r : Fin 512) (n : Fin 2048) :
    out0_A_8 c i arg1 harg1 arg2 harg2 arg3 harg3 arg4 harg4 arg5 harg5 arg6 harg6 arg7 harg7 arg8 harg8 arg9 harg9 x0 x1 x2 x3 x4 x5 x6 (ix2 r n) = projRow d1 (fun j => (show FVec Ideal S512x1024 .f32 from x0) (ix2 r j)) (fun j => (show FVec Ideal S1x1024 .f32 from x1) (ix2 0 j)) (fun k (j : Fin 2432) => (show FVec Ideal S1024x2432 .bf16 from x2) (ix2 k j)) ⟨384 + n.val, by omega⟩ := by
  frame_out
  simp only [← pay2_at]
  pointwise [k0_pay3]

/-- The queries from the prepared operands. -/
def qG (X : FVec Ideal S32768x1024 .f32) (NW : FVec Ideal S1x1024 .f32) (W : FVec Ideal S1024x2432 .bf16) (QN : FVec Ideal S1x384 .f32) (WU : FVec Ideal S384x4096 .bf16) (C D : FVec Ideal S2048x1024 .f32) : FVec Ideal S16x32768x192 .bf16 := fun i =>
  headQ (qRow (latRow (projRow d1 (fun j => X (ix2 (i 1) j)) (fun j => NW (ix2 0 j)) (fun k (j : Fin 2432) => W (ix2 k j))) (fun j => QN (ix2 0 j))) (fun k (j : Fin 4096) => WU (ix2 k j)))
    (fun j => C (ix2 ⟨(i 1).val % 2048, Nat.mod_lt _ (by norm_num)⟩ j)) (fun j => D (ix2 ⟨(i 1).val % 2048, Nat.mod_lt _ (by norm_num)⟩ j)) (i 0) (i 2)

/-- The gate's columns from the prepared operands. -/
def zG (X : FVec Ideal S32768x1024 .f32) (NW : FVec Ideal S1x1024 .f32) (W : FVec Ideal S1024x2432 .bf16) : FVec Ideal S32768x2048 .bf16 := fun i =>
  projRow d1 (fun j => X (ix2 (i 0) j)) (fun j => NW (ix2 0 j)) (fun k (j : Fin 2432) => W (ix2 k j)) ⟨384 + (i 1).val, by have h : (i 1).val < 2048 := (i 1).isLt; omega⟩

variable (m : (ℓ : Loc nD τ sig) → Buf (Elt Ideal) ℓ)

/-- The blocks of a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val % 4, 0] ∧ win0_6.index t = ![t.val % 4, 0] ∧ win0_7.index t = ![0, t.val, 0] ∧ win0_8.index t = ![t.val, 0]
    ∧ t.val < 64 := (by decide +kernel : ∀ t : Fin grid0.N, _)

set_option maxHeartbeats 2000000 in
/-- The first array the launch leaves. -/
theorem final7 (c : Dev nD) : (dats m 0 c).arrAt 7 (cfgs 0).N = qG (V m c main_v34) (V m c main_v35) (V m c main_v36) (V m c main_v37) (V m c main_v33) (V m c main_v40) (V m c main_v43) := by
  refine (dats m 0 c).arrAt_eq_of_covers 7 _ (by decide +kernel) fun t _ y => ?_
  blk_simp
  rw [after0_7]
  unfold outsAt0
  dsimp only
  obtain ⟨h, r, n, rfl⟩ : ∃ (h : Fin 16) (r : Fin 512) (n : Fin 192), y = ix3 h r n := ⟨y 0, y 1, y 2, eq_ix3 y⟩
  rw [out7_at]
  unfold qG
  refine congr (congr (congr (congr (congrArg headQ (congr (congrArg qRow (congr (congrArg latRow
    (congr (congr (congrArg (projRow _) (funext fun k => ?_)) (funext fun k => ?_)) (funext fun k => funext fun j => ?_))) (funext fun j => ?_))) (funext fun k => funext fun j => ?_)))
    (funext fun j => ?_)) (funext fun j => ?_)) (Fin.ext (by blk_simp [idx t]; try omega))) (Fin.ext (by blk_simp [idx t]; try omega)) <;> blk_ext [iblk, idx t]

set_option maxHeartbeats 2000000 in
/-- The second array the launch leaves. -/
theorem final8 (c : Dev nD) : (dats m 0 c).arrAt 8 (cfgs 0).N = zG (V m c main_v34) (V m c main_v35) (V m c main_v36) := by
  refine (dats m 0 c).arrAt_eq_of_covers 8 _ (by decide +kernel) fun t _ y => ?_
  blk_simp
  rw [after0_8]
  unfold outsAt0
  dsimp only
  obtain ⟨r, n, rfl⟩ : ∃ (r : Fin 512) (n : Fin 2048), y = ix2 r n := ⟨y 0, y 1, eq_ix2 y⟩
  rw [out8_at]
  unfold zG
  refine congr (congr (congr (congrArg (projRow _) (funext fun k => ?_)) (funext fun k => ?_)) (funext fun k => funext fun j => ?_)) (Fin.ext (by blk_simp [idx t]; try omega)) <;> blk_ext [iblk, idx t]

end Cert.MlaQIdeal.Value
-- ==== Proof.MlaQHost.lean ====
module

public import Idealize.ShloMosaic.Lib.StableHlo.RunRead
public import proofs.«01_k».proof.Proof.MlaQ
public import proofs.«01_k».proof.Proof.Gen.MlaQReferenceIdeal.Read

@[expose] public section

set_option maxRecDepth 16384

noncomputable section

open Idealize.ShloMosaic Idealize.ShloMosaic.TcCoe Idealize.SL.Sem
open Idealize.ShloMosaic.Pipeline (Dat)

namespace Cert.MlaQIdeal.Value

open Cert.MlaQIdeal Cert.MlaQIdeal.Gen Cert.Layer
open Cert.KernelIdeal.Value (IsReal)

variable (m : (ℓ : Loc nD τ sig) → Buf (Elt Ideal) ℓ)

/-- The host's values when the blocks of the up-projection are put together. -/
abbrev U (c : Dev nD) := StableHlo.upto (hostOps0 (F := Ideal)) (fun b => m (c, b)) 34

/-- The given stream. -/
abbrev mx (c : Dev nD) : FVec Ideal S16x2048x1024 .f32 := m ((c : Thread nD τ).loc main_arg0)

/-- The given weights of the first norm. -/
abbrev mn (c : Dev nD) : FVec Ideal S1024 .f32 := m ((c : Thread nD τ).loc main_arg1)

/-- The given projection weights. -/
abbrev mw (c : Dev nD) : FVec Ideal S1024x2432 .f32 := m ((c : Thread nD τ).loc main_arg2)

/-- The given weights of the latent's norm. -/
abbrev mq (c : Dev nD) : FVec Ideal S384 .f32 := m ((c : Thread nD τ).loc main_arg3)

/-- The given up-projection. -/
abbrev mu (c : Dev nD) : FVec Ideal S384x3072 .f32 := m ((c : Thread nD τ).loc main_arg4)

/-- The prepared up-projection is three blocks of columns. -/
theorem w33 (c : Dev nD) : (show FVec Ideal S384x4096 .bf16 from V m c main_v33) =
    truncf (F := Ideal) .bf16 (concatenate S384x4096 1
        [⟨S384x2048, show FVec Ideal S384x2048 .f32 from U m c main_v21⟩, ⟨S384x1024, show FVec Ideal S384x1024 .f32 from U m c main_v19⟩, ⟨S384x1024, show FVec Ideal S384x1024 .f32 from U m c main_v31⟩]
        concatenates_S384x2048_S384x1024_S384x1024_S384x4096_d1) bitsLt_bf16_f32 := by
  show (show FVec Ideal S384x4096 .bf16 from StableHlo.after hostOps0 (fun b => m (c, b)) main_v33) = _
  after_reads_simp
  rfl

/-- The heads' own columns. -/
theorem u21 (c : Dev nD) (k : Fin 384) (h : Fin 16) (n : Fin 128) : (show FVec Ideal S384x2048 .f32 from U m c main_v21) (ix2 k ⟨128 * h.val + n.val, by omega⟩) = mu m c (ix2 k ⟨192 * h.val + n.val, by omega⟩) := by
  after_reads_simp
  pointwise
  blk_ext

/-- The heads' rotary columns. -/
theorem u19 (c : Dev nD) (k : Fin 384) (h : Fin 16) (n : Fin 64) : (show FVec Ideal S384x1024 .f32 from U m c main_v19) (ix2 k ⟨64 * h.val + n.val, by omega⟩) = mu m c (ix2 k ⟨192 * h.val + (128 + n.val), by omega⟩) := by
  after_reads_simp
  pointwise
  blk_ext

/-- The rotated columns, first half of each head: the negatives of the second half. -/
theorem u31lo (c : Dev nD) (k : Fin 384) (h : Fin 16) (n : Fin 32) : (show FVec Ideal S384x1024 .f32 from U m c main_v31) (ix2 k ⟨64 * h.val + n.val, by omega⟩)
    = (-mu m c (ix2 k ⟨192 * h.val + (160 + n.val), by omega⟩) : EReal) := by
  after_reads_simp
  pointwise
  rw [dif_pos (by omega)]
  after_reads_simp
  pointwise
  refine congrArg (fun j => (-mu m c (ix2 k j) : EReal)) (Fin.ext ?_)
  simp only []
  omega

/-- The rotated columns, second half of each head: the first half. -/
theorem u31hi (c : Dev nD) (k : Fin 384) (h : Fin 16) (n : Fin 32) : (show FVec Ideal S384x1024 .f32 from U m c main_v31) (ix2 k ⟨64 * h.val + (32 + n.val), by omega⟩)
    = mu m c (ix2 k ⟨192 * h.val + (128 + n.val), by omega⟩) := by
  after_reads_simp
  pointwise
  rw [dif_neg (by omega)]
  after_reads_simp
  pointwise
  refine congrArg (fun j => (mu m c (ix2 k j) : EReal)) (Fin.ext ?_)
  simp only []
  omega

/-- The prepared columns: a head's own. -/
theorem wn_at (c : Dev nD) (k : Fin 384) (h : Fin 16) (n : Fin 128) :
    (show FVec Ideal S384x4096 .bf16 from V m c main_v33) (ix2 k ⟨128 * h.val + n.val, by omega⟩) = mu m c (ix2 k ⟨192 * h.val + n.val, by omega⟩) := by
  rw [w33]
  pointwise
  rw [dif_pos (by omega)]
  exact u21 m c k h n

/-- The prepared columns: a head's rotary ones. -/
theorem wp_at (c : Dev nD) (k : Fin 384) (h : Fin 16) (n : Fin 64) :
    (show FVec Ideal S384x4096 .bf16 from V m c main_v33) (ix2 k ⟨2048 + (64 * h.val + n.val), by omega⟩) = mu m c (ix2 k ⟨192 * h.val + (128 + n.val), by omega⟩) := by
  rw [w33]
  pointwise
  rw [dif_pos (by omega)]
  refine Eq.trans (congrArg (fun j => (show FVec Ideal S384x1024 .f32 from U m c main_v19) (ix2 k j)) (Fin.ext ?_)) (u19 m c k h n)
  simp only [] <;> omega

/-- The prepared columns: a head's rotated ones, first half. -/
theorem wlo_at (c : Dev nD) (k : Fin 384) (h : Fin 16) (n : Fin 32) :
    (show FVec Ideal S384x4096 .bf16 from V m c main_v33) (ix2 k ⟨3072 + (64 * h.val + n.val), by omega⟩) = (-mu m c (ix2 k ⟨192 * h.val + (160 + n.val), by omega⟩) : EReal) := by
  rw [w33]
  pointwise
  rw [dif_neg (by omega), dif_neg (by omega)]
  refine Eq.trans (congrArg (fun j => (show FVec Ideal S384x1024 .f32 from U m c main_v31) (ix2 k j)) (Fin.ext ?_)) (u31lo m c k h n)
  simp only []; omega

/-- The prepared columns: a head's rotated ones, second half. -/
theorem whi_at (c : Dev nD) (k : Fin 384) (h : Fin 16) (n : Fin 32) :
    (show FVec Ideal S384x4096 .bf16 from V m c main_v33) (ix2 k ⟨3072 + (64 * h.val + (32 + n.val)), by omega⟩) = mu m c (ix2 k ⟨192 * h.val + (128 + n.val), by omega⟩) := by
  rw [w33]
  pointwise
  rw [dif_neg (by omega), dif_neg (by omega)]
  refine Eq.trans (congrArg (fun j => (show FVec Ideal S384x1024 .f32 from U m c main_v31) (ix2 k j)) (Fin.ext ?_)) (u31hi m c k h n)
  simp only []; omega

/-- The stream's rows. -/
theorem x_at (c : Dev nD) (b : Fin 16) (t : Fin 2048) (k : Fin 1024) :
    (show FVec Ideal S32768x1024 .f32 from V m c main_v34) (ix2 ⟨b.val * 2048 + t.val, by omega⟩ k) = mx m c (ix3 b t k) := by
  entry_read
  pointwise
  blk_ext

/-- The first norm's weights. -/
theorem nw_at (c : Dev nD) (k : Fin 1024) : (show FVec Ideal S1x1024 .f32 from V m c main_v35) (ix2 0 k) = mn m c (ix1 k) := by
  entry_read
  pointwise
  blk_ext

/-- The projection weights. -/
theorem w_at (c : Dev nD) (k : Fin 1024) (n : Fin 2432) : (show FVec Ideal S1024x2432 .bf16 from V m c main_v36) (ix2 k n) = mw m c (ix2 k n) := by
  entry_read
  pointwise

/-- The latent norm's weights. -/
theorem qn_at (c : Dev nD) (k : Fin 384) : (show FVec Ideal S1x384 .f32 from V m c main_v37) (ix2 0 k) = mq m c (ix1 k) := by
  entry_read
  pointwise
  blk_ext

open Cert.MlaQReferenceIdeal.Read in
/-- The reference's angle. -/
theorem ang_at (t : Fin 2048) (n : Fin 32) : val_main_v45 (F := Ideal) (ix2 t n) =
    FloatOps.sitofp (F := Ideal) .f32 (BitVec.ofNat 32 t.val) * Ideal.pow (Ideal.ofBits .f32 0x461C4000#32) (Ideal.div (-(FloatOps.sitofp (F := Ideal) .f32 (BitVec.ofNat 32 n.val) : EReal)) (Ideal.ofBits .f32 0x42000000#32)) := by
  rw [val_main_v45_apply, val_main_v43_apply, val_main_v41_apply, val_main_v40_apply, val_main_v44_apply, val_main_v42_apply, val_main_v39_apply, val_main_v38_apply, val_main_v37_apply, val_main_v36_apply, val_main_v35_apply]
  rfl

open Cert.MlaQReferenceIdeal.Read in
/-- The cosine table, first half of each head. -/
theorem clo_at (c : Dev nD) (t : Fin 2048) (h : Fin 16) (n : Fin 32) :
    (show FVec Ideal S2048x1024 .f32 from V m c main_v40) (ix2 t ⟨64 * h.val + n.val, by omega⟩) = val_main_v46 (F := Ideal) (ix2 t n) := by
  rw [val_main_v46_apply, ang_at]
  entry_read
  pointwise
  rw [dif_pos (by omega), show (64 * h.val + n.val) % 64 = n.val from by omega]

open Cert.MlaQReferenceIdeal.Read in
/-- The cosine table, second half of each head. -/
theorem chi_at (c : Dev nD) (t : Fin 2048) (h : Fin 16) (n : Fin 32) :
    (show FVec Ideal S2048x1024 .f32 from V m c main_v40) (ix2 t ⟨64 * h.val + (32 + n.val), by omega⟩) = val_main_v46 (F := Ideal) (ix2 t n) := by
  rw [val_main_v46_apply, ang_at]
  entry_read
  pointwise
  rw [dif_neg (by omega), show (64 * h.val + (32 + n.val)) % 64 - 32 = n.val from by omega]

open Cert.MlaQReferenceIdeal.Read in
/-- The sine table, first half of each head. -/
theorem slo_at (c : Dev nD) (t : Fin 2048) (h : Fin 16) (n : Fin 32) :
    (show FVec Ideal S2048x1024 .f32 from V m c main_v43) (ix2 t ⟨64 * h.val + n.val, by omega⟩) = val_main_v48 (F := Ideal) (ix2 t n) := by
  rw [val_main_v48_apply, ang_at]
  entry_read
  pointwise
  rw [dif_pos (by omega), show (64 * h.val + n.val) % 64 = n.val from by omega]

open Cert.MlaQReferenceIdeal.Read in
/-- The sine table, second half of each head. -/
theorem shi_at (c : Dev nD) (t : Fin 2048) (h : Fin 16) (n : Fin 32) :
    (show FVec Ideal S2048x1024 .f32 from V m c main_v43) (ix2 t ⟨64 * h.val + (32 + n.val), by omega⟩) = val_main_v48 (F := Ideal) (ix2 t n) := by
  rw [val_main_v48_apply, ang_at]
  entry_read
  pointwise
  rw [dif_neg (by omega), show (64 * h.val + (32 + n.val)) % 64 - 32 = n.val from by omega]

end Cert.MlaQIdeal.Value
-- ==== Proof.MlaQRef.lean ====
module

public import Idealize.ShloMosaic.Lib.Pointwise
public import Idealize.ShloMosaic.Lib.Claim
public import proofs.«01_k».proof.Proof.MlaQ
public import proofs.«01_k».proof.Proof.Gen.MlaQReferenceIdeal.Read

@[expose] public section

set_option maxRecDepth 16384

noncomputable section

open Idealize.ShloMosaic Idealize.ShloMosaic.TcCoe Idealize.SL.Sem
open Idealize.ShloMosaic.Pipeline (Dat)

namespace Cert.MlaQIdeal.Value

open Cert.MlaQIdeal Cert.MlaQIdeal.Gen Cert.Layer
open Cert.KernelIdeal.Value (IsReal)

/-- The up-projection of a latent. -/
def upRow (l : Fin 384 → EReal) (w : Fin 384 → Fin 3072 → EReal) (n : Fin 3072) : EReal := ∑ k, l k * w k n

open Cert.MlaQReferenceIdeal.Read in
/-- The reference's projection. -/
theorem refp_at (x : FVec Ideal S16x2048x1024 .f32) (nw : FVec Ideal S1024 .f32) (w : FVec Ideal S1024x2432 .f32) (b : Fin 16) (t : Fin 2048) (n : Fin 2432) : val_main_v13 (F := Ideal) x nw w (ix3 b t n) = projRow d1 (fun j => x (ix3 b t j)) (fun j => nw (ix1 j)) (fun k (j : Fin 2432) => w (ix2 k j)) n := by
  refine (val_main_v13_apply ..).trans ?_
  unfold projRow
  refine Finset.sum_congr rfl fun k _ => Ideal.mul_congr ?_ (by blk_ext)
  rw [show lidx_main_v13 (ix3 b t n) k = ix3 b t k from by blk_ext]
  unfold rmsRow
  rw [val_main_v12_apply, val_main_v9_apply, val_main_v8_apply, val_main_v7_apply, val_main_v6_apply, val_main_v4_apply, val_main_v2_apply, val_main_v1_apply]
  refine Ideal.mul_congr (Ideal.mul_congr rfl (congrArg Ideal.rsqrt (congrArg₂ (· + ·)
      (congrArg₂ Ideal.div ?_ ?_) ?_))) ?_
  · refine (congrArg₂ (· + ·) zero_eq (Finset.sum_congr rfl fun j _ => ?_)).trans (zero_add _)
    exact Ideal.mul_congr (by blk_ext) (by blk_ext)
  · exact (val_main_v3_apply _).trans rfl
  · exact (val_main_v5_apply _).trans rfl
  · rw [val_main_v11_apply, val_main_v10_apply]
    blk_ext

open Cert.MlaQReferenceIdeal.Read in
/-- The reference's latent. -/
theorem refl_at (x : FVec Ideal S16x2048x1024 .f32) (nw : FVec Ideal S1024 .f32) (w : FVec Ideal S1024x2432 .f32) (qn : FVec Ideal S384 .f32) (b : Fin 16) (t : Fin 2048) (n : Fin 384) : val_main_v27 (F := Ideal) x nw w qn (ix3 b t n) = latRow (projRow d1 (fun j => x (ix3 b t j)) (fun j => nw (ix1 j)) (fun k (j : Fin 2432) => w (ix2 k j))) (fun j => qn (ix1 j)) n := by
  have hp : ∀ j : Fin 384, val_main_v14 (F := Ideal) x nw w (ix3 b t j) = projRow d1 (fun j => x (ix3 b t j)) (fun j => nw (ix1 j)) (fun k (j : Fin 2432) => w (ix2 k j)) ⟨j.val, by omega⟩ := fun j => by
    rw [val_main_v14_apply, show idx_main_v14 (ix3 b t j) = ix3 b t (⟨j.val, by omega⟩ : Fin 2432) from by blk_ext]
    exact refp_at x nw w b t _
  unfold latRow rmsRow
  rw [val_main_v27_apply, val_main_v24_apply, val_main_v23_apply, val_main_v22_apply, val_main_v21_apply, val_main_v19_apply, val_main_v17_apply, val_main_v16_apply]
  refine Ideal.mul_congr (Ideal.mul_congr (hp n) (congrArg Ideal.rsqrt (congrArg₂ (· + ·)
      (congrArg₂ Ideal.div ?_ ?_) ?_))) ?_
  · refine (congrArg₂ (· + ·) zero_eq (Finset.sum_congr rfl fun j _ => ?_)).trans (zero_add _)
    rw [val_main_v15_apply, show idx_main_v16 (idx_main_v17 (idx_main_v23 (ix3 b t n))) j = ix3 b t j from by blk_ext]
    exact Ideal.mul_congr (hp j) (hp j)
  · exact (val_main_v18_apply _).trans rfl
  · exact (val_main_v20_apply _).trans rfl
  · rw [val_main_v26_apply, val_main_v25_apply]
    blk_ext

open Cert.MlaQReferenceIdeal.Read in
/-- The reference's up-projection, head by head. -/
theorem refu_at (x : FVec Ideal S16x2048x1024 .f32) (nw : FVec Ideal S1024 .f32) (w : FVec Ideal S1024x2432 .f32) (qn : FVec Ideal S384 .f32) (wu : FVec Ideal S384x3072 .f32) (b : Fin 16) (t : Fin 2048) (h : Fin 16) (n : Fin 192) : val_main_v30 (F := Ideal) x nw w qn wu (ix4 b t h n) = upRow (latRow (projRow d1 (fun j => x (ix3 b t j)) (fun j => nw (ix1 j)) (fun k (j : Fin 2432) => w (ix2 k j))) (fun j => qn (ix1 j))) (fun k (j : Fin 3072) => wu (ix2 k j)) ⟨192 * h.val + n.val, by omega⟩ := by
  rw [val_main_v30_apply, show idx_main_v30 (ix4 b t h n) = ix3 b t (⟨192 * h.val + n.val, by omega⟩ : Fin 3072) from by blk_ext]
  refine (val_main_v29_apply ..).trans ?_
  unfold upRow
  refine Finset.sum_congr rfl fun k _ => Ideal.mul_congr ?_ (by blk_ext)
  rw [show lidx_main_v29 (ix3 b t (⟨192 * h.val + n.val, by omega⟩ : Fin 3072)) k = ix3 b t k from by blk_ext]
  exact refl_at x nw w qn b t k

open Cert.MlaQReferenceIdeal.Read in
/-- The reference's queries, a head's own columns. -/
theorem refn_at (x : FVec Ideal S16x2048x1024 .f32) (nw : FVec Ideal S1024 .f32) (w : FVec Ideal S1024x2432 .f32) (qn : FVec Ideal S384 .f32) (wu : FVec Ideal S384x3072 .f32) (b : Fin 16) (t : Fin 2048) (h : Fin 16) (n : Fin 128) :
    val_main_v63 (F := Ideal) x nw w qn wu (ix4 b t h (⟨n.val, by omega⟩ : Fin 192)) = upRow (latRow (projRow d1 (fun j => x (ix3 b t j)) (fun j => nw (ix1 j)) (fun k (j : Fin 2432) => w (ix2 k j))) (fun j => qn (ix1 j))) (fun k (j : Fin 3072) => wu (ix2 k j)) ⟨192 * h.val + n.val, by omega⟩ := by
  unfold val_main_v63
  refine (concatenate_pair_apply_left (t := Cert.MlaQReferenceIdeal.S16x2048x16x192) 3 (val_main_v31 (F := Ideal) x nw w qn wu) (val_main_v62 (F := Ideal) x nw w qn wu) _ (ix4 b t h (⟨n.val, by omega⟩ : Fin 192)) rfl (ix4 b t h n) (fun a => match a with | ⟨0, _⟩ => rfl | ⟨1, _⟩ => rfl | ⟨2, _⟩ => rfl | ⟨3, _⟩ => rfl)).trans ?_
  rw [val_main_v31_apply, show idx_main_v31 (ix4 b t h n) = ix4 b t h (⟨n.val, by omega⟩ : Fin 192) from by blk_ext]
  exact refu_at x nw w qn wu b t h _

open Cert.MlaQReferenceIdeal.Read in
/-- The reference's rotary columns before the rotation. -/
theorem ref32_at (x : FVec Ideal S16x2048x1024 .f32) (nw : FVec Ideal S1024 .f32) (w : FVec Ideal S1024x2432 .f32) (qn : FVec Ideal S384 .f32) (wu : FVec Ideal S384x3072 .f32) (b : Fin 16) (t : Fin 2048) (h : Fin 16) (n : Fin 64) :
    val_main_v32 (F := Ideal) x nw w qn wu (ix4 b t h n) = upRow (latRow (projRow d1 (fun j => x (ix3 b t j)) (fun j => nw (ix1 j)) (fun k (j : Fin 2432) => w (ix2 k j))) (fun j => qn (ix1 j))) (fun k (j : Fin 3072) => wu (ix2 k j)) ⟨192 * h.val + (128 + n.val), by omega⟩ := by
  rw [val_main_v32_apply, show idx_main_v32 (ix4 b t h n) = ix4 b t h (⟨128 + n.val, by omega⟩ : Fin 192) from by blk_ext]
  exact refu_at x nw w qn wu b t h _

open Cert.MlaQReferenceIdeal.Read in
/-- The first half of the rotary columns before the rotation. -/
theorem ref50_at (x : FVec Ideal S16x2048x1024 .f32) (nw : FVec Ideal S1024 .f32) (w : FVec Ideal S1024x2432 .f32) (qn : FVec Ideal S384 .f32) (wu : FVec Ideal S384x3072 .f32) (b : Fin 16) (t : Fin 2048) (h : Fin 16) (n : Fin 32) :
    val_main_v50 (F := Ideal) x nw w qn wu (ix4 b t h n) = upRow (latRow (projRow d1 (fun j => x (ix3 b t j)) (fun j => nw (ix1 j)) (fun k (j : Fin 2432) => w (ix2 k j))) (fun j => qn (ix1 j))) (fun k (j : Fin 3072) => wu (ix2 k j)) ⟨192 * h.val + (128 + n.val), by omega⟩ := by
  rw [val_main_v50_apply, show idx_main_v50 (ix4 b t h n) = ix4 b t h (⟨n.val, by omega⟩ : Fin 64) from by blk_ext]
  exact ref32_at x nw w qn wu b t h _

open Cert.MlaQReferenceIdeal.Read in
/-- The second half of the rotary columns before the rotation. -/
theorem ref51_at (x : FVec Ideal S16x2048x1024 .f32) (nw : FVec Ideal S1024 .f32) (w : FVec Ideal S1024x2432 .f32) (qn : FVec Ideal S384 .f32) (wu : FVec Ideal S384x3072 .f32) (b : Fin 16) (t : Fin 2048) (h : Fin 16) (n : Fin 32) :
    val_main_v51 (F := Ideal) x nw w qn wu (ix4 b t h n) = upRow (latRow (projRow d1 (fun j => x (ix3 b t j)) (fun j => nw (ix1 j)) (fun k (j : Fin 2432) => w (ix2 k j))) (fun j => qn (ix1 j))) (fun k (j : Fin 3072) => wu (ix2 k j)) ⟨192 * h.val + (160 + n.val), by omega⟩ := by
  rw [val_main_v51_apply, show idx_main_v51 (ix4 b t h n) = ix4 b t h (⟨32 + n.val, by omega⟩ : Fin 64) from by blk_ext]
  refine (ref32_at x nw w qn wu b t h _).trans (congrArg (upRow (latRow (projRow d1 (fun j => x (ix3 b t j)) (fun j => nw (ix1 j)) (fun k (j : Fin 2432) => w (ix2 k j))) (fun j => qn (ix1 j))) (fun k (j : Fin 3072) => wu (ix2 k j))) (Fin.ext ?_))
  simp only []; omega

open Cert.MlaQReferenceIdeal.Read in
/-- The reference's rotary columns, first half. -/
theorem reflo_at (x : FVec Ideal S16x2048x1024 .f32) (nw : FVec Ideal S1024 .f32) (w : FVec Ideal S1024x2432 .f32) (qn : FVec Ideal S384 .f32) (wu : FVec Ideal S384x3072 .f32) (b : Fin 16) (t : Fin 2048) (h : Fin 16) (n : Fin 32) :
    val_main_v62 (F := Ideal) x nw w qn wu (ix4 b t h (⟨n.val, by omega⟩ : Fin 64))
      = (upRow (latRow (projRow d1 (fun j => x (ix3 b t j)) (fun j => nw (ix1 j)) (fun k (j : Fin 2432) => w (ix2 k j))) (fun j => qn (ix1 j))) (fun k (j : Fin 3072) => wu (ix2 k j)) ⟨192 * h.val + (128 + n.val), by omega⟩ * val_main_v46 (F := Ideal) (ix2 t n) - upRow (latRow (projRow d1 (fun j => x (ix3 b t j)) (fun j => nw (ix1 j)) (fun k (j : Fin 2432) => w (ix2 k j))) (fun j => qn (ix1 j))) (fun k (j : Fin 3072) => wu (ix2 k j)) ⟨192 * h.val + (160 + n.val), by omega⟩ * val_main_v48 (F := Ideal) (ix2 t n) : EReal) := by
  unfold val_main_v62
  refine (concatenate_pair_apply_left (t := Cert.MlaQReferenceIdeal.S16x2048x16x64) 3 (val_main_v56 (F := Ideal) x nw w qn wu) (val_main_v61 (F := Ideal) x nw w qn wu) _ (ix4 b t h (⟨n.val, by omega⟩ : Fin 64)) rfl (ix4 b t h n) (fun a => match a with | ⟨0, _⟩ => rfl | ⟨1, _⟩ => rfl | ⟨2, _⟩ => rfl | ⟨3, _⟩ => rfl)).trans ?_
  rw [val_main_v56_apply, val_main_v53_apply, val_main_v55_apply, ref50_at, ref51_at, val_main_v52_apply, val_main_v54_apply, val_main_v47_apply, val_main_v49_apply]
  refine congrArg₂ (fun a b : EReal => a - b) (Ideal.mul_congr rfl ?_) (Ideal.mul_congr rfl ?_) <;> blk_ext

open Cert.MlaQReferenceIdeal.Read in
/-- The reference's rotary columns, second half. -/
theorem refhi_at (x : FVec Ideal S16x2048x1024 .f32) (nw : FVec Ideal S1024 .f32) (w : FVec Ideal S1024x2432 .f32) (qn : FVec Ideal S384 .f32) (wu : FVec Ideal S384x3072 .f32) (b : Fin 16) (t : Fin 2048) (h : Fin 16) (n : Fin 32) :
    val_main_v62 (F := Ideal) x nw w qn wu (ix4 b t h (⟨32 + n.val, by omega⟩ : Fin 64))
      = (upRow (latRow (projRow d1 (fun j => x (ix3 b t j)) (fun j => nw (ix1 j)) (fun k (j : Fin 2432) => w (ix2 k j))) (fun j => qn (ix1 j))) (fun k (j : Fin 3072) => wu (ix2 k j)) ⟨192 * h.val + (160 + n.val), by omega⟩ * val_main_v46 (F := Ideal) (ix2 t n) + upRow (latRow (projRow d1 (fun j => x (ix3 b t j)) (fun j => nw (ix1 j)) (fun k (j : Fin 2432) => w (ix2 k j))) (fun j => qn (ix1 j))) (fun k (j : Fin 3072) => wu (ix2 k j)) ⟨192 * h.val + (128 + n.val), by omega⟩ * val_main_v48 (F := Ideal) (ix2 t n) : EReal) := by
  unfold val_main_v62
  refine (concatenate_pair_apply_right (t := Cert.MlaQReferenceIdeal.S16x2048x16x64) 3 (val_main_v56 (F := Ideal) x nw w qn wu) (val_main_v61 (F := Ideal) x nw w qn wu) _ (ix4 b t h (⟨32 + n.val, by omega⟩ : Fin 64)) rfl rfl (ix4 b t h n) (fun a h => match a, h with | ⟨0, _⟩, _ => rfl | ⟨1, _⟩, _ => rfl | ⟨2, _⟩, _ => rfl | ⟨3, _⟩, h => absurd rfl h) (show n.val + 32 = 32 + n.val from Nat.add_comm _ _)).trans ?_
  rw [val_main_v61_apply, val_main_v58_apply, val_main_v60_apply, ref50_at, ref51_at, val_main_v57_apply, val_main_v59_apply, val_main_v47_apply, val_main_v49_apply]
  refine congrArg₂ (fun a b : EReal => a + b) (Ideal.mul_congr rfl ?_) (Ideal.mul_congr rfl ?_) <;> blk_ext

open Cert.MlaQReferenceIdeal.Read in
/-- The reference's queries, a head's rotary columns. -/
theorem refr_at (x : FVec Ideal S16x2048x1024 .f32) (nw : FVec Ideal S1024 .f32) (w : FVec Ideal S1024x2432 .f32) (qn : FVec Ideal S384 .f32) (wu : FVec Ideal S384x3072 .f32) (b : Fin 16) (t : Fin 2048) (h : Fin 16) (n : Fin 64) :
    val_main_v63 (F := Ideal) x nw w qn wu (ix4 b t h (⟨128 + n.val, by omega⟩ : Fin 192)) = val_main_v62 (F := Ideal) x nw w qn wu (ix4 b t h n) := by
  unfold val_main_v63
  exact concatenate_pair_apply_right (t := Cert.MlaQReferenceIdeal.S16x2048x16x192) 3 (val_main_v31 (F := Ideal) x nw w qn wu) (val_main_v62 (F := Ideal) x nw w qn wu) _ (ix4 b t h (⟨128 + n.val, by omega⟩ : Fin 192)) rfl rfl (ix4 b t h n) (fun a h => match a, h with | ⟨0, _⟩, _ => rfl | ⟨1, _⟩, _ => rfl | ⟨2, _⟩, _ => rfl | ⟨3, _⟩, h => absurd rfl h) (show n.val + 128 = 128 + n.val from Nat.add_comm _ _)

open Cert.MlaQReferenceIdeal.Read in
/-- The reference's queries as it leaves them. -/
theorem ref68_at (x : FVec Ideal S16x2048x1024 .f32) (nw : FVec Ideal S1024 .f32) (w : FVec Ideal S1024x2432 .f32) (qn : FVec Ideal S384 .f32) (wu : FVec Ideal S384x3072 .f32) (b : Fin 16) (t : Fin 2048) (h : Fin 16) (n : Fin 192) :
    val_main_v68 (F := Ideal) x nw w qn wu (ix3 h ⟨b.val * 2048 + t.val, by omega⟩ n) = (val_main_v63 (F := Ideal) x nw w qn wu (ix4 b t h n) * sc : EReal) := by
  rw [val_main_v68_apply, val_main_v67_apply, val_main_v66_apply, show idx_main_v66 (idx_main_v67 (ix3 h (⟨b.val * 2048 + t.val, by omega⟩ : Fin 32768) n)) = ix4 b t h n from by blk_ext, val_main_v65_apply, val_main_v64_apply]
  rfl

open Cert.MlaQReferenceIdeal.Read in
/-- The reference's gate columns as it leaves them. -/
theorem ref70_at (x : FVec Ideal S16x2048x1024 .f32) (nw : FVec Ideal S1024 .f32) (w : FVec Ideal S1024x2432 .f32) (b : Fin 16) (t : Fin 2048) (n : Fin 2048) :
    val_main_v70 (F := Ideal) x nw w (ix2 ⟨b.val * 2048 + t.val, by omega⟩ n) = projRow d1 (fun j => x (ix3 b t j)) (fun j => nw (ix1 j)) (fun k (j : Fin 2432) => w (ix2 k j)) ⟨384 + n.val, by omega⟩ := by
  rw [val_main_v70_apply, val_main_v69_apply, show idx_main_v69 (ix2 (⟨b.val * 2048 + t.val, by omega⟩ : Fin 32768) n) = ix3 b t n from by blk_ext, val_main_v28_apply, show idx_main_v28 (ix3 b t n) = ix3 b t (⟨384 + n.val, by omega⟩ : Fin 2432) from by blk_ext]
  exact refp_at x nw w b t _

end Cert.MlaQIdeal.Value
-- ==== Proof.MlaQValue.lean ====
module

public import proofs.«01_k».proof.Proof.MlaQHost
public import proofs.«01_k».proof.Proof.MlaQRef

@[expose] public section

set_option maxRecDepth 16384

noncomputable section

open Idealize.ShloMosaic Idealize.ShloMosaic.TcCoe Idealize.SL.Sem
open Idealize.ShloMosaic.Pipeline (Dat)

namespace Cert.MlaQIdeal.Value

open Cert.MlaQIdeal Cert.MlaQIdeal.Gen Cert.Layer
open Cert.KernelIdeal.Value (IsReal)

variable (m : (ℓ : Loc nD τ sig) → Buf (Elt Ideal) ℓ)

/-- The scale is a number and not negative. -/
theorem sc_pos : (0 : EReal) ≤ sc ∧ sc ≠ ⊤ := by
  have h : sc = ((4843165 / 67108864 : ℝ) : EReal) := by
    simp [sc, Ideal.ofBits, Ideal.ieee]
    rw [← EReal.coe_mul]
    norm_num
  rw [h]
  exact ⟨by exact_mod_cast (by norm_num : (0 : ℝ) ≤ 4843165 / 67108864), EReal.coe_ne_top _⟩

/-- Scaling before or after the rotation, first half. -/
theorem rot_lo (a b x y : EReal) : a * sc * x + -b * sc * y = (a * x - b * y) * sc := by
  rw [sub_eq_add_neg, EReal.right_distrib_of_nonneg_of_ne_top sc_pos.1 sc_pos.2, mul_right_comm, EReal.neg_mul, EReal.neg_mul, EReal.neg_mul, mul_right_comm b]

/-- Scaling before or after the rotation, second half. -/
theorem rot_hi (a b x y : EReal) : a * sc * x + b * sc * y = (a * x + b * y) * sc := by
  rw [EReal.right_distrib_of_nonneg_of_ne_top sc_pos.1 sc_pos.2, mul_right_comm, mul_right_comm b]

/-- The row of the projection on the given operands. -/
abbrev P (c : Dev nD) (b : Fin 16) (t : Fin 2048) : Fin 2432 → EReal := projRow d1 (fun j => mx m c (ix3 b t j)) (fun j => mn m c (ix1 j)) (fun k j => mw m c (ix2 k j))

/-- The latent's row on the given operands. -/
abbrev L (c : Dev nD) (b : Fin 16) (t : Fin 2048) : Fin 384 → EReal := latRow (P m c b t) (fun j => mq m c (ix1 j))

/-- The up-projected row on the given operands. -/
abbrev T (c : Dev nD) (b : Fin 16) (t : Fin 2048) : Fin 3072 → EReal := upRow (L m c b t) (fun k j => mu m c (ix2 k j))

/-- The row of the projection on the prepared operands. -/
abbrev P' (c : Dev nD) (b : Fin 16) (t : Fin 2048) : Fin 2432 → EReal :=
  projRow d1 (fun j => (show FVec Ideal S32768x1024 .f32 from V m c main_v34) (ix2 ⟨b.val * 2048 + t.val, by omega⟩ j)) (fun j => (show FVec Ideal S1x1024 .f32 from V m c main_v35) (ix2 0 j))
    (fun k (j : Fin 2432) => (show FVec Ideal S1024x2432 .bf16 from V m c main_v36) (ix2 k j))

/-- The up-projected row on the prepared operands. -/
abbrev Q (c : Dev nD) (b : Fin 16) (t : Fin 2048) : Fin 4096 → EReal :=
  qRow (latRow (P' m c b t) (fun j => (show FVec Ideal S1x384 .f32 from V m c main_v37) (ix2 0 j))) (fun k (j : Fin 4096) => (show FVec Ideal S384x4096 .bf16 from V m c main_v33) (ix2 k j))

/-- The projections agree. -/
theorem p_eq (c : Dev nD) (b : Fin 16) (t : Fin 2048) : P' m c b t = P m c b t := funext fun n =>
  congrFun (congr (congr (congrArg (projRow d1) (funext fun j => x_at m c b t j)) (funext fun j => nw_at m c j)) (funext fun k => funext fun j => w_at m c k j)) n

/-- The latents agree. -/
theorem l_eq (c : Dev nD) (b : Fin 16) (t : Fin 2048) : latRow (P' m c b t) (fun j => (show FVec Ideal S1x384 .f32 from V m c main_v37) (ix2 0 j)) = L m c b t :=
  congr (congrArg latRow (p_eq m c b t)) (funext fun j => qn_at m c j)

/-- A head's own columns. -/
theorem qn_eq (c : Dev nD) (b : Fin 16) (t : Fin 2048) (h : Fin 16) (n : Fin 128) : Q m c b t ⟨128 * h.val + n.val, by omega⟩ = T m c b t ⟨192 * h.val + n.val, by omega⟩ * sc :=
  Ideal.mul_congr (Finset.sum_congr rfl fun k _ => Ideal.mul_congr (congrFun (l_eq m c b t) k) (wn_at m c k h n)) rfl

/-- A head's rotary columns. -/
theorem qp_eq (c : Dev nD) (b : Fin 16) (t : Fin 2048) (h : Fin 16) (n : Fin 64) : Q m c b t ⟨2048 + (64 * h.val + n.val), by omega⟩ = T m c b t ⟨192 * h.val + (128 + n.val), by omega⟩ * sc :=
  Ideal.mul_congr (Finset.sum_congr rfl fun k _ => Ideal.mul_congr (congrFun (l_eq m c b t) k) (wp_at m c k h n)) rfl

/-- A head's rotated columns, first half: where the latent's norm weights and the up-projection are real, the negative of a sum is the sum of the negatives. -/
theorem qlo_eq (c : Dev nD) (hn : ∀ i, IsReal (mq m c i)) (hw : ∀ i, IsReal (mu m c i)) (b : Fin 16) (t : Fin 2048) (h : Fin 16) (n : Fin 32) :
    Q m c b t ⟨3072 + (64 * h.val + n.val), by omega⟩ = -T m c b t ⟨192 * h.val + (160 + n.val), by omega⟩ * sc := by
  refine Ideal.mul_congr (Eq.trans (Finset.sum_congr rfl fun k _ => Ideal.mul_congr (congrFun (l_eq m c b t) k) (wlo_at m c k h n)) (sum_neg _ _ (fun k => ?_) (fun k => hw _))) rfl
  show IsReal (rmsRow d2 (fun j : Fin 384 => P m c b t ⟨j.val, by omega⟩) (fun j => mq m c (ix1 j)) k)
  rw [show d2 = ((384 : ℝ) : EReal) from lit384]
  exact rmsRow_real' (by norm_num) _ _ (fun j => hn _) k

/-- A head's rotated columns, second half. -/
theorem qhi_eq (c : Dev nD) (b : Fin 16) (t : Fin 2048) (h : Fin 16) (n : Fin 32) : Q m c b t ⟨3072 + (64 * h.val + (32 + n.val)), by omega⟩ = T m c b t ⟨192 * h.val + (128 + n.val), by omega⟩ * sc :=
  Ideal.mul_congr (Finset.sum_congr rfl fun k _ => Ideal.mul_congr (congrFun (l_eq m c b t) k) (whi_at m c k h n)) rfl

/-- The cosines of a position, all heads. -/
abbrev C (c : Dev nD) (t : Fin 2048) : Fin 1024 → EReal := fun j => (show FVec Ideal S2048x1024 .f32 from V m c main_v40) (ix2 t j)

/-- The sines of a position, all heads. -/
abbrev D (c : Dev nD) (t : Fin 2048) : Fin 1024 → EReal := fun j => (show FVec Ideal S2048x1024 .f32 from V m c main_v43) (ix2 t j)

open Cert.MlaQReferenceIdeal.Read in
/-- The rotated entries agree, first half. -/
theorem pelo_eq (c : Dev nD) (hn : ∀ i, IsReal (mq m c i)) (hw : ∀ i, IsReal (mu m c i)) (b : Fin 16) (t : Fin 2048) (h : Fin 16) (n : Fin 32) :
    peRow (Q m c b t) (C m c t) (D m c t) ⟨64 * h.val + n.val, by omega⟩
      = ((T m c b t ⟨192 * h.val + (128 + n.val), by omega⟩ * val_main_v46 (F := Ideal) (ix2 t n) - T m c b t ⟨192 * h.val + (160 + n.val), by omega⟩ * val_main_v48 (F := Ideal) (ix2 t n)) * sc : EReal) := by
  unfold peRow
  refine Eq.trans (congrArg₂ (· + ·) (Ideal.mul_congr (qp_eq m c b t h ⟨n.val, by omega⟩) (clo_at m c t h n)) (Ideal.mul_congr (qlo_eq m c hn hw b t h n) (slo_at m c t h n))) (rot_lo _ _ _ _)

open Cert.MlaQReferenceIdeal.Read in
/-- The rotated entries agree, second half. -/
theorem pehi_eq (c : Dev nD) (b : Fin 16) (t : Fin 2048) (h : Fin 16) (n : Fin 32) :
    peRow (Q m c b t) (C m c t) (D m c t) ⟨64 * h.val + (32 + n.val), by omega⟩
      = ((T m c b t ⟨192 * h.val + (160 + n.val), by omega⟩ * val_main_v46 (F := Ideal) (ix2 t n) + T m c b t ⟨192 * h.val + (128 + n.val), by omega⟩ * val_main_v48 (F := Ideal) (ix2 t n)) * sc : EReal) := by
  unfold peRow
  refine Eq.trans (congrArg₂ (· + ·) (Ideal.mul_congr ?_ (chi_at m c t h n)) (Ideal.mul_congr (qhi_eq m c b t h n) (shi_at m c t h n))) (rot_hi _ _ _ _)
  refine (qp_eq m c b t h ⟨32 + n.val, by omega⟩).trans (congrArg (fun j => T m c b t j * sc) (Fin.ext ?_))
  show 192 * h.val + (128 + (32 + n.val)) = 192 * h.val + (160 + n.val)
  omega

/-- The prepared queries at an entry. -/
theorem qG_at (c : Dev nD) (b : Fin 16) (t : Fin 2048) (h : Fin 16) (n : Fin 192) :
    qG (V m c main_v34) (V m c main_v35) (V m c main_v36) (V m c main_v37) (V m c main_v33) (V m c main_v40) (V m c main_v43) (ix3 h (⟨b.val * 2048 + t.val, by omega⟩ : Fin 32768) n)
      = headQ (Q m c b t) (C m c t) (D m c t) h n := by
  have e : (⟨(b.val * 2048 + t.val) % 2048, Nat.mod_lt _ (by norm_num)⟩ : Fin 2048) = t := Fin.ext (show (b.val * 2048 + t.val) % 2048 = t.val by omega)
  unfold qG
  exact congrFun (congrFun (congr (congrArg (headQ (Q m c b t)) (congrArg (C m c) e)) (congrArg (D m c) e)) h) n

open Cert.MlaQReferenceIdeal.Read in
/-- The launch's first result is the reference's queries. -/
theorem value7_eq (c : Dev nD) (hn : ∀ i, IsReal (mq m c i)) (hw : ∀ i, IsReal (mu m c i)) :
    (dats m 0 c).arrAt 7 (cfgs 0).N = val_main_v68 (F := Ideal) (mx m c) (mn m c) (mw m c) (mq m c) (mu m c) := by
  rw [final7]
  funext i
  obtain ⟨h, b, t, n, rfl⟩ : ∃ (h : Fin 16) (b : Fin 16) (t : Fin 2048) (n : Fin 192), i = ix3 h (⟨b.val * 2048 + t.val, by omega⟩ : Fin 32768) n := by
    obtain ⟨h, x, n, rfl⟩ : ∃ (h : Fin 16) (x : Fin 32768) (n : Fin 192), i = ix3 h x n := ⟨i 0, i 1, i 2, eq_ix3 i⟩
    refine ⟨h, ⟨x.val / 2048, by omega⟩, ⟨x.val % 2048, by omega⟩, n, congrArg (fun z => ix3 h z n) (Fin.ext ?_)⟩
    show x.val = x.val / 2048 * 2048 + x.val % 2048
    omega
  rw [qG_at]
  refine Eq.trans ?_ (ref68_at (mx m c) (mn m c) (mw m c) (mq m c) (mu m c) b t h n).symm
  unfold headQ
  by_cases g : n.val < 128
  · obtain ⟨n', rfl⟩ : ∃ n' : Fin 128, n = ⟨n'.val, Nat.lt_of_lt_of_le n'.isLt (by decide)⟩ := ⟨⟨n.val, g⟩, rfl⟩
    rw [if_pos g]
    refine Eq.trans ?_ (congrArg (· * sc) (refn_at (mx m c) (mn m c) (mw m c) (mq m c) (mu m c) b t h n').symm)
    refine Eq.trans (congrArg (Q m c b t) (Fin.ext ?_)) (qn_eq m c b t h n')
    show 128 * h.val + n'.val % 128 = 128 * h.val + n'.val
    omega
  · rw [if_neg g]
    obtain ⟨n', rfl⟩ : ∃ n' : Fin 64, n = ⟨128 + n'.val, Nat.add_lt_add_left n'.isLt 128⟩ := ⟨⟨n.val - 128, by omega⟩, Fin.ext (by show n.val = 128 + (n.val - 128); omega)⟩
    refine Eq.trans ?_ (congrArg (· * sc) (refr_at (mx m c) (mn m c) (mw m c) (mq m c) (mu m c) b t h n').symm)
    refine Eq.trans (congrArg (peRow (Q m c b t) (C m c t) (D m c t)) (Fin.ext (show 64 * h.val + (128 + n'.val - 128) = 64 * h.val + n'.val by omega) : _ = (⟨64 * h.val + n'.val, by omega⟩ : Fin 1024))) ?_
    by_cases g' : n'.val < 32
    · obtain ⟨k, rfl⟩ : ∃ k : Fin 32, n' = ⟨k.val, Nat.lt_of_lt_of_le k.isLt (by decide)⟩ := ⟨⟨n'.val, g'⟩, rfl⟩
      exact (pelo_eq m c hn hw b t h k).trans (congrArg (· * sc) (reflo_at (mx m c) (mn m c) (mw m c) (mq m c) (mu m c) b t h k).symm)
    · obtain ⟨k, rfl⟩ : ∃ k : Fin 32, n' = ⟨32 + k.val, Nat.add_lt_add_left k.isLt 32⟩ := ⟨⟨n'.val - 32, by omega⟩, Fin.ext (by show n'.val = 32 + (n'.val - 32); omega)⟩
      exact (pehi_eq m c b t h k).trans (congrArg (· * sc) (refhi_at (mx m c) (mn m c) (mw m c) (mq m c) (mu m c) b t h k).symm)

open Cert.MlaQReferenceIdeal.Read in
/-- The launch's second result is the reference's gate columns. -/
theorem value8_eq (c : Dev nD) : (dats m 0 c).arrAt 8 (cfgs 0).N = val_main_v70 (F := Ideal) (mx m c) (mn m c) (mw m c) := by
  rw [final8]
  funext i
  obtain ⟨b, t, n, rfl⟩ : ∃ (b : Fin 16) (t : Fin 2048) (n : Fin 2048), i = ix2 (⟨b.val * 2048 + t.val, by omega⟩ : Fin 32768) n := by
    obtain ⟨x, n, rfl⟩ : ∃ (x : Fin 32768) (n : Fin 2048), i = ix2 x n := ⟨i 0, i 1, eq_ix2 i⟩
    refine ⟨⟨x.val / 2048, by omega⟩, ⟨x.val % 2048, by omega⟩, n, congrArg (fun z => ix2 z n) (Fin.ext ?_)⟩
    show x.val = x.val / 2048 * 2048 + x.val % 2048
    omega
  refine Eq.trans ?_ (ref70_at (mx m c) (mn m c) (mw m c) b t n).symm
  exact congrFun (p_eq m c b t) ⟨384 + n.val, by omega⟩

end Cert.MlaQIdeal.Value
-- ==== Proof.FiniteQ.lean ====
module

public import proofs.«01_k».proof.Proof.Finite
public import proofs.«01_k».proof.Pre_finite_q

@[expose] public section

set_option maxRecDepth 16384

noncomputable section

open Idealize.ShloMosaic Idealize.ShloMosaic.TcCoe Idealize.SL.Sem

namespace Cert.Pre_finite_q

open Cert.KernelIdeal.Value (IsReal)
open Cert.Pre_finite_scores (andi_one real_of_lt)
open Facts

/-- What the precondition says: every entry of the checked arguments is a real number. -/
theorem reals [Cert.Pre_finite_q.Facts] (x : FVec Ideal S16x2048x1024 .f32) (nw : FVec Ideal S1024 .f32) (w : FVec Ideal S1024x2432 .f32) (qn : FVec Ideal S384 .f32) (wu : FVec Ideal S384x3072 .f32)
    (h : fn (F := Ideal) x nw w qn wu = fun _ => 1#1) :
    (∀ i, IsReal (qn i)) ∧ (∀ i, IsReal (wu i)) := by
  haveI : Subsingleton S_.Idx := ⟨fun a b => funext fun i => i.elim0⟩
  have r0 := congrFun h (fun a => a.elim0)
  obtain ⟨r0, q1⟩ := andi_one r0
  refine ⟨fun i => ?_, fun i => ?_⟩
  · exact real_of_lt _ (Host.reduce_andi_all _ _ _ _ _ r0 i)
  · exact real_of_lt _ (Host.reduce_andi_all _ _ _ _ _ q1 i)

end Cert.Pre_finite_q
-- ==== Proof.Gn.lean ====
module

public import Idealize.ShloMosaic.Lib.Pipeline.ValueKit
public import Idealize.ShloMosaic.Lib.Pointwise
public import Idealize.ShloMosaic.PureOps.Ideal.Laws
public import proofs.«01_k».proof.Proof.Layer
public import proofs.«01_k».proof.Proof.Real

@[expose] public section

noncomputable section

open Idealize.ShloMosaic

namespace Cert.Layer

open Cert.KernelIdeal.Value (IsReal IsReal.mul IsReal.add IsReal.sum)

/-- A row of the recurrence's width: thirty-two heads of sixty-four channels. -/
abbrev Row := Fin 2048 → EReal

/-- The sum over the channels of the head that holds channel `n`. -/
def headSum (x : Row) (n : Fin 2048) : EReal := ∑ k : Fin 64, x ⟨64 * (n.val / 64) + k.val, by omega⟩

/-- The same by a product with a square of 256 channels. -/
def bandSum (ob : Fin 256 → Fin 256 → EReal) (x : Row) (n : Fin 2048) : EReal :=
  ∑ e : Fin 256, x ⟨256 * (n.val / 256) + e.val, by omega⟩ * ob e ⟨n.val % 256, by omega⟩

/-- The same with what the first rounding leaves added. -/
def bandSum2 (ob : Fin 256 → Fin 256 → EReal) (x : Row) (n : Fin 2048) : EReal :=
  bandSum ob x n + bandSum ob (fun j => x j - x j) n

/-- A row less the mean of each head, the sums over heads taken by `h`. -/
def centred (h : Row → Row) (y : Row) (j : Fin 2048) : EReal := y j - Ideal.div (h y j) (Ideal.ofBits .f32 0x42800000#32)

/-- The normalisation over each head, with weights and biases; `h2` sums for the mean, `h1` for the variance. -/
def gnRow (h2 h1 : Row → Row) (y lw lb : Row) (n : Fin 2048) : EReal :=
  centred h2 y n * Ideal.rsqrt (Ideal.div (h1 (fun j => centred h2 y j * centred h2 y j) n) (Ideal.ofBits .f32 0x42800000#32)
    + Ideal.ofBits .f32 0x3A27C5AC#32) * lw n + lb n

/-- The bonus of the current step: each head's weighted product of receptance and key, times the value. -/
def bonusRow (h1 : Row → Row) (r k v a ka rk : Row) (n : Fin 2048) : EReal :=
  h1 (fun j => r j * (k j * (Ideal.ofBits .f32 0x3F800000#32 + (a j - Ideal.ofBits .f32 0x3F800000#32) * ka j)) * rk j) n * v n

/-- A product with the block-diagonal square of ones sums over the head. -/
theorem bandSum_eq (ob : Fin 256 → Fin 256 → EReal) (hob : ∀ e q : Fin 256, ob e q = if e.val / 64 = q.val / 64 then 1 else 0) :
    bandSum ob = headSum := by
  funext x n
  unfold bandSum headSum
  rw [← Fintype.sum_equiv (finProdFinEquiv (m := 4) (n := 64)) (fun p => x ⟨256 * (n.val / 256) + (p.2.val + 64 * p.1.val), by omega⟩ * ob ⟨p.2.val + 64 * p.1.val, by omega⟩ ⟨n.val % 256, by omega⟩)
    (fun e => x ⟨256 * (n.val / 256) + e.val, by omega⟩ * ob e ⟨n.val % 256, by omega⟩) (fun p => rfl), Fintype.sum_prod_type]
  rw [Finset.sum_eq_single (⟨n.val % 256 / 64, by omega⟩ : Fin 4)]
  · refine Finset.sum_congr rfl fun k _ => ?_
    rw [hob, if_pos (by simp only []; omega), mul_one]
    exact congrArg x (Fin.ext (by simp only []; omega))
  · intro a _ ha
    refine Finset.sum_eq_zero fun k _ => ?_
    rw [hob, if_neg, mul_zero]
    intro h
    refine ha (Fin.ext ?_)
    simp only [] at h ⊢
    omega
  · exact fun h => absurd (Finset.mem_univ _) h

/-- Where every channel of the head is real, the rounding leaves nothing. -/
theorem headSum_sub_self (y : Row) (n : Fin 2048) (h : ∀ k : Fin 64, IsReal (y ⟨64 * (n.val / 64) + k.val, by omega⟩)) :
    headSum (fun j => y j - y j) n = 0 :=
  Finset.sum_eq_zero fun k _ => by
    obtain ⟨r, hr⟩ := h k
    simp only [hr]
    rw [← EReal.coe_sub, sub_self, EReal.coe_zero]

/-- A real sum has real terms. -/
theorem real_of_add {a b : EReal} : IsReal (a + b) → IsReal a ∧ IsReal b := by
  rintro ⟨r, hr⟩
  induction a using EReal.rec with
  | bot => rw [EReal.bot_add] at hr; exact absurd hr (EReal.bot_ne_coe r)
  | top =>
    induction b using EReal.rec with
    | bot => rw [EReal.add_bot] at hr; exact absurd hr (EReal.bot_ne_coe r)
    | top => rw [EReal.top_add_top] at hr; exact absurd hr (EReal.top_ne_coe r)
    | coe b => rw [EReal.top_add_coe] at hr; exact absurd hr (EReal.top_ne_coe r)
  | coe a =>
    induction b using EReal.rec with
    | bot => rw [EReal.add_bot] at hr; exact absurd hr (EReal.bot_ne_coe r)
    | top => rw [EReal.coe_add_top] at hr; exact absurd hr (EReal.top_ne_coe r)
    | coe b => exact ⟨⟨a, rfl⟩, ⟨b, rfl⟩⟩

/-- The same of a sum over a row. -/
theorem real_of_sum {ι : Type} (s : Finset ι) (f : ι → EReal) : IsReal (∑ k ∈ s, f k) → ∀ k ∈ s, IsReal (f k) := by
  classical
  induction s using Finset.induction_on with
  | empty => exact fun _ k hk => absurd hk (Finset.notMem_empty k)
  | insert a s ha ih =>
    intro h k hk
    rw [Finset.sum_insert ha] at h
    rcases Finset.mem_insert.1 hk with rfl | hk
    · exact (real_of_add h).1
    · exact ih (real_of_add h).2 k hk

/-- What is not real is infinite. -/
theorem top_or_bot {x : EReal} (h : ¬ IsReal x) : x = ⊤ ∨ x = ⊥ := by
  induction x using EReal.rec with
  | bot => exact .inr rfl
  | top => exact .inl rfl
  | coe a => exact absurd ⟨a, rfl⟩ h

/-- A quotient by a positive real that is real has a real numerator. -/
theorem real_of_div {x : EReal} {d : ℝ} (hd : 0 < d) : IsReal (Ideal.div x (d : EReal)) → IsReal x := by
  rintro ⟨r, hr⟩
  rw [Ideal.div_coe hd.ne'] at hr
  induction x using EReal.rec with
  | bot => rw [EReal.bot_mul_coe_of_pos (one_div_pos.2 hd)] at hr; exact absurd hr (EReal.bot_ne_coe r)
  | top => rw [EReal.top_mul_coe_of_pos (one_div_pos.2 hd)] at hr; exact absurd hr (EReal.top_ne_coe r)
  | coe a => exact ⟨a, rfl⟩

/-- The square of a difference from an infinity is infinite. -/
theorem sq_sub_inf (y μ : EReal) (h : ¬ IsReal μ) : (y - μ) * (y - μ) = ⊤ := by
  rcases top_or_bot h with rfl | rfl
  · rw [sub_eq_add_neg, EReal.neg_top, EReal.add_bot]; rfl
  · rw [sub_eq_add_neg, EReal.neg_bot]
    induction y using EReal.rec with
    | bot => rw [EReal.bot_add]; rfl
    | top => rfl
    | coe a => rw [EReal.coe_add_top]; rfl

/-- The literal sixty-four. -/
theorem lit64 : Ideal.ofBits .f32 0x42800000#32 = ((64 : ℝ) : EReal) := by simp [Ideal.ofBits, Ideal.ieee]; rw [← EReal.coe_mul]; norm_num

/-- The literal under the root is a real. -/
theorem gn_eps : ∃ e : ℝ, 0 < e ∧ Ideal.ofBits .f32 0x3A27C5AC#32 = (e : EReal) := by
  refine ⟨_, ?_, by simp [Ideal.ofBits, Ideal.ieee]; rw [← EReal.coe_mul]⟩
  norm_num

/-- With an infinite mean, a head normalises to its bias. -/
theorem gn_inf (h2 : Row → Row) (y lw lb : Row) (n : Fin 2048) (h : ∀ k : Fin 64, ¬ IsReal (h2 y ⟨64 * (n.val / 64) + k.val, by omega⟩)) :
    gnRow h2 headSum y lw lb n = lb n := by
  have e : headSum (fun j => centred h2 y j * centred h2 y j) n = ⊤ := by
    refine (Finset.sum_congr rfl fun k _ => (sq_sub_inf _ _ fun hr => h k (real_of_div (by norm_num : (0 : ℝ) < 64) ?_))).trans (Finset.sum_const _ |>.trans ?_)
    · rw [← lit64]; exact hr
    · simp [Finset.card_univ, nsmul_eq_mul]
      exact EReal.coe_mul_top_of_pos (by norm_num : (0 : ℝ) < 64)
  obtain ⟨ε, _, hε⟩ := gn_eps
  unfold gnRow
  rw [e, lit64, hε, show Ideal.div ⊤ ((64 : ℝ) : EReal) = ⊤ from ?_, EReal.top_add_coe, Ideal.rsqrt_top, mul_zero, zero_mul, zero_add]
  rw [Ideal.div_coe (by norm_num : (64 : ℝ) ≠ 0)]
  exact EReal.top_mul_coe_of_pos (by norm_num)

/-- The head of a channel of the head. -/
theorem head_of (n : Fin 2048) (k : Fin 64) : (64 * (n.val / 64) + k.val) / 64 = n.val / 64 := by omega

/-- Sums over heads agree on one head. -/
theorem headSum_head (x : Row) (n : Fin 2048) (k : Fin 64) : headSum x ⟨64 * (n.val / 64) + k.val, by omega⟩ = headSum x n :=
  Finset.sum_congr rfl fun l _ => congrArg x (Fin.ext (by simp only [head_of n k]))

/-- Adding what the rounding leaves changes nothing in the normalised row, whatever the row holds. -/
theorem gn_eq (y lw lb : Row) : gnRow (fun x n => headSum x n + headSum (fun j => x j - x j) n) headSum y lw lb = gnRow headSum headSum y lw lb := by
  funext n
  by_cases h : ∀ k : Fin 64, IsReal (y ⟨64 * (n.val / 64) + k.val, by omega⟩)
  · have e : ∀ j : Fin 2048, j.val / 64 = n.val / 64 →
        centred (fun x n => headSum x n + headSum (fun j => x j - x j) n) y j = centred headSum y j := by
      intro j hj
      unfold centred
      dsimp only
      rw [headSum_sub_self y j (by simp only [hj]; exact h), add_zero]
    unfold gnRow
    rw [e n rfl, show headSum (fun j => centred (fun x n => headSum x n + headSum (fun j => x j - x j) n) y j * centred (fun x n => headSum x n + headSum (fun j => x j - x j) n) y j) n
      = headSum (fun j => centred headSum y j * centred headSum y j) n from Finset.sum_congr rfl fun k _ => by
        exact congrArg (fun z : EReal => z * z) (e ⟨64 * (n.val / 64) + k.val, by omega⟩ (head_of n k))]
  · have hs : ∀ k : Fin 64, ¬ IsReal (headSum y ⟨64 * (n.val / 64) + k.val, by omega⟩) := by
      intro k hr
      rw [headSum_head] at hr
      exact h fun k => real_of_sum _ _ hr k (Finset.mem_univ k)
    rw [gn_inf headSum y lw lb n hs]
    exact gn_inf _ y lw lb n fun k hr => hs k (real_of_add hr).1

end Cert.Layer
-- ==== Proof.RwkvOut.lean ====
module

public import Idealize.ShloMosaic.Lib.Pipeline.ValueKit
public import Idealize.ShloMosaic.Lib.Pointwise
public import Idealize.ShloMosaic.Lib.Claim
public import proofs.«01_k».proof.Proof.Layer
public import proofs.«01_k».proof.Proof.Gn
public import proofs.«01_k».proof.Proof.Gen.RwkvOutIdeal.Frame
public import proofs.«01_k».proof.Proof.Gen.RwkvOutReferenceIdeal.Read

@[expose] public section

set_option maxRecDepth 16384

noncomputable section

open Idealize.ShloMosaic Idealize.ShloMosaic.TcCoe Idealize.SL.Sem
open Idealize.ShloMosaic.Pipeline (Dat)

namespace Cert.RwkvOutIdeal.Value

open Cert.RwkvOutIdeal Cert.RwkvOutIdeal.Gen Cert.Layer

/-- The square of ones as a table. -/
abbrev ob (v1 : FVec Ideal S256x256 .bf16) : Fin 256 → Fin 256 → EReal := fun e q => v1 (ix2 e q)

/-- One row of a block. -/
abbrev row (T : FVec Ideal S512x2048 .f32) (r : Fin 512) : Row := fun j => T (ix2 r j)

/-- Eight bands laid side by side, read at a channel. -/
theorem cat8 (p0 p1 p2 p3 p4 p5 p6 p7 : FVec Ideal S512x256 .f32) (r : Fin 512) (n : Fin 2048) (f : Row)
    (h0 : ∀ q : Fin 256, p0 (ix2 r q) = f ⟨0 + q.val, by omega⟩)
    (h1 : ∀ q : Fin 256, p1 (ix2 r q) = f ⟨256 + q.val, by omega⟩)
    (h2 : ∀ q : Fin 256, p2 (ix2 r q) = f ⟨512 + q.val, by omega⟩)
    (h3 : ∀ q : Fin 256, p3 (ix2 r q) = f ⟨768 + q.val, by omega⟩)
    (h4 : ∀ q : Fin 256, p4 (ix2 r q) = f ⟨1024 + q.val, by omega⟩)
    (h5 : ∀ q : Fin 256, p5 (ix2 r q) = f ⟨1280 + q.val, by omega⟩)
    (h6 : ∀ q : Fin 256, p6 (ix2 r q) = f ⟨1536 + q.val, by omega⟩)
    (h7 : ∀ q : Fin 256, p7 (ix2 r q) = f ⟨1792 + q.val, by omega⟩)
    (H : Shape.Concatenates [S512x256, S512x256, S512x256, S512x256, S512x256, S512x256, S512x256, S512x256] S512x2048 1) :
    concatenate S512x2048 1 [⟨S512x256, p0⟩, ⟨S512x256, p1⟩, ⟨S512x256, p2⟩, ⟨S512x256, p3⟩, ⟨S512x256, p4⟩, ⟨S512x256, p5⟩, ⟨S512x256, p6⟩, ⟨S512x256, p7⟩] H (ix2 r n) = f n := by
  obtain ⟨k, q, rfl⟩ : ∃ (k : Fin 8) (q : Fin 256), n = ⟨256 * k.val + q.val, by omega⟩ :=
    ⟨⟨n.val / 256, by omega⟩, ⟨n.val % 256, by omega⟩, Fin.ext (by simp only []; omega)⟩
  match k with
  | ⟨0, _⟩ =>
    exact (concatenate_apply_piece 1 [⟨S512x256, p0⟩, ⟨S512x256, p1⟩, ⟨S512x256, p2⟩, ⟨S512x256, p3⟩, ⟨S512x256, p4⟩, ⟨S512x256, p5⟩, ⟨S512x256, p6⟩, ⟨S512x256, p7⟩] H _ 0 (by simp) S512x256 p0 rfl rfl 0 rfl (ix2 r q)
      (fun b hb => match b, hb with | ⟨0, _⟩, _ => rfl | ⟨1, _⟩, hb => absurd rfl hb) rfl).trans (h0 q)
  | ⟨1, _⟩ =>
    exact (concatenate_apply_piece 1 [⟨S512x256, p0⟩, ⟨S512x256, p1⟩, ⟨S512x256, p2⟩, ⟨S512x256, p3⟩, ⟨S512x256, p4⟩, ⟨S512x256, p5⟩, ⟨S512x256, p6⟩, ⟨S512x256, p7⟩] H _ 1 (by simp) S512x256 p1 rfl rfl 256 rfl (ix2 r q)
      (fun b hb => match b, hb with | ⟨0, _⟩, _ => rfl | ⟨1, _⟩, hb => absurd rfl hb) rfl).trans (h1 q)
  | ⟨2, _⟩ =>
    exact (concatenate_apply_piece 1 [⟨S512x256, p0⟩, ⟨S512x256, p1⟩, ⟨S512x256, p2⟩, ⟨S512x256, p3⟩, ⟨S512x256, p4⟩, ⟨S512x256, p5⟩, ⟨S512x256, p6⟩, ⟨S512x256, p7⟩] H _ 2 (by simp) S512x256 p2 rfl rfl 512 rfl (ix2 r q)
      (fun b hb => match b, hb with | ⟨0, _⟩, _ => rfl | ⟨1, _⟩, hb => absurd rfl hb) rfl).trans (h2 q)
  | ⟨3, _⟩ =>
    exact (concatenate_apply_piece 1 [⟨S512x256, p0⟩, ⟨S512x256, p1⟩, ⟨S512x256, p2⟩, ⟨S512x256, p3⟩, ⟨S512x256, p4⟩, ⟨S512x256, p5⟩, ⟨S512x256, p6⟩, ⟨S512x256, p7⟩] H _ 3 (by simp) S512x256 p3 rfl rfl 768 rfl (ix2 r q)
      (fun b hb => match b, hb with | ⟨0, _⟩, _ => rfl | ⟨1, _⟩, hb => absurd rfl hb) rfl).trans (h3 q)
  | ⟨4, _⟩ =>
    exact (concatenate_apply_piece 1 [⟨S512x256, p0⟩, ⟨S512x256, p1⟩, ⟨S512x256, p2⟩, ⟨S512x256, p3⟩, ⟨S512x256, p4⟩, ⟨S512x256, p5⟩, ⟨S512x256, p6⟩, ⟨S512x256, p7⟩] H _ 4 (by simp) S512x256 p4 rfl rfl 1024 rfl (ix2 r q)
      (fun b hb => match b, hb with | ⟨0, _⟩, _ => rfl | ⟨1, _⟩, hb => absurd rfl hb) rfl).trans (h4 q)
  | ⟨5, _⟩ =>
    exact (concatenate_apply_piece 1 [⟨S512x256, p0⟩, ⟨S512x256, p1⟩, ⟨S512x256, p2⟩, ⟨S512x256, p3⟩, ⟨S512x256, p4⟩, ⟨S512x256, p5⟩, ⟨S512x256, p6⟩, ⟨S512x256, p7⟩] H _ 5 (by simp) S512x256 p5 rfl rfl 1280 rfl (ix2 r q)
      (fun b hb => match b, hb with | ⟨0, _⟩, _ => rfl | ⟨1, _⟩, hb => absurd rfl hb) rfl).trans (h5 q)
  | ⟨6, _⟩ =>
    exact (concatenate_apply_piece 1 [⟨S512x256, p0⟩, ⟨S512x256, p1⟩, ⟨S512x256, p2⟩, ⟨S512x256, p3⟩, ⟨S512x256, p4⟩, ⟨S512x256, p5⟩, ⟨S512x256, p6⟩, ⟨S512x256, p7⟩] H _ 6 (by simp) S512x256 p6 rfl rfl 1536 rfl (ix2 r q)
      (fun b hb => match b, hb with | ⟨0, _⟩, _ => rfl | ⟨1, _⟩, hb => absurd rfl hb) rfl).trans (h6 q)
  | ⟨7, _⟩ =>
    exact (concatenate_apply_piece 1 [⟨S512x256, p0⟩, ⟨S512x256, p1⟩, ⟨S512x256, p2⟩, ⟨S512x256, p3⟩, ⟨S512x256, p4⟩, ⟨S512x256, p5⟩, ⟨S512x256, p6⟩, ⟨S512x256, p7⟩] H _ 7 (by simp) S512x256 p7 rfl rfl 1792 rfl (ix2 r q)
      (fun b hb => match b, hb with | ⟨0, _⟩, _ => rfl | ⟨1, _⟩, hb => absurd rfl hb) rfl).trans (h7 q)

/-- Band 0 of a block summed by the square of ones. -/
theorem mm_0 (T : FVec Ideal S512x2048 .f32) (v1 : FVec Ideal S256x256 .bf16) (r : Fin 512) (q : Fin 256) :
    matmul dot_S512x256_S256x256_S512x256_1_0_0_1_n_n none (truncf .bf16 (extractStridedSlice S512x256 ![0, 0] T slices_S512x2048_o0_0_S512x256) bitsLt_bf16_f32) v1 (constant S512x256 .f32 0x00000000#32) (ix2 r q)
      = bandSum (ob v1) (row T r) ⟨0 + q.val, by omega⟩ := by
  unfold bandSum
  pointwise
  refine Finset.sum_congr rfl fun e _ => ?_
  refine Ideal.mul_congr (congrArg T (congrArg (ix2 r) (Fin.ext ?_))) (congrArg v1 (congrArg (ix2 e) (Fin.ext ?_))) <;> simp only [] <;> omega

/-- Band 0 summed in two passes. -/
theorem mm2_0 (T : FVec Ideal S512x2048 .f32) (v1 : FVec Ideal S256x256 .bf16) (r : Fin 512) (q : Fin 256) :
    addf (matmul dot_S512x256_S256x256_S512x256_1_0_0_1_n_n none (truncf .bf16 (extractStridedSlice S512x256 ![0, 0] T slices_S512x2048_o0_0_S512x256) bitsLt_bf16_f32) v1 (constant S512x256 .f32 0x00000000#32))
      (matmul dot_S512x256_S256x256_S512x256_1_0_0_1_n_n none (truncf .bf16 (subf (extractStridedSlice S512x256 ![0, 0] T slices_S512x2048_o0_0_S512x256) (extf .f32 (truncf .bf16 (extractStridedSlice S512x256 ![0, 0] T slices_S512x2048_o0_0_S512x256) bitsLt_bf16_f32) bitsLt_bf16_f32)) bitsLt_bf16_f32) v1 (constant S512x256 .f32 0x00000000#32)) (ix2 r q)
      = bandSum2 (ob v1) (row T r) ⟨0 + q.val, by omega⟩ := by
  unfold bandSum2
  refine congrArg₂ (fun a b : EReal => a + b) (mm_0 T v1 r q) ?_
  unfold bandSum
  pointwise
  refine Finset.sum_congr rfl fun e _ => ?_
  refine Ideal.mul_congr (congrArg (fun j => (T j - T j : EReal)) (congrArg (ix2 r) (Fin.ext ?_))) (congrArg v1 (congrArg (ix2 e) (Fin.ext ?_))) <;> simp only [] <;> omega

/-- Band 1 of a block summed by the square of ones. -/
theorem mm_1 (T : FVec Ideal S512x2048 .f32) (v1 : FVec Ideal S256x256 .bf16) (r : Fin 512) (q : Fin 256) :
    matmul dot_S512x256_S256x256_S512x256_1_0_0_1_n_n none (truncf .bf16 (extractStridedSlice S512x256 ![0, 256] T slices_S512x2048_o0_256_S512x256) bitsLt_bf16_f32) v1 (constant S512x256 .f32 0x00000000#32) (ix2 r q)
      = bandSum (ob v1) (row T r) ⟨256 + q.val, by omega⟩ := by
  unfold bandSum
  pointwise
  refine Finset.sum_congr rfl fun e _ => ?_
  refine Ideal.mul_congr (congrArg T (congrArg (ix2 r) (Fin.ext ?_))) (congrArg v1 (congrArg (ix2 e) (Fin.ext ?_))) <;> simp only [] <;> omega

/-- Band 1 summed in two passes. -/
theorem mm2_1 (T : FVec Ideal S512x2048 .f32) (v1 : FVec Ideal S256x256 .bf16) (r : Fin 512) (q : Fin 256) :
    addf (matmul dot_S512x256_S256x256_S512x256_1_0_0_1_n_n none (truncf .bf16 (extractStridedSlice S512x256 ![0, 256] T slices_S512x2048_o0_256_S512x256) bitsLt_bf16_f32) v1 (constant S512x256 .f32 0x00000000#32))
      (matmul dot_S512x256_S256x256_S512x256_1_0_0_1_n_n none (truncf .bf16 (subf (extractStridedSlice S512x256 ![0, 256] T slices_S512x2048_o0_256_S512x256) (extf .f32 (truncf .bf16 (extractStridedSlice S512x256 ![0, 256] T slices_S512x2048_o0_256_S512x256) bitsLt_bf16_f32) bitsLt_bf16_f32)) bitsLt_bf16_f32) v1 (constant S512x256 .f32 0x00000000#32)) (ix2 r q)
      = bandSum2 (ob v1) (row T r) ⟨256 + q.val, by omega⟩ := by
  unfold bandSum2
  refine congrArg₂ (fun a b : EReal => a + b) (mm_1 T v1 r q) ?_
  unfold bandSum
  pointwise
  refine Finset.sum_congr rfl fun e _ => ?_
  refine Ideal.mul_congr (congrArg (fun j => (T j - T j : EReal)) (congrArg (ix2 r) (Fin.ext ?_))) (congrArg v1 (congrArg (ix2 e) (Fin.ext ?_))) <;> simp only [] <;> omega

/-- Band 2 of a block summed by the square of ones. -/
theorem mm_2 (T : FVec Ideal S512x2048 .f32) (v1 : FVec Ideal S256x256 .bf16) (r : Fin 512) (q : Fin 256) :
    matmul dot_S512x256_S256x256_S512x256_1_0_0_1_n_n none (truncf .bf16 (extractStridedSlice S512x256 ![0, 512] T slices_S512x2048_o0_512_S512x256) bitsLt_bf16_f32) v1 (constant S512x256 .f32 0x00000000#32) (ix2 r q)
      = bandSum (ob v1) (row T r) ⟨512 + q.val, by omega⟩ := by
  unfold bandSum
  pointwise
  refine Finset.sum_congr rfl fun e _ => ?_
  refine Ideal.mul_congr (congrArg T (congrArg (ix2 r) (Fin.ext ?_))) (congrArg v1 (congrArg (ix2 e) (Fin.ext ?_))) <;> simp only [] <;> omega

/-- Band 2 summed in two passes. -/
theorem mm2_2 (T : FVec Ideal S512x2048 .f32) (v1 : FVec Ideal S256x256 .bf16) (r : Fin 512) (q : Fin 256) :
    addf (matmul dot_S512x256_S256x256_S512x256_1_0_0_1_n_n none (truncf .bf16 (extractStridedSlice S512x256 ![0, 512] T slices_S512x2048_o0_512_S512x256) bitsLt_bf16_f32) v1 (constant S512x256 .f32 0x00000000#32))
      (matmul dot_S512x256_S256x256_S512x256_1_0_0_1_n_n none (truncf .bf16 (subf (extractStridedSlice S512x256 ![0, 512] T slices_S512x2048_o0_512_S512x256) (extf .f32 (truncf .bf16 (extractStridedSlice S512x256 ![0, 512] T slices_S512x2048_o0_512_S512x256) bitsLt_bf16_f32) bitsLt_bf16_f32)) bitsLt_bf16_f32) v1 (constant S512x256 .f32 0x00000000#32)) (ix2 r q)
      = bandSum2 (ob v1) (row T r) ⟨512 + q.val, by omega⟩ := by
  unfold bandSum2
  refine congrArg₂ (fun a b : EReal => a + b) (mm_2 T v1 r q) ?_
  unfold bandSum
  pointwise
  refine Finset.sum_congr rfl fun e _ => ?_
  refine Ideal.mul_congr (congrArg (fun j => (T j - T j : EReal)) (congrArg (ix2 r) (Fin.ext ?_))) (congrArg v1 (congrArg (ix2 e) (Fin.ext ?_))) <;> simp only [] <;> omega

/-- Band 3 of a block summed by the square of ones. -/
theorem mm_3 (T : FVec Ideal S512x2048 .f32) (v1 : FVec Ideal S256x256 .bf16) (r : Fin 512) (q : Fin 256) :
    matmul dot_S512x256_S256x256_S512x256_1_0_0_1_n_n none (truncf .bf16 (extractStridedSlice S512x256 ![0, 768] T slices_S512x2048_o0_768_S512x256) bitsLt_bf16_f32) v1 (constant S512x256 .f32 0x00000000#32) (ix2 r q)
      = bandSum (ob v1) (row T r) ⟨768 + q.val, by omega⟩ := by
  unfold bandSum
  pointwise
  refine Finset.sum_congr rfl fun e _ => ?_
  refine Ideal.mul_congr (congrArg T (congrArg (ix2 r) (Fin.ext ?_))) (congrArg v1 (congrArg (ix2 e) (Fin.ext ?_))) <;> simp only [] <;> omega

/-- Band 3 summed in two passes. -/
theorem mm2_3 (T : FVec Ideal S512x2048 .f32) (v1 : FVec Ideal S256x256 .bf16) (r : Fin 512) (q : Fin 256) :
    addf (matmul dot_S512x256_S256x256_S512x256_1_0_0_1_n_n none (truncf .bf16 (extractStridedSlice S512x256 ![0, 768] T slices_S512x2048_o0_768_S512x256) bitsLt_bf16_f32) v1 (constant S512x256 .f32 0x00000000#32))
      (matmul dot_S512x256_S256x256_S512x256_1_0_0_1_n_n none (truncf .bf16 (subf (extractStridedSlice S512x256 ![0, 768] T slices_S512x2048_o0_768_S512x256) (extf .f32 (truncf .bf16 (extractStridedSlice S512x256 ![0, 768] T slices_S512x2048_o0_768_S512x256) bitsLt_bf16_f32) bitsLt_bf16_f32)) bitsLt_bf16_f32) v1 (constant S512x256 .f32 0x00000000#32)) (ix2 r q)
      = bandSum2 (ob v1) (row T r) ⟨768 + q.val, by omega⟩ := by
  unfold bandSum2
  refine congrArg₂ (fun a b : EReal => a + b) (mm_3 T v1 r q) ?_
  unfold bandSum
  pointwise
  refine Finset.sum_congr rfl fun e _ => ?_
  refine Ideal.mul_congr (congrArg (fun j => (T j - T j : EReal)) (congrArg (ix2 r) (Fin.ext ?_))) (congrArg v1 (congrArg (ix2 e) (Fin.ext ?_))) <;> simp only [] <;> omega

/-- Band 4 of a block summed by the square of ones. -/
theorem mm_4 (T : FVec Ideal S512x2048 .f32) (v1 : FVec Ideal S256x256 .bf16) (r : Fin 512) (q : Fin 256) :
    matmul dot_S512x256_S256x256_S512x256_1_0_0_1_n_n none (truncf .bf16 (extractStridedSlice S512x256 ![0, 1024] T slices_S512x2048_o0_1024_S512x256) bitsLt_bf16_f32) v1 (constant S512x256 .f32 0x00000000#32) (ix2 r q)
      = bandSum (ob v1) (row T r) ⟨1024 + q.val, by omega⟩ := by
  unfold bandSum
  pointwise
  refine Finset.sum_congr rfl fun e _ => ?_
  refine Ideal.mul_congr (congrArg T (congrArg (ix2 r) (Fin.ext ?_))) (congrArg v1 (congrArg (ix2 e) (Fin.ext ?_))) <;> simp only [] <;> omega

/-- Band 4 summed in two passes. -/
theorem mm2_4 (T : FVec Ideal S512x2048 .f32) (v1 : FVec Ideal S256x256 .bf16) (r : Fin 512) (q : Fin 256) :
    addf (matmul dot_S512x256_S256x256_S512x256_1_0_0_1_n_n none (truncf .bf16 (extractStridedSlice S512x256 ![0, 1024] T slices_S512x2048_o0_1024_S512x256) bitsLt_bf16_f32) v1 (constant S512x256 .f32 0x00000000#32))
      (matmul dot_S512x256_S256x256_S512x256_1_0_0_1_n_n none (truncf .bf16 (subf (extractStridedSlice S512x256 ![0, 1024] T slices_S512x2048_o0_1024_S512x256) (extf .f32 (truncf .bf16 (extractStridedSlice S512x256 ![0, 1024] T slices_S512x2048_o0_1024_S512x256) bitsLt_bf16_f32) bitsLt_bf16_f32)) bitsLt_bf16_f32) v1 (constant S512x256 .f32 0x00000000#32)) (ix2 r q)
      = bandSum2 (ob v1) (row T r) ⟨1024 + q.val, by omega⟩ := by
  unfold bandSum2
  refine congrArg₂ (fun a b : EReal => a + b) (mm_4 T v1 r q) ?_
  unfold bandSum
  pointwise
  refine Finset.sum_congr rfl fun e _ => ?_
  refine Ideal.mul_congr (congrArg (fun j => (T j - T j : EReal)) (congrArg (ix2 r) (Fin.ext ?_))) (congrArg v1 (congrArg (ix2 e) (Fin.ext ?_))) <;> simp only [] <;> omega

/-- Band 5 of a block summed by the square of ones. -/
theorem mm_5 (T : FVec Ideal S512x2048 .f32) (v1 : FVec Ideal S256x256 .bf16) (r : Fin 512) (q : Fin 256) :
    matmul dot_S512x256_S256x256_S512x256_1_0_0_1_n_n none (truncf .bf16 (extractStridedSlice S512x256 ![0, 1280] T slices_S512x2048_o0_1280_S512x256) bitsLt_bf16_f32) v1 (constant S512x256 .f32 0x00000000#32) (ix2 r q)
      = bandSum (ob v1) (row T r) ⟨1280 + q.val, by omega⟩ := by
  unfold bandSum
  pointwise
  refine Finset.sum_congr rfl fun e _ => ?_
  refine Ideal.mul_congr (congrArg T (congrArg (ix2 r) (Fin.ext ?_))) (congrArg v1 (congrArg (ix2 e) (Fin.ext ?_))) <;> simp only [] <;> omega

/-- Band 5 summed in two passes. -/
theorem mm2_5 (T : FVec Ideal S512x2048 .f32) (v1 : FVec Ideal S256x256 .bf16) (r : Fin 512) (q : Fin 256) :
    addf (matmul dot_S512x256_S256x256_S512x256_1_0_0_1_n_n none (truncf .bf16 (extractStridedSlice S512x256 ![0, 1280] T slices_S512x2048_o0_1280_S512x256) bitsLt_bf16_f32) v1 (constant S512x256 .f32 0x00000000#32))
      (matmul dot_S512x256_S256x256_S512x256_1_0_0_1_n_n none (truncf .bf16 (subf (extractStridedSlice S512x256 ![0, 1280] T slices_S512x2048_o0_1280_S512x256) (extf .f32 (truncf .bf16 (extractStridedSlice S512x256 ![0, 1280] T slices_S512x2048_o0_1280_S512x256) bitsLt_bf16_f32) bitsLt_bf16_f32)) bitsLt_bf16_f32) v1 (constant S512x256 .f32 0x00000000#32)) (ix2 r q)
      = bandSum2 (ob v1) (row T r) ⟨1280 + q.val, by omega⟩ := by
  unfold bandSum2
  refine congrArg₂ (fun a b : EReal => a + b) (mm_5 T v1 r q) ?_
  unfold bandSum
  pointwise
  refine Finset.sum_congr rfl fun e _ => ?_
  refine Ideal.mul_congr (congrArg (fun j => (T j - T j : EReal)) (congrArg (ix2 r) (Fin.ext ?_))) (congrArg v1 (congrArg (ix2 e) (Fin.ext ?_))) <;> simp only [] <;> omega

/-- Band 6 of a block summed by the square of ones. -/
theorem mm_6 (T : FVec Ideal S512x2048 .f32) (v1 : FVec Ideal S256x256 .bf16) (r : Fin 512) (q : Fin 256) :
    matmul dot_S512x256_S256x256_S512x256_1_0_0_1_n_n none (truncf .bf16 (extractStridedSlice S512x256 ![0, 1536] T slices_S512x2048_o0_1536_S512x256) bitsLt_bf16_f32) v1 (constant S512x256 .f32 0x00000000#32) (ix2 r q)
      = bandSum (ob v1) (row T r) ⟨1536 + q.val, by omega⟩ := by
  unfold bandSum
  pointwise
  refine Finset.sum_congr rfl fun e _ => ?_
  refine Ideal.mul_congr (congrArg T (congrArg (ix2 r) (Fin.ext ?_))) (congrArg v1 (congrArg (ix2 e) (Fin.ext ?_))) <;> simp only [] <;> omega

/-- Band 6 summed in two passes. -/
theorem mm2_6 (T : FVec Ideal S512x2048 .f32) (v1 : FVec Ideal S256x256 .bf16) (r : Fin 512) (q : Fin 256) :
    addf (matmul dot_S512x256_S256x256_S512x256_1_0_0_1_n_n none (truncf .bf16 (extractStridedSlice S512x256 ![0, 1536] T slices_S512x2048_o0_1536_S512x256) bitsLt_bf16_f32) v1 (constant S512x256 .f32 0x00000000#32))
      (matmul dot_S512x256_S256x256_S512x256_1_0_0_1_n_n none (truncf .bf16 (subf (extractStridedSlice S512x256 ![0, 1536] T slices_S512x2048_o0_1536_S512x256) (extf .f32 (truncf .bf16 (extractStridedSlice S512x256 ![0, 1536] T slices_S512x2048_o0_1536_S512x256) bitsLt_bf16_f32) bitsLt_bf16_f32)) bitsLt_bf16_f32) v1 (constant S512x256 .f32 0x00000000#32)) (ix2 r q)
      = bandSum2 (ob v1) (row T r) ⟨1536 + q.val, by omega⟩ := by
  unfold bandSum2
  refine congrArg₂ (fun a b : EReal => a + b) (mm_6 T v1 r q) ?_
  unfold bandSum
  pointwise
  refine Finset.sum_congr rfl fun e _ => ?_
  refine Ideal.mul_congr (congrArg (fun j => (T j - T j : EReal)) (congrArg (ix2 r) (Fin.ext ?_))) (congrArg v1 (congrArg (ix2 e) (Fin.ext ?_))) <;> simp only [] <;> omega

/-- Band 7 of a block summed by the square of ones. -/
theorem mm_7 (T : FVec Ideal S512x2048 .f32) (v1 : FVec Ideal S256x256 .bf16) (r : Fin 512) (q : Fin 256) :
    matmul dot_S512x256_S256x256_S512x256_1_0_0_1_n_n none (truncf .bf16 (extractStridedSlice S512x256 ![0, 1792] T slices_S512x2048_o0_1792_S512x256) bitsLt_bf16_f32) v1 (constant S512x256 .f32 0x00000000#32) (ix2 r q)
      = bandSum (ob v1) (row T r) ⟨1792 + q.val, by omega⟩ := by
  unfold bandSum
  pointwise
  refine Finset.sum_congr rfl fun e _ => ?_
  refine Ideal.mul_congr (congrArg T (congrArg (ix2 r) (Fin.ext ?_))) (congrArg v1 (congrArg (ix2 e) (Fin.ext ?_))) <;> simp only [] <;> omega

/-- Band 7 summed in two passes. -/
theorem mm2_7 (T : FVec Ideal S512x2048 .f32) (v1 : FVec Ideal S256x256 .bf16) (r : Fin 512) (q : Fin 256) :
    addf (matmul dot_S512x256_S256x256_S512x256_1_0_0_1_n_n none (truncf .bf16 (extractStridedSlice S512x256 ![0, 1792] T slices_S512x2048_o0_1792_S512x256) bitsLt_bf16_f32) v1 (constant S512x256 .f32 0x00000000#32))
      (matmul dot_S512x256_S256x256_S512x256_1_0_0_1_n_n none (truncf .bf16 (subf (extractStridedSlice S512x256 ![0, 1792] T slices_S512x2048_o0_1792_S512x256) (extf .f32 (truncf .bf16 (extractStridedSlice S512x256 ![0, 1792] T slices_S512x2048_o0_1792_S512x256) bitsLt_bf16_f32) bitsLt_bf16_f32)) bitsLt_bf16_f32) v1 (constant S512x256 .f32 0x00000000#32)) (ix2 r q)
      = bandSum2 (ob v1) (row T r) ⟨1792 + q.val, by omega⟩ := by
  unfold bandSum2
  refine congrArg₂ (fun a b : EReal => a + b) (mm_7 T v1 r q) ?_
  unfold bandSum
  pointwise
  refine Finset.sum_congr rfl fun e _ => ?_
  refine Ideal.mul_congr (congrArg (fun j => (T j - T j : EReal)) (congrArg (ix2 r) (Fin.ext ?_))) (congrArg v1 (congrArg (ix2 e) (Fin.ext ?_))) <;> simp only [] <;> omega

/-- The block's rows less their heads' means, from the loaded blocks. -/
abbrev Y9 (v0 : Vec Ideal S256x256 .bf16) (v2 : Vec Ideal S512x2048 .bf16) : FVec Ideal S512x2048 .f32 :=
  k0_pay9 (k0_pay2 v0) (k0_pay3 v2) (k0_pay4 v0 v2) (k0_pay5 v0 v2) (k0_pay6 v0 v2) (k0_pay7 v0 v2) (k0_pay8 v0 v2)

/-- One entry of that. -/
theorem y9_at (v0 : Vec Ideal S256x256 .bf16) (v2 : Vec Ideal S512x2048 .bf16) (r : Fin 512) (n : Fin 2048) :
    Y9 v0 v2 (ix2 r n) = centred (bandSum2 (ob (k0_pay2 v0))) (row (k0_pay3 v2) r) n := by
  unfold Y9 k0_pay9 centred
  refine congrArg₂ (fun a b : EReal => a - Ideal.div b (Ideal.ofBits .f32 0x42800000#32)) rfl
    (cat8 _ _ _ _ _ _ _ _ r n (bandSum2 (ob (k0_pay2 v0)) (row (k0_pay3 v2) r)) (mm2_0 (k0_pay3 v2) (k0_pay2 v0) r) (mm2_1 (k0_pay3 v2) (k0_pay2 v0) r) (mm2_2 (k0_pay3 v2) (k0_pay2 v0) r) (mm2_3 (k0_pay3 v2) (k0_pay2 v0) r) (mm2_4 (k0_pay3 v2) (k0_pay2 v0) r) (mm2_5 (k0_pay3 v2) (k0_pay2 v0) r) (mm2_6 (k0_pay3 v2) (k0_pay2 v0) r) (mm2_7 (k0_pay3 v2) (k0_pay2 v0) r) _)

/-- The normalised block, from the loaded blocks. -/
abbrev G17 (v0 : Vec Ideal S256x256 .bf16) (v2 : Vec Ideal S512x2048 .bf16) (v105 v109 : Vec Ideal S1x2048 .f32) : FVec Ideal S512x2048 .f32 :=
  k0_pay17 (k0_pay2 v0) (Y9 v0 v2) (mulf (Y9 v0 v2) (Y9 v0 v2))
    (k0_pay11 (k0_pay2 v0) (k0_pay3 v2) (k0_pay4 v0 v2) (k0_pay5 v0 v2) (k0_pay6 v0 v2) (k0_pay7 v0 v2) (k0_pay8 v0 v2)) (k0_pay12 (k0_pay2 v0) (k0_pay3 v2) (k0_pay4 v0 v2) (k0_pay5 v0 v2) (k0_pay6 v0 v2) (k0_pay7 v0 v2) (k0_pay8 v0 v2)) (k0_pay13 (k0_pay2 v0) (k0_pay3 v2) (k0_pay4 v0 v2) (k0_pay5 v0 v2) (k0_pay6 v0 v2) (k0_pay7 v0 v2) (k0_pay8 v0 v2)) (k0_pay14 (k0_pay2 v0) (k0_pay3 v2) (k0_pay4 v0 v2) (k0_pay5 v0 v2) (k0_pay6 v0 v2) (k0_pay7 v0 v2) (k0_pay8 v0 v2)) (k0_pay15 (k0_pay2 v0) (k0_pay3 v2) (k0_pay4 v0 v2) (k0_pay5 v0 v2) (k0_pay6 v0 v2) (k0_pay7 v0 v2) (k0_pay8 v0 v2)) (k0_pay16 (k0_pay2 v0) (k0_pay3 v2) (k0_pay4 v0 v2) (k0_pay5 v0 v2) (k0_pay6 v0 v2) (k0_pay7 v0 v2) (k0_pay8 v0 v2)) v105 v109

/-- One entry of that. -/
theorem g17_at (v0 : Vec Ideal S256x256 .bf16) (v2 : Vec Ideal S512x2048 .bf16) (v105 v109 : Vec Ideal S1x2048 .f32) (r : Fin 512) (n : Fin 2048) :
    G17 v0 v2 v105 v109 (ix2 r n) = gnRow (bandSum2 (ob (k0_pay2 v0))) (bandSum (ob (k0_pay2 v0))) (row (k0_pay3 v2) r)
      (fun j => (show FVec Ideal S1x2048 .f32 from v105) (ix2 0 j)) (fun j => (show FVec Ideal S1x2048 .f32 from v109) (ix2 0 j)) n := by
  unfold G17 k0_pay17 gnRow
  refine congrArg₂ (fun a b : EReal => a + b) (Ideal.mul_congr (congrArg₂ (fun a b : EReal => a * Ideal.rsqrt (Ideal.div b (Ideal.ofBits .f32 0x42800000#32) + Ideal.ofBits .f32 0x3A27C5AC#32)) (y9_at v0 v2 r n) ?_) ?_) ?_
  · refine (cat8 _ _ _ _ _ _ _ _ r n (bandSum (ob (k0_pay2 v0)) (row (mulf (Y9 v0 v2) (Y9 v0 v2)) r)) (mm_0 (mulf (Y9 v0 v2) (Y9 v0 v2)) (k0_pay2 v0) r) (mm_1 (mulf (Y9 v0 v2) (Y9 v0 v2)) (k0_pay2 v0) r) (mm_2 (mulf (Y9 v0 v2) (Y9 v0 v2)) (k0_pay2 v0) r) (mm_3 (mulf (Y9 v0 v2) (Y9 v0 v2)) (k0_pay2 v0) r) (mm_4 (mulf (Y9 v0 v2) (Y9 v0 v2)) (k0_pay2 v0) r) (mm_5 (mulf (Y9 v0 v2) (Y9 v0 v2)) (k0_pay2 v0) r) (mm_6 (mulf (Y9 v0 v2) (Y9 v0 v2)) (k0_pay2 v0) r) (mm_7 (mulf (Y9 v0 v2) (Y9 v0 v2)) (k0_pay2 v0) r) _).trans ?_
    exact congrArg (fun f : Row => bandSum (ob (k0_pay2 v0)) f n) (funext fun j => Ideal.mul_congr (y9_at v0 v2 r j) (y9_at v0 v2 r j))
  · pointwise
  · pointwise

/-- The weighted product the bonus sums. -/
abbrev rkT (v115 v118 v127 v128 : FVec Ideal S512x2048 .f32) (v130 v138 : Vec Ideal S1x2048 .f32) : FVec Ideal S512x2048 .f32 :=
  mulf (mulf v115 (mulf v118 (addf (broadcast S512x2048 (Scalar.ofBits .f32 0x3F800000#32)) (mulf (subf v127 v128)
    (broadcastTo S512x2048 (shapeCast S1x2048 v130 shapeCasts_S1x2048_S1x2048) broadcasts_S1x2048_S512x2048)))))
    (broadcastTo S512x2048 (shapeCast S1x2048 v138 shapeCasts_S1x2048_S1x2048) broadcasts_S1x2048_S512x2048)

/-- The normalised block with the bonus added. -/
theorem p24_at (v1 : FVec Ideal S256x256 .bf16) (v112 v115 v118 v121 v127 : FVec Ideal S512x2048 .f32) (v130 v138 : Vec Ideal S1x2048 .f32) (r : Fin 512) (n : Fin 2048) :
    k0_pay24 (F := Ideal) v1 v112 v115 v118 v121 v127 (k0_pay23 (F := Ideal)) v130 v138 (ix2 r n)
      = (v112 (ix2 r n) + bonusRow (bandSum (ob v1)) (row v115 r) (row v118 r) (row v121 r) (row v127 r)
          (fun j => (show FVec Ideal S1x2048 .f32 from v130) (ix2 0 j)) (fun j => (show FVec Ideal S1x2048 .f32 from v138) (ix2 0 j)) n : EReal) := by
  unfold k0_pay24 bonusRow
  refine congrArg₂ (fun a b : EReal => a + b) rfl (Ideal.mul_congr ?_ rfl)
  refine (cat8 _ _ _ _ _ _ _ _ r n (bandSum (ob v1) (row (rkT v115 v118 v127 k0_pay23 v130 v138) r)) (mm_0 (rkT v115 v118 v127 k0_pay23 v130 v138) v1 r) (mm_1 (rkT v115 v118 v127 k0_pay23 v130 v138) v1 r) (mm_2 (rkT v115 v118 v127 k0_pay23 v130 v138) v1 r) (mm_3 (rkT v115 v118 v127 k0_pay23 v130 v138) v1 r) (mm_4 (rkT v115 v118 v127 k0_pay23 v130 v138) v1 r) (mm_5 (rkT v115 v118 v127 k0_pay23 v130 v138) v1 r) (mm_6 (rkT v115 v118 v127 k0_pay23 v130 v138) v1 r) (mm_7 (rkT v115 v118 v127 k0_pay23 v130 v138) v1 r) _).trans ?_
  refine congrArg (fun f : Row => bandSum (ob v1) f n) (funext fun j => ?_)
  unfold row rkT
  pointwise [k0_pay23]

/-- The gated, projected block added to the stream. -/
theorem p1_at (v124 v168 : FVec Ideal S512x2048 .f32) (v178 : Vec Ideal S512x1024 .f32) (v181 : Vec Ideal S2048x1024 .bf16) (r : Fin 512) (n : Fin 1024) :
    k0_pay1 (F := Ideal) v124 v168 (k0_pay25 v124) v178 v181 (ix2 r n)
      = outRow (row v168 r) (row v124 r) (fun k j => (show FVec Ideal S2048x1024 .bf16 from v181) (ix2 k j)) (fun j => (show FVec Ideal S512x1024 .f32 from v178) (ix2 r j)) n := by
  unfold outRow gate
  pointwise [k0_pay1]
  refine congrArg₂ (· + ·) rfl (Finset.sum_congr rfl fun k _ => ?_)
  pointwise [k0_pay25]
  rw [show ∀ a : EReal, 0 - a = -a from zero_sub]

/-- One row of the result from the rows of its operands, the sums over heads taken by `h2` and `h1`. -/
def rwkvRow (h2 h1 : Row → Row) (y r k v z a lw lb rk ka : Row) (w : Fin 2048 → Fin 1024 → EReal) (x : Fin 1024 → EReal) (n : Fin 1024) : EReal :=
  outRow (fun j => gnRow h2 h1 y lw lb j + bonusRow h1 r k v a ka rk j) z w x n

/-- One entry of the block a grid point leaves. -/
theorem out_at (x0 : Vec Ideal S512x2048 .bf16) (x1 x2 x3 x4 : Vec Ideal S1x512x2048 .bf16) (x5 : Vec Ideal S512x2048 .bf16) (x6 : Vec Ideal S512x1024 .f32) (x7 x8 x9 x10 : Vec Ideal S1x2048 .f32) (x11 : Vec Ideal S256x256 .bf16) (x12 : Vec Ideal S2048x1024 .bf16) (r : Fin 512) (n : Fin 1024) :
    out0_13 x0 x1 x2 x3 x4 x5 x6 x7 x8 x9 x10 x11 x12 (ix2 r n)
      = rwkvRow (bandSum2 (fun e q => (show FVec Ideal S256x256 .bf16 from x11) (ix2 e q))) (bandSum (fun e q => (show FVec Ideal S256x256 .bf16 from x11) (ix2 e q)))
          (fun j => (show FVec Ideal S512x2048 .bf16 from x0) (ix2 r j)) (fun j => (show FVec Ideal S1x512x2048 .bf16 from x1) (ix3 0 r j))
          (fun j => (show FVec Ideal S1x512x2048 .bf16 from x2) (ix3 0 r j)) (fun j => (show FVec Ideal S1x512x2048 .bf16 from x3) (ix3 0 r j))
          (fun j => (show FVec Ideal S1x512x2048 .bf16 from x4) (ix3 0 r j)) (fun j => (show FVec Ideal S512x2048 .bf16 from x5) (ix2 r j))
          (fun j => (show FVec Ideal S1x2048 .f32 from x7) (ix2 0 j)) (fun j => (show FVec Ideal S1x2048 .f32 from x8) (ix2 0 j))
          (fun j => (show FVec Ideal S1x2048 .f32 from x9) (ix2 0 j)) (fun j => (show FVec Ideal S1x2048 .f32 from x10) (ix2 0 j))
          (fun k j => (show FVec Ideal S2048x1024 .bf16 from x12) (ix2 k j)) (fun j => (show FVec Ideal S512x1024 .f32 from x6) (ix2 r j)) n := by
  unfold_out out0_13
  canon_tiles x h
  case piece0 =>
    obtain ⟨p, e, rfl⟩ : ∃ (p : Fin 512) (e : Fin 1024), x = ix2 p e := ⟨x 0, x 1, eq_ix2 x⟩
    obtain rfl : r = p := Fin.ext h0
    obtain rfl : n = e := Fin.ext h1
    refine (p1_at _ _ _ _ r n).trans ?_
    have hob : ob (k0_pay2 (F := Ideal) (View.ld x11 r0_0)) = fun e q => (show FVec Ideal S256x256 .bf16 from x11) (ix2 e q) := by
      funext e q; unfold ob; pointwise [k0_pay2]
    have h0 : row (k0_pay3 (F := Ideal) (View.ld x0 r0_1)) r = fun j => (show FVec Ideal S512x2048 .bf16 from x0) (ix2 r j) := by
      funext j; unfold row; pointwise [k0_pay3]
    have hr : row (k0_pay18 (F := Ideal) (View.ld x1 r0_3)) r = fun j => (show FVec Ideal S1x512x2048 .bf16 from x1) (ix3 0 r j) := by
      funext j; unfold row; pointwise [k0_pay18]; blk_ext
    have hk : row (k0_pay19 (F := Ideal) (View.ld x2 r0_3)) r = fun j => (show FVec Ideal S1x512x2048 .bf16 from x2) (ix3 0 r j) := by
      funext j; unfold row; pointwise [k0_pay19]; blk_ext
    have hv : row (k0_pay20 (F := Ideal) (View.ld x3 r0_3)) r = fun j => (show FVec Ideal S1x512x2048 .bf16 from x3) (ix3 0 r j) := by
      funext j; unfold row; pointwise [k0_pay20]; blk_ext
    have hz : row (k0_pay21 (F := Ideal) (View.ld x4 r0_3)) r = fun j => (show FVec Ideal S1x512x2048 .bf16 from x4) (ix3 0 r j) := by
      funext j; unfold row; pointwise [k0_pay21]; blk_ext
    have ha : row (k0_pay22 (F := Ideal) (View.ld x5 r0_1)) r = fun j => (show FVec Ideal S512x2048 .bf16 from x5) (ix2 r j) := by
      funext j; unfold row; pointwise [k0_pay22]
    unfold rwkvRow
    refine congr (congr (congr (congr (congrArg outRow (funext fun j => ?_)) hz) (funext fun k => funext fun j => ?_)) (funext fun j => ?_)) rfl
    · refine (p24_at _ _ _ _ _ _ _ _ r j).trans ?_
      rw [← hob, ← h0, ← hr, ← hk, ← hv, ← ha]
      refine congrArg₂ (fun a b : EReal => a + b) ((g17_at (View.ld x11 r0_0) (View.ld x0 r0_1) (View.ld x7 r0_2) (View.ld x8 r0_2) r j).trans ?_) ?_
      · refine congr (congr (congrArg (gnRow _ _ _) (funext fun j => ?_)) (funext fun j => ?_)) rfl
        all_goals pointwise
      · refine congr (congr (congrArg (bonusRow _ _ _ _ _) (funext fun j => ?_)) (funext fun j => ?_)) rfl
        all_goals pointwise
    · pointwise
    · pointwise

end Cert.RwkvOutIdeal.Value
-- ==== Proof.RwkvOutHost.lean ====
module

public import Idealize.ShloMosaic.Lib.Pipeline.ValueKit
public import Idealize.ShloMosaic.Lib.Pointwise
public import Idealize.ShloMosaic.Lib.Claim
public import Idealize.ShloMosaic.Lib.StableHlo.RunRead
public import proofs.«01_k».proof.Proof.RwkvOut

@[expose] public section

set_option maxRecDepth 16384

noncomputable section

open Idealize.ShloMosaic Idealize.ShloMosaic.TcCoe Idealize.SL.Sem
open Idealize.ShloMosaic.Pipeline (Dat)

namespace Cert.RwkvOutIdeal.Value

open Cert.RwkvOutIdeal Cert.RwkvOutIdeal.Gen Cert.Layer

variable (m : (ℓ : Loc nD τ sig) → Buf (Elt Ideal) ℓ)

/-- The host's values when the four operands are stacked. -/
abbrev U (c : Dev nD) := StableHlo.upto (List.flatten [hostOps0 (F := Ideal), hostOps0_1, hostOps0_2]) (fun b => m (c, b)) 39

/-- Grid point `t` takes row tile `t`; the four stacked operands come from the four slabs. -/
theorem idx : ∀ t : Fin cfg0.N, win0_0.index t = ![t.val, 0] ∧ win0_1.index t = ![0, t.val, 0] ∧ win0_2.index t = ![1, t.val, 0]
    ∧ win0_3.index t = ![2, t.val, 0] ∧ win0_4.index t = ![3, t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0] ∧ win0_11.index t = ![0, 0] ∧ win0_12.index t = ![0, 0]
    ∧ win0_13.index t = ![t.val, 0] ∧ t.val < 64 :=
  (by decide +kernel : ∀ t : Fin grid0.N, _)

/-- Slab 0 of four stacked arrays. -/
theorem slab0 (p0 p1 p2 p3 : FVec Ideal S1x32768x2048 .bf16) (H : Shape.Concatenates [S1x32768x2048, S1x32768x2048, S1x32768x2048, S1x32768x2048] S4x32768x2048 0)
    (r : Fin 32768) (k : Fin 2048) : concatenate S4x32768x2048 0 [⟨S1x32768x2048, p0⟩, ⟨S1x32768x2048, p1⟩, ⟨S1x32768x2048, p2⟩, ⟨S1x32768x2048, p3⟩] H (ix3 0 r k) = p0 (ix3 0 r k) :=
  concatenate_apply_piece 0 [⟨S1x32768x2048, p0⟩, ⟨S1x32768x2048, p1⟩, ⟨S1x32768x2048, p2⟩, ⟨S1x32768x2048, p3⟩] H _ 0 (by simp) S1x32768x2048 p0 rfl rfl 0 rfl (ix3 0 r k)
    (fun a ha => match a, ha with | ⟨0, _⟩, ha => absurd rfl ha | ⟨1, _⟩, _ => rfl | ⟨2, _⟩, _ => rfl) rfl

/-- Slab 1 of four stacked arrays. -/
theorem slab1 (p0 p1 p2 p3 : FVec Ideal S1x32768x2048 .bf16) (H : Shape.Concatenates [S1x32768x2048, S1x32768x2048, S1x32768x2048, S1x32768x2048] S4x32768x2048 0)
    (r : Fin 32768) (k : Fin 2048) : concatenate S4x32768x2048 0 [⟨S1x32768x2048, p0⟩, ⟨S1x32768x2048, p1⟩, ⟨S1x32768x2048, p2⟩, ⟨S1x32768x2048, p3⟩] H (ix3 1 r k) = p1 (ix3 0 r k) :=
  concatenate_apply_piece 0 [⟨S1x32768x2048, p0⟩, ⟨S1x32768x2048, p1⟩, ⟨S1x32768x2048, p2⟩, ⟨S1x32768x2048, p3⟩] H _ 1 (by simp) S1x32768x2048 p1 rfl rfl 1 rfl (ix3 0 r k)
    (fun a ha => match a, ha with | ⟨0, _⟩, ha => absurd rfl ha | ⟨1, _⟩, _ => rfl | ⟨2, _⟩, _ => rfl) rfl

/-- Slab 2 of four stacked arrays. -/
theorem slab2 (p0 p1 p2 p3 : FVec Ideal S1x32768x2048 .bf16) (H : Shape.Concatenates [S1x32768x2048, S1x32768x2048, S1x32768x2048, S1x32768x2048] S4x32768x2048 0)
    (r : Fin 32768) (k : Fin 2048) : concatenate S4x32768x2048 0 [⟨S1x32768x2048, p0⟩, ⟨S1x32768x2048, p1⟩, ⟨S1x32768x2048, p2⟩, ⟨S1x32768x2048, p3⟩] H (ix3 2 r k) = p2 (ix3 0 r k) :=
  concatenate_apply_piece 0 [⟨S1x32768x2048, p0⟩, ⟨S1x32768x2048, p1⟩, ⟨S1x32768x2048, p2⟩, ⟨S1x32768x2048, p3⟩] H _ 2 (by simp) S1x32768x2048 p2 rfl rfl 2 rfl (ix3 0 r k)
    (fun a ha => match a, ha with | ⟨0, _⟩, ha => absurd rfl ha | ⟨1, _⟩, _ => rfl | ⟨2, _⟩, _ => rfl) rfl

/-- Slab 3 of four stacked arrays. -/
theorem slab3 (p0 p1 p2 p3 : FVec Ideal S1x32768x2048 .bf16) (H : Shape.Concatenates [S1x32768x2048, S1x32768x2048, S1x32768x2048, S1x32768x2048] S4x32768x2048 0)
    (r : Fin 32768) (k : Fin 2048) : concatenate S4x32768x2048 0 [⟨S1x32768x2048, p0⟩, ⟨S1x32768x2048, p1⟩, ⟨S1x32768x2048, p2⟩, ⟨S1x32768x2048, p3⟩] H (ix3 3 r k) = p3 (ix3 0 r k) :=
  concatenate_apply_piece 0 [⟨S1x32768x2048, p0⟩, ⟨S1x32768x2048, p1⟩, ⟨S1x32768x2048, p2⟩, ⟨S1x32768x2048, p3⟩] H _ 3 (by simp) S1x32768x2048 p3 rfl rfl 3 rfl (ix3 0 r k)
    (fun a ha => match a, ha with | ⟨0, _⟩, ha => absurd rfl ha | ⟨1, _⟩, _ => rfl | ⟨2, _⟩, _ => rfl) rfl

/-- The stacked operands. -/
theorem w22 (c : Dev nD) : (show FVec Ideal S4x32768x2048 .bf16 from V m c main_v22) =
    concatenate S4x32768x2048 0
        [⟨S1x32768x2048, show FVec Ideal S1x32768x2048 .bf16 from U m c main_v18⟩, ⟨S1x32768x2048, show FVec Ideal S1x32768x2048 .bf16 from U m c main_v19⟩,
         ⟨S1x32768x2048, show FVec Ideal S1x32768x2048 .bf16 from U m c main_v20⟩, ⟨S1x32768x2048, show FVec Ideal S1x32768x2048 .bf16 from U m c main_v21⟩]
        concatenates_S1x32768x2048_S1x32768x2048_S1x32768x2048_S1x32768x2048_S4x32768x2048_d0 := by
  show (show FVec Ideal S4x32768x2048 .bf16 from StableHlo.after (List.flatten [hostOps0, hostOps0_1, hostOps0_2]) (fun b => m (c, b)) main_v22) = _
  simp only [hostOps0, hostOps0_1, hostOps0_2, List.flatten_cons, List.flatten_nil, List.append_nil, List.cons_append, List.nil_append]
  after_reads_simp
  rfl

/-- The head of each channel, as the host divides. -/
def heads : IVec S2048 32 :=
  select (andi (cmpi .ne (signi (iotaInDim S2048 32 0)) (broadcastInDim S2048 ![] bcast_S_S2048 (signi (constantI S_ 32 64#32))))
      (cmpi .ne (Host.remsi (iotaInDim S2048 32 0) (broadcastInDim S2048 ![] bcast_S_S2048 (constantI S_ 32 64#32))) (broadcastInDim S2048 ![] bcast_S_S2048 (constantI S_ 32 0#32))))
    (subi (Host.divsi (iotaInDim S2048 32 0) (broadcastInDim S2048 ![] bcast_S_S2048 (constantI S_ 32 64#32))) (broadcastInDim S2048 ![] bcast_S_S2048 (constantI S_ 32 1#32)))
    (Host.divsi (iotaInDim S2048 32 0) (broadcastInDim S2048 ![] bcast_S_S2048 (constantI S_ 32 64#32)))

/-- The head's number. -/
theorem heads_at : ∀ i : Fin 256, heads (ix1 (⟨i.val, by omega⟩ : Fin 2048)) = BitVec.ofNat 32 (i.val / 64) := by
  decide +kernel

/-- The square of ones compares the heads of two channels. -/
theorem w9 (c : Dev nD) : (show FVec Ideal S256x256 .bf16 from V m c main_v9) =
    uitofp (F := Ideal) .bf16 (cmpi .eq
      (broadcastInDim S256x256 ![0, 1] bcast_S256x1_S256x256_0_1 (broadcastInDim S256x1 ![0] bcast_S256_S256x1_0 (extractStridedSlice S256 ![0] heads slices_S2048_S256_0)))
      (broadcastInDim S256x256 ![0, 1] bcast_S1x256_S256x256_0_1 (broadcastInDim S1x256 ![1] bcast_S256_S1x256_1 (extractStridedSlice S256 ![0] heads slices_S2048_S256_0)))) := by
  show (show FVec Ideal S256x256 .bf16 from StableHlo.after (List.flatten [hostOps0, hostOps0_1, hostOps0_2]) (fun b => m (c, b)) main_v9) = _
  simp only [hostOps0, hostOps0_1, hostOps0_2, List.flatten_cons, List.flatten_nil, List.append_nil, List.cons_append, List.nil_append]
  after_reads_simp
  rfl

/-- The square of ones: one where two channels share a head, zero elsewhere. -/
theorem b9 (c : Dev nD) (e q : Fin 256) :
    (show FVec Ideal S256x256 .bf16 from V m c main_v9) (ix2 e q) = (if e.val / 64 = q.val / 64 then 1 else 0 : EReal) := by
  rw [w9]
  pointwise
  rw [heads_at e, heads_at q]
  by_cases h : e.val / 64 = q.val / 64
  · rw [if_pos h, h]
    simp [IntOp.cmpi, FloatOps.uitofp]
  · rw [if_neg h]
    have hne : BitVec.ofNat 32 (e.val / 64) ≠ BitVec.ofNat 32 (q.val / 64) := by
      intro hb
      have := congrArg BitVec.toNat hb
      rw [BitVec.toNat_ofNat, BitVec.toNat_ofNat] at this
      omega
    simp [IntOp.cmpi, FloatOps.uitofp, hne]

/-- The prepared rows of the recurrence's output. -/
theorem y_at (c : Dev nD) (b : Fin 16) (t : Fin 2048) (k : Fin 2048) :
    (show FVec Ideal S32768x2048 .bf16 from V m c main_v24) (ix2 ⟨b.val * 2048 + t.val, by omega⟩ k)
      = (show FVec Ideal S16x2048x2048 .f32 from m ((c : Thread nD τ).loc main_arg0)) (ix3 b t k) := by
  simp only [hostOps0, hostOps0_1, hostOps0_2, List.flatten_cons, List.flatten_nil, List.append_nil, List.cons_append, List.nil_append]
  after_reads_simp
  pointwise
  blk_ext

/-- The prepared rows of the rates. -/
theorem a_at (c : Dev nD) (b : Fin 16) (t : Fin 2048) (k : Fin 2048) :
    (show FVec Ideal S32768x2048 .bf16 from V m c main_v26) (ix2 ⟨b.val * 2048 + t.val, by omega⟩ k)
      = (show FVec Ideal S16x2048x2048 .f32 from m ((c : Thread nD τ).loc main_arg5)) (ix3 b t k) := by
  simp only [hostOps0, hostOps0_1, hostOps0_2, List.flatten_cons, List.flatten_nil, List.append_nil, List.cons_append, List.nil_append]
  after_reads_simp
  pointwise
  blk_ext

/-- The stream's rows. -/
theorem x_at (c : Dev nD) (b : Fin 16) (t : Fin 2048) (k : Fin 1024) :
    (show FVec Ideal S32768x1024 .f32 from V m c main_v27) (ix2 ⟨b.val * 2048 + t.val, by omega⟩ k)
      = (show FVec Ideal S16x2048x1024 .f32 from m ((c : Thread nD τ).loc main_arg6)) (ix3 b t k) := by
  simp only [hostOps0, hostOps0_1, hostOps0_2, List.flatten_cons, List.flatten_nil, List.append_nil, List.cons_append, List.nil_append]
  after_reads_simp
  pointwise
  blk_ext

/-- Slab 0 of the stack: the receptance. -/
theorem r_at (c : Dev nD) (b : Fin 16) (t : Fin 2048) (k : Fin 2048) :
    (show FVec Ideal S4x32768x2048 .bf16 from V m c main_v22) (ix3 0 ⟨b.val * 2048 + t.val, by omega⟩ k)
      = (show FVec Ideal S16x2048x2048 .f32 from m ((c : Thread nD τ).loc main_arg1)) (ix3 b t k) := by
  rw [w22]
  refine (slab0 _ _ _ _ _ _ k).trans ?_
  simp only [hostOps0, hostOps0_1, hostOps0_2, List.flatten_cons, List.flatten_nil, List.append_nil, List.cons_append, List.nil_append]
  after_reads_simp
  pointwise
  blk_ext

/-- Slab 1 of the stack: the keys. -/
theorem k_at (c : Dev nD) (b : Fin 16) (t : Fin 2048) (k : Fin 2048) :
    (show FVec Ideal S4x32768x2048 .bf16 from V m c main_v22) (ix3 1 ⟨b.val * 2048 + t.val, by omega⟩ k)
      = (show FVec Ideal S16x2048x2048 .f32 from m ((c : Thread nD τ).loc main_arg2)) (ix3 b t k) := by
  rw [w22]
  refine (slab1 _ _ _ _ _ _ k).trans ?_
  simp only [hostOps0, hostOps0_1, hostOps0_2, List.flatten_cons, List.flatten_nil, List.append_nil, List.cons_append, List.nil_append]
  after_reads_simp
  pointwise
  blk_ext

/-- Slab 2 of the stack: the values. -/
theorem v_at (c : Dev nD) (b : Fin 16) (t : Fin 2048) (k : Fin 2048) :
    (show FVec Ideal S4x32768x2048 .bf16 from V m c main_v22) (ix3 2 ⟨b.val * 2048 + t.val, by omega⟩ k)
      = (show FVec Ideal S16x2048x2048 .f32 from m ((c : Thread nD τ).loc main_arg3)) (ix3 b t k) := by
  rw [w22]
  refine (slab2 _ _ _ _ _ _ k).trans ?_
  simp only [hostOps0, hostOps0_1, hostOps0_2, List.flatten_cons, List.flatten_nil, List.append_nil, List.cons_append, List.nil_append]
  after_reads_simp
  pointwise
  blk_ext

/-- Slab 3 of the stack: the gates. -/
theorem z_at (c : Dev nD) (b : Fin 16) (t : Fin 2048) (k : Fin 2048) :
    (show FVec Ideal S4x32768x2048 .bf16 from V m c main_v22) (ix3 3 ⟨b.val * 2048 + t.val, by omega⟩ k)
      = (show FVec Ideal S16x2048x2048 .f32 from m ((c : Thread nD τ).loc main_arg4)) (ix3 b t k) := by
  rw [w22]
  refine (slab3 _ _ _ _ _ _ k).trans ?_
  simp only [hostOps0, hostOps0_1, hostOps0_2, List.flatten_cons, List.flatten_nil, List.append_nil, List.cons_append, List.nil_append]
  after_reads_simp
  pointwise
  blk_ext

/-- The normalisation's weights. -/
theorem lw_at (c : Dev nD) (n : Fin 2048) :
    (show FVec Ideal S1x2048 .f32 from V m c main_v28) (ix2 0 n) = (show FVec Ideal S2048 .f32 from m ((c : Thread nD τ).loc main_arg7)) (ix1 n) := by
  simp only [hostOps0, hostOps0_1, hostOps0_2, List.flatten_cons, List.flatten_nil, List.append_nil, List.cons_append, List.nil_append]
  after_reads_simp
  pointwise
  blk_ext

/-- The normalisation's biases. -/
theorem lb_at (c : Dev nD) (n : Fin 2048) :
    (show FVec Ideal S1x2048 .f32 from V m c main_v29) (ix2 0 n) = (show FVec Ideal S2048 .f32 from m ((c : Thread nD τ).loc main_arg8)) (ix1 n) := by
  simp only [hostOps0, hostOps0_1, hostOps0_2, List.flatten_cons, List.flatten_nil, List.append_nil, List.cons_append, List.nil_append]
  after_reads_simp
  pointwise
  blk_ext

/-- The key weights. -/
theorem ka_at (c : Dev nD) (n : Fin 2048) :
    (show FVec Ideal S1x2048 .f32 from V m c main_v31) (ix2 0 n) = (show FVec Ideal S2048 .f32 from m ((c : Thread nD τ).loc main_arg10)) (ix1 n) := by
  simp only [hostOps0, hostOps0_1, hostOps0_2, List.flatten_cons, List.flatten_nil, List.append_nil, List.cons_append, List.nil_append]
  after_reads_simp
  pointwise
  blk_ext

/-- The bonus weights. -/
theorem rk_at (c : Dev nD) (n : Fin 2048) :
    (show FVec Ideal S1x2048 .f32 from V m c main_v30) (ix2 0 n)
      = (show FVec Ideal S32x64 .f32 from m ((c : Thread nD τ).loc main_arg9)) (ix2 ⟨n.val / 64, by omega⟩ ⟨n.val % 64, by omega⟩) := by
  simp only [hostOps0, hostOps0_1, hostOps0_2, List.flatten_cons, List.flatten_nil, List.append_nil, List.cons_append, List.nil_append]
  after_reads_simp
  pointwise
  blk_ext

/-- The projection. -/
theorem w_at (c : Dev nD) (k : Fin 2048) (n : Fin 1024) :
    (show FVec Ideal S2048x1024 .bf16 from V m c main_v32) (ix2 k n) = (show FVec Ideal S2048x1024 .f32 from m ((c : Thread nD τ).loc main_arg11)) (ix2 k n) := by
  simp only [hostOps0, hostOps0_1, hostOps0_2, List.flatten_cons, List.flatten_nil, List.append_nil, List.cons_append, List.nil_append]
  after_reads_simp
  pointwise

end Cert.RwkvOutIdeal.Value
-- ==== Proof.RwkvOutRef.lean ====
module

public import Idealize.ShloMosaic.Lib.Pipeline.ValueKit
public import Idealize.ShloMosaic.Lib.Pointwise
public import Idealize.ShloMosaic.Lib.Claim
public import proofs.«01_k».proof.Proof.RwkvOut

@[expose] public section

set_option maxRecDepth 16384

noncomputable section

open Idealize.ShloMosaic Idealize.ShloMosaic.TcCoe Idealize.SL.Sem
open Idealize.ShloMosaic.Pipeline (Dat)

namespace Cert.RwkvOutReferenceIdeal.Value

open Cert.RwkvOutReferenceIdeal Cert.RwkvOutReferenceIdeal.Read Cert.Layer

/-- One row of a full-width array. -/
abbrev rw3 (T : FVec Ideal S16x2048x2048 .f32) (b : Fin 16) (t : Fin 2048) : Row := fun j => T (ix3 b t j)

/-- A full-width array seen by heads. -/
theorem y11_at (y : FVec Ideal S16x2048x2048 .f32) (b : Fin 16) (t : Fin 2048) (h : Fin 32) (k : Fin 64) :
    val_main_v11 (F := Ideal) y (ix4 b t h k) = y (ix3 b t ⟨64 * h.val + k.val, by omega⟩) := by
  rw [val_main_v11_apply]
  blk_ext

/-- The means. -/
theorem mean_at (y : FVec Ideal S16x2048x2048 .f32) (b : Fin 16) (t : Fin 2048) (h : Fin 32) (k : Fin 64) :
    val_main_v15 (F := Ideal) y (ix4 b t h 0) = Ideal.div (headSum (rw3 y b t) ⟨64 * h.val + k.val, by omega⟩) (Ideal.ofBits .f32 0x42800000#32) := by
  rw [val_main_v15_apply, val_main_v13_apply, val_main_v12_apply]
  refine congrArg₂ Ideal.div ?_ ((val_main_v14_apply _).trans rfl)
  refine (congrArg₂ (· + ·) zero_eq (Finset.sum_congr rfl fun l _ => ?_)).trans (zero_add _)
  rw [show idx_main_v12 (idx_main_v13 (ix4 b t h 0)) l = ix4 b t h l from by blk_ext, y11_at]
  exact congrArg (rw3 y b t) (Fin.ext (by simp only []; omega))

/-- The rows less their means. -/
theorem c17_at (y : FVec Ideal S16x2048x2048 .f32) (b : Fin 16) (t : Fin 2048) (h : Fin 32) (k : Fin 64) :
    val_main_v17 (F := Ideal) y (ix4 b t h k) = centred headSum (rw3 y b t) ⟨64 * h.val + k.val, by omega⟩ := by
  rw [val_main_v17_apply, val_main_v16_apply, show idx_main_v16 (ix4 b t h k) = ix4 b t h 0 from by blk_ext, y11_at, mean_at y b t h k]
  rfl

/-- The same, as the reference takes it again. -/
theorem c24_at (y : FVec Ideal S16x2048x2048 .f32) (b : Fin 16) (t : Fin 2048) (h : Fin 32) (k : Fin 64) :
    val_main_v24 (F := Ideal) y (ix4 b t h k) = centred headSum (rw3 y b t) ⟨64 * h.val + k.val, by omega⟩ := by
  rw [val_main_v24_apply, val_main_v23_apply, show idx_main_v23 (ix4 b t h k) = ix4 b t h 0 from by blk_ext, y11_at, mean_at y b t h k]
  rfl

/-- The normalised rows by heads, before weights. -/
theorem n29_at (y : FVec Ideal S16x2048x2048 .f32) (b : Fin 16) (t : Fin 2048) (h : Fin 32) (k : Fin 64) :
    val_main_v29 (F := Ideal) y (ix4 b t h k)
      = (centred headSum (rw3 y b t) ⟨64 * h.val + k.val, by omega⟩
        * Ideal.rsqrt (Ideal.div (headSum (fun j => centred headSum (rw3 y b t) j * centred headSum (rw3 y b t) j) ⟨64 * h.val + k.val, by omega⟩) (Ideal.ofBits .f32 0x42800000#32)
          + Ideal.ofBits .f32 0x3A27C5AC#32) : EReal) := by
  rw [val_main_v29_apply, c24_at, val_main_v28_apply, show idx_main_v28 (ix4 b t h k) = ix4 b t h 0 from by blk_ext, val_main_v27_apply, val_main_v26_apply, val_main_v22_apply,
    val_main_v20_apply, val_main_v19_apply]
  refine Ideal.mul_congr rfl (congrArg Ideal.rsqrt (congrArg₂ (· + ·) (congrArg₂ Ideal.div ?_ ((val_main_v21_apply _).trans rfl)) ((val_main_v25_apply _).trans rfl)))
  refine (congrArg₂ (· + ·) zero_eq (Finset.sum_congr rfl fun l _ => ?_)).trans (zero_add _)
  rw [show idx_main_v19 (idx_main_v20 (ix4 b t h 0)) l = ix4 b t h l from by blk_ext, val_main_v18_apply, c17_at]
  exact congrArg (fun j => (centred headSum (rw3 y b t) j * centred headSum (rw3 y b t) j : EReal)) (Fin.ext (by simp only []; omega))

/-- The normalised rows. -/
theorem g36_at (y : FVec Ideal S16x2048x2048 .f32) (lw lb : FVec Ideal S2048 .f32) (b : Fin 16) (t : Fin 2048) (n : Fin 2048) :
    val_main_v36 (F := Ideal) y lw lb (ix3 b t n) = gnRow headSum headSum (rw3 y b t) (fun j => lw (ix1 j)) (fun j => lb (ix1 j)) n := by
  unfold gnRow
  rw [val_main_v36_apply, val_main_v33_apply, val_main_v30_apply, val_main_v32_apply, val_main_v31_apply, val_main_v35_apply, val_main_v34_apply,
    show idx_main_v30 (ix3 b t n) = ix4 b t (⟨n.val / 64, by omega⟩ : Fin 32) (⟨n.val % 64, by omega⟩ : Fin 64) from by blk_ext, n29_at]
  have hn : (⟨64 * (n.val / 64) + n.val % 64, by omega⟩ : Fin 2048) = n := Fin.ext (by simp only []; omega)
  simp only [hn]
  refine congrArg₂ (fun a b : EReal => a + b) (Ideal.mul_congr rfl ?_) ?_ <;> blk_ext

/-- The weighted products the bonus sums, by heads. -/
theorem p40_at (r k a : FVec Ideal S16x2048x2048 .f32) (rk : FVec Ideal S32x64 .f32) (ka : FVec Ideal S2048 .f32) (b : Fin 16) (t : Fin 2048) (h : Fin 32) (l : Fin 64) :
    val_main_v40 (F := Ideal) r k a rk ka (ix4 b t h l)
      = (r (ix3 b t ⟨64 * h.val + l.val, by omega⟩) * (k (ix3 b t ⟨64 * h.val + l.val, by omega⟩)
          * (Ideal.ofBits .f32 0x3F800000#32 + (a (ix3 b t ⟨64 * h.val + l.val, by omega⟩) - Ideal.ofBits .f32 0x3F800000#32) * ka (ix1 ⟨64 * h.val + l.val, by omega⟩)))
          * rk (ix2 h l) : EReal) := by
  rw [val_main_v40_apply, val_main_v37_apply, val_main_v8_apply, val_main_v9_apply,
    show idx_main_v9 (ix4 b t h l) = ix3 b t (⟨64 * h.val + l.val, by omega⟩ : Fin 2048) from by blk_ext,
    show idx_main_v8 (ix4 b t h l) = ix3 b t (⟨64 * h.val + l.val, by omega⟩ : Fin 2048) from by blk_ext,
    val_main_v7_apply, val_main_v6_apply, val_main_v5_apply, val_main_v4_apply, val_main_v3_apply, val_main_v2_apply, val_main_v1_apply, val_main_v0_apply,
    val_main_v39_apply, val_main_v38_apply]
  refine Ideal.mul_congr (Ideal.mul_congr rfl (Ideal.mul_congr rfl (congrArg₂ (fun a b : EReal => a + b) rfl (Ideal.mul_congr rfl ?_)))) ?_ <;> blk_ext

/-- The bonus. -/
theorem b45_at (r k v a : FVec Ideal S16x2048x2048 .f32) (rk : FVec Ideal S32x64 .f32) (ka : FVec Ideal S2048 .f32) (b : Fin 16) (t : Fin 2048) (n : Fin 2048) :
    val_main_v45 (F := Ideal) r k v a rk ka (ix3 b t n)
      = bonusRow headSum (rw3 r b t) (rw3 k b t) (rw3 v b t) (rw3 a b t) (fun j => ka (ix1 j)) (fun j => rk (ix2 ⟨j.val / 64, by omega⟩ ⟨j.val % 64, by omega⟩)) n := by
  unfold bonusRow
  rw [val_main_v45_apply, val_main_v44_apply, val_main_v43_apply, val_main_v42_apply, val_main_v41_apply, val_main_v10_apply]
  refine Ideal.mul_congr ?_ (by blk_ext)
  refine (congrArg₂ (· + ·) zero_eq (Finset.sum_congr rfl fun l _ => ?_)).trans (zero_add _)
  rw [show idx_main_v41 (idx_main_v42 (idx_main_v43 (idx_main_v45 (ix3 b t n)))) l = ix4 b t (⟨n.val / 64, by omega⟩ : Fin 32) l from by blk_ext, p40_at]
  refine Ideal.mul_congr rfl (congrArg rk (congrArg₂ ix2 (Fin.ext ?_) (Fin.ext ?_))) <;> simp only [] <;> omega

/-- The reference's updated stream. -/
theorem ref_at (y r k v z a : FVec Ideal S16x2048x2048 .f32) (x : FVec Ideal S16x2048x1024 .f32) (lw lb : FVec Ideal S2048 .f32) (rk : FVec Ideal S32x64 .f32) (ka : FVec Ideal S2048 .f32)
    (w : FVec Ideal S2048x1024 .f32) (b : Fin 16) (t : Fin 2048) (n : Fin 1024) :
    val_main_v56 (F := Ideal) y r k v z a x lw lb rk ka w (ix3 b t n)
      = Cert.RwkvOutIdeal.Value.rwkvRow headSum headSum (rw3 y b t) (rw3 r b t) (rw3 k b t) (rw3 v b t) (rw3 z b t) (rw3 a b t) (fun j => lw (ix1 j)) (fun j => lb (ix1 j))
          (fun j => rk (ix2 ⟨j.val / 64, by omega⟩ ⟨j.val % 64, by omega⟩)) (fun j => ka (ix1 j)) (fun k j => w (ix2 k j)) (fun j => x (ix3 b t j)) n := by
  refine (val_main_v56_apply ..).trans ?_
  unfold Cert.RwkvOutIdeal.Value.rwkvRow outRow gate
  refine congrArg₂ (· + ·) rfl ((val_main_v55_apply ..).trans (Finset.sum_congr rfl fun j _ => ?_))
  refine Ideal.mul_congr ?_ (by blk_ext)
  rw [show lidx_main_v55 (ix3 b t n) j = ix3 b t j from by blk_ext]
  rw [val_main_v54_apply, val_main_v46_apply, val_main_v53_apply, val_main_v52_apply, val_main_v51_apply, val_main_v50_apply, val_main_v49_apply, val_main_v48_apply, val_main_v47_apply]
  refine Ideal.mul_congr (congrArg₂ (fun a b : EReal => a + b) (g36_at y lw lb b t j) (b45_at r k v a rk ka b t j)) rfl

end Cert.RwkvOutReferenceIdeal.Value
-- ==== Proof.RwkvOutValue.lean ====
module

public import Idealize.ShloMosaic.Lib.Pipeline.ValueKit
public import Idealize.ShloMosaic.Lib.Pointwise
public import Idealize.ShloMosaic.Lib.Claim
public import Idealize.ShloMosaic.Lib.StableHlo.RunRead
public import proofs.«01_k».proof.Proof.RwkvOutHost
public import proofs.«01_k».proof.Proof.RwkvOutRef

@[expose] public section

set_option maxRecDepth 16384

noncomputable section

open Idealize.ShloMosaic Idealize.ShloMosaic.TcCoe Idealize.SL.Sem
open Idealize.ShloMosaic.Pipeline (Dat)

namespace Cert.RwkvOutIdeal.Value

open Cert.RwkvOutIdeal Cert.RwkvOutIdeal.Gen Cert.Layer

/-- The updated stream from the prepared operands. -/
def oG (OB : FVec Ideal S256x256 .bf16) (Y A : FVec Ideal S32768x2048 .bf16) (P : FVec Ideal S4x32768x2048 .bf16) (X : FVec Ideal S32768x1024 .f32) (LW LB RK KA : FVec Ideal S1x2048 .f32) (W : FVec Ideal S2048x1024 .bf16) : FVec Ideal S32768x1024 .f32 := fun i =>
  rwkvRow (bandSum2 (fun e q => OB (ix2 e q))) (bandSum (fun e q => OB (ix2 e q))) (fun j => Y (ix2 (i 0) j)) (fun j => P (ix3 0 (i 0) j)) (fun j => P (ix3 1 (i 0) j))
    (fun j => P (ix3 2 (i 0) j)) (fun j => P (ix3 3 (i 0) j)) (fun j => A (ix2 (i 0) j)) (fun j => LW (ix2 0 j)) (fun j => LB (ix2 0 j)) (fun j => RK (ix2 0 j)) (fun j => KA (ix2 0 j))
    (fun k j => W (ix2 k j)) (fun j => X (ix2 (i 0) j)) (i 1)

/-- The same row from equal operands. -/
theorem rwkvRow_congr {g2 g1 h2 h1 : Row → Row} {y y' r r' k k' v v' z z' a a' lw lw' lb lb' rk rk' ka ka' : Row} {w w' : Fin 2048 → Fin 1024 → EReal} {x x' : Fin 1024 → EReal} {n n' : Fin 1024}
    (e2 : g2 = h2) (e1 : g1 = h1) (ey : ∀ j, y j = y' j) (er : ∀ j, r j = r' j) (ek : ∀ j, k j = k' j) (ev : ∀ j, v j = v' j) (ez : ∀ j, z j = z' j) (ea : ∀ j, a j = a' j)
    (elw : ∀ j, lw j = lw' j) (elb : ∀ j, lb j = lb' j) (erk : ∀ j, rk j = rk' j) (eka : ∀ j, ka j = ka' j) (ew : ∀ i j, w i j = w' i j) (ex : ∀ j, x j = x' j) (en : n = n') :
    rwkvRow g2 g1 y r k v z a lw lb rk ka w x n = rwkvRow h2 h1 y' r' k' v' z' a' lw' lb' rk' ka' w' x' n' := by
  obtain rfl : y = y' := funext ey
  obtain rfl : r = r' := funext er
  obtain rfl : k = k' := funext ek
  obtain rfl : v = v' := funext ev
  obtain rfl : z = z' := funext ez
  obtain rfl : a = a' := funext ea
  obtain rfl : lw = lw' := funext elw
  obtain rfl : lb = lb' := funext elb
  obtain rfl : rk = rk' := funext erk
  obtain rfl : ka = ka' := funext eka
  obtain rfl : w = w' := funext fun i => funext (ew i)
  obtain rfl : x = x' := funext ex
  subst e2 e1 en
  rfl

variable (m : (ℓ : Loc nD τ sig) → Buf (Elt Ideal) ℓ)

set_option maxHeartbeats 2000000 in
/-- The array the launch leaves. -/
theorem final (c : Dev nD) : (dats m 0 c).arrAt 13 (cfgs 0).N
    = oG (V m c main_v9) (V m c main_v24) (V m c main_v26) (V m c main_v22) (V m c main_v27) (V m c main_v28) (V m c main_v29) (V m c main_v30) (V m c main_v31) (V m c main_v32) := by
  refine (dats m 0 c).arrAt_eq_of_covers 13 _ (by decide +kernel) fun t _ y => ?_
  blk_simp
  rw [after0_13]
  obtain ⟨r, n, rfl⟩ : ∃ (r : Fin 512) (n : Fin 1024), y = ix2 r n := ⟨y 0, y 1, eq_ix2 y⟩
  refine (out_at _ _ _ _ _ _ _ _ _ _ _ _ _ r n).trans ?_
  unfold oG
  refine rwkvRow_congr (congrArg bandSum2 (funext fun e => funext fun q => ?_)) (congrArg bandSum (funext fun e => funext fun q => ?_)) (fun j => ?_) (fun j => ?_) (fun j => ?_) (fun j => ?_) (fun j => ?_) (fun j => ?_)
    (fun j => ?_) (fun j => ?_) (fun j => ?_) (fun j => ?_) (fun i j => ?_) (fun j => ?_) (Fin.ext (by blk_simp [idx t]; try omega)) <;> blk_ext [iblk, idx t]

/-- The normalised row takes only the sums. -/
theorem rwkvRow_eq (y r k v z a lw lb rk ka : Row) (w : Fin 2048 → Fin 1024 → EReal) (x : Fin 1024 → EReal) (n : Fin 1024) :
    rwkvRow (fun x n => headSum x n + headSum (fun j => x j - x j) n) headSum y r k v z a lw lb rk ka w x n = rwkvRow headSum headSum y r k v z a lw lb rk ka w x n := by
  unfold rwkvRow
  rw [gn_eq]

/-- The launch's array is the reference's result. -/
theorem value_eq (c : Dev nD) :
    (dats m 0 c).arrAt 13 (cfgs 0).N
      = Cert.RwkvOutReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [final m c]
  funext i
  obtain ⟨b, t, n, rfl⟩ : ∃ (b : Fin 16) (t : Fin 2048) (n : Fin 1024), i = ix2 (⟨b.val * 2048 + t.val, by omega⟩ : Fin 32768) n := by
    obtain ⟨x, n, rfl⟩ : ∃ (x : Fin 32768) (n : Fin 1024), i = ix2 x n := ⟨i 0, i 1, eq_ix2 i⟩
    refine ⟨⟨x.val / 2048, by omega⟩, ⟨x.val % 2048, by omega⟩, n, congrArg (fun z => ix2 z n) (Fin.ext ?_)⟩
    show x.val = x.val / 2048 * 2048 + x.val % 2048
    omega
  have hb : bandSum (fun e q => (show FVec Ideal S256x256 .bf16 from V m c main_v9) (ix2 e q)) = headSum := bandSum_eq _ (b9 m c)
  have hb2 : bandSum2 (fun e q => (show FVec Ideal S256x256 .bf16 from V m c main_v9) (ix2 e q)) = fun x n => headSum x n + headSum (fun j => x j - x j) n := by
    unfold bandSum2
    rw [hb]
  refine Eq.trans ?_ (Eq.trans (Cert.RwkvOutReferenceIdeal.Value.ref_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) b t n).symm ?_)
  · refine Eq.trans ?_ (rwkvRow_eq ..)
    unfold oG
    exact rwkvRow_congr hb2 hb (y_at m c b t) (r_at m c b t) (k_at m c b t) (v_at m c b t) (z_at m c b t) (a_at m c b t) (lw_at m c) (lb_at m c) (rk_at m c) (ka_at m c) (w_at m c) (x_at m c b t) rfl
  · refine Eq.trans (congrArg _ ?_) (Cert.RwkvOutReferenceIdeal.Read.val_main_v57_apply ..).symm
    blk_ext

end Cert.RwkvOutIdeal.Value
-- ==== Proof.lean ====
/- The certificate's claims, assembled from the modules of `Proof/`: the frames are the generated runs; the value claims
   are the modules named after the calls. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.MlaOut
public import proofs.«01_k».proof.Proof.Gen.MlaOut.Skeleton
public import proofs.«01_k».proof.Proof.Gen.MlaOut.Launch
public import proofs.«01_k».proof.Proof.Gen.MlaOut.Points
public import proofs.«01_k».proof.Proof.Gen.MlaOut.Frame
public import proofs.«01_k».proof.Proof.Gen.MlaOutIdeal
public import proofs.«01_k».proof.Proof.Gen.MlaOutIdeal.Skeleton
public import proofs.«01_k».proof.Proof.Gen.MlaOutIdeal.Launch
public import proofs.«01_k».proof.Proof.Gen.MlaOutIdeal.Points
public import proofs.«01_k».proof.Proof.Gen.MlaOutIdeal.Frame
public import proofs.«01_k».proof.Proof.Gen.MlaOutReferenceIdeal
public import proofs.«01_k».proof.Proof.Gen.MlaOutReferenceIdeal.Run
public import proofs.«01_k».proof.Proof.Gen.MlaOutReferenceIdeal.Read
public import proofs.«01_k».proof.Proof.Gen.MlaOutTok
public import proofs.«01_k».proof.Proof.Gen.MlaOutTok.Skeleton
public import proofs.«01_k».proof.Proof.Gen.MlaOutTok.Launch
public import proofs.«01_k».proof.Proof.Gen.MlaOutTok.Points
public import proofs.«01_k».proof.Proof.Gen.MlaOutTok.Frame
public import proofs.«01_k».proof.Proof.Gen.MlaOutTokIdeal
public import proofs.«01_k».proof.Proof.Gen.MlaOutTokIdeal.Skeleton
public import proofs.«01_k».proof.Proof.Gen.MlaOutTokIdeal.Launch
public import proofs.«01_k».proof.Proof.Gen.MlaOutTokIdeal.Points
public import proofs.«01_k».proof.Proof.Gen.MlaOutTokIdeal.Frame
public import proofs.«01_k».proof.Proof.Gen.MlaOutTokReferenceIdeal
public import proofs.«01_k».proof.Proof.Gen.MlaOutTokReferenceIdeal.Run
public import proofs.«01_k».proof.Proof.Gen.MlaOutTokReferenceIdeal.Read
public import proofs.«01_k».proof.Proof.Gen.MlaKv
public import proofs.«01_k».proof.Proof.Gen.MlaKv.Skeleton
public import proofs.«01_k».proof.Proof.Gen.MlaKv.Launch
public import proofs.«01_k».proof.Proof.Gen.MlaKv.Points
public import proofs.«01_k».proof.Proof.Gen.MlaKv.Frame
public import proofs.«01_k».proof.Proof.Gen.MlaKvIdeal
public import proofs.«01_k».proof.Proof.Gen.MlaKvIdeal.Skeleton
public import proofs.«01_k».proof.Proof.Gen.MlaKvIdeal.Launch
public import proofs.«01_k».proof.Proof.Gen.MlaKvIdeal.Points
public import proofs.«01_k».proof.Proof.Gen.MlaKvIdeal.Frame
public import proofs.«01_k».proof.Proof.Gen.MlaKvReferenceIdeal
public import proofs.«01_k».proof.Proof.Gen.MlaKvReferenceIdeal.Run
public import proofs.«01_k».proof.Proof.Gen.MlaKvReferenceIdeal.Read
public import proofs.«01_k».proof.Proof.Gen.Pre_finite_kv
public import proofs.«01_k».proof.Proof.Gen.MlaKvTok
public import proofs.«01_k».proof.Proof.Gen.MlaKvTok.Skeleton
public import proofs.«01_k».proof.Proof.Gen.MlaKvTok.Launch
public import proofs.«01_k».proof.Proof.Gen.MlaKvTok.Points
public import proofs.«01_k».proof.Proof.Gen.MlaKvTok.Frame
public import proofs.«01_k».proof.Proof.Gen.MlaKvTokIdeal
public import proofs.«01_k».proof.Proof.Gen.MlaKvTokIdeal.Skeleton
public import proofs.«01_k».proof.Proof.Gen.MlaKvTokIdeal.Launch
public import proofs.«01_k».proof.Proof.Gen.MlaKvTokIdeal.Points
public import proofs.«01_k».proof.Proof.Gen.MlaKvTokIdeal.Frame
public import proofs.«01_k».proof.Proof.Gen.MlaKvTokReferenceIdeal
public import proofs.«01_k».proof.Proof.Gen.MlaKvTokReferenceIdeal.Run
public import proofs.«01_k».proof.Proof.Gen.MlaKvTokReferenceIdeal.Read
public import proofs.«01_k».proof.Proof.Gen.Pre_finite_kv_tok
public import proofs.«01_k».proof.Proof.Gen.MlaQ
public import proofs.«01_k».proof.Proof.Gen.MlaQ.Skeleton
public import proofs.«01_k».proof.Proof.Gen.MlaQ.Launch
public import proofs.«01_k».proof.Proof.Gen.MlaQ.Points
public import proofs.«01_k».proof.Proof.Gen.MlaQ.Frame
public import proofs.«01_k».proof.Proof.Gen.MlaQIdeal
public import proofs.«01_k».proof.Proof.Gen.MlaQIdeal.Skeleton
public import proofs.«01_k».proof.Proof.Gen.MlaQIdeal.Launch
public import proofs.«01_k».proof.Proof.Gen.MlaQIdeal.Points
public import proofs.«01_k».proof.Proof.Gen.MlaQIdeal.Frame
public import proofs.«01_k».proof.Proof.Gen.MlaQReferenceIdeal
public import proofs.«01_k».proof.Proof.Gen.MlaQReferenceIdeal.Run
public import proofs.«01_k».proof.Proof.Gen.MlaQReferenceIdeal.Read
public import proofs.«01_k».proof.Proof.Gen.Pre_finite_q
public import proofs.«01_k».proof.Proof.Gen.RwkvOut
public import proofs.«01_k».proof.Proof.Gen.RwkvOut.Skeleton
public import proofs.«01_k».proof.Proof.Gen.RwkvOut.Launch
public import proofs.«01_k».proof.Proof.Gen.RwkvOut.Points
public import proofs.«01_k».proof.Proof.Gen.RwkvOut.Frame
public import proofs.«01_k».proof.Proof.Gen.RwkvOutIdeal
public import proofs.«01_k».proof.Proof.Gen.RwkvOutIdeal.Skeleton
public import proofs.«01_k».proof.Proof.Gen.RwkvOutIdeal.Launch
public import proofs.«01_k».proof.Proof.Gen.RwkvOutIdeal.Points
public import proofs.«01_k».proof.Proof.Gen.RwkvOutIdeal.Frame
public import proofs.«01_k».proof.Proof.Gen.RwkvOutReferenceIdeal
public import proofs.«01_k».proof.Proof.Gen.RwkvOutReferenceIdeal.Run
public import proofs.«01_k».proof.Proof.Gen.RwkvOutReferenceIdeal.Read
public import proofs.«01_k».proof.Proof.FlashEq
public import proofs.«01_k».proof.Proof.InProj
public import proofs.«01_k».proof.Proof.MlaOut
public import proofs.«01_k».proof.Proof.MlaOutTok
public import proofs.«01_k».proof.Proof.MlaKvValue
public import proofs.«01_k».proof.Proof.FiniteKv
public import proofs.«01_k».proof.Proof.MlaKvTokValue
public import proofs.«01_k».proof.Proof.FiniteKvTok
public import proofs.«01_k».proof.Proof.MlaQValue
public import proofs.«01_k».proof.Proof.FiniteQ
public import proofs.«01_k».proof.Proof.RwkvOutValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The predicate's shape facts. -/
theorem preFacts : Cert.Pre_finite_scores.Facts where
  bcast_S_S16x2048x16x128 := by decide
  reducesTo_S16x2048x16x128_S_d0_1_2_3 := by decide
  h_S_ := by decide
  bcast_S_S16x2048x16x64 := by decide
  reducesTo_S16x2048x16x64_S_d0_1_2_3 := by decide
  bcast_S_S16x2048x64 := by decide
  reducesTo_S16x2048x64_S_d0_1_2 := by decide

/-- The reference ends with its arguments unchanged and every counter at zero. -/
theorem frame_flash_ref : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- With finite queries and keys the kernel and the reference end with the same result. -/
theorem algebraic_flash : Cert.algebraic_KernelIdeal_ReferenceIdeal_pre_finite_scores
    (hKernelIdeal := Cert.KernelIdeal.Gen.facts) (hReferenceIdeal := Cert.ReferenceIdeal.Gen.facts) (hPre_finite_scores := preFacts) := by
  pair_intro
  · run_from Cert.KernelIdeal.Gen.run_main m g
  · run_from Cert.ReferenceIdeal.Value.run m' g'
    obtain ⟨h0, h1, h2, h3, h4⟩ := hagree c
    obtain ⟨r0, r1, r2, r3⟩ := @Cert.Pre_finite_scores.reals preFacts _ _ _ _ _ (hpre c)
    rw [Cert.ReferenceIdeal.Read.val_main_v27_eq, h0, h1, h2, h3, h4]
    exact (Cert.KernelIdeal.Value.flash_eq m c r0 r1 r2 r3).symm

/-- The reference of the in-projection ends with its arguments unchanged and every counter at zero. -/
theorem frame_InProj_ref : Cert.quiescent_InProjReferenceIdeal (hInProjReferenceIdeal := Cert.InProjReferenceIdeal.Gen.facts) := fun m g _ =>
  (θ_run Cert.InProjReferenceIdeal.defs _ _).mono (fun r h => ⟨fun c => (h c).2, sem_eq_zero_of_no_sems (by decide) r.2⟩)
    (Cert.InProjReferenceIdeal.Value.run (F := Ideal) m g)

/-- The kernel and the reference of the in-projection end with the same results. -/
theorem algebraic_InProj : Cert.algebraic_InProjIdeal_InProjReferenceIdeal (hInProjIdeal := Cert.InProjIdeal.Gen.facts) (hInProjReferenceIdeal := Cert.InProjReferenceIdeal.Gen.facts) := by
  pair_intro
  · run_from Cert.InProjIdeal.Gen.run_main m g
  · run_from Cert.InProjReferenceIdeal.Value.run m' g'

    rw [Cert.InProjReferenceIdeal.Read.val_main_v2_eq]
    exact (Cert.InProjIdeal.Value.value_eq m c).symm

/-- The reference of the output projection with the final norm, prompt ends with its arguments unchanged and every counter at zero. -/
theorem frame_MlaOut_ref : Cert.quiescent_MlaOutReferenceIdeal (hMlaOutReferenceIdeal := Cert.MlaOutReferenceIdeal.Gen.facts) := fun m g _ =>
  (θ_run Cert.MlaOutReferenceIdeal.defs _ _).mono (fun r h => ⟨fun c => (h c).2.2, sem_eq_zero_of_no_sems (by decide) r.2⟩)
    (Cert.MlaOutReferenceIdeal.Value.run (F := Ideal) m g)

/-- The kernel and the reference of the output projection with the final norm, prompt end with the same results. -/
theorem algebraic_MlaOut : Cert.algebraic_MlaOutIdeal_MlaOutReferenceIdeal (hMlaOutIdeal := Cert.MlaOutIdeal.Gen.facts) (hMlaOutReferenceIdeal := Cert.MlaOutReferenceIdeal.Gen.facts) := by
  pair_intro
  · run_from Cert.MlaOutIdeal.Gen.run_main m g
  · run_from Cert.MlaOutReferenceIdeal.Value.run m' g'

    · rw [Cert.MlaOutReferenceIdeal.Read.val_main_v23_eq]
      exact (Cert.MlaOutIdeal.Value.value5_eq m c).symm
    · rw [Cert.MlaOutReferenceIdeal.Read.val_main_v24_eq]
      exact (Cert.MlaOutIdeal.Value.value6_eq m c).symm

/-- The reference of the output projection with the final norm, sample batch ends with its arguments unchanged and every counter at zero. -/
theorem frame_MlaOutTok_ref : Cert.quiescent_MlaOutTokReferenceIdeal (hMlaOutTokReferenceIdeal := Cert.MlaOutTokReferenceIdeal.Gen.facts) := fun m g _ =>
  (θ_run Cert.MlaOutTokReferenceIdeal.defs _ _).mono (fun r h => ⟨fun c => (h c).2.2, sem_eq_zero_of_no_sems (by decide) r.2⟩)
    (Cert.MlaOutTokReferenceIdeal.Value.run (F := Ideal) m g)

/-- The kernel and the reference of the output projection with the final norm, sample batch end with the same results. -/
theorem algebraic_MlaOutTok : Cert.algebraic_MlaOutTokIdeal_MlaOutTokReferenceIdeal (hMlaOutTokIdeal := Cert.MlaOutTokIdeal.Gen.facts) (hMlaOutTokReferenceIdeal := Cert.MlaOutTokReferenceIdeal.Gen.facts) := by
  pair_intro
  · run_from Cert.MlaOutTokIdeal.Gen.run_main m g
  · run_from Cert.MlaOutTokReferenceIdeal.Value.run m' g'

    · rw [Cert.MlaOutTokReferenceIdeal.Read.val_main_v23_eq]
      exact (Cert.MlaOutTokIdeal.Value.value5_eq m c).symm
    · rw [Cert.MlaOutTokReferenceIdeal.Read.val_main_v24_eq]
      exact (Cert.MlaOutTokIdeal.Value.value6_eq m c).symm

/-- The reference of the shared latent and key, prompt ends with its arguments unchanged and every counter at zero. -/
theorem frame_MlaKv_ref : Cert.quiescent_MlaKvReferenceIdeal (hMlaKvReferenceIdeal := Cert.MlaKvReferenceIdeal.Gen.facts) := fun m g _ =>
  (θ_run Cert.MlaKvReferenceIdeal.defs _ _).mono (fun r h => ⟨fun c => (h c).2.2, sem_eq_zero_of_no_sems (by decide) r.2⟩)
    (Cert.MlaKvReferenceIdeal.Value.run (F := Ideal) m g)

/-- The kernel and the reference of the shared latent and key, prompt end with the same results, given the precondition. -/
theorem algebraic_MlaKv : Cert.algebraic_MlaKvIdeal_MlaKvReferenceIdeal_pre_finite_kv (hMlaKvIdeal := Cert.MlaKvIdeal.Gen.facts) (hMlaKvReferenceIdeal := Cert.MlaKvReferenceIdeal.Gen.facts) (hPre_finite_kv := Cert.Pre_finite_kv.Gen.facts) := by
  pair_intro
  · run_from Cert.MlaKvIdeal.Gen.run_main m g
  · run_from Cert.MlaKvReferenceIdeal.Value.run m' g'

    all_goals obtain ⟨r1, r2⟩ := @Cert.Pre_finite_kv.reals Cert.Pre_finite_kv.Gen.facts _ _ _ _ (hpre c)
    · rw [Cert.MlaKvReferenceIdeal.Read.val_main_v59_eq]
      exact (Cert.MlaKvIdeal.Value.value6_eq m c).symm
    · obtain ⟨h0, h1, h2, h3⟩ := hagree c
      rw [Cert.MlaKvReferenceIdeal.Read.val_main_v60_eq, h0, h1, h2]
      exact (Cert.MlaKvIdeal.Value.value7_eq m c r1 r2).symm

/-- The reference of the shared latent and key, sample batch ends with its arguments unchanged and every counter at zero. -/
theorem frame_MlaKvTok_ref : Cert.quiescent_MlaKvTokReferenceIdeal (hMlaKvTokReferenceIdeal := Cert.MlaKvTokReferenceIdeal.Gen.facts) := fun m g _ =>
  (θ_run Cert.MlaKvTokReferenceIdeal.defs _ _).mono (fun r h => ⟨fun c => (h c).2.2, sem_eq_zero_of_no_sems (by decide) r.2⟩)
    (Cert.MlaKvTokReferenceIdeal.Value.run (F := Ideal) m g)

/-- The kernel and the reference of the shared latent and key, sample batch end with the same results, given the precondition. -/
theorem algebraic_MlaKvTok : Cert.algebraic_MlaKvTokIdeal_MlaKvTokReferenceIdeal_pre_finite_kv_tok (hMlaKvTokIdeal := Cert.MlaKvTokIdeal.Gen.facts) (hMlaKvTokReferenceIdeal := Cert.MlaKvTokReferenceIdeal.Gen.facts) (hPre_finite_kv_tok := Cert.Pre_finite_kv_tok.Gen.facts) := by
  pair_intro
  · run_from Cert.MlaKvTokIdeal.Gen.run_main m g
  · run_from Cert.MlaKvTokReferenceIdeal.Value.run m' g'

    all_goals obtain ⟨r1, r2⟩ := @Cert.Pre_finite_kv_tok.reals Cert.Pre_finite_kv_tok.Gen.facts _ _ _ _ (hpre c)
    · rw [Cert.MlaKvTokReferenceIdeal.Read.val_main_v60_eq]
      exact (Cert.MlaKvTokIdeal.Value.value6_eq m c).symm
    · obtain ⟨h0, h1, h2, h3⟩ := hagree c
      rw [Cert.MlaKvTokReferenceIdeal.Read.val_main_v61_eq, h0, h1, h2]
      exact (Cert.MlaKvTokIdeal.Value.value7_eq m c r1 r2).symm

/-- The reference of the queries and the gate, prompt ends with its arguments unchanged and every counter at zero. -/
theorem frame_MlaQ_ref : Cert.quiescent_MlaQReferenceIdeal (hMlaQReferenceIdeal := Cert.MlaQReferenceIdeal.Gen.facts) := fun m g _ =>
  (θ_run Cert.MlaQReferenceIdeal.defs _ _).mono (fun r h => ⟨fun c => (h c).2.2, sem_eq_zero_of_no_sems (by decide) r.2⟩)
    (Cert.MlaQReferenceIdeal.Value.run (F := Ideal) m g)

set_option maxHeartbeats 2000000 in
/-- The kernel and the reference of the queries and the gate, prompt end with the same results, given the precondition. -/
theorem algebraic_MlaQ : Cert.algebraic_MlaQIdeal_MlaQReferenceIdeal_pre_finite_q (hMlaQIdeal := Cert.MlaQIdeal.Gen.facts) (hMlaQReferenceIdeal := Cert.MlaQReferenceIdeal.Gen.facts) (hPre_finite_q := Cert.Pre_finite_q.Gen.facts) := by
  pair_intro
  · run_from Cert.MlaQIdeal.Gen.run_main m g
  · run_from Cert.MlaQReferenceIdeal.Value.run m' g'

    all_goals obtain ⟨r1, r2⟩ := @Cert.Pre_finite_q.reals Cert.Pre_finite_q.Gen.facts (Cert.MlaQIdeal.Value.mx m c) (Cert.MlaQIdeal.Value.mn m c) (Cert.MlaQIdeal.Value.mw m c) (Cert.MlaQIdeal.Value.mq m c) (Cert.MlaQIdeal.Value.mu m c) (hpre c)
    · obtain ⟨h0, h1, h2, h3, h4⟩ := hagree c
      refine (Cert.MlaQReferenceIdeal.Read.val_main_v68_eq m' c).trans (Eq.trans ?_ (Cert.MlaQIdeal.Value.value7_eq m c r1 r2).symm)
      exact congr (congr (congr (congr (congrArg (Cert.MlaQReferenceIdeal.Read.val_main_v68 (F := Ideal)) h0) h1) h2) h3) h4
    · rw [Cert.MlaQReferenceIdeal.Read.val_main_v70_eq]
      exact (Cert.MlaQIdeal.Value.value8_eq m c).symm

/-- The reference of the RWKV layers' output projection with the normalisation over heads ends with its arguments unchanged and every counter at zero. -/
theorem frame_RwkvOut_ref : Cert.quiescent_RwkvOutReferenceIdeal (hRwkvOutReferenceIdeal := Cert.RwkvOutReferenceIdeal.Gen.facts) := fun m g _ =>
  (θ_run Cert.RwkvOutReferenceIdeal.defs _ _).mono (fun r h => ⟨fun c => (h c).2, sem_eq_zero_of_no_sems (by decide) r.2⟩)
    (Cert.RwkvOutReferenceIdeal.Value.run (F := Ideal) m g)

set_option maxHeartbeats 2000000 in
/-- The kernel and the reference of the RWKV layers' output projection with the normalisation over heads end with the same results. -/
theorem algebraic_RwkvOut : Cert.algebraic_RwkvOutIdeal_RwkvOutReferenceIdeal (hRwkvOutIdeal := Cert.RwkvOutIdeal.Gen.facts) (hRwkvOutReferenceIdeal := Cert.RwkvOutReferenceIdeal.Gen.facts) := by
  pair_intro
  · run_from Cert.RwkvOutIdeal.Gen.run_main m g
    · exact Cert.RwkvOutIdeal.Gen.V_main_arg0 m c
    · exact Cert.RwkvOutIdeal.Gen.V_main_arg1 m c
    · exact Cert.RwkvOutIdeal.Gen.V_main_arg2 m c
    · exact Cert.RwkvOutIdeal.Gen.V_main_arg3 m c
    · exact Cert.RwkvOutIdeal.Gen.V_main_arg4 m c
    · exact Cert.RwkvOutIdeal.Gen.V_main_arg5 m c
    · exact Cert.RwkvOutIdeal.Gen.V_main_arg6 m c
    · exact Cert.RwkvOutIdeal.Gen.V_main_arg7 m c
    · exact Cert.RwkvOutIdeal.Gen.V_main_arg8 m c
    · exact Cert.RwkvOutIdeal.Gen.V_main_arg9 m c
    · exact Cert.RwkvOutIdeal.Gen.V_main_arg10 m c
    · exact Cert.RwkvOutIdeal.Gen.V_main_arg11 m c
  · run_from Cert.RwkvOutReferenceIdeal.Value.run m' g'

    obtain ⟨h0, h1, h2, h3, h4, h5, h6, h7, h8, h9, h10, h11⟩ := hagree c
    refine (Cert.RwkvOutReferenceIdeal.Read.val_main_v57_eq m' c).trans (Eq.trans ?_ (Cert.RwkvOutIdeal.Value.value_eq m c).symm)
    exact congr (congr (congr (congr (congr (congr (congr (congr (congr (congr (congr (congrArg (Cert.RwkvOutReferenceIdeal.Read.val_main_v57 (F := Ideal)) h0) h1) h2) h3) h4) h5) h6) h7) h8) h9) h10) h11

/-- The certificate's claim. -/
theorem claim : Cert.Claim :=
  ⟨Cert.Kernel.Gen.facts,
    Cert.KernelIdeal.Gen.facts,
    Cert.ReferenceIdeal.Gen.facts,
    Cert.InProj.Gen.facts,
    Cert.InProjIdeal.Gen.facts,
    Cert.InProjReferenceIdeal.Gen.facts,
    Cert.MlaOut.Gen.facts,
    Cert.MlaOutIdeal.Gen.facts,
    Cert.MlaOutReferenceIdeal.Gen.facts,
    Cert.MlaOutTok.Gen.facts,
    Cert.MlaOutTokIdeal.Gen.facts,
    Cert.MlaOutTokReferenceIdeal.Gen.facts,
    Cert.MlaKv.Gen.facts,
    Cert.MlaKvIdeal.Gen.facts,
    Cert.MlaKvReferenceIdeal.Gen.facts,
    Cert.MlaKvTok.Gen.facts,
    Cert.MlaKvTokIdeal.Gen.facts,
    Cert.MlaKvTokReferenceIdeal.Gen.facts,
    Cert.MlaQ.Gen.facts,
    Cert.MlaQIdeal.Gen.facts,
    Cert.MlaQReferenceIdeal.Gen.facts,
    Cert.RwkvOut.Gen.facts,
    Cert.RwkvOutIdeal.Gen.facts,
    Cert.RwkvOutReferenceIdeal.Gen.facts,
    preFacts,
    Cert.Pre_finite_kv.Gen.facts,
    Cert.Pre_finite_kv_tok.Gen.facts,
    Cert.Pre_finite_q.Gen.facts,
    fun m ρ _ => Cert.Kernel.Gen.frame m ρ,
    fun m ρ _ => Cert.KernelIdeal.Gen.frame m ρ,
    fun m ρ _ => Cert.KernelIdeal.Gen.frame m ρ,
    frame_flash_ref,
    fun m ρ _ => frame_flash_ref m ρ trivial,
    fun m ρ _ => Cert.InProj.Gen.frame m ρ,
    fun m ρ _ => Cert.InProjIdeal.Gen.frame m ρ,
    frame_InProj_ref,
    fun m ρ _ => Cert.MlaOut.Gen.frame m ρ,
    fun m ρ _ => Cert.MlaOutIdeal.Gen.frame m ρ,
    frame_MlaOut_ref,
    fun m ρ _ => Cert.MlaOutTok.Gen.frame m ρ,
    fun m ρ _ => Cert.MlaOutTokIdeal.Gen.frame m ρ,
    frame_MlaOutTok_ref,
    fun m ρ _ => Cert.MlaKv.Gen.frame m ρ,
    fun m ρ _ => Cert.MlaKvIdeal.Gen.frame m ρ,
    fun m ρ _ => Cert.MlaKvIdeal.Gen.frame m ρ,
    frame_MlaKv_ref,
    fun m ρ _ => frame_MlaKv_ref m ρ trivial,
    fun m ρ _ => Cert.MlaKvTok.Gen.frame m ρ,
    fun m ρ _ => Cert.MlaKvTokIdeal.Gen.frame m ρ,
    fun m ρ _ => Cert.MlaKvTokIdeal.Gen.frame m ρ,
    frame_MlaKvTok_ref,
    fun m ρ _ => frame_MlaKvTok_ref m ρ trivial,
    fun m ρ _ => Cert.MlaQ.Gen.frame m ρ,
    fun m ρ _ => Cert.MlaQIdeal.Gen.frame m ρ,
    fun m ρ _ => Cert.MlaQIdeal.Gen.frame m ρ,
    frame_MlaQ_ref,
    fun m ρ _ => frame_MlaQ_ref m ρ trivial,
    fun m ρ _ => Cert.RwkvOut.Gen.frame m ρ,
    fun m ρ _ => Cert.RwkvOutIdeal.Gen.frame m ρ,
    frame_RwkvOut_ref,
    trivial,
    algebraic_flash,
    trivial,
    algebraic_InProj,
    trivial,
    algebraic_MlaOut,
    trivial,
    algebraic_MlaOutTok,
    trivial,
    algebraic_MlaKv,
    trivial,
    algebraic_MlaKvTok,
    trivial,
    algebraic_MlaQ,
    trivial,
    algebraic_RwkvOut⟩

end Cert.Proof

end
